-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite2 [hPre_finite2 : Cert.Pre_finite2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.1 = (fun _ => 1#1)
    ∧ (Cert.Pre_finite2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))).2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite2 [hPre_finite2 : Cert.Pre_finite2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.1 = (fun _ => 1#1)
    ∧ (Cert.Pre_finite2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))).2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_finite2 [hKernel2Ideal : Cert.Kernel2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_finite2 [hReference2Ideal : Cert.Reference2Ideal.Facts] [hPre_finite2 : Cert.Pre_finite2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7)
      ∧ r.2.mem ((c.tc : Thread Cert.Kernel9.nD Cert.Kernel9.τ).loc Cert.Kernel9.main_arg8) = m ((c.tc : Thread Cert.Kernel9.nD Cert.Kernel9.τ).loc Cert.Kernel9.main_arg8))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
      ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7)
      ∧ r.2.mem ((c.tc : Thread Cert.Reference9Ideal.nD Cert.Reference9Ideal.τ).loc Cert.Reference9Ideal.main_arg8) = m ((c.tc : Thread Cert.Reference9Ideal.nD Cert.Reference9Ideal.τ).loc Cert.Reference9Ideal.main_arg8))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v23)) (v1 : (c : Dev Cert.KernelIdeal.nD) → Buf (Elt Ideal) ((c.tc : Thread Cert.KernelIdeal.nD Cert.KernelIdeal.τ).loc Cert.KernelIdeal.main_v28)) (v2 : (c : Dev Cert.KernelIdeal.nD) → Buf (Elt Ideal) ((c.tc : Thread Cert.KernelIdeal.nD Cert.KernelIdeal.τ).loc Cert.KernelIdeal.main_v33)) (v3 : (c : Dev Cert.KernelIdeal.nD) → Buf (Elt Ideal) ((c.tc : Thread Cert.KernelIdeal.nD Cert.KernelIdeal.τ).loc Cert.KernelIdeal.main_v38)) (v4 : (c : Dev Cert.KernelIdeal.nD) → Buf (Elt Ideal) ((c.tc : Thread Cert.KernelIdeal.nD Cert.KernelIdeal.τ).loc Cert.KernelIdeal.main_v39)) (v5 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23) = v0 c
          ∧ r.2.mem ((c.tc : Thread Cert.KernelIdeal.nD Cert.KernelIdeal.τ).loc Cert.KernelIdeal.main_v28) = v1 c
          ∧ r.2.mem ((c.tc : Thread Cert.KernelIdeal.nD Cert.KernelIdeal.τ).loc Cert.KernelIdeal.main_v33) = v2 c
          ∧ r.2.mem ((c.tc : Thread Cert.KernelIdeal.nD Cert.KernelIdeal.τ).loc Cert.KernelIdeal.main_v38) = v3 c
          ∧ r.2.mem ((c.tc : Thread Cert.KernelIdeal.nD Cert.KernelIdeal.τ).loc Cert.KernelIdeal.main_v39) = v4 c
          ∧ r.2.mem ((c.tc : Thread Cert.KernelIdeal.nD Cert.KernelIdeal.τ).loc Cert.KernelIdeal.main_v40) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9_9) = v0 c
          ∧ r.2.mem ((c.tc : Thread Cert.ReferenceIdeal.nD Cert.ReferenceIdeal.τ).loc Cert.ReferenceIdeal.main_v9_10) = v1 c
          ∧ r.2.mem ((c.tc : Thread Cert.ReferenceIdeal.nD Cert.ReferenceIdeal.τ).loc Cert.ReferenceIdeal.main_v18_13) = v2 c
          ∧ r.2.mem ((c.tc : Thread Cert.ReferenceIdeal.nD Cert.ReferenceIdeal.τ).loc Cert.ReferenceIdeal.main_v18_14) = v3 c
          ∧ r.2.mem ((c.tc : Thread Cert.ReferenceIdeal.nD Cert.ReferenceIdeal.τ).loc Cert.ReferenceIdeal.main_v18_9) = v4 c
          ∧ r.2.mem ((c.tc : Thread Cert.ReferenceIdeal.nD Cert.ReferenceIdeal.τ).loc Cert.ReferenceIdeal.main_v18_10) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite2 [hKernel2Ideal : Cert.Kernel2Ideal.Facts] [hReference2Ideal : Cert.Reference2Ideal.Facts] [hPre_finite2 : Cert.Pre_finite2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v12) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v6) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v1_0)) (v1 : (c : Dev Cert.Kernel7Ideal.nD) → Buf (Elt Ideal) ((c.tc : Thread Cert.Kernel7Ideal.nD Cert.Kernel7Ideal.τ).loc Cert.Kernel7Ideal.main_v1_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v1_0) = v0 c
          ∧ r.2.mem ((c.tc : Thread Cert.Kernel7Ideal.nD Cert.Kernel7Ideal.τ).loc Cert.Kernel7Ideal.main_v1_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_v9) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_v17) = v1 c
          ∧ r.2.mem ((c.tc : Thread Cert.Reference8Ideal.nD Cert.Reference8Ideal.τ).loc Cert.Reference8Ideal.main_v30) = v2 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)
      ∧ m' ((c.tc : Thread Cert.Reference9Ideal.nD Cert.Reference9Ideal.τ).loc Cert.Reference9Ideal.main_arg8) = m ((c.tc : Thread Cert.Kernel9Ideal.nD Cert.Kernel9Ideal.τ).loc Cert.Kernel9Ideal.main_arg8)) →
    ∃ (v0 : (c : Dev Cert.Kernel9Ideal.nD) → Buf (Elt Ideal) ((c.tc : Thread Cert.Kernel9Ideal.nD Cert.Kernel9Ideal.τ).loc Cert.Kernel9Ideal.main_v2_0)) (v1 : (c : Dev Cert.Kernel9Ideal.nD) → Buf (Elt Ideal) ((c.tc : Thread Cert.Kernel9Ideal.nD Cert.Kernel9Ideal.τ).loc Cert.Kernel9Ideal.main_v2_1)) (v2 : (c : Dev Cert.Kernel9Ideal.nD) → Buf (Elt Ideal) ((c.tc : Thread Cert.Kernel9Ideal.nD Cert.Kernel9Ideal.τ).loc Cert.Kernel9Ideal.main_v2_2)) (v3 : (c : Dev Cert.Kernel9Ideal.nD) → Buf (Elt Ideal) ((c.tc : Thread Cert.Kernel9Ideal.nD Cert.Kernel9Ideal.τ).loc Cert.Kernel9Ideal.main_v2_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2_0) = v0 c
          ∧ r.2.mem ((c.tc : Thread Cert.Kernel9Ideal.nD Cert.Kernel9Ideal.τ).loc Cert.Kernel9Ideal.main_v2_1) = v1 c
          ∧ r.2.mem ((c.tc : Thread Cert.Kernel9Ideal.nD Cert.Kernel9Ideal.τ).loc Cert.Kernel9Ideal.main_v2_2) = v2 c
          ∧ r.2.mem ((c.tc : Thread Cert.Kernel9Ideal.nD Cert.Kernel9Ideal.τ).loc Cert.Kernel9Ideal.main_v2_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7)
          ∧ r.2.mem ((c.tc : Thread Cert.Kernel9Ideal.nD Cert.Kernel9Ideal.τ).loc Cert.Kernel9Ideal.main_arg8) = m ((c.tc : Thread Cert.Kernel9Ideal.nD Cert.Kernel9Ideal.τ).loc Cert.Kernel9Ideal.main_arg8))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v43) = v0 c
          ∧ r.2.mem ((c.tc : Thread Cert.Reference9Ideal.nD Cert.Reference9Ideal.τ).loc Cert.Reference9Ideal.main_v79) = v1 c
          ∧ r.2.mem ((c.tc : Thread Cert.Reference9Ideal.nD Cert.Reference9Ideal.τ).loc Cert.Reference9Ideal.main_v26) = v2 c
          ∧ r.2.mem ((c.tc : Thread Cert.Reference9Ideal.nD Cert.Reference9Ideal.τ).loc Cert.Reference9Ideal.main_v62) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7)
          ∧ r.2.mem ((c.tc : Thread Cert.Reference9Ideal.nD Cert.Reference9Ideal.τ).loc Cert.Reference9Ideal.main_arg8) = m' ((c.tc : Thread Cert.Reference9Ideal.nD Cert.Reference9Ideal.τ).loc Cert.Reference9Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel3 : Cert.Kernel3.Facts) (hKernel3Ideal : Cert.Kernel3Ideal.Facts) (hReference3Ideal : Cert.Reference3Ideal.Facts) (hKernel9 : Cert.Kernel9.Facts) (hKernel9Ideal : Cert.Kernel9Ideal.Facts) (hReference9Ideal : Cert.Reference9Ideal.Facts) (hPre_finite : Cert.Pre_finite.Facts) (hPre_finite2 : Cert.Pre_finite2.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite2 (hKernel2Ideal := hKernel2Ideal) (hPre_finite2 := hPre_finite2)
    ∧ quiescent_Reference2Ideal (hReference2Ideal := hReference2Ideal)
    ∧ quiescent_Reference2Ideal_pre_finite2 (hReference2Ideal := hReference2Ideal) (hPre_finite2 := hPre_finite2)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel9 (hKernel9 := hKernel9)
    ∧ quiescent_Kernel9Ideal (hKernel9Ideal := hKernel9Ideal)
    ∧ quiescent_Reference9Ideal (hReference9Ideal := hReference9Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite2 (hKernel2Ideal := hKernel2Ideal) (hReference2Ideal := hReference2Ideal) (hPre_finite2 := hPre_finite2)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel3_Kernel3Ideal
    ∧ algebraic_Kernel3Ideal_Reference3Ideal (hKernel3Ideal := hKernel3Ideal) (hReference3Ideal := hReference3Ideal)
    ∧ preserves_Kernel9_Kernel9Ideal
    ∧ algebraic_Kernel9Ideal_Reference9Ideal (hKernel9Ideal := hKernel9Ideal) (hReference9Ideal := hReference9Ideal)
-- ==== Pre_finite.lean ====
abbrev S4096x2048 : Shape := ⟨2, ![4096, 2048]⟩
abbrev S1x2048 : Shape := ⟨2, ![1, 2048]⟩
abbrev S_ : Shape := ⟨0, ![]⟩

class Facts : Prop where
  bcast_S_S4096x2048 : S_.BroadcastsInDim S4096x2048 (![] : Fin 0 → Fin S4096x2048.rank)
  bcast_S_S1x2048 : S_.BroadcastsInDim S1x2048 (![] : Fin 0 → Fin S1x2048.rank)

variable [Facts]

def fn {F : FTy → Type} [FloatOps F] (main_arg0 : FVec F S4096x2048 .f32) (main_arg1 : FVec F S4096x2048 .f32) (main_arg2 : FVec F S1x2048 .f32) (main_arg3 : FVec F S1x2048 .f32) (main_arg4 : FVec F S4096x2048 .f32) (main_arg5 : FVec F S4096x2048 .f32) : IVec S4096x2048 1 × IVec S4096x2048 1 × IVec S1x2048 1 × IVec S1x2048 1 × IVec S4096x2048 1 × IVec S4096x2048 1 :=
  let main_v0 : FVec F S4096x2048 .f32 := Host.absf main_arg0
  let main_cst : FVec F S_ .f32 := constant S_ .f32 0x7F800000#32
  let main_v1 : FVec F S4096x2048 .f32 := broadcastInDim S4096x2048 ![] bcast_S_S4096x2048 main_cst
  let main_v2 : IVec S4096x2048 1 := cmpf .olt main_v0 main_v1
  let main_v3 : FVec F S4096x2048 .f32 := Host.absf main_arg1
  let main_cst_0 : FVec F S_ .f32 := constant S_ .f32 0x7F800000#32
  let main_v4 : FVec F S4096x2048 .f32 := broadcastInDim S4096x2048 ![] bcast_S_S4096x2048 main_cst_0
  let main_v5 : IVec S4096x2048 1 := cmpf .olt main_v3 main_v4
  let main_v6 : FVec F S1x2048 .f32 := Host.absf main_arg2
  let main_cst_1 : FVec F S_ .f32 := constant S_ .f32 0x7F800000#32
  let main_v7 : FVec F S1x2048 .f32 := broadcastInDim S1x2048 ![] bcast_S_S1x2048 main_cst_1
  let main_v8 : IVec S1x2048 1 := cmpf .olt main_v6 main_v7
  let main_v9 : FVec F S1x2048 .f32 := Host.absf main_arg3
  let main_cst_2 : FVec F S_ .f32 := constant S_ .f32 0x7F800000#32
  let main_v10 : FVec F S1x2048 .f32 := broadcastInDim S1x2048 ![] bcast_S_S1x2048 main_cst_2
  let main_v11 : IVec S1x2048 1 := cmpf .olt main_v9 main_v10
  let main_v12 : FVec F S4096x2048 .f32 := Host.absf main_arg4
  let main_cst_3 : FVec F S_ .f32 := constant S_ .f32 0x7F800000#32
  let main_v13 : FVec F S4096x2048 .f32 := broadcastInDim S4096x2048 ![] bcast_S_S4096x2048 main_cst_3
  let main_v14 : IVec S4096x2048 1 := cmpf .olt main_v12 main_v13
  let main_v15 : FVec F S4096x2048 .f32 := Host.absf main_arg5
  let main_cst_4 : FVec F S_ .f32 := constant S_ .f32 0x7F800000#32
  let main_v16 : FVec F S4096x2048 .f32 := broadcastInDim S4096x2048 ![] bcast_S_S4096x2048 main_cst_4
  let main_v17 : IVec S4096x2048 1 := cmpf .olt main_v15 main_v16
  (main_v2, main_v5, main_v8, main_v11, main_v14, main_v17)
-- ==== Pre_finite2.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩

class Facts : Prop where
  bitsLt_bf16_f32 : FTy.bits .bf16 < FTy.bits .f32
  bcast_S_S4096x2816 : S_.BroadcastsInDim S4096x2816 (![] : Fin 0 → Fin S4096x2816.rank)
  bcast_S_S2816x1024 : S_.BroadcastsInDim S2816x1024 (![] : Fin 0 → Fin S2816x1024.rank)
  bcast_S_S4096x1024 : S_.BroadcastsInDim S4096x1024 (![] : Fin 0 → Fin S4096x1024.rank)

variable [Facts]

def fn {F : FTy → Type} [FloatOps F] (main_arg0 : FVec F S4096x2816 .bf16) (main_arg1 : FVec F S4096x2816 .bf16) (main_arg2 : FVec F S2816x1024 .bf16) (main_arg3 : FVec F S4096x1024 .bf16) : IVec S4096x2816 1 × IVec S2816x1024 1 × IVec S4096x1024 1 :=
  let main_v0 : FVec F S4096x2816 .f32 := (extf .f32 · bitsLt_bf16_f32) main_arg1
  let main_v1 : FVec F S4096x2816 .f32 := Host.absf main_v0
  let main_cst : FVec F S_ .f32 := constant S_ .f32 0x7F800000#32
  let main_v2 : FVec F S4096x2816 .f32 := broadcastInDim S4096x2816 ![] bcast_S_S4096x2816 main_cst
  let main_v3 : IVec S4096x2816 1 := cmpf .olt main_v1 main_v2
  let main_v4 : FVec F S2816x1024 .f32 := (extf .f32 · bitsLt_bf16_f32) main_arg2
  let main_v5 : FVec F S2816x1024 .f32 := Host.absf main_v4
  let main_cst_0 : FVec F S_ .f32 := constant S_ .f32 0x7F800000#32
  let main_v6 : FVec F S2816x1024 .f32 := broadcastInDim S2816x1024 ![] bcast_S_S2816x1024 main_cst_0
  let main_v7 : IVec S2816x1024 1 := cmpf .olt main_v5 main_v6
  let main_v8 : FVec F S4096x1024 .f32 := (extf .f32 · bitsLt_bf16_f32) main_arg3
  let main_v9 : FVec F S4096x1024 .f32 := Host.absf main_v8
  let main_cst_1 : FVec F S_ .f32 := constant S_ .f32 0x7F800000#32
  let main_v10 : FVec F S4096x1024 .f32 := broadcastInDim S4096x1024 ![] bcast_S_S4096x1024 main_cst_1
  let main_v11 : IVec S4096x1024 1 := cmpf .olt main_v9 main_v10
  (main_v3, main_v7, main_v11)
-- ==== Kernel.lean ====
abbrev S4096x2048 : Shape := ⟨2, ![4096, 2048]⟩
abbrev S1x2048 : Shape := ⟨2, ![1, 2048]⟩
abbrev S1x4096 : Shape := ⟨2, ![1, 4096]⟩
abbrev S4096x4096 : Shape := ⟨2, ![4096, 4096]⟩
abbrev S32x128x4096 : Shape := ⟨3, ![32, 128, 4096]⟩
abbrev S128x32x4096 : Shape := ⟨3, ![128, 32, 4096]⟩
abbrev S4096x32x128 : Shape := ⟨3, ![4096, 32, 128]⟩
abbrev S32x4096x128 : Shape := ⟨3, ![32, 4096, 128]⟩
abbrev S16x4096x128 : Shape := ⟨3, ![16, 4096, 128]⟩
abbrev S1x4096x128 : Shape := ⟨3, ![1, 4096, 128]⟩
abbrev S1x128 : Shape := ⟨2, ![1, 128]⟩
abbrev S128x128 : Shape := ⟨2, ![128, 128]⟩
abbrev S32x128 : Shape := ⟨2, ![32, 128]⟩
abbrev S1x32x128 : Shape := ⟨3, ![1, 32, 128]⟩
abbrev S8x128 : Shape := ⟨2, ![8, 128]⟩
abbrev S16x128 : Shape := ⟨2, ![16, 128]⟩
abbrev S64x128 : Shape := ⟨2, ![64, 128]⟩
abbrev S16x1x128 : Shape := ⟨3, ![16, 1, 128]⟩
abbrev S1x1x128 : Shape := ⟨3, ![1, 1, 128]⟩
abbrev S128 : Shape := ⟨1, ![128]⟩
abbrev S4096x16x128 : Shape := ⟨3, ![4096, 16, 128]⟩
abbrev S128x32x2048 : Shape := ⟨3, ![128, 32, 2048]⟩
abbrev S32x128x2048 : Shape := ⟨3, ![32, 128, 2048]⟩

abbrev nBuf : Space → Nat
  | .hbm => 51
  | .vmem => 40
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S1x2048, .f32⟩
  | .hbm, ⟨4, _⟩ => ⟨S4096x2048, .f32⟩
  | .hbm, ⟨5, _⟩ => ⟨S4096x2048, .f32⟩
  | .hbm, ⟨6, _⟩ => ⟨S1x4096, .f32⟩
  | .hbm, ⟨7, _⟩ => ⟨S4096x4096, .f32⟩
  | .hbm, ⟨8, _⟩ => ⟨S32x128x4096, .f32⟩
  | .hbm, ⟨9, _⟩ => ⟨S128x32x4096, .f32⟩
  | .hbm, ⟨10, _⟩ => ⟨S4096x4096, .f32⟩
  | .hbm, ⟨11, _⟩ => ⟨S4096x32x128, .f32⟩
  | .hbm, ⟨12, _⟩ => ⟨S32x4096x128, .f32⟩
  | .hbm, ⟨13, _⟩ => ⟨S16x4096x128, .f32⟩
  | .hbm, ⟨14, _⟩ => ⟨S16x4096x128, .f32⟩
  | .hbm, ⟨15, _⟩ => ⟨S4096x4096, .f32⟩
  | .hbm, ⟨16, _⟩ => ⟨S32x128x4096, .f32⟩
  | .hbm, ⟨17, _⟩ => ⟨S128x32x4096, .f32⟩
  | .hbm, ⟨18, _⟩ => ⟨S4096x4096, .f32⟩
  | .hbm, ⟨19, _⟩ => ⟨S4096x32x128, .f32⟩
  | .hbm, ⟨20, _⟩ => ⟨S32x4096x128, .f32⟩
  | .hbm, ⟨21, _⟩ => ⟨S1x2048, .f32⟩
  | .hbm, ⟨22, _⟩ => ⟨S1x2048, .f32⟩
  | .hbm, ⟨23, _⟩ => ⟨S1x2048, .f32⟩
  | .hbm, ⟨24, _⟩ => ⟨S1x4096, .f32⟩
  | .hbm, ⟨25, _⟩ => ⟨S16x4096x128, .f32⟩
  | .hbm, ⟨26, _⟩ => ⟨S16x4096x128, .f32⟩
  | .hbm, ⟨27, _⟩ => ⟨S16x1x128, .f32⟩
  | .hbm, ⟨28, _⟩ => ⟨S16x1x128, .f32⟩
  | .hbm, ⟨29, _⟩ => ⟨S4096x16x128, .f32⟩
  | .hbm, ⟨30, _⟩ => ⟨S4096x2048, .f32⟩
  | .hbm, ⟨31, _⟩ => ⟨S128x32x2048, .f32⟩
  | .hbm, ⟨32, _⟩ => ⟨S32x128x2048, .f32⟩
  | .hbm, ⟨33, _⟩ => ⟨S4096x2048, .f32⟩
  | .hbm, ⟨34, _⟩ => ⟨S4096x16x128, .f32⟩
  | .hbm, ⟨35, _⟩ => ⟨S4096x2048, .f32⟩
  | .hbm, ⟨36, _⟩ => ⟨S128x32x2048, .f32⟩
  | .hbm, ⟨37, _⟩ => ⟨S32x128x2048, .f32⟩
  | .hbm, ⟨38, _⟩ => ⟨S4096x2048, .f32⟩
  | .hbm, ⟨39, _⟩ => ⟨S4096x16x128, .f32⟩
  | .hbm, ⟨40, _⟩ => ⟨S4096x2048, .f32⟩
  | .hbm, ⟨41, _⟩ => ⟨S128x32x2048, .f32⟩
  | .hbm, ⟨42, _⟩ => ⟨S32x128x2048, .f32⟩
  | .hbm, ⟨43, _⟩ => ⟨S4096x2048, .f32⟩
  | .hbm, ⟨44, _⟩ => ⟨S4096x16x128, .f32⟩
  | .hbm, ⟨45, _⟩ => ⟨S4096x2048, .f32⟩
  | .hbm, ⟨46, _⟩ => ⟨S128x32x2048, .f32⟩
  | .hbm, ⟨47, _⟩ => ⟨S32x128x2048, .f32⟩
  | .hbm, ⟨48, _⟩ => ⟨S4096x2048, .f32⟩
  | .hbm, ⟨49, _⟩ => ⟨S1x2048, .f32⟩
  | .hbm, ⟨50, _⟩ => ⟨S1x2048, .f32⟩
  | .local _ .vmem, ⟨0, _⟩ => ⟨S1x4096x128, .f32⟩
  | .local _ .vmem, ⟨1, _⟩ => ⟨S1x4096x128, .f32⟩
  | .local _ .vmem, ⟨2, _⟩ => ⟨S1x4096x128, .f32⟩
  | .local _ .vmem, ⟨3, _⟩ => ⟨S1x4096x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | .local _ .vmem, ⟨7, _⟩ => ⟨S1x128, .f32⟩
  | .local _ .vmem, ⟨8, _⟩ => ⟨S1x4096x128, .f32⟩
  | .local _ .vmem, ⟨9, _⟩ => ⟨S1x4096x128, .f32⟩
  | .local _ .vmem, ⟨10, _⟩ => ⟨S1x4096x128, .f32⟩
  | .local _ .vmem, ⟨11, _⟩ => ⟨S1x4096x128, .f32⟩
  | .local _ .vmem, ⟨12, _⟩ => ⟨S128x128, .f32⟩
  | .local _ .vmem, ⟨13, _⟩ => ⟨S128x128, .f32⟩
  | .local _ .vmem, ⟨14, _⟩ => ⟨S32x128, .f32⟩
  | .local _ .vmem, ⟨15, _⟩ => ⟨S32x128, .f32⟩
  | .local _ .vmem, ⟨16, _⟩ => ⟨S1x4096x128, .f32⟩
  | .local _ .vmem, ⟨17, _⟩ => ⟨S1x4096x128, .f32⟩
  | .local _ .vmem, ⟨18, _⟩ => ⟨S1x4096x128, .f32⟩
  | .local _ .vmem, ⟨19, _⟩ => ⟨S1x4096x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S1x128, .f32⟩
  | .local _ .vmem, ⟨24, _⟩ => ⟨S1x4096x128, .f32⟩
  | .local _ .vmem, ⟨25, _⟩ => ⟨S1x4096x128, .f32⟩
  | .local _ .vmem, ⟨26, _⟩ => ⟨S1x4096x128, .f32⟩
  | .local _ .vmem, ⟨27, _⟩ => ⟨S1x4096x128, .f32⟩
  | .local _ .vmem, ⟨28, _⟩ => ⟨S1x4096x128, .f32⟩
  | .local _ .vmem, ⟨29, _⟩ => ⟨S1x4096x128, .f32⟩
  | .local _ .vmem, ⟨30, _⟩ => ⟨S1x4096x128, .f32⟩
  | .local _ .vmem, ⟨31, _⟩ => ⟨S1x4096x128, .f32⟩
  | .local _ .vmem, ⟨32, _⟩ => ⟨S1x1x128, .f32⟩
  | .local _ .vmem, ⟨33, _⟩ => ⟨S1x1x128, .f32⟩
  | .local _ .vmem, ⟨34, _⟩ => ⟨S1x1x128, .f32⟩
  | .local _ .vmem, ⟨35, _⟩ => ⟨S1x1x128, .f32⟩
  | .local _ .vmem, ⟨36, _⟩ => ⟨S128x128, .f32⟩
  | .local _ .vmem, ⟨37, _⟩ => ⟨S128x128, .f32⟩
  | .local _ .vmem, ⟨38, _⟩ => ⟨S32x128, .f32⟩
  | .local _ .vmem, ⟨39, _⟩ => ⟨S32x128, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18_0 : Ref sig .tc := ⟨.hbm, 25, rfl⟩
abbrev main_v18_1 : Ref sig .tc := ⟨.hbm, 26, rfl⟩
abbrev main_v18_2 : Ref sig .tc := ⟨.hbm, 27, rfl⟩
abbrev main_v18_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg5_1 : Ref sig .tc := ⟨.vmem, 27, rfl⟩
abbrev cc1_stg6_0 : Ref sig .tc := ⟨.vmem, 28, rfl⟩
abbrev cc1_stg6_1 : Ref sig .tc := ⟨.vmem, 29, rfl⟩
abbrev cc1_stg7_0 : Ref sig .tc := ⟨.vmem, 30, rfl⟩
abbrev cc1_stg7_1 : Ref sig .tc := ⟨.vmem, 31, rfl⟩
abbrev cc1_stg8_0 : Ref sig .tc := ⟨.vmem, 32, rfl⟩
abbrev cc1_stg8_1 : Ref sig .tc := ⟨.vmem, 33, rfl⟩
abbrev cc1_stg9_0 : Ref sig .tc := ⟨.vmem, 34, rfl⟩
abbrev cc1_stg9_1 : Ref sig .tc := ⟨.vmem, 35, rfl⟩
abbrev cc1_scratch0 : Ref sig .tc := ⟨.vmem, 36, rfl⟩
abbrev cc1_scratch1 : Ref sig .tc := ⟨.vmem, 37, rfl⟩
abbrev cc1_scratch2 : Ref sig .tc := ⟨.vmem, 38, rfl⟩
abbrev cc1_scratch3 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem3_1 : DmaSem sig := 19
abbrev cc1_sem4_0 : DmaSem sig := 20
abbrev cc1_sem4_1 : DmaSem sig := 21
abbrev cc1_sem5_0 : DmaSem sig := 22
abbrev cc1_sem5_1 : DmaSem sig := 23
abbrev cc1_sem6_0 : DmaSem sig := 24
abbrev cc1_sem6_1 : DmaSem sig := 25
abbrev cc1_sem7_0 : DmaSem sig := 26
abbrev cc1_sem7_1 : DmaSem sig := 27
abbrev cc1_sem8_0 : DmaSem sig := 28
abbrev cc1_sem8_1 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![16], ![false]⟩

@[reducible] def k0_t1_loop : Scf.Loop 32 :=
  let c0_i32 : BitVec 32 := 0#32
  let c128_i32 : BitVec 32 := 128#32
  let v5 : BitVec 32 := Scalar.addi c0_i32 c128_i32
  let c1_i32 : BitVec 32 := 1#32
  ⟨c0_i32, v5, c1_i32⟩
def k0_mult1 (k0_t1 : Fin k0_t1_loop.trips) : BitVec 32 :=
  let c0_i32 : BitVec 32 := 0#32
  let c1_i32 : BitVec 32 := 1#32
  let arg11 : BitVec 32 := Scf.iv c0_i32 c1_i32 k0_t1
  let c32_i32 : BitVec 32 := 32#32
  let v354 : BitVec 32 := Scalar.muli arg11 c32_i32
  v354
def k0_off1 (k0_t1 : Fin k0_t1_loop.trips) : Fin 3 → Nat :=
  let c0_96 : Index := 0#32
  let c0_i32 : BitVec 32 := 0#32
  let c1_i32 : BitVec 32 := 1#32
  let arg11 : BitVec 32 := Scf.iv c0_i32 c1_i32 k0_t1
  let c32_i32 : BitVec 32 := 32#32
  let v354 : BitVec 32 := Scalar.muli arg11 c32_i32
  let v355 : BitVec 32 := v354
  let v366 : Index := Scalar.indexCast v355
  let c0_97 : Index := 0#32
  ![0, v366.toNat, 0]
@[reducible] def k0_t2_loop : Scf.Loop 32 :=
  let c0_i32_92 : BitVec 32 := 0#32
  let c128_i32_93 : BitVec 32 := 128#32
  let v353 : BitVec 32 := Scalar.addi c0_i32_92 c128_i32_93
  let c1_i32_94 : BitVec 32 := 1#32
  ⟨c0_i32_92, v353, c1_i32_94⟩
def k0_mult2 (k0_t2 : Fin k0_t2_loop.trips) : BitVec 32 :=
  let c0_i32_92 : BitVec 32 := 0#32
  let c1_i32_94 : BitVec 32 := 1#32
  let arg11 : BitVec 32 := Scf.iv c0_i32_92 c1_i32_94 k0_t2
  let c32_i32 : BitVec 32 := 32#32
  let v354 : BitVec 32 := Scalar.muli arg11 c32_i32
  v354
def k0_off2 (k0_t2 : Fin k0_t2_loop.trips) : Fin 2 → Nat :=
  let c0_i32_92 : BitVec 32 := 0#32
  let c1_i32_94 : BitVec 32 := 1#32
  let arg11 : BitVec 32 := Scf.iv c0_i32_92 c1_i32_94 k0_t2
  let v356 : Index := Scalar.indexCast arg11
  let c0_96 : Index := 0#32
  ![v356.toNat, 0]
def k0_off3 (k0_t2 : Fin k0_t2_loop.trips) : Fin 3 → Nat :=
  let c0_98 : Index := 0#32
  let c0_i32_92 : BitVec 32 := 0#32
  let c1_i32_94 : BitVec 32 := 1#32
  let arg11 : BitVec 32 := Scf.iv c0_i32_92 c1_i32_94 k0_t2
  let c32_i32 : BitVec 32 := 32#32
  let v354 : BitVec 32 := Scalar.muli arg11 c32_i32
  let v355 : BitVec 32 := v354
  let v370 : Index := Scalar.indexCast v355
  let c0_99 : Index := 0#32
  ![0, v370.toNat, 0]
def cc0_transform_0 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_1 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_3 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

abbrev stage0_0 : Fin 2 → Memref sig .tc .vmem S1x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x4096x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

@[reducible] def k1_t1_loop : Scf.Loop 32 :=
  let c0_i32 : BitVec 32 := 0#32
  let c128_i32 : BitVec 32 := 128#32
  let v5 : BitVec 32 := Scalar.addi c0_i32 c128_i32
  let c1_i32 : BitVec 32 := 1#32
  ⟨c0_i32, v5, c1_i32⟩
def k1_mult1 (k1_t1 : Fin k1_t1_loop.trips) : BitVec 32 :=
  let c127_i32 : BitVec 32 := 127#32
  let c0_i32 : BitVec 32 := 0#32
  let c1_i32 : BitVec 32 := 1#32
  let arg15 : BitVec 32 := Scf.iv c0_i32 c1_i32 k1_t1
  let v382 : BitVec 32 := Scalar.subi c127_i32 arg15
  let c32_i32 : BitVec 32 := 32#32
  let v383 : BitVec 32 := Scalar.muli v382 c32_i32
  v383
def k1_off1 (k1_t1 : Fin k1_t1_loop.trips) : Fin 3 → Nat :=
  let c0_111 : Index := 0#32
  let c127_i32 : BitVec 32 := 127#32
  let c0_i32 : BitVec 32 := 0#32
  let c1_i32 : BitVec 32 := 1#32
  let arg15 : BitVec 32 := Scf.iv c0_i32 c1_i32 k1_t1
  let v382 : BitVec 32 := Scalar.subi c127_i32 arg15
  let c32_i32 : BitVec 32 := 32#32
  let v383 : BitVec 32 := Scalar.muli v382 c32_i32
  let v384 : BitVec 32 := v383
  let v395 : Index := Scalar.indexCast v384
  let c0_112 : Index := 0#32
  ![0, v395.toNat, 0]
def k1_mult2 : BitVec 32 :=
  let c4064_i32 : BitVec 32 := 4064#32
  c4064_i32
@[reducible] def k1_t2_loop : Scf.Loop 32 :=
  let c0_i32_99 : BitVec 32 := 0#32
  let c128_i32_100 : BitVec 32 := 128#32
  let v370 : BitVec 32 := Scalar.addi c0_i32_99 c128_i32_100
  let c1_i32_101 : BitVec 32 := 1#32
  ⟨c0_i32_99, v370, c1_i32_101⟩
def k1_mult3 (k1_t2 : Fin k1_t2_loop.trips) : BitVec 32 :=
  let c0_i32_99 : BitVec 32 := 0#32
  let c1_i32_101 : BitVec 32 := 1#32
  let arg15 : BitVec 32 := Scf.iv c0_i32_99 c1_i32_101 k1_t2
  let c32_i32 : BitVec 32 := 32#32
  let v382 : BitVec 32 := Scalar.muli arg15 c32_i32
  v382
def k1_off2 (k1_t2 : Fin k1_t2_loop.trips) : Fin 2 → Nat :=
  let c0_i32_99 : BitVec 32 := 0#32
  let c1_i32_101 : BitVec 32 := 1#32
  let arg15 : BitVec 32 := Scf.iv c0_i32_99 c1_i32_101 k1_t2
  let v384 : Index := Scalar.indexCast arg15
  let c0_111 : Index := 0#32
  ![v384.toNat, 0]
def k1_off3 (k1_t2 : Fin k1_t2_loop.trips) : Fin 3 → Nat :=
  let c0_113 : Index := 0#32
  let c0_i32_99 : BitVec 32 := 0#32
  let c1_i32_101 : BitVec 32 := 1#32
  let arg15 : BitVec 32 := Scf.iv c0_i32_99 c1_i32_101 k1_t2
  let c32_i32 : BitVec 32 := 32#32
  let v382 : BitVec 32 := Scalar.muli arg15 c32_i32
  let v383 : BitVec 32 := v382
  let v398 : Index := Scalar.indexCast v383
  let c0_114 : Index := 0#32
  ![0, v398.toNat, 0]
def k1_mult4 (k1_t2 : Fin k1_t2_loop.trips) : BitVec 32 :=
  let c0_i32_99 : BitVec 32 := 0#32
  let c1_i32_101 : BitVec 32 := 1#32
  let arg15 : BitVec 32 := Scf.iv c0_i32_99 c1_i32_101 k1_t2
  let c1_i32_121 : BitVec 32 := 1#32
  let v414 : BitVec 32 := Scalar.subi arg15 c1_i32_121
  let c0_i32_122 : BitVec 32 := 0#32
  let v415 : BitVec 32 := Scalar.maxsi v414 c0_i32_122
  let c32_i32_123 : BitVec 32 := 32#32
  let v416 : BitVec 32 := Scalar.muli v415 c32_i32_123
  v416
def k1_off4 (k1_t2 : Fin k1_t2_loop.trips) : Fin 3 → Nat :=
  let c0_125 : Index := 0#32
  let c0_i32_99 : BitVec 32 := 0#32
  let c1_i32_101 : BitVec 32 := 1#32
  let arg15 : BitVec 32 := Scf.iv c0_i32_99 c1_i32_101 k1_t2
  let c1_i32_121 : BitVec 32 := 1#32
  let v414 : BitVec 32 := Scalar.subi arg15 c1_i32_121
  let c0_i32_122 : BitVec 32 := 0#32
  let v415 : BitVec 32 := Scalar.maxsi v414 c0_i32_122
  let c32_i32_123 : BitVec 32 := 32#32
  let v416 : BitVec 32 := Scalar.muli v415 c32_i32_123
  let v417 : BitVec 32 := v416
  let v419 : Index := Scalar.indexCast v417
  let c0_126 : Index := 0#32
  ![0, v419.toNat, 0]
def cc1_transform_0 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc1_transform_1 (i : grid1.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc1_transform_2 (i : grid1.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc1_transform_3 (i : grid1.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc1_transform_4 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc1_transform_5 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc1_transform_6 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc1_transform_7 (i : grid1.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S1x4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x4096x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x1x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== ReferenceIdeal.lean ====
abbrev S4096x2048 : Shape := ⟨2, ![4096, 2048]⟩
abbrev S1x2048 : Shape := ⟨2, ![1, 2048]⟩
abbrev S_ : Shape := ⟨0, ![]⟩
abbrev S2048 : Shape := ⟨1, ![2048]⟩

abbrev nBuf : Space → Nat
  | .hbm => 143
  | .vmem => 0
  | .smem => 0
  | _ => 0

abbrev hbmTy0_0 (i : Nat) : BufTy := match i % 128 with
  | 0 => ⟨S4096x2048, .f32⟩
  | 1 => ⟨S4096x2048, .f32⟩
  | 2 => ⟨S1x2048, .f32⟩
  | 3 => ⟨S1x2048, .f32⟩
  | 4 => ⟨S4096x2048, .f32⟩
  | 5 => ⟨S4096x2048, .f32⟩
  | 6 => ⟨S_, .f32⟩
  | 7 => ⟨S2048, .f32⟩
  | 8 => ⟨S2048, .f32⟩
  | 9 => ⟨S2048, .f32⟩
  | 10 => ⟨S2048, .f32⟩
  | 11 => ⟨S2048, .f32⟩
  | 12 => ⟨S_, .f32⟩
  | 13 => ⟨S4096x2048, .f32⟩
  | 14 => ⟨S_, .f32⟩
  | 15 => ⟨S4096x2048, .f32⟩
  | 16 => ⟨S_, .f32⟩
  | 17 => ⟨S4096x2048, .f32⟩
  | 18 => ⟨S_, .f32⟩
  | 19 => ⟨S4096x2048, .f32⟩
  | 20 => ⟨S_, .i32⟩
  | 21 => ⟨S4096x2048, .f32⟩
  | 22 => ⟨S4096x2048, .f32⟩
  | 23 => ⟨S2048, .f32⟩
  | 24 => ⟨S2048, .f32⟩
  | 25 => ⟨S2048, .f32⟩
  | 26 => ⟨S2048, .f32⟩
  | 27 => ⟨S_, .i32⟩
  | 28 => ⟨S2048, .f32⟩
  | 29 => ⟨S2048, .f32⟩
  | 30 => ⟨S4096x2048, .f32⟩
  | 31 => ⟨S4096x2048, .f32⟩
  | 32 => ⟨S4096x2048, .f32⟩
  | 33 => ⟨S4096x2048, .f32⟩
  | 34 => ⟨S_, .i32⟩
  | 35 => ⟨S_, .i1⟩
  | 36 => ⟨S_, .i32⟩
  | 37 => ⟨S1x2048, .f32⟩
  | 38 => ⟨S2048, .f32⟩
  | 39 => ⟨S_, .i32⟩
  | 40 => ⟨S1x2048, .f32⟩
  | 41 => ⟨S2048, .f32⟩
  | 42 => ⟨S2048, .f32⟩
  | 43 => ⟨S2048, .f32⟩
  | 44 => ⟨S2048, .f32⟩
  | 45 => ⟨S2048, .f32⟩
  | 46 => ⟨S2048, .f32⟩
  | 47 => ⟨S2048, .f32⟩
  | 48 => ⟨S2048, .f32⟩
  | 49 => ⟨S2048, .f32⟩
  | 50 => ⟨S1x2048, .f32⟩
  | 51 => ⟨S_, .i32⟩
  | 52 => ⟨S4096x2048, .f32⟩
  | 53 => ⟨S1x2048, .f32⟩
  | 54 => ⟨S_, .i32⟩
  | 55 => ⟨S4096x2048, .f32⟩
  | 56 => ⟨S1x2048, .f32⟩
  | 57 => ⟨S_, .i32⟩
  | 58 => ⟨S4096x2048, .f32⟩
  | 59 => ⟨S1x2048, .f32⟩
  | 60 => ⟨S_, .i32⟩
  | 61 => ⟨S4096x2048, .f32⟩
  | 62 => ⟨S_, .i32⟩
  | 63 => ⟨S_, .i32⟩
  | 64 => ⟨S_, .f32⟩
  | 65 => ⟨S2048, .f32⟩
  | 66 => ⟨S_, .f32⟩
  | 67 => ⟨S2048, .f32⟩
  | 68 => ⟨S_, .f32⟩
  | 69 => ⟨S2048, .f32⟩
  | 70 => ⟨S_, .f32⟩
  | 71 => ⟨S2048, .f32⟩
  | 72 => ⟨S_, .f32⟩
  | 73 => ⟨S1x2048, .f32⟩
  | 74 => ⟨S_, .f32⟩
  | 75 => ⟨S1x2048, .f32⟩
  | 76 => ⟨S_, .f32⟩
  | 77 => ⟨S4096x2048, .f32⟩
  | 78 => ⟨S_, .f32⟩
  | 79 => ⟨S4096x2048, .f32⟩
  | 80 => ⟨S_, .i32⟩
  | 81 => ⟨S4096x2048, .f32⟩
  | 82 => ⟨S4096x2048, .f32⟩
  | 83 => ⟨S4096x2048, .f32⟩
  | 84 => ⟨S4096x2048, .f32⟩
  | 85 => ⟨S2048, .f32⟩
  | 86 => ⟨S2048, .f32⟩
  | 87 => ⟨S2048, .f32⟩
  | 88 => ⟨S2048, .f32⟩
  | 89 => ⟨S_, .i32⟩
  | 90 => ⟨S1x2048, .f32⟩
  | 91 => ⟨S1x2048, .f32⟩
  | 92 => ⟨S2048, .f32⟩
  | 93 => ⟨S2048, .f32⟩
  | 94 => ⟨S4096x2048, .f32⟩
  | 95 => ⟨S4096x2048, .f32⟩
  | 96 => ⟨S_, .i32⟩
  | 97 => ⟨S_, .i1⟩
  | 98 => ⟨S_, .i32⟩
  | 99 => ⟨S_, .i32⟩
  | 100 => ⟨S_, .i32⟩
  | 101 => ⟨S_, .i32⟩
  | 102 => ⟨S_, .i32⟩
  | 103 => ⟨S1x2048, .f32⟩
  | 104 => ⟨S2048, .f32⟩
  | 105 => ⟨S_, .i32⟩
  | 106 => ⟨S1x2048, .f32⟩
  | 107 => ⟨S2048, .f32⟩
  | 108 => ⟨S_, .i32⟩
  | 109 => ⟨S1x2048, .f32⟩
  | 110 => ⟨S2048, .f32⟩
  | 111 => ⟨S_, .i32⟩
  | 112 => ⟨S1x2048, .f32⟩
  | 113 => ⟨S2048, .f32⟩
  | 114 => ⟨S2048, .f32⟩
  | 115 => ⟨S2048, .f32⟩
  | 116 => ⟨S2048, .f32⟩
  | 117 => ⟨S2048, .f32⟩
  | 118 => ⟨S1x2048, .f32⟩
  | 119 => ⟨S1x2048, .f32⟩
  | 120 => ⟨S2048, .f32⟩
  | 121 => ⟨S2048, .f32⟩
  | 122 => ⟨S1x2048, .f32⟩
  | 123 => ⟨S1x2048, .f32⟩
  | 124 => ⟨S2048, .f32⟩
  | 125 => ⟨S2048, .f32⟩
  | 126 => ⟨S2048, .f32⟩
  | 127 => ⟨S2048, .f32⟩
  | _ => ⟨S4096x2048, .f32⟩

abbrev hbmTy0_1 (i : Nat) : BufTy := match i % 128 with
  | 0 => ⟨S1x2048, .f32⟩
  | 1 => ⟨S1x2048, .f32⟩
  | 2 => ⟨S2048, .f32⟩
  | 3 => ⟨S2048, .f32⟩
  | 4 => ⟨S2048, .f32⟩
  | 5 => ⟨S1x2048, .f32⟩
  | 6 => ⟨S1x2048, .f32⟩
  | 7 => ⟨S1x2048, .f32⟩
  | 8 => ⟨S_, .i32⟩
  | 9 => ⟨S4096x2048, .f32⟩
  | 10 => ⟨S1x2048, .f32⟩
  | 11 => ⟨S_, .i32⟩
  | 12 => ⟨S4096x2048, .f32⟩
  | 13 => ⟨S_, .i32⟩
  | 14 => ⟨S_, .i32⟩
  | _ => ⟨S4096x2048, .f32⟩

abbrev hbmTy (i : Nat) : BufTy := match i / 128 with
  | 0 => hbmTy0_0 i
  | 1 => hbmTy0_1 i
  | _ => ⟨S4096x2048, .f32⟩

abbrev bufTy : (tb : Table) → Fin (tcTables nBuf tb) → BufTy
  | .hbm, ⟨i, _⟩ => hbmTy i
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_c : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v9_4 : Ref sig .tc := ⟨.hbm, 25, rfl⟩
abbrev main_v9_5 : Ref sig .tc := ⟨.hbm, 26, rfl⟩
abbrev main_v9_6 : Ref sig .tc := ⟨.hbm, 27, rfl⟩
abbrev main_v9_7 : Ref sig .tc := ⟨.hbm, 28, rfl⟩
abbrev main_v9_8 : Ref sig .tc := ⟨.hbm, 29, rfl⟩
abbrev main_v9_9 : Ref sig .tc := ⟨.hbm, 30, rfl⟩
abbrev main_v9_10 : Ref sig .tc := ⟨.hbm, 31, rfl⟩
abbrev main_v9_11 : Ref sig .tc := ⟨.hbm, 32, rfl⟩
abbrev main_v9_12 : Ref sig .tc := ⟨.hbm, 33, rfl⟩
abbrev main_while0c_c_25 : Ref sig .tc := ⟨.hbm, 34, rfl⟩
abbrev main_while0c_v19 : Ref sig .tc := ⟨.hbm, 35, rfl⟩
abbrev main_while0b_call0_c : Ref sig .tc := ⟨.hbm, 36, rfl⟩
abbrev main_while0b_call0_v0 : Ref sig .tc := ⟨.hbm, 37, rfl⟩
abbrev main_while0b_v19 : Ref sig .tc := ⟨.hbm, 38, rfl⟩
abbrev main_while0b_call1_c : Ref sig .tc := ⟨.hbm, 39, rfl⟩
abbrev main_while0b_call1_v0 : Ref sig .tc := ⟨.hbm, 40, rfl⟩
abbrev main_while0b_v20 : Ref sig .tc := ⟨.hbm, 41, rfl⟩
abbrev main_while0b_v21 : Ref sig .tc := ⟨.hbm, 42, rfl⟩
abbrev main_while0b_v22 : Ref sig .tc := ⟨.hbm, 43, rfl⟩
abbrev main_while0b_v23 : Ref sig .tc := ⟨.hbm, 44, rfl⟩
abbrev main_while0b_v24 : Ref sig .tc := ⟨.hbm, 45, rfl⟩
abbrev main_while0b_v25 : Ref sig .tc := ⟨.hbm, 46, rfl⟩
abbrev main_while0b_v26 : Ref sig .tc := ⟨.hbm, 47, rfl⟩
abbrev main_while0b_v27 : Ref sig .tc := ⟨.hbm, 48, rfl⟩
abbrev main_while0b_v28 : Ref sig .tc := ⟨.hbm, 49, rfl⟩
abbrev main_while0b_call2_v0 : Ref sig .tc := ⟨.hbm, 50, rfl⟩
abbrev main_while0b_call2_c : Ref sig .tc := ⟨.hbm, 51, rfl⟩
abbrev main_while0b_v29 : Ref sig .tc := ⟨.hbm, 52, rfl⟩
abbrev main_while0b_call3_v0 : Ref sig .tc := ⟨.hbm, 53, rfl⟩
abbrev main_while0b_call3_c : Ref sig .tc := ⟨.hbm, 54, rfl⟩
abbrev main_while0b_v30 : Ref sig .tc := ⟨.hbm, 55, rfl⟩
abbrev main_while0b_call4_v0 : Ref sig .tc := ⟨.hbm, 56, rfl⟩
abbrev main_while0b_call4_c : Ref sig .tc := ⟨.hbm, 57, rfl⟩
abbrev main_while0b_v31 : Ref sig .tc := ⟨.hbm, 58, rfl⟩
abbrev main_while0b_call5_v0 : Ref sig .tc := ⟨.hbm, 59, rfl⟩
abbrev main_while0b_call5_c : Ref sig .tc := ⟨.hbm, 60, rfl⟩
abbrev main_while0b_v32 : Ref sig .tc := ⟨.hbm, 61, rfl⟩
abbrev main_while0b_c_25 : Ref sig .tc := ⟨.hbm, 62, rfl⟩
abbrev main_while0b_v33 : Ref sig .tc := ⟨.hbm, 63, rfl⟩
abbrev main_cst_4 : Ref sig .tc := ⟨.hbm, 64, rfl⟩
abbrev main_v10 : Ref sig .tc := ⟨.hbm, 65, rfl⟩
abbrev main_cst_5 : Ref sig .tc := ⟨.hbm, 66, rfl⟩
abbrev main_v11 : Ref sig .tc := ⟨.hbm, 67, rfl⟩
abbrev main_cst_6 : Ref sig .tc := ⟨.hbm, 68, rfl⟩
abbrev main_v12 : Ref sig .tc := ⟨.hbm, 69, rfl⟩
abbrev main_cst_7 : Ref sig .tc := ⟨.hbm, 70, rfl⟩
abbrev main_v13 : Ref sig .tc := ⟨.hbm, 71, rfl⟩
abbrev main_cst_8 : Ref sig .tc := ⟨.hbm, 72, rfl⟩
abbrev main_v14 : Ref sig .tc := ⟨.hbm, 73, rfl⟩
abbrev main_cst_9 : Ref sig .tc := ⟨.hbm, 74, rfl⟩
abbrev main_v15 : Ref sig .tc := ⟨.hbm, 75, rfl⟩
abbrev main_cst_10 : Ref sig .tc := ⟨.hbm, 76, rfl⟩
abbrev main_v16 : Ref sig .tc := ⟨.hbm, 77, rfl⟩
abbrev main_cst_11 : Ref sig .tc := ⟨.hbm, 78, rfl⟩
abbrev main_v17 : Ref sig .tc := ⟨.hbm, 79, rfl⟩
abbrev main_c_12 : Ref sig .tc := ⟨.hbm, 80, rfl⟩
abbrev main_v18_0 : Ref sig .tc := ⟨.hbm, 81, rfl⟩
abbrev main_v18_1 : Ref sig .tc := ⟨.hbm, 82, rfl⟩
abbrev main_v18_2 : Ref sig .tc := ⟨.hbm, 83, rfl⟩
abbrev main_v18_3 : Ref sig .tc := ⟨.hbm, 84, rfl⟩
abbrev main_v18_4 : Ref sig .tc := ⟨.hbm, 85, rfl⟩
abbrev main_v18_5 : Ref sig .tc := ⟨.hbm, 86, rfl⟩
abbrev main_v18_6 : Ref sig .tc := ⟨.hbm, 87, rfl⟩
abbrev main_v18_7 : Ref sig .tc := ⟨.hbm, 88, rfl⟩
abbrev main_v18_8 : Ref sig .tc := ⟨.hbm, 89, rfl⟩
abbrev main_v18_9 : Ref sig .tc := ⟨.hbm, 90, rfl⟩
abbrev main_v18_10 : Ref sig .tc := ⟨.hbm, 91, rfl⟩
abbrev main_v18_11 : Ref sig .tc := ⟨.hbm, 92, rfl⟩
abbrev main_v18_12 : Ref sig .tc := ⟨.hbm, 93, rfl⟩
abbrev main_v18_13 : Ref sig .tc := ⟨.hbm, 94, rfl⟩
abbrev main_v18_14 : Ref sig .tc := ⟨.hbm, 95, rfl⟩
abbrev main_while1c_c_27 : Ref sig .tc := ⟨.hbm, 96, rfl⟩
abbrev main_while1c_v19 : Ref sig .tc := ⟨.hbm, 97, rfl⟩
abbrev main_while1b_c_27 : Ref sig .tc := ⟨.hbm, 98, rfl⟩
abbrev main_while1b_v19 : Ref sig .tc := ⟨.hbm, 99, rfl⟩
abbrev main_while1b_c_28 : Ref sig .tc := ⟨.hbm, 100, rfl⟩
abbrev main_while1b_v20 : Ref sig .tc := ⟨.hbm, 101, rfl⟩
abbrev main_while1b_call6_c : Ref sig .tc := ⟨.hbm, 102, rfl⟩
abbrev main_while1b_call6_v0 : Ref sig .tc := ⟨.hbm, 103, rfl⟩
abbrev main_while1b_v21 : Ref sig .tc := ⟨.hbm, 104, rfl⟩
abbrev main_while1b_call7_c : Ref sig .tc := ⟨.hbm, 105, rfl⟩
abbrev main_while1b_call7_v0 : Ref sig .tc := ⟨.hbm, 106, rfl⟩
abbrev main_while1b_v22 : Ref sig .tc := ⟨.hbm, 107, rfl⟩
abbrev main_while1b_call8_c : Ref sig .tc := ⟨.hbm, 108, rfl⟩
abbrev main_while1b_call8_v0 : Ref sig .tc := ⟨.hbm, 109, rfl⟩
abbrev main_while1b_v23 : Ref sig .tc := ⟨.hbm, 110, rfl⟩
abbrev main_while1b_call9_c : Ref sig .tc := ⟨.hbm, 111, rfl⟩
abbrev main_while1b_call9_v0 : Ref sig .tc := ⟨.hbm, 112, rfl⟩
abbrev main_while1b_v24 : Ref sig .tc := ⟨.hbm, 113, rfl⟩
abbrev main_while1b_v25 : Ref sig .tc := ⟨.hbm, 114, rfl⟩
abbrev main_while1b_v26 : Ref sig .tc := ⟨.hbm, 115, rfl⟩
abbrev main_while1b_v27 : Ref sig .tc := ⟨.hbm, 116, rfl⟩
abbrev main_while1b_v28 : Ref sig .tc := ⟨.hbm, 117, rfl⟩
abbrev main_while1b_v29 : Ref sig .tc := ⟨.hbm, 118, rfl⟩
abbrev main_while1b_v30 : Ref sig .tc := ⟨.hbm, 119, rfl⟩
abbrev main_while1b_v31 : Ref sig .tc := ⟨.hbm, 120, rfl⟩
abbrev main_while1b_v32 : Ref sig .tc := ⟨.hbm, 121, rfl⟩
abbrev main_while1b_v33 : Ref sig .tc := ⟨.hbm, 122, rfl⟩
abbrev main_while1b_v34 : Ref sig .tc := ⟨.hbm, 123, rfl⟩
abbrev main_while1b_v35 : Ref sig .tc := ⟨.hbm, 124, rfl⟩
abbrev main_while1b_v36 : Ref sig .tc := ⟨.hbm, 125, rfl⟩
abbrev main_while1b_v37 : Ref sig .tc := ⟨.hbm, 126, rfl⟩
abbrev main_while1b_v38 : Ref sig .tc := ⟨.hbm, 127, rfl⟩
abbrev main_while1b_v39 : Ref sig .tc := ⟨.hbm, 128, rfl⟩
abbrev main_while1b_v40 : Ref sig .tc := ⟨.hbm, 129, rfl⟩
abbrev main_while1b_v41 : Ref sig .tc := ⟨.hbm, 130, rfl⟩
abbrev main_while1b_v42 : Ref sig .tc := ⟨.hbm, 131, rfl⟩
abbrev main_while1b_v43 : Ref sig .tc := ⟨.hbm, 132, rfl⟩
abbrev main_while1b_v44 : Ref sig .tc := ⟨.hbm, 133, rfl⟩
abbrev main_while1b_v45 : Ref sig .tc := ⟨.hbm, 134, rfl⟩
abbrev main_while1b_call10_v0 : Ref sig .tc := ⟨.hbm, 135, rfl⟩
abbrev main_while1b_call10_c : Ref sig .tc := ⟨.hbm, 136, rfl⟩
abbrev main_while1b_v46 : Ref sig .tc := ⟨.hbm, 137, rfl⟩
abbrev main_while1b_call11_v0 : Ref sig .tc := ⟨.hbm, 138, rfl⟩
abbrev main_while1b_call11_c : Ref sig .tc := ⟨.hbm, 139, rfl⟩
abbrev main_while1b_v47 : Ref sig .tc := ⟨.hbm, 140, rfl⟩
abbrev main_while1b_c_29 : Ref sig .tc := ⟨.hbm, 141, rfl⟩
abbrev main_while1b_v48 : Ref sig .tc := ⟨.hbm, 142, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩
-- ==== Kernel2.lean ====
abbrev S4096x2816 : Shape := ⟨2, ![4096, 2816]⟩
abbrev S2816x1024 : Shape := ⟨2, ![2816, 1024]⟩
abbrev S4096x1024 : Shape := ⟨2, ![4096, 1024]⟩
abbrev S4096x5632 : Shape := ⟨2, ![4096, 5632]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 6
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S4096x1024, .bf16⟩
  | .hbm, ⟨4, _⟩ => ⟨S4096x5632, .bf16⟩
  | .hbm, ⟨5, _⟩ => ⟨S4096x5632, .bf16⟩
  | .local _ .vmem, ⟨0, _⟩ => ⟨S256x1024, .bf16⟩
  | .local _ .vmem, ⟨1, _⟩ => ⟨S256x1024, .bf16⟩
  | .local _ .vmem, ⟨2, _⟩ => ⟨S2816x1024, .bf16⟩
  | .local _ .vmem, ⟨3, _⟩ => ⟨S256x5632, .bf16⟩
  | .local _ .vmem, ⟨4, _⟩ => ⟨S256x5632, .bf16⟩
  | .local _ .vmem, ⟨5, _⟩ => ⟨S256x5632, .bf16⟩
  | .local _ .vmem, ⟨6, _⟩ => ⟨S256x5632, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x5632 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference2Ideal.lean ====
abbrev S4096x2816 : Shape := ⟨2, ![4096, 2816]⟩
abbrev S2816x1024 : Shape := ⟨2, ![2816, 1024]⟩
abbrev S4096x1024 : Shape := ⟨2, ![4096, 1024]⟩
abbrev S_ : Shape := ⟨0, ![]⟩
abbrev S4096x5632 : Shape := ⟨2, ![4096, 5632]⟩

abbrev nBuf : Space → Nat
  | .hbm => 32
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S2816x1024, .bf16⟩
  | .hbm, ⟨3, _⟩ => ⟨S4096x1024, .bf16⟩
  | .hbm, ⟨4, _⟩ => ⟨S4096x2816, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x2816, .f32⟩
  | .hbm, ⟨9, _⟩ => ⟨S4096x2816, .f32⟩
  | .hbm, ⟨10, _⟩ => ⟨S_, .f32⟩
  | .hbm, ⟨11, _⟩ => ⟨S4096x2816, .f32⟩
  | .hbm, ⟨12, _⟩ => ⟨S4096x2816, .f32⟩
  | .hbm, ⟨13, _⟩ => ⟨S_, .f32⟩
  | .hbm, ⟨14, _⟩ => ⟨S4096x2816, .f32⟩
  | .hbm, ⟨15, _⟩ => ⟨S4096x2816, .f32⟩
  | .hbm, ⟨16, _⟩ => ⟨S_, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x2816, .f32⟩
  | .hbm, ⟨22, _⟩ => ⟨S4096x1024, .f32⟩
  | .hbm, ⟨23, _⟩ => ⟨S4096x2816, .f32⟩
  | .hbm, ⟨24, _⟩ => ⟨S4096x2816, .f32⟩
  | .hbm, ⟨25, _⟩ => ⟨S4096x2816, .f32⟩
  | .hbm, ⟨26, _⟩ => ⟨S4096x2816, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x5632, .f32⟩
  | .hbm, ⟨31, _⟩ => ⟨S4096x5632, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_v4_2 : Ref sig .tc := ⟨.hbm, 15, rfl⟩
abbrev main_call0_cst_1 : Ref sig .tc := ⟨.hbm, 16, rfl⟩
abbrev main_call0_v6 : Ref sig .tc := ⟨.hbm, 17, rfl⟩
abbrev main_call0_v7 : Ref sig .tc := ⟨.hbm, 18, rfl⟩
abbrev main_v4_1 : Ref sig .tc := ⟨.hbm, 19, rfl⟩
abbrev main_v4_0 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩

abbrev nD : Nat := 1
abbrev τ : Topo := Topo.v7x

variable {F : FTy → Type} [FloatOps F]
-- ==== Kernel4.lean ====
abbrev S4096x2816 : Shape := ⟨2, ![4096, 2816]⟩
abbrev S4096x1024 : Shape := ⟨2, ![4096, 1024]⟩
abbrev S2816x1024 : Shape := ⟨2, ![2816, 1024]⟩
abbrev S512x1408 : Shape := ⟨2, ![512, 1408]⟩
abbrev S512x1024 : Shape := ⟨2, ![512, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S512x1408, .bf16⟩
  | .local _ .vmem, ⟨1, _⟩ => ⟨S512x1408, .bf16⟩
  | .local _ .vmem, ⟨2, _⟩ => ⟨S512x1024, .bf16⟩
  | .local _ .vmem, ⟨3, _⟩ => ⟨S512x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Reference4Ideal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S4096x2816, .f32⟩
  | .hbm, ⟨3, _⟩ => ⟨S4096x1024, .f32⟩
  | .hbm, ⟨4, _⟩ => ⟨S_, .f32⟩
  | .hbm, ⟨5, _⟩ => ⟨S2816x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel5.lean ====
abbrev S4096x1024 : Shape := ⟨2, ![4096, 1024]⟩
abbrev S4096x2816 : Shape := ⟨2, ![4096, 2816]⟩
abbrev S4096x5632 : Shape := ⟨2, ![4096, 5632]⟩
abbrev S8x1024x352 : Shape := ⟨3, ![8, 1024, 352]⟩
abbrev S512x1024 : Shape := ⟨2, ![512, 1024]⟩
abbrev S512x1408 : Shape := ⟨2, ![512, 1408]⟩
abbrev S4x1024x352 : Shape := ⟨3, ![4, 1024, 352]⟩
abbrev S1024x1408 : Shape := ⟨2, ![1024, 1408]⟩
abbrev S1024x352 : Shape := ⟨2, ![1024, 352]⟩
abbrev S1x1024x352 : Shape := ⟨3, ![1, 1024, 352]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x5632, .bf16⟩
  | .hbm, ⟨4, _⟩ => ⟨S8x1024x352, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S4x1024x352, .bf16⟩
  | .local _ .vmem, ⟨5, _⟩ => ⟨S4x1024x352, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference5Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x1024, .f32⟩
  | .hbm, ⟨4, _⟩ => ⟨S4096x2816, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S1024x2816, .bf16⟩
  | .hbm, ⟨11, _⟩ => ⟨S1024x8x352, .bf16⟩
  | .hbm, ⟨12, _⟩ => ⟨S8x1024x352, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel6.lean ====
abbrev S4096x1024 : Shape := ⟨2, ![4096, 1024]⟩
abbrev S4096x2816 : Shape := ⟨2, ![4096, 2816]⟩
abbrev S4096x5632 : Shape := ⟨2, ![4096, 5632]⟩
abbrev S8x1024x352 : Shape := ⟨3, ![8, 1024, 352]⟩
abbrev S512x1024 : Shape := ⟨2, ![512, 1024]⟩
abbrev S512x1408 : Shape := ⟨2, ![512, 1408]⟩
abbrev S4x1024x352 : Shape := ⟨3, ![4, 1024, 352]⟩
abbrev S1024x1408 : Shape := ⟨2, ![1024, 1408]⟩
abbrev S1024x352 : Shape := ⟨2, ![1024, 352]⟩
abbrev S1x1024x352 : Shape := ⟨3, ![1, 1024, 352]⟩

abbrev nBuf : Space → Nat
  | .hbm => 5
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x5632, .bf16⟩
  | .hbm, ⟨4, _⟩ => ⟨S8x1024x352, .bf16⟩
  | .local _ .vmem, ⟨0, _⟩ => ⟨S512x1024, .bf16⟩
  | .local _ .vmem, ⟨1, _⟩ => ⟨S512x1024, .bf16⟩
  | .local _ .vmem, ⟨2, _⟩ => ⟨S512x1408, .bf16⟩
  | .local _ .vmem, ⟨3, _⟩ => ⟨S512x1408, .bf16⟩
  | .local _ .vmem, ⟨4, _⟩ => ⟨S4x1024x352, .bf16⟩
  | .local _ .vmem, ⟨5, _⟩ => ⟨S4x1024x352, .bf16⟩
  | .local _ .vmem, ⟨6, _⟩ => ⟨S1024x1408, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 8], ![false, false, false]⟩

def k0_cond3 (i : grid0.Coords) : BitVec 1 :=
  let arg2 : BitVec 32 := BitVec.ofNat 32 (i 2).val
  let c7_i32 : BitVec 32 := 7#32
  let v10 : BitVec 1 := Scalar.cmpi .eq arg2 c7_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg1
  let c0_i32 : BitVec 32 := 0#32
  ![arg2.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, false, true]

abbrev stage0_1 : Fin 2 → Memref sig .tc .vmem S512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S4x1024x352 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== Reference6Ideal.lean ====
abbrev S4096x1024 : Shape := ⟨2, ![4096, 1024]⟩
abbrev S4096x2816 : Shape := ⟨2, ![4096, 2816]⟩
abbrev S_ : Shape := ⟨0, ![]⟩
abbrev S1024x2816 : Shape := ⟨2, ![1024, 2816]⟩
abbrev S2816x1024 : Shape := ⟨2, ![2816, 1024]⟩
abbrev S1024x8x352 : Shape := ⟨3, ![1024, 8, 352]⟩
abbrev S8x1024x352 : Shape := ⟨3, ![8, 1024, 352]⟩

abbrev nBuf : Space → Nat
  | .hbm => 13
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x2816, .bf16⟩
  | .hbm, ⟨2, _⟩ => ⟨S4096x2816, .bf16⟩
  | .hbm, ⟨3, _⟩ => ⟨S4096x1024, .f32⟩
  | .hbm, ⟨4, _⟩ => ⟨S4096x2816, .f32⟩
  | .hbm, ⟨5, _⟩ => ⟨S_, .f32⟩
  | .hbm, ⟨6, _⟩ => ⟨S1024x2816, .f32⟩
  | .hbm, ⟨7, _⟩ => ⟨S4096x2816, .f32⟩
  | .hbm, ⟨8, _⟩ => ⟨S2816x1024, .f32⟩
  | .hbm, ⟨9, _⟩ => ⟨S1024x2816, .f32⟩
  | .hbm, ⟨10, _⟩ => ⟨S1024x2816, .bf16⟩
  | .hbm, ⟨11, _⟩ => ⟨S1024x8x352, .bf16⟩
  | .hbm, ⟨12, _⟩ => ⟨S8x1024x352, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Kernel7.lean ====
abbrev S4096x1024 : Shape := ⟨2, ![4096, 1024]⟩
abbrev S1024x2816 : Shape := ⟨2, ![1024, 2816]⟩
abbrev S1024x5632 : Shape := ⟨2, ![1024, 5632]⟩
abbrev S4096x5632 : Shape := ⟨2, ![4096, 5632]⟩
abbrev S4096x2816 : Shape := ⟨2, ![4096, 2816]⟩
abbrev S256x1024 : Shape := ⟨2, ![256, 1024]⟩
abbrev S256x5632 : Shape := ⟨2, ![256, 5632]⟩
abbrev S256x2816 : Shape := ⟨2, ![256, 2816]⟩

abbrev nBuf : Space → Nat
  | .hbm => 6
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S1024x5632, .bf16⟩
  | .hbm, ⟨4, _⟩ => ⟨S4096x5632, .bf16⟩
  | .hbm, ⟨5, _⟩ => ⟨S4096x2816, .bf16⟩
  | .local _ .vmem, ⟨0, _⟩ => ⟨S256x1024, .bf16⟩
  | .local _ .vmem, ⟨1, _⟩ => ⟨S256x1024, .bf16⟩
  | .local _ .vmem, ⟨2, _⟩ => ⟨S1024x5632, .bf16⟩
  | .local _ .vmem, ⟨3, _⟩ => ⟨S256x5632, .bf16⟩
  | .local _ .vmem, ⟨4, _⟩ => ⟨S256x5632, .bf16⟩
  | .local _ .vmem, ⟨5, _⟩ => ⟨S256x2816, .bf16⟩
  | .local _ .vmem, ⟨6, _⟩ => ⟨S256x2816, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x5632 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Reference7Ideal.lean ====
abbrev S4096x1024 : Shape := ⟨2, ![4096, 1024]⟩
abbrev S1024x2816 : Shape := ⟨2, ![1024, 2816]⟩
abbrev S4096x2816 : Shape := ⟨2, ![4096, 2816]⟩
abbrev S4096x5632 : Shape := ⟨2, ![4096, 5632]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x2816, .bf16⟩
  | .hbm, ⟨2, _⟩ => ⟨S1024x2816, .bf16⟩
  | .hbm, ⟨3, _⟩ => ⟨S4096x1024, .f32⟩
  | .hbm, ⟨4, _⟩ => ⟨S1024x2816, .f32⟩
  | .hbm, ⟨5, _⟩ => ⟨S1024x2816, .f32⟩
  | .hbm, ⟨6, _⟩ => ⟨S4096x2816, .f32⟩
  | .hbm, ⟨7, _⟩ => ⟨S4096x2816, .f32⟩
  | .hbm, ⟨8, _⟩ => ⟨S4096x5632, .f32⟩
  | .hbm, ⟨9, _⟩ => ⟨S4096x5632, .bf16⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩

abbrev nD : Nat := 1
abbrev τ : Topo := Topo.v7x

variable {F : FTy → Type} [FloatOps F]
-- ==== Kernel8.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 13
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]
-- ==== Reference8Ideal.lean ====
abbrev S4096x2816 : Shape := ⟨2, ![4096, 2816]⟩
abbrev S2816x1024 : Shape := ⟨2, ![2816, 1024]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 43
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S4096x2816, .f32⟩
  | .hbm, ⟨6, _⟩ => ⟨S2816x1024, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S_, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_cst_4 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩

abbrev nD : Nat := 1
abbrev τ : Topo := Topo.v7x

variable {F : FTy → Type} [FloatOps F]
-- ==== Kernel3.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S4096x5632 : Shape := ⟨2, ![4096, 5632]⟩
abbrev S1024x5632 : Shape := ⟨2, ![1024, 5632]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x5632, .bf16⟩
  | .hbm, ⟨8, _⟩ => ⟨S1024x5632, .bf16⟩
  | .hbm, ⟨9, _⟩ => ⟨S4096x1024, .f32⟩
  | .hbm, ⟨10, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v44 : BitVec 32 := Scalar.extui v5
  let c0_i32_19 : BitVec 32 := 0#32
  let v45 : BitVec 1 := Scalar.cmpi .ne v44 c0_i32_19
  v45

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v46 : BitVec 1 := Scalar.xori v5 v_true
  let v47 : BitVec 32 := Scalar.extui v46
  let c0_i32_20 : BitVec 32 := 0#32
  let v48 : BitVec 1 := Scalar.cmpi .ne v47 c0_i32_20
  v48

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]
-- ==== Reference3Ideal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x2816, .f32⟩
  | .hbm, ⟨8, _⟩ => ⟨S4096x2816, .f32⟩
  | .hbm, ⟨9, _⟩ => ⟨S1024x2816, .f32⟩
  | .hbm, ⟨10, _⟩ => ⟨S1024x2816, .f32⟩
  | .hbm, ⟨11, _⟩ => ⟨S4096x1024, .f32⟩
  | .hbm, ⟨12, _⟩ => ⟨S_, .f32⟩
  | .hbm, ⟨13, _⟩ => ⟨S4096, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S_, .f32⟩
  | .hbm, ⟨24, _⟩ => ⟨S4096x1, .f32⟩
  | .hbm, ⟨25, _⟩ => ⟨S4096x1, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S4096x2816, .f32⟩
  | .hbm, ⟨31, _⟩ => ⟨S4096x2816, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S_, .f32⟩
  | .hbm, ⟨43, _⟩ => ⟨S4096, .f32⟩
  | .hbm, ⟨44, _⟩ => ⟨S4096x1, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1, .f32⟩
  | .hbm, ⟨49, _⟩ => ⟨S_, .f32⟩
  | .hbm, ⟨50, _⟩ => ⟨S4096x1, .f32⟩
  | .hbm, ⟨51, _⟩ => ⟨S4096x1, .f32⟩
  | .hbm, ⟨52, _⟩ => ⟨S_, .f32⟩
  | .hbm, ⟨53, _⟩ => ⟨S4096, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_4 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_5 : Ref sig .tc := ⟨.hbm, 49, rfl⟩
abbrev main_v36 : Ref sig .tc := ⟨.hbm, 50, rfl⟩
abbrev main_v37 : Ref sig .tc := ⟨.hbm, 51, rfl⟩
abbrev main_cst_6 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩

abbrev nD : Nat := 1
abbrev τ : Topo := Topo.v7x

variable {F : FTy → Type} [FloatOps F]
-- ==== Kernel9.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S4096x5632 : Shape := ⟨2, ![4096, 5632]⟩
abbrev S1024x5632 : Shape := ⟨2, ![1024, 5632]⟩
abbrev S256x5632 : Shape := ⟨2, ![256, 5632]⟩
abbrev S256x1024 : Shape := ⟨2, ![256, 1024]⟩
abbrev S256 : Shape := ⟨1, ![256]⟩
abbrev S256x1 : Shape := ⟨2, ![256, 1]⟩
abbrev S1024 : Shape := ⟨1, ![1024]⟩

abbrev nBuf : Space → Nat
  | .hbm => 15
  | .vmem => 17
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S4096x5632, .bf16⟩
  | .hbm, ⟨10, _⟩ => ⟨S1024x5632, .bf16⟩
  | .hbm, ⟨11, _⟩ => ⟨S4096x1024, .f32⟩
  | .hbm, ⟨12, _⟩ => ⟨S4096x1024, .bf16⟩
  | .hbm, ⟨13, _⟩ => ⟨S1x1024, .f32⟩
  | .hbm, ⟨14, _⟩ => ⟨S1x1024, .f32⟩
  | .local _ .vmem, ⟨0, _⟩ => ⟨S256x5632, .bf16⟩
  | .local _ .vmem, ⟨1, _⟩ => ⟨S256x5632, .bf16⟩
  | .local _ .vmem, ⟨2, _⟩ => ⟨S1024x5632, .bf16⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x1024, .f32⟩
  | .local _ .vmem, ⟨10, _⟩ => ⟨S1x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .bf16⟩
  | .local _ .vmem, ⟨14, _⟩ => ⟨S256x1024, .bf16⟩
  | .local _ .vmem, ⟨15, _⟩ => ⟨S1x1024, .f32⟩
  | .local _ .vmem, ⟨16, _⟩ => ⟨S1x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨3, ![16, 1, 1], ![false, false, false]⟩

def k0_cond1 (i : grid0.Coords) : BitVec 1 :=
  let arg0 : BitVec 32 := BitVec.ofNat 32 (i 0).val
  let c0_i32 : BitVec 32 := 0#32
  let v5 : BitVec 1 := Scalar.cmpi .eq arg0 c0_i32
  let v81 : BitVec 32 := Scalar.extui v5
  let c0_i32_33 : BitVec 32 := 0#32
  let v82 : BitVec 1 := Scalar.cmpi .ne v81 c0_i32_33
  v82

def k0_cond2 (i : grid0.Coords) : BitVec 1 :=
  let arg0 : BitVec 32 := BitVec.ofNat 32 (i 0).val
  let c0_i32 : BitVec 32 := 0#32
  let v5 : BitVec 1 := Scalar.cmpi .eq arg0 c0_i32
  let v_true : BitVec 1 := 1#1
  let v83 : BitVec 1 := Scalar.xori v5 v_true
  let v84 : BitVec 32 := Scalar.extui v83
  let c0_i32_34 : BitVec 32 := 0#32
  let v85 : BitVec 1 := Scalar.cmpi .ne v84 c0_i32_34
  v85

def k0_cond3 (i : grid0.Coords) : BitVec 1 :=
  let arg0 : BitVec 32 := BitVec.ofNat 32 (i 0).val
  let c0_i32 : BitVec 32 := 0#32
  let v5 : BitVec 1 := Scalar.cmpi .eq arg0 c0_i32
  let v86 : BitVec 32 := Scalar.extui v5
  let c0_i32_35 : BitVec 32 := 0#32
  let v87 : BitVec 1 := Scalar.cmpi .ne v86 c0_i32_35
  v87

def k0_cond4 (i : grid0.Coords) : BitVec 1 :=
  let arg0 : BitVec 32 := BitVec.ofNat 32 (i 0).val
  let c0_i32 : BitVec 32 := 0#32
  let v5 : BitVec 1 := Scalar.cmpi .eq arg0 c0_i32
  let true_36 : BitVec 1 := 1#1
  let v88 : BitVec 1 := Scalar.xori v5 true_36
  let v89 : BitVec 32 := Scalar.extui v88
  let c0_i32_37 : BitVec 32 := 0#32
  let v90 : BitVec 1 := Scalar.cmpi .ne v89 c0_i32_37
  v90

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, false]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]
-- ==== Reference9Ideal.lean ====
abbrev S4096x2816 : Shape := ⟨2, ![4096, 2816]⟩
abbrev S1024x2816 : Shape := ⟨2, ![1024, 2816]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 105
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x2816, .bf16⟩
  | .hbm, ⟨2, _⟩ => ⟨S1024x2816, .bf16⟩
  | .hbm, ⟨3, _⟩ => ⟨S1024x2816, .bf16⟩
  | .hbm, ⟨4, _⟩ => ⟨S4096x1024, .f32⟩
  | .hbm, ⟨5, _⟩ => ⟨S4096x1024, .f32⟩
  | .hbm, ⟨6, _⟩ => ⟨S1x1024, .f32⟩
  | .hbm, ⟨7, _⟩ => ⟨S4096x1024, .f32⟩
  | .hbm, ⟨8, _⟩ => ⟨S1x1024, .f32⟩
  | .hbm, ⟨9, _⟩ => ⟨S4096x2816, .f32⟩
  | .hbm, ⟨10, _⟩ => ⟨S4096x2816, .f32⟩
  | .hbm, ⟨11, _⟩ => ⟨S1024x2816, .f32⟩
  | .hbm, ⟨12, _⟩ => ⟨S1024x2816, .f32⟩
  | .hbm, ⟨13, _⟩ => ⟨S4096x1024, .f32⟩
  | .hbm, ⟨14, _⟩ => ⟨S_, .f32⟩
  | .hbm, ⟨15, _⟩ => ⟨S4096, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S_, .f32⟩
  | .hbm, ⟨26, _⟩ => ⟨S4096x1, .f32⟩
  | .hbm, ⟨27, _⟩ => ⟨S4096x1, .f32⟩
  | .hbm, ⟨28, _⟩ => ⟨S4096x1024, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S4096x2816, .f32⟩
  | .hbm, ⟨33, _⟩ => ⟨S4096x2816, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S_, .f32⟩
  | .hbm, ⟨45, _⟩ => ⟨S4096, .f32⟩
  | .hbm, ⟨46, _⟩ => ⟨S4096x1, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1, .f32⟩
  | .hbm, ⟨51, _⟩ => ⟨S_, .f32⟩
  | .hbm, ⟨52, _⟩ => ⟨S4096x1, .f32⟩
  | .hbm, ⟨53, _⟩ => ⟨S4096x1, .f32⟩
  | .hbm, ⟨54, _⟩ => ⟨S_, .f32⟩
  | .hbm, ⟨55, _⟩ => ⟨S4096, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S_, .f32⟩
  | .hbm, ⟨74, _⟩ => ⟨S4096x1, .f32⟩
  | .hbm, ⟨75, _⟩ => ⟨S4096x1, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S_, .f32⟩
  | .hbm, ⟨89, _⟩ => ⟨S4096, .f32⟩
  | .hbm, ⟨90, _⟩ => ⟨S4096x1, .f32⟩
  | .hbm, ⟨91, _⟩ => ⟨S4096x1024, .f32⟩
  | .hbm, ⟨92, _⟩ => ⟨S4096x1024, .f32⟩
  | .hbm, ⟨93, _⟩ => ⟨S4096x1, .f32⟩
  | .hbm, ⟨94, _⟩ => ⟨S_, .f32⟩
  | .hbm, ⟨95, _⟩ => ⟨S4096x1, .f32⟩
  | .hbm, ⟨96, _⟩ => ⟨S4096x1, .f32⟩
  | .hbm, ⟨97, _⟩ => ⟨S_, .f32⟩
  | .hbm, ⟨98, _⟩ => ⟨S4096, .f32⟩
  | .hbm, ⟨99, _⟩ => ⟨S4096x1024, .f32⟩
  | .hbm, ⟨100, _⟩ => ⟨S4096x1024, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_cst : Ref sig .tc := ⟨.hbm, 14, rfl⟩
abbrev main_v5 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_3 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_4 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_5 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_7 : Ref sig .tc := ⟨.hbm, 62, rfl⟩
abbrev main_v45 : Ref sig .tc := ⟨.hbm, 63, rfl⟩
abbrev main_v46 : Ref sig .tc := ⟨.hbm, 64, rfl⟩
abbrev main_cst_8 : Ref sig .tc := ⟨.hbm, 65, rfl⟩
abbrev main_v47 : Ref sig .tc := ⟨.hbm, 66, rfl⟩
abbrev main_v48 : Ref sig .tc := ⟨.hbm, 67, rfl⟩
abbrev main_cst_9 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_cst_11 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_cst_12 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩

abbrev nD : Nat := 1
abbrev τ : Topo := Topo.v7x

variable {F : FTy → Type} [FloatOps F]
-- ==== Proof.Rows.lean ====
module

public import proofs.«01_k».proof.KernelIdeal
public import Idealize.ShloMosaic.Lib.PointwiseCore
public import Idealize.ShloMosaic.Lib.WritesUnit

/-!
# Steps of a lane block

Both calls lay a block of 4096 time steps by 128 lanes out so that rows `32 n … 32 n + 31` hold step `n` of each of the
32 chunks. A trip of a loop loads or stores such a group of 32 rows. `step32 x n` is the group of `x`; `loadStep` reads
it off a view, and `storeStep` says what a view reads after a group was stored.
-/

@[expose] public section

set_option maxRecDepth 16384

noncomputable section

namespace Cert.Scan

open Cert.KernelIdeal
open Idealize.ShloMosaic

variable {F : FTy → Type} [FloatOps F]

/-- The values of one lane block: 4096 rows of 128 lanes. -/
abbrev Block (F : FTy → Type) : Type := Vec F S1x4096x128 .f32

/-- The index of row `r` and lane `l` in a block. -/
abbrev at3 (r : Fin 4096) (l : Fin 128) : S1x4096x128.Idx := ix3 (n0 := 1) (n1 := 4096) (n2 := 128) 0 r l

/-- The 32 rows of step `n` of a block. -/
def step32 (x : Block F) (n : ℕ) : Vec F S1x32x128 .f32 :=
  fun y => x (at3 ⟨(32 * n + (y 1).val) % 4096, Nat.mod_lt _ (by decide)⟩ (y 2))

/-- The place of row `r` within its group of 32 rows. -/
abbrev inStep (y : S1x4096x128.Idx) : S1x32x128.Idx :=
  ix3 (n0 := 1) (n1 := 32) (n2 := 128) 0 ⟨(y 1).val % 32, Nat.mod_lt _ (by decide)⟩ (y 2)

theorem step32_inStep (x : Block F) (y : S1x4096x128.Idx) : step32 x ((y 1).val / 32) (inStep y) = x y := by
  unfold step32
  congr 1
  funext a
  have h1 : (y 1).val < 4096 := (y 1).isLt
  have h0 : (y 0).val < 1 := (y 0).isLt
  match a with
  | ⟨0, _⟩ => exact Fin.ext (by show 0 = (y 0).val; omega)
  | ⟨1, _⟩ => exact Fin.ext (by show (32 * ((y 1).val / 32) + (y 1).val % 32) % 4096 = (y 1).val; omega)
  | ⟨2, _⟩ => rfl

section

variable {sig : RefSig} {κ : Kind} {sp : Space} (v : View sig κ sp S1x4096x128 .f32) (f : v.ty.Contents (Elt F))

/-- A load of the rows of step `n` reads step `n` of what the view reads. -/
theorem loadStep {off : Fin 3 → ℕ} {n : ℕ} (inb : ∀ a, off a + S1x32x128.size a ≤ S1x4096x128.size a)
    (heq : off = ![0, 32 * n, 0]) :
    v.readAt (Elt F) (Rect.unit (s := S1x4096x128) off S1x32x128.size inb).toLoadRect f = step32 (v.read (Elt F) f) n := by
  subst heq
  funext y
  have hn : 32 * n + 32 ≤ 4096 := inb 1
  have hy : (y 1).val < 32 := (y 1).isLt
  have h0 : (y 0).val < 1 := (y 0).isLt
  rw [View.readAt_apply]
  unfold step32
  congr 1
  funext a
  match a with
  | ⟨0, _⟩ => exact Fin.ext (by show 0 + 1 * (y 0).val = 0; omega)
  | ⟨1, _⟩ => exact Fin.ext (by show 32 * n + 1 * (y 1).val = (32 * n + (y 1).val) % 4096; omega)
  | ⟨2, _⟩ => exact Fin.ext (by show 0 + 1 * (y 2).val = (y 2).val; omega)

/-- After the rows of step `n` were stored, a row of that step reads the stored value, every other what it read. -/
theorem storeStep {off : Fin 3 → ℕ} {n : ℕ} (inb : ∀ a, off a + S1x32x128.size a ≤ S1x4096x128.size a)
    (w : (Rect.unit (s := S1x4096x128) off S1x32x128.size inb).shape.Idx → Elt F .f32)
    (heq : off = ![0, 32 * n, 0]) (y : S1x4096x128.Idx) :
    v.read (Elt F) (v.writes (Elt F) f [⟨Rect.unit (s := S1x4096x128) off S1x32x128.size inb, w⟩]) y
      = if (y 1).val / 32 = n then w (inStep y) else v.read (Elt F) f y := by
  have h1 : (y 1).val < 4096 := (y 1).isLt
  have h0 : (y 0).val < 1 := (y 0).isLt
  have hn : 32 * n + 32 ≤ 4096 := by have := inb 1; rw [heq] at this; exact this
  split
  · next h =>
    refine View.read_writes_cons_unit_of_mem v f inb w [] y (inStep y) heq fun a => ?_
    match a with
    | ⟨0, _⟩ => show (y 0).val = 0 + 0; omega
    | ⟨1, _⟩ => show (y 1).val = 32 * n + (y 1).val % 32; omega
    | ⟨2, _⟩ => show (y 2).val = 0 + (y 2).val; omega
  · next h =>
    rw [View.read_writes_cons_unit_of_not_mem v f inb w [] y heq 1]
    · rfl
    · show (y 1).val < 32 * n ∨ 32 * n + 32 ≤ (y 1).val
      omega

/-- Row `n` of a table of 128 rows of 128 lanes. -/
def tableRow (t : Vec F S128x128 .f32) (n : ℕ) : Vec F S1x128 .f32 :=
  fun y => t (ix2 (n0 := 128) (n1 := 128) ⟨n % 128, Nat.mod_lt _ (by decide)⟩ (y 1))

end

/-- A load of row `n` of a table reads row `n` of what the view reads. -/
theorem loadTableRow {sig : RefSig} {κ : Kind} {sp : Space} (v : View sig κ sp S128x128 .f32)
    (f : v.ty.Contents (Elt F)) {off : Fin 2 → ℕ} {n : ℕ} (inb : ∀ a, off a + S1x128.size a ≤ S128x128.size a)
    (heq : off = ![n, 0]) :
    v.readAt (Elt F) (Rect.unit (s := S128x128) off S1x128.size inb).toLoadRect f = tableRow (v.read (Elt F) f) n := by
  subst heq
  funext y
  have hn : n + 1 ≤ 128 := inb 0
  have h0 : (y 0).val < 1 := (y 0).isLt
  rw [View.readAt_apply]
  unfold tableRow
  congr 1
  funext a
  match a with
  | ⟨0, _⟩ => exact Fin.ext (by show n + 1 * (y 0).val = n % 128; omega)
  | ⟨1, _⟩ => exact Fin.ext (by show 0 + 1 * (y 1).val = (y 1).val; omega)

end Cert.Scan
-- ==== Proof.FwdLoops.lean ====
module

public import proofs.«01_k».proof.Proof.Gen.KernelIdeal.Loops
public import proofs.«01_k».proof.Proof.Rows

/-!
# The two loops of the forward scan

The first loop runs the recurrence of all 32 chunks side by side, one step of 32 rows a trip, from zero; the second adds
to every step the state its chunk starts from, times the power of the transition that the step's place in the chunk
asks for. Each loop's invariant says what the rows already passed read.
-/

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The state of the 32 chunks after `n` steps of the forward recurrence, each chunk from zero. -/
def fwdState (a1 a2 : Vec F S1x128 .f32) (x1 x2 : Block F) : ℕ → FVec F S32x128 .f32 × FVec F S32x128 .f32
  | 0 => (k0_pay5, k0_pay5)
  | n + 1 =>
    (k0_pay6 a1 a2 (fwdState a1 a2 x1 x2 n).1 (fwdState a1 a2 x1 x2 n).2 (step32 x1 n),
      k0_pay7 a1 a2 (fwdState a1 a2 x1 x2 n).1 (fwdState a1 a2 x1 x2 n).2 (step32 x2 n))

/-- The real parts of the states of every chunk's own recurrence. -/
def fwdLocalRe (a1 a2 : Vec F S1x128 .f32) (x1 x2 : Block F) : Block F := fun y =>
  k0_pay8 a1 a2 (fwdState a1 a2 x1 x2 ((y 1).val / 32)).1 (fwdState a1 a2 x1 x2 ((y 1).val / 32)).2
    (step32 x1 ((y 1).val / 32)) (inStep y)

/-- Their imaginary parts. -/
def fwdLocalIm (a1 a2 : Vec F S1x128 .f32) (x1 x2 : Block F) : Block F := fun y =>
  k0_pay9 a1 a2 (fwdState a1 a2 x1 x2 ((y 1).val / 32)).1 (fwdState a1 a2 x1 x2 ((y 1).val / 32)).2
    (step32 x2 ((y 1).val / 32)) (inStep y)

/-- The real parts after the carried-in states were added: `t1`, `t2` the table of powers, `c1`, `c2` the states. -/
def fwdFixRe (c1 c2 : Vec F S32x128 .f32) (t1 t2 : Vec F S128x128 .f32) (g1 : Block F) : Block F := fun y =>
  k0_pay1 c1 c2 (tableRow t1 ((y 1).val / 32)) (tableRow t2 ((y 1).val / 32)) (step32 g1 ((y 1).val / 32)) (inStep y)

/-- The imaginary parts. -/
def fwdFixIm (c1 c2 : Vec F S32x128 .f32) (t1 t2 : Vec F S128x128 .f32) (g2 : Block F) : Block F := fun y =>
  k0_pay2 c1 c2 (tableRow t1 ((y 1).val / 32)) (tableRow t2 ((y 1).val / 32)) (step32 g2 ((y 1).val / 32)) (inStep y)

/-- A step of a block none of whose rows was written yet is that step of the old block. -/
theorem step32_congr {x g : Block F} {n : ℕ} (hn : n < 128) (h : ∀ y, (y 1).val / 32 = n → x y = g y) :
    step32 x n = step32 g n := by
  funext y
  refine h _ ?_
  have hy : (y 1).val < 32 := (y 1).isLt
  show (32 * n + (y 1).val) % 4096 / 32 = n
  omega

section

variable (𝒱 : Variants) (c : Dev nD) (bd : Option 𝒱.V) (E : Set ℕ) (i : grid0.Coords)
  (arg1 : Memref sig .tc .vmem S1x4096x128 .f32) (harg1 : arg1.IsWhole)
  (arg2 : Memref sig .tc .vmem S1x4096x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x4096x128 .f32) (harg5 : arg5.IsWhole)
  (arg6 : Memref sig .tc .vmem S1x4096x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S32x128 .f32) (harg9 : arg9.IsWhole)
  (arg10 : Memref sig .tc .vmem S32x128 .f32) (harg10 : arg10.IsWhole)

/-- Before trip `k` of the first loop: the rows of the steps before `k` read each chunk's own states, and the loop
carries the last of them. -/
abbrev fwdInv1 (v0 v2 : Vec F S1x128 .f32) (X1 : BufTy.Contents (Elt F) arg1.view.ty)
    (X2 : BufTy.Contents (Elt F) arg2.view.ty) (k : ℕ) (acc : FVec F S32x128 .f32 × FVec F S32x128 .f32) : sProp 𝕄G :=
  iprop((arg1.view.loc (c : Thread nD τ) ↦[arg1.view.set]{fullShare} X1)
    ∗ (arg2.view.loc (c : Thread nD τ) ↦[arg2.view.set]{fullShare} X2)
    ∗ (∃ f, (arg5.view.loc (c : Thread nD τ) ↦[arg5.view.set]{fullShare} f) ∗ ⌜∀ y : S1x4096x128.Idx, (y 1).val / 32 < k →
        arg5.view.read (Elt F) f y = fwdLocalRe v0 v2 (arg1.view.read (Elt F) X1) (arg2.view.read (Elt F) X2) y⌝)
    ∗ (∃ f, (arg6.view.loc (c : Thread nD τ) ↦[arg6.view.set]{fullShare} f) ∗ ⌜∀ y : S1x4096x128.Idx, (y 1).val / 32 < k →
        arg6.view.read (Elt F) f y = fwdLocalIm v0 v2 (arg1.view.read (Elt F) X1) (arg2.view.read (Elt F) X2) y⌝)
    ∗ ⌜acc = fwdState v0 v2 (arg1.view.read (Elt F) X1) (arg2.view.read (Elt F) X2) k⌝)

set_option warn.classDefReducibility false in
/-- The first loop keeps its invariant. -/
@[sl_loop] def fwdLoop1 (v0 v2 : Vec F S1x128 .f32) (X1 : BufTy.Contents (Elt F) arg1.view.ty)
    (X2 : BufTy.Contents (Elt F) arg2.view.ty) :
    LoopInvTy_k0_t1 (F := F) Unit ℕ (UR sig nD τ) ℕ 𝒱 c bd E i arg1 harg1 arg2 harg2 arg3 harg3 arg4 harg4 arg5 harg5 arg6
      harg6 arg7 harg7 arg8 harg8 arg9 harg9 arg10 harg10 v0 v2 (k0_pay5, k0_pay5) where
  inv := fwdInv1 c arg1 arg2 arg5 arg6 v0 v2 X1 X2
  step k acc := by
    have hk : k.val < 128 := Nat.lt_of_lt_of_le k.isLt k0_t1_abs.2.1
    unfold k0_t1_body
    iintro ⟨H1, H2, ⟨%f5, H5, %h5⟩, ⟨%f6, H6, %h6⟩, %hacc⟩
    subst hacc
    sl_exec
    sl_step
    isplitl [H1]; · iexact H1
    isplitl [H2]; · iexact H2
    isplitl [H5]
    · iexists _; isplitl [H5]; · iexact H5
      ipureintro
      intro y hy
      rw [storeStep _ _ _ _ (k0_off1_eq k), loadStep _ _ _ (k0_off1_eq k)]
      split
      · next h => rw [fwdLocalRe, h]
      · next h => exact h5 y (by omega)
    isplitl [H6]
    · iexists _; isplitl [H6]; · iexact H6
      ipureintro
      intro y hy
      rw [storeStep _ _ _ _ (k0_off1_eq k), loadStep _ _ _ (k0_off1_eq k)]
      split
      · next h => rw [fwdLocalIm, h]
      · next h => exact h6 y (by omega)
    ipureintro
    rw [loadStep _ _ _ (k0_off1_eq k), loadStep _ _ _ (k0_off1_eq k)]
    rfl

/-- Before trip `k` of the second loop: the rows of the steps before `k` have the carried-in states added, the others
still read the block `g1`, `g2` of before the loop. -/
abbrev fwdInv2 (v351 v352 : Vec F S32x128 .f32) (X7 : BufTy.Contents (Elt F) arg7.view.ty)
    (X8 : BufTy.Contents (Elt F) arg8.view.ty) (g5 : BufTy.Contents (Elt F) arg5.view.ty)
    (g6 : BufTy.Contents (Elt F) arg6.view.ty) (k : ℕ) (_ : Unit) : sProp 𝕄G :=
  iprop((arg7.view.loc (c : Thread nD τ) ↦[arg7.view.set]{fullShare} X7)
    ∗ (arg8.view.loc (c : Thread nD τ) ↦[arg8.view.set]{fullShare} X8)
    ∗ (∃ f, (arg5.view.loc (c : Thread nD τ) ↦[arg5.view.set]{fullShare} f) ∗ ⌜∀ y : S1x4096x128.Idx,
        arg5.view.read (Elt F) f y = if (y 1).val / 32 < k then fwdFixRe v351 v352 (arg7.view.read (Elt F) X7)
          (arg8.view.read (Elt F) X8) (arg5.view.read (Elt F) g5) y else arg5.view.read (Elt F) g5 y⌝)
    ∗ (∃ f, (arg6.view.loc (c : Thread nD τ) ↦[arg6.view.set]{fullShare} f) ∗ ⌜∀ y : S1x4096x128.Idx,
        arg6.view.read (Elt F) f y = if (y 1).val / 32 < k then fwdFixIm v351 v352 (arg7.view.read (Elt F) X7)
          (arg8.view.read (Elt F) X8) (arg6.view.read (Elt F) g6) y else arg6.view.read (Elt F) g6 y⌝))

set_option warn.classDefReducibility false in
/-- The second loop keeps its invariant. -/
@[sl_loop] def fwdLoop2 (v351 v352 : Vec F S32x128 .f32) (X7 : BufTy.Contents (Elt F) arg7.view.ty)
    (X8 : BufTy.Contents (Elt F) arg8.view.ty) (g5 : BufTy.Contents (Elt F) arg5.view.ty)
    (g6 : BufTy.Contents (Elt F) arg6.view.ty) :
    LoopInvTy_k0_t2 (F := F) Unit ℕ (UR sig nD τ) ℕ 𝒱 c bd E i arg1 harg1 arg2 harg2 arg3 harg3 arg4 harg4 arg5 harg5 arg6
      harg6 arg7 harg7 arg8 harg8 arg9 harg9 arg10 harg10 v351 v352 where
  inv := fwdInv2 c arg5 arg6 arg7 arg8 v351 v352 X7 X8 g5 g6
  step k acc := by
    have hk : k.val < 128 := Nat.lt_of_lt_of_le k.isLt k0_t2_abs.2.1
    unfold k0_t2_body
    iintro ⟨H7, H8, ⟨%f5, H5, %h5⟩, ⟨%f6, H6, %h6⟩⟩
    sl_exec
    sl_step
    isplitl [H7]; · iexact H7
    isplitl [H8]; · iexact H8
    isplitl [H5]
    · iexists _; isplitl [H5]; · iexact H5
      ipureintro
      intro y
      rw [storeStep _ _ _ _ (k0_off3_eq k), loadStep _ _ _ (k0_off3_eq k), loadTableRow _ _ _ (k0_off2_eq k),
        loadTableRow _ _ _ (k0_off2_eq k),
        step32_congr (g := arg5.view.read (Elt F) g5) hk fun y h => by rw [h5, if_neg (by omega)]]
      by_cases h : (y 1).val / 32 = k.val
      · rw [if_pos h, if_pos (by omega), fwdFixRe, h]
      · rw [if_neg h, h5]
        exact if_congr (by omega) rfl rfl
    · iexists _; isplitl [H6]; · iexact H6
      ipureintro
      intro y
      rw [storeStep _ _ _ _ (k0_off3_eq k), loadStep _ _ _ (k0_off3_eq k), loadTableRow _ _ _ (k0_off2_eq k),
        loadTableRow _ _ _ (k0_off2_eq k),
        step32_congr (g := arg6.view.read (Elt F) g6) hk fun y h => by rw [h6, if_neg (by omega)]]
      by_cases h : (y 1).val / 32 = k.val
      · rw [if_pos h, if_pos (by omega), fwdFixIm, h]
      · rw [if_neg h, h6]
        exact if_congr (by omega) rfl rfl

end

end Cert.Scan
-- ==== Proof.RevLoops.lean ====
module

public import proofs.«01_k».proof.Proof.Gen.KernelIdeal.Loops
public import proofs.«01_k».proof.Proof.FwdLoops

/-!
# The two loops of the reverse scan

The first loop runs the recurrence of all 32 chunks side by side from their last step to their first, one step of 32
rows a trip, from zero; the second adds to every step the state that its chunk is handed, times the power of the
transition that the step's place in the chunk asks for, and sums the products with the states of the forward scan, step
before, which the transition's gradient is made of. Each loop's invariant says what the rows already passed read.
-/

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

/-- The state of the 32 chunks after `n` steps of the reverse recurrence, each chunk from zero. -/
def revState (a1 a2 : Vec F S1x128 .f32) (x1 x2 : Block F) : ℕ → FVec F S32x128 .f32 × FVec F S32x128 .f32
  | 0 => (k1_pay14, k1_pay14)
  | n + 1 =>
    (k1_pay15 a1 a2 (revState a1 a2 x1 x2 n).1 (revState a1 a2 x1 x2 n).2 (step32 x1 (127 - n)),
      k1_pay16 a1 a2 (revState a1 a2 x1 x2 n).1 (revState a1 a2 x1 x2 n).2 (step32 x2 (127 - n)))

/-- The real parts of the states of every chunk's own reverse recurrence. -/
def revLocalRe (a1 a2 : Vec F S1x128 .f32) (x1 x2 : Block F) : Block F := fun y =>
  k1_pay17 a1 a2 (revState a1 a2 x1 x2 (127 - (y 1).val / 32)).1 (revState a1 a2 x1 x2 (127 - (y 1).val / 32)).2
    (step32 x1 ((y 1).val / 32)) (inStep y)

/-- Their imaginary parts. -/
def revLocalIm (a1 a2 : Vec F S1x128 .f32) (x1 x2 : Block F) : Block F := fun y =>
  k1_pay18 a1 a2 (revState a1 a2 x1 x2 (127 - (y 1).val / 32)).1 (revState a1 a2 x1 x2 (127 - (y 1).val / 32)).2
    (step32 x2 ((y 1).val / 32)) (inStep y)

/-- The real parts after the handed states were added: `t1`, `t2` the table of powers, `c1`, `c2` the states. -/
def revFixRe (c1 c2 : Vec F S32x128 .f32) (t1 t2 : Vec F S128x128 .f32) (g1 : Block F) : Block F := fun y =>
  k1_pay9 c1 c2 (tableRow t1 ((y 1).val / 32)) (tableRow t2 ((y 1).val / 32)) (step32 g1 ((y 1).val / 32)) (inStep y)

/-- The imaginary parts. -/
def revFixIm (c1 c2 : Vec F S32x128 .f32) (t1 t2 : Vec F S128x128 .f32) (g2 : Block F) : Block F := fun y =>
  k1_pay10 c1 c2 (tableRow t1 ((y 1).val / 32)) (tableRow t2 ((y 1).val / 32)) (step32 g2 ((y 1).val / 32)) (inStep y)

/-- The sums of the products after `n` steps: `s1`, `s2` the forward states, `w1`, `w2` their last steps. -/
def revSums (v77 : IVec S32x128 32) (v355 : IVec S32x128 1) (w1 w2 : Vec F S1x32x128 .f32)
    (c1 c2 : Vec F S32x128 .f32) (t1 t2 : Vec F S128x128 .f32) (g1 g2 s1 s2 : Block F) :
    ℕ → FVec F S32x128 .f32 × FVec F S32x128 .f32
  | 0 => (k1_pay14, k1_pay14)
  | n + 1 =>
    (k1_pay3 v77 v355 w1 w2 (revSums v77 v355 w1 w2 c1 c2 t1 t2 g1 g2 s1 s2 n).1 (Scf.iv 0#32 1#32 n)
        (k1_pay7 c1 c2 (tableRow t1 n) (tableRow t2 n) (step32 g1 n))
        (k1_pay8 c1 c2 (tableRow t1 n) (tableRow t2 n) (step32 g2 n))
        (Scalar.cmpi .eq (Scf.iv 0#32 1#32 n) 0#32) (k1_pay11 (step32 s1 (n - 1))) (step32 s2 (n - 1)),
      k1_pay4 v77 v355 w1 w2 (revSums v77 v355 w1 w2 c1 c2 t1 t2 g1 g2 s1 s2 n).2 (Scf.iv 0#32 1#32 n)
        (k1_pay7 c1 c2 (tableRow t1 n) (tableRow t2 n) (step32 g1 n))
        (k1_pay8 c1 c2 (tableRow t1 n) (tableRow t2 n) (step32 g2 n))
        (Scalar.cmpi .eq (Scf.iv 0#32 1#32 n) 0#32) (k1_pay11 (step32 s1 (n - 1))) (step32 s2 (n - 1)))

/-- The rows of the step before the one of trip `k`. -/
theorem k1_off4_eq : ∀ k : Fin k1_t2_loop.trips, k1_off4 k = ![0, 32 * (k.val - 1), 0] := by decide +kernel

/-- Their offsets in closed form. -/
instance closedOff_k1_off4 (k : Fin k1_t2_loop.trips) : ClosedOff (k1_off4 k) := ⟨![0, 32 * (k.val - 1), 0], k1_off4_eq k⟩

section

variable (𝒱 : Variants) (c : Dev nD) (bd : Option 𝒱.V) (E : Set ℕ) (i : grid1.Coords)
  (arg1 : Memref sig .tc .vmem S1x4096x128 .f32) (harg1 : arg1.IsWhole)
  (arg2 : Memref sig .tc .vmem S1x4096x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x4096x128 .f32) (harg5 : arg5.IsWhole)
  (arg6 : Memref sig .tc .vmem S1x4096x128 .f32) (harg6 : arg6.IsWhole)
  (arg7 : Memref sig .tc .vmem S1x4096x128 .f32) (harg7 : arg7.IsWhole)
  (arg8 : Memref sig .tc .vmem S1x4096x128 .f32) (harg8 : arg8.IsWhole)
  (arg9 : Memref sig .tc .vmem S1x1x128 .f32) (harg9 : arg9.IsWhole)
  (arg10 : Memref sig .tc .vmem S1x1x128 .f32) (harg10 : arg10.IsWhole)
  (arg11 : Memref sig .tc .vmem S128x128 .f32) (harg11 : arg11.IsWhole)
  (arg12 : Memref sig .tc .vmem S128x128 .f32) (harg12 : arg12.IsWhole)
  (arg13 : Memref sig .tc .vmem S32x128 .f32) (harg13 : arg13.IsWhole)
  (arg14 : Memref sig .tc .vmem S32x128 .f32) (harg14 : arg14.IsWhole)

/-- Before trip `k` of the first loop: the rows of the last `k` steps read each chunk's own states, and the loop carries
the last of them. -/
abbrev revInv1 (v0 v2 : Vec F S1x128 .f32) (X1 : BufTy.Contents (Elt F) arg1.view.ty)
    (X2 : BufTy.Contents (Elt F) arg2.view.ty) (k : ℕ) (acc : FVec F S32x128 .f32 × FVec F S32x128 .f32) : sProp 𝕄G :=
  iprop((arg1.view.loc (c : Thread nD τ) ↦[arg1.view.set]{fullShare} X1)
    ∗ (arg2.view.loc (c : Thread nD τ) ↦[arg2.view.set]{fullShare} X2)
    ∗ (∃ f, (arg7.view.loc (c : Thread nD τ) ↦[arg7.view.set]{fullShare} f) ∗ ⌜∀ y : S1x4096x128.Idx, 127 - (y 1).val / 32 < k →
        arg7.view.read (Elt F) f y = revLocalRe v0 v2 (arg1.view.read (Elt F) X1) (arg2.view.read (Elt F) X2) y⌝)
    ∗ (∃ f, (arg8.view.loc (c : Thread nD τ) ↦[arg8.view.set]{fullShare} f) ∗ ⌜∀ y : S1x4096x128.Idx, 127 - (y 1).val / 32 < k →
        arg8.view.read (Elt F) f y = revLocalIm v0 v2 (arg1.view.read (Elt F) X1) (arg2.view.read (Elt F) X2) y⌝)
    ∗ ⌜acc = revState v0 v2 (arg1.view.read (Elt F) X1) (arg2.view.read (Elt F) X2) k⌝)

set_option warn.classDefReducibility false in
/-- The first loop keeps its invariant. -/
@[sl_loop] def revLoop1 (v0 v2 : Vec F S1x128 .f32) (X1 : BufTy.Contents (Elt F) arg1.view.ty) (X2 : BufTy.Contents (Elt F) arg2.view.ty) :
    LoopInvTy_k1_t1 (F := F) Unit ℕ (UR sig nD τ) ℕ 𝒱 c bd E i arg1 harg1 arg2 harg2 arg3 harg3 arg4 harg4 arg5 harg5
      arg6 harg6 arg7 harg7 arg8 harg8 arg9 harg9 arg10 harg10 arg11 harg11 arg12 harg12 arg13 harg13 arg14 harg14 v0 v2
      (k1_pay14, k1_pay14) where
  inv := revInv1 c arg1 arg2 arg7 arg8 v0 v2 X1 X2
  step k acc := by
    have hk : k.val < 128 := Nat.lt_of_lt_of_le k.isLt k1_t1_abs.2.1
    have he : k1_off1 k = ![0, 32 * (127 - k.val), 0] := by
      rw [k1_off1_eq k, show 4064 - 32 * k.val = 32 * (127 - k.val) by omega]
    unfold k1_t1_body
    iintro ⟨H1, H2, ⟨%f7, H7, %h7⟩, ⟨%f8, H8, %h8⟩, %hacc⟩
    subst hacc
    sl_exec
    sl_step
    isplitl [H1]; · iexact H1
    isplitl [H2]; · iexact H2
    isplitl [H7]
    · iexists _; isplitl [H7]; · iexact H7
      ipureintro
      intro y hy
      have h1 : (y 1).val < 4096 := (y 1).isLt
      rw [storeStep _ _ _ _ he, loadStep _ _ _ he]
      split
      · next h => rw [revLocalRe, h, show 127 - (127 - k.val) = k.val by omega]
      · next h => exact h7 y (by omega)
    isplitl [H8]
    · iexists _; isplitl [H8]; · iexact H8
      ipureintro
      intro y hy
      have h1 : (y 1).val < 4096 := (y 1).isLt
      rw [storeStep _ _ _ _ he, loadStep _ _ _ he]
      split
      · next h => rw [revLocalIm, h, show 127 - (127 - k.val) = k.val by omega]
      · next h => exact h8 y (by omega)
    ipureintro
    rw [loadStep _ _ _ he, loadStep _ _ _ he]
    rfl

/-- Before trip `k` of the second loop: the rows of the steps before `k` have the handed states added, the others still
read what they read before the loop, and the loop carries the sums of the products of the steps before `k`. -/
abbrev revInv2 (v77 : IVec S32x128 32) (v351 v352 : Vec F S32x128 .f32) (v355 : IVec S32x128 1)
    (v357 v365 : Vec F S1x32x128 .f32) (X5 : BufTy.Contents (Elt F) arg5.view.ty)
    (X6 : BufTy.Contents (Elt F) arg6.view.ty) (X11 : BufTy.Contents (Elt F) arg11.view.ty)
    (X12 : BufTy.Contents (Elt F) arg12.view.ty) (g7 : BufTy.Contents (Elt F) arg7.view.ty)
    (g8 : BufTy.Contents (Elt F) arg8.view.ty) (k : ℕ) (acc : FVec F S32x128 .f32 × FVec F S32x128 .f32) : sProp 𝕄G :=
  iprop((arg5.view.loc (c : Thread nD τ) ↦[arg5.view.set]{fullShare} X5)
    ∗ (arg6.view.loc (c : Thread nD τ) ↦[arg6.view.set]{fullShare} X6)
    ∗ (arg11.view.loc (c : Thread nD τ) ↦[arg11.view.set]{fullShare} X11)
    ∗ (arg12.view.loc (c : Thread nD τ) ↦[arg12.view.set]{fullShare} X12)
    ∗ (∃ f, (arg7.view.loc (c : Thread nD τ) ↦[arg7.view.set]{fullShare} f) ∗ ⌜∀ y : S1x4096x128.Idx,
        arg7.view.read (Elt F) f y = if (y 1).val / 32 < k then revFixRe v351 v352 (arg11.view.read (Elt F) X11)
          (arg12.view.read (Elt F) X12) (arg7.view.read (Elt F) g7) y else arg7.view.read (Elt F) g7 y⌝)
    ∗ (∃ f, (arg8.view.loc (c : Thread nD τ) ↦[arg8.view.set]{fullShare} f) ∗ ⌜∀ y : S1x4096x128.Idx,
        arg8.view.read (Elt F) f y = if (y 1).val / 32 < k then revFixIm v351 v352 (arg11.view.read (Elt F) X11)
          (arg12.view.read (Elt F) X12) (arg8.view.read (Elt F) g8) y else arg8.view.read (Elt F) g8 y⌝)
    ∗ ⌜acc = revSums v77 v355 v357 v365 v351 v352 (arg11.view.read (Elt F) X11) (arg12.view.read (Elt F) X12)
        (arg7.view.read (Elt F) g7) (arg8.view.read (Elt F) g8) (arg5.view.read (Elt F) X5) (arg6.view.read (Elt F) X6) k⌝)

set_option warn.classDefReducibility false in
/-- The second loop keeps its invariant. -/
@[sl_loop] def revLoop2 (v77 : IVec S32x128 32) (v351 v352 : Vec F S32x128 .f32) (v355 : IVec S32x128 1)
    (v357 v365 : Vec F S1x32x128 .f32) (X5 : BufTy.Contents (Elt F) arg5.view.ty)
    (X6 : BufTy.Contents (Elt F) arg6.view.ty) (X11 : BufTy.Contents (Elt F) arg11.view.ty)
    (X12 : BufTy.Contents (Elt F) arg12.view.ty) (g7 : BufTy.Contents (Elt F) arg7.view.ty)
    (g8 : BufTy.Contents (Elt F) arg8.view.ty) :
    LoopInvTy_k1_t2 (F := F) Unit ℕ (UR sig nD τ) ℕ 𝒱 c bd E i arg1 harg1 arg2 harg2 arg3 harg3 arg4 harg4 arg5 harg5
      arg6 harg6 arg7 harg7 arg8 harg8 arg9 harg9 arg10 harg10 arg11 harg11 arg12 harg12 arg13 harg13 arg14 harg14 v77 v351 v352
      v355 v357 v365 (k1_pay14, k1_pay14) where
  inv := revInv2 c arg5 arg6 arg7 arg8 arg11 arg12 v77 v351 v352 v355 v357 v365 X5 X6 X11 X12 g7 g8
  step k acc := by
    have hk : k.val < 128 := Nat.lt_of_lt_of_le k.isLt k1_t2_abs.2.1
    unfold k1_t2_body
    iintro ⟨H5, H6, H11, H12, ⟨%f7, H7, %h7⟩, ⟨%f8, H8, %h8⟩, %hacc⟩
    subst hacc
    sl_exec
    sl_step
    have e7 : step32 (arg7.view.read (Elt F) f7) k.val = step32 (arg7.view.read (Elt F) g7) k.val :=
      step32_congr hk fun y h => by rw [h7, if_neg (by omega)]
    have e8 : step32 (arg8.view.read (Elt F) f8) k.val = step32 (arg8.view.read (Elt F) g8) k.val :=
      step32_congr hk fun y h => by rw [h8, if_neg (by omega)]
    isplitl [H5]; · iexact H5
    isplitl [H6]; · iexact H6
    isplitl [H11]; · iexact H11
    isplitl [H12]; · iexact H12
    isplitl [H7]
    · iexists _; isplitl [H7]; · iexact H7
      ipureintro
      intro y
      sl_unfold_run_names
      rw [storeStep _ _ _ _ (k1_off3_eq k), loadStep _ _ _ (k1_off3_eq k), loadTableRow _ _ _ (k1_off2_eq k),
        loadTableRow _ _ _ (k1_off2_eq k), e7]
      by_cases h : (y 1).val / 32 = k.val
      · rw [if_pos h, if_pos (by omega), revFixRe, h]
      · rw [if_neg h, h7]
        exact if_congr (by omega) rfl rfl
    isplitl [H8]
    · iexists _; isplitl [H8]; · iexact H8
      ipureintro
      intro y
      sl_unfold_run_names
      rw [storeStep _ _ _ _ (k1_off3_eq k), loadStep _ _ _ (k1_off3_eq k), loadTableRow _ _ _ (k1_off2_eq k),
        loadTableRow _ _ _ (k1_off2_eq k), e8]
      by_cases h : (y 1).val / 32 = k.val
      · rw [if_pos h, if_pos (by omega), revFixIm, h]
      · rw [if_neg h, h8]
        exact if_congr (by omega) rfl rfl
    ipureintro
    sl_unfold_run_names
    rw [loadStep _ _ _ (k1_off3_eq k), loadStep _ _ _ (k1_off3_eq k), loadStep _ _ _ (k1_off4_eq k),
      loadStep _ _ _ (k1_off4_eq k), loadTableRow _ _ _ (k1_off2_eq k), loadTableRow _ _ _ (k1_off2_eq k), e7, e8]
    rfl

end

end Cert.Scan
-- ==== Proof.Table.lean ====
module

public import proofs.«01_k».proof.Proof.Rows
public import Idealize.ShloMosaic.Lib.Exec

/-!
# The table of powers, built by doubling

A call builds its table of 128 rows in a scratch buffer: eight rows first, then as many again as are there, each time
from a load of those that are there. `Rows v L o n t` says that rows `o … o + n - 1` of the buffer read `t` once the
pieces `L` were stored; `stack` puts one group of rows on another.
-/

@[expose] public section

set_option maxRecDepth 16384

noncomputable section

namespace Cert.Scan

open Cert.KernelIdeal
open Idealize.ShloMosaic

variable {F : FTy → Type} [FloatOps F]

/-- `n` rows of 128 lanes. -/
abbrev RowsOf (F : FTy → Type) (n : ℕ) : Type := Vec F (⟨2, ![n, 128]⟩ : Shape) .f32

/-- The rows of `lo`, then the rows of `hi`. -/
def stack {n m : ℕ} (hm : m = n + n) (lo hi : RowsOf F n) : RowsOf F m := fun y =>
  if h : (y 0).val < n then lo (ix2 (n0 := n) (n1 := 128) ⟨(y 0).val, h⟩ (y 1))
  else hi (ix2 (n0 := n) (n1 := 128) ⟨(y 0).val - n, by have : (y 0).val < m := (y 0).isLt; omega⟩ (y 1))

variable {sig : RefSig} {κ : Kind} {sp : Space} (v : View sig κ sp S128x128 .f32)

/-- After the pieces `L`, rows `o … o + n - 1` of the table read `t`. -/
def Rows (L : List (View.Piece (Elt F) S128x128 .f32)) (o n : ℕ) (t : RowsOf F n) : Prop :=
  ∀ (y : S128x128.Idx) (_ : o ≤ (y 0).val) (h : (y 0).val < o + n),
    v.read (Elt F) (v.writes (Elt F) v.junk L) y = t (ix2 (n0 := n) (n1 := 128) ⟨(y 0).val - o, by omega⟩ (y 1))

section

variable {v}

/-- A load of those rows is `t`. -/
theorem Rows.load {L : List (View.Piece (Elt F) S128x128 .f32)} {o n : ℕ} {t : RowsOf F n} (h : Rows v L o n t)
    (inb : ∀ a, (![o, 0] : Fin 2 → ℕ) a + (⟨2, ![n, 128]⟩ : Shape).size a ≤ S128x128.size a) :
    v.readCov L (Rect.unit (s := S128x128) ![o, 0] (⟨2, ![n, 128]⟩ : Shape).size inb).toLoadRect = t := by
  funext y
  have h0 : (y 0).val < n := (y 0).isLt
  have hi : ((Rect.unit (s := S128x128) ![o, 0] (⟨2, ![n, 128]⟩ : Shape).size inb).toLoadRect.idx y 0).val
      = o + 1 * (y 0).val := rfl
  refine (h _ ?_ ?_).trans ?_
  · omega
  · omega
  congr 1
  funext a
  match a with
  | ⟨0, _⟩ => exact Fin.ext (by show o + 1 * (y 0).val - o = (y 0).val; omega)
  | ⟨1, _⟩ => exact Fin.ext (by show 0 + 1 * (y 1).val = (y 1).val; omega)

/-- The first piece. -/
theorem Rows.first (v : View sig κ sp S128x128 .f32) {o n : ℕ} (inb : ∀ a, (![o, 0] : Fin 2 → ℕ) a + (⟨2, ![n, 128]⟩ : Shape).size a ≤ S128x128.size a)
    (t : RowsOf F n) :
    Rows v [⟨Rect.unit (s := S128x128) ![o, 0] (⟨2, ![n, 128]⟩ : Shape).size inb, t⟩] o n t := fun y ho h => by
  refine View.read_writes_cons_unit_of_mem v _ inb t [] y _ rfl fun a => ?_
  match a with
  | ⟨0, _⟩ => show (y 0).val = o + ((y 0).val - o); omega
  | ⟨1, _⟩ => show (y 1).val = 0 + (y 1).val; omega

/-- As many rows stored after those that are there. -/
theorem Rows.up {L : List (View.Piece (Elt F) S128x128 .f32)} {n m : ℕ} {t : RowsOf F n} (h : Rows v L 0 n t)
    (hm : m = n + n) (inb : ∀ a, (![n, 0] : Fin 2 → ℕ) a + (⟨2, ![n, 128]⟩ : Shape).size a ≤ S128x128.size a)
    {w w' : RowsOf F n} (hw : w = w') :
    Rows v (⟨Rect.unit (s := S128x128) ![n, 0] (⟨2, ![n, 128]⟩ : Shape).size inb, w⟩ :: L) 0 m (stack hm t w') :=
  fun y _ hy => by
    subst hw
    unfold stack
    split
    · next hlt =>
      rw [View.read_writes_cons_unit_of_not_mem v _ inb w L y rfl 0]
      · exact h y (Nat.zero_le _) (by have : (y 0).val - 0 < n := hlt; omega)
      · exact Or.inl (by have : (y 0).val - 0 < n := hlt; show (y 0).val < n; omega)
    · next hlt =>
      have hlt' : ¬ (y 0).val - 0 < n := hlt
      refine View.read_writes_cons_unit_of_mem v _ inb w L y _ rfl fun a => ?_
      match a with
      | ⟨0, _⟩ => show (y 0).val = n + ((y 0).val - 0 - n); omega
      | ⟨1, _⟩ => show (y 1).val = 0 + (y 1).val; omega

/-- As many rows stored before those that are there. -/
theorem Rows.down {L : List (View.Piece (Elt F) S128x128 .f32)} {o n m : ℕ} {t : RowsOf F n} (h : Rows v L (o + n) n t)
    (hm : m = n + n) (inb : ∀ a, (![o, 0] : Fin 2 → ℕ) a + (⟨2, ![n, 128]⟩ : Shape).size a ≤ S128x128.size a)
    {w w' : RowsOf F n} (hw : w = w') :
    Rows v (⟨Rect.unit (s := S128x128) ![o, 0] (⟨2, ![n, 128]⟩ : Shape).size inb, w⟩ :: L) o m (stack hm w' t) :=
  fun y ho hy => by
    subst hw
    unfold stack
    split
    · next hlt =>
      have hlt' : (y 0).val - o < n := hlt
      refine View.read_writes_cons_unit_of_mem v _ inb w L y _ rfl fun a => ?_
      match a with
      | ⟨0, _⟩ => show (y 0).val = o + ((y 0).val - o); omega
      | ⟨1, _⟩ => show (y 1).val = 0 + (y 1).val; omega
    · next hlt =>
      have hlt' : ¬ (y 0).val - o < n := hlt
      rw [View.read_writes_cons_unit_of_not_mem v _ inb w L y rfl 0]
      · refine (h y (by omega) (by omega)).trans ?_
        congr 1
        funext a
        match a with
        | ⟨0, _⟩ => exact Fin.ext (by show (y 0).val - (o + n) = (y 0).val - o - n; omega)
        | ⟨1, _⟩ => rfl
      · exact Or.inr (by show o + n ≤ (y 0).val; omega)

/-- A whole table reads `t`. -/
theorem Rows.whole {L : List (View.Piece (Elt F) S128x128 .f32)} {t : RowsOf F 128} (h : Rows v L 0 128 t) :
    v.read (Elt F) (v.writes (Elt F) v.junk L) = t := by
  funext y
  refine (h y (Nat.zero_le _) (by have : (y 0).val < 128 := (y 0).isLt; omega)).trans ?_
  congr 1
  funext a
  match a with
  | ⟨0, _⟩ => exact Fin.ext (Nat.sub_zero _)
  | ⟨1, _⟩ => rfl

end

/-- A buffer stored whole and loaded whole. -/
theorem loadWhole {s : Shape} (v : View sig κ sp s .f32) {off : Fin s.rank → ℕ}
    (inb : ∀ a, off a + s.size a ≤ s.size a) (w : Vec F s .f32) (L : List (View.Piece (Elt F) s .f32)) :
    v.readCov (⟨Rect.unit off s.size inb, w⟩ :: L) (Rect.unit off s.size inb).toLoadRect = w := by
  funext y
  exact View.read_writes_cons_emb v _ (Rect.unit off s.size inb) w L y

/-- A buffer loaded whole. -/
theorem readWhole {s : Shape} (v : View sig κ sp s .f32) (f : v.ty.Contents (Elt F)) {off : Fin s.rank → ℕ}
    (h0 : ∀ a, off a = 0) (inb : ∀ a, off a + s.size a ≤ s.size a) :
    v.readAt (Elt F) (Rect.unit off s.size inb).toLoadRect f = v.read (Elt F) f := by
  funext y
  rw [View.readAt_apply]
  congr 1
  funext a
  exact Fin.ext (by show off a + 1 * (y a).val = (y a).val; rw [h0]; omega)

/-- A buffer stored whole reads what was stored. -/
theorem writeWhole {s : Shape} (v : View sig κ sp s .f32) (f : v.ty.Contents (Elt F)) {off : Fin s.rank → ℕ}
    (h0 : ∀ a, off a = 0) (inb : ∀ a, off a + s.size a ≤ s.size a) (w : Vec F s .f32)
    (L : List (View.Piece (Elt F) s .f32)) :
    v.read (Elt F) (v.writes (Elt F) f (⟨Rect.unit off s.size inb, w⟩ :: L)) = w := by
  rw [← readWhole v _ h0 inb]
  funext y
  exact View.read_writes_cons_emb v _ (Rect.unit off s.size inb) w L y

end Cert.Scan
-- ==== Proof.FwdRun.lean ====
module

public import proofs.«01_k».proof.Proof.FwdLoops
public import proofs.«01_k».proof.Proof.Table

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

section Pure

variable (a1 a2 : Vec F S1x128 .f32) (e1 e2 : Vec F S1x32x128 .f32)

/-- The first eight powers of the transition, one a row. -/
def fwdPow8Re : RowsOf F 8 :=
  k0_pay77 (k0_pay12 a1 a2) (k0_pay13 a1 a2) (k0_pay14 a1 a2) (k0_pay15 a1 a2) k0_pay61
    (k0_pay65 (k0_pay3 a1) (k0_pay4 a2)) (k0_pay66 (k0_pay3 a1) (k0_pay4 a2))
    (k0_pay67 (k0_pay3 a1) (k0_pay4 a2) (k0_pay10 a1 a2) (k0_pay11 a1 a2))
    (k0_pay68 (k0_pay3 a1) (k0_pay4 a2) (k0_pay10 a1 a2) (k0_pay11 a1 a2)) k0_pay69

/-- Their imaginary parts. -/
def fwdPow8Im : RowsOf F 8 :=
  k0_pay78 (k0_pay12 a1 a2) (k0_pay13 a1 a2) (k0_pay14 a1 a2) (k0_pay15 a1 a2) k0_pay61
    (k0_pay65 (k0_pay3 a1) (k0_pay4 a2)) (k0_pay66 (k0_pay3 a1) (k0_pay4 a2))
    (k0_pay67 (k0_pay3 a1) (k0_pay4 a2) (k0_pay10 a1 a2) (k0_pay11 a1 a2))
    (k0_pay68 (k0_pay3 a1) (k0_pay4 a2) (k0_pay10 a1 a2) (k0_pay11 a1 a2)) k0_pay69

/-- Sixteen powers. -/
def fwdPow16Re : RowsOf F 16 :=
  stack rfl (fwdPow8Re a1 a2) (k0_pay79 (k0_pay14 a1 a2) (k0_pay15 a1 a2) (fwdPow8Re a1 a2) (fwdPow8Im a1 a2))

/-- Their imaginary parts. -/
def fwdPow16Im : RowsOf F 16 :=
  stack rfl (fwdPow8Im a1 a2) (k0_pay80 (k0_pay14 a1 a2) (k0_pay15 a1 a2) (fwdPow8Re a1 a2) (fwdPow8Im a1 a2))

/-- Thirty-two powers. -/
def fwdPow32Re : RowsOf F 32 :=
  stack rfl (fwdPow16Re a1 a2) (k0_pay81 (k0_pay16 a1 a2) (k0_pay17 a1 a2) (fwdPow16Re a1 a2) (fwdPow16Im a1 a2))

/-- Their imaginary parts. -/
def fwdPow32Im : RowsOf F 32 :=
  stack rfl (fwdPow16Im a1 a2) (k0_pay82 (k0_pay16 a1 a2) (k0_pay17 a1 a2) (fwdPow16Re a1 a2) (fwdPow16Im a1 a2))

/-- Sixty-four powers. -/
def fwdPow64Re : RowsOf F 64 :=
  stack rfl (fwdPow32Re a1 a2)
    (k0_pay85 (k0_pay83 (k0_pay18 a1 a2) (fwdPow32Re a1 a2)) (k0_pay84 (k0_pay19 a1 a2) (fwdPow32Im a1 a2)))

/-- Their imaginary parts. -/
def fwdPow64Im : RowsOf F 64 :=
  stack rfl (fwdPow32Im a1 a2) (k0_pay86 (k0_pay18 a1 a2) (k0_pay19 a1 a2) (fwdPow32Re a1 a2) (fwdPow32Im a1 a2))

/-- The table: 128 powers. -/
def fwdPowRe : RowsOf F 128 :=
  stack rfl (fwdPow64Re a1 a2) (k0_pay87 (k0_pay20 a1 a2) (k0_pay21 a1 a2) (fwdPow64Re a1 a2) (fwdPow64Im a1 a2))

/-- Their imaginary parts. -/
def fwdPowIm : RowsOf F 128 :=
  stack rfl (fwdPow64Im a1 a2) (k0_pay88 (k0_pay20 a1 a2) (k0_pay21 a1 a2) (fwdPow64Re a1 a2) (fwdPow64Im a1 a2))

/-- The states at the ends of the chunks after the rounds that look 1, 2 and 4 chunks back, from the local ends. -/
def fwdEnd4Re : FVec F S32x128 .f32 :=
  k0_pay47 (k0_pay25 (k0_pay23 a1 a2) (k0_pay24 a1 a2)) (k0_pay26 (k0_pay22 a1 a2) (k0_pay23 a1 a2))
    (k0_pay27 (k0_pay22 a1 a2) (k0_pay23 a1 a2) (k0_pay24 a1 a2))
    (k0_pay28 (k0_pay22 a1 a2) (k0_pay23 a1 a2) (k0_pay24 a1 a2)) (k0_pay33 e1) (k0_pay34 e2)
    (iota .tc S32x128 32 [0] iota_S32x128_d0_w32) (k0_pay37 (k0_pay22 a1 a2) (k0_pay23 a1 a2) e1 e2)
    (k0_pay38 (k0_pay22 a1 a2) (k0_pay23 a1 a2) e1 e2)

/-- Their imaginary parts. -/
def fwdEnd4Im : FVec F S32x128 .f32 :=
  k0_pay48 (k0_pay25 (k0_pay23 a1 a2) (k0_pay24 a1 a2)) (k0_pay26 (k0_pay22 a1 a2) (k0_pay23 a1 a2))
    (k0_pay27 (k0_pay22 a1 a2) (k0_pay23 a1 a2) (k0_pay24 a1 a2))
    (k0_pay28 (k0_pay22 a1 a2) (k0_pay23 a1 a2) (k0_pay24 a1 a2)) (k0_pay33 e1) (k0_pay34 e2)
    (iota .tc S32x128 32 [0] iota_S32x128_d0_w32) (k0_pay37 (k0_pay22 a1 a2) (k0_pay23 a1 a2) e1 e2)
    (k0_pay38 (k0_pay22 a1 a2) (k0_pay23 a1 a2) e1 e2)

/-- The states the chunks start from: the ends of the chunks before them, after all five rounds. -/
def fwdCarryRe : Vec F S32x128 .f32 :=
  k0_pay59 (k0_pay57 (iota .tc S32x128 32 [0] iota_S32x128_d0_w32))
    (k0_pay58 (k0_pay29 (k0_pay22 a1 a2) (k0_pay23 a1 a2) (k0_pay24 a1 a2))
      (k0_pay30 (k0_pay22 a1 a2) (k0_pay23 a1 a2) (k0_pay24 a1 a2))
      (k0_pay31 (k0_pay22 a1 a2) (k0_pay23 a1 a2) (k0_pay24 a1 a2))
      (k0_pay32 (k0_pay22 a1 a2) (k0_pay23 a1 a2) (k0_pay24 a1 a2)) (iota .tc S32x128 32 [0] iota_S32x128_d0_w32)
      (fwdEnd4Re a1 a2 e1 e2) (fwdEnd4Im a1 a2 e1 e2) k0_pay49)
    (Scalar.ofBits .f32 0x00000000#32)

/-- Their imaginary parts. -/
def fwdCarryIm : Vec F S32x128 .f32 :=
  k0_pay60 (iota .tc S32x128 32 [0] iota_S32x128_d0_w32)
    (k0_pay56 (k0_pay29 (k0_pay22 a1 a2) (k0_pay23 a1 a2) (k0_pay24 a1 a2))
      (k0_pay30 (k0_pay22 a1 a2) (k0_pay23 a1 a2) (k0_pay24 a1 a2))
      (k0_pay31 (k0_pay22 a1 a2) (k0_pay23 a1 a2) (k0_pay24 a1 a2))
      (k0_pay32 (k0_pay22 a1 a2) (k0_pay23 a1 a2) (k0_pay24 a1 a2)) (iota .tc S32x128 32 [0] iota_S32x128_d0_w32)
      (fwdEnd4Re a1 a2 e1 e2) (fwdEnd4Im a1 a2 e1 e2) k0_pay49)

variable (x1 x2 : Block F)

/-- The real parts of the states the call writes. -/
def fwdRe : Block F :=
  fwdFixRe
    (fwdCarryRe a1 a2 (step32 (fwdLocalRe a1 a2 x1 x2) 127) (step32 (fwdLocalIm a1 a2 x1 x2) 127))
    (fwdCarryIm a1 a2 (step32 (fwdLocalRe a1 a2 x1 x2) 127) (step32 (fwdLocalIm a1 a2 x1 x2) 127))
    (fwdPowRe a1 a2) (fwdPowIm a1 a2) (fwdLocalRe a1 a2 x1 x2)

/-- The imaginary parts. -/
def fwdIm : Block F :=
  fwdFixIm
    (fwdCarryRe a1 a2 (step32 (fwdLocalRe a1 a2 x1 x2) 127) (step32 (fwdLocalIm a1 a2 x1 x2) 127))
    (fwdCarryIm a1 a2 (step32 (fwdLocalRe a1 a2 x1 x2) 127) (step32 (fwdLocalIm a1 a2 x1 x2) 127))
    (fwdPowRe a1 a2) (fwdPowIm a1 a2) (fwdLocalIm a1 a2 x1 x2)

end Pure

/-- Every row of a block belongs to one of the loop's 128 steps. -/
theorem step_lt (y : S1x4096x128.Idx) : (y 1).val / 32 < Scf.trips k0_t1_loop.lb k0_t1_loop.ub k0_t1_loop.st := by
  have h1 : (y 1).val < 4096 := (y 1).isLt
  have h2 : Scf.trips k0_t1_loop.lb k0_t1_loop.ub k0_t1_loop.st = 128 := by decide +kernel
  omega

/-- A row of 128 lanes, loaded whole. -/
abbrev loadA (M : Memref sig .tc .vmem S1x128 .f32) (f : BufTy.Contents (Elt F) M.view.ty) : Vec F S1x128 .f32 :=
  View.readAt (Elt F) M.view (Rect.unit (s := S1x128) ![0, 0] S1x128.size inb_S1x128_S1x128_0_0).toLoadRect f

/-- Memref `M`'s buffer on core `c` held whole at contents `f`. -/
abbrev pt (c : Dev nD) {sp : Space} {S : Shape} {e : EltTy} (M : Memref sig .tc sp S e)
    (f : BufTy.Contents (Elt F) M.view.ty) : sProp 𝕄G :=
  M.view.loc (c : Thread nD τ) ↦[M.view.set]{fullShare} f

theorem fwdRun (c : Dev nD) (i : grid0.Coords)
  (arg1 : Memref sig .tc .vmem S1x4096x128 .f32) (harg1 : arg1.IsWhole)
  (arg2 : Memref sig .tc .vmem S1x4096x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x4096x128 .f32) (harg5 : arg5.IsWhole)
  (arg6 : Memref sig .tc .vmem S1x4096x128 .f32) (harg6 : arg6.IsWhole)
  (arg7 : Memref sig .tc .vmem S128x128 .f32) (harg7 : arg7.IsWhole)
  (arg8 : Memref sig .tc .vmem S128x128 .f32) (harg8 : arg8.IsWhole)
  (arg9 : Memref sig .tc .vmem S32x128 .f32) (harg9 : arg9.IsWhole)
  (arg10 : Memref sig .tc .vmem S32x128 .f32) (harg10 : arg10.IsWhole)
  (f1 f2 f3 f4 f5 f6 f7 f8 f9 f10) (E : Set ℕ) (Q : PUnit → sProp 𝕄G) :
  iprop(pt c arg1 f1 ∗ pt c arg2 f2 ∗ pt c arg3 f3 ∗ pt c arg4 f4 ∗ pt c arg5 f5 ∗ pt c arg6 f6 ∗ pt c arg7 f7
    ∗ pt c arg8 f8 ∗ pt c arg9 f9 ∗ pt c arg10 f10 ∗ (∀ g5 g6 g7 g8 g9 g10,
        ⌜arg5.view.read (Elt F) g5 = fwdRe (arg3.view.read (Elt F) f3) (arg4.view.read (Elt F) f4)
            (arg1.view.read (Elt F) f1) (arg2.view.read (Elt F) f2)
          ∧ arg6.view.read (Elt F) g6 = fwdIm (arg3.view.read (Elt F) f3) (arg4.view.read (Elt F) f4)
            (arg1.view.read (Elt F) f1) (arg2.view.read (Elt F) f2)⌝ -∗
        pt c arg1 f1 -∗ pt c arg2 f2 -∗ pt c arg3 f3 -∗ pt c arg4 f4 -∗ pt c arg5 g5 -∗ pt c arg6 g6 -∗ pt c arg7 g7 -∗
        pt c arg8 g8 -∗ pt c arg9 g9 -∗ pt c arg10 g10 -∗ Q ⟨⟩))
  ⊢ wp frame (wpE (defs₀ (F := F)) Variants.none c none) E (cc0_ssm_scan i arg1 harg1 arg2 harg2 arg3 harg3 arg4 harg4 arg5 harg5 arg6
      harg6 arg7 harg7 arg8 harg8 arg9 harg9 arg10 harg10) Q := by
  iintro ⟨H1, H2, H3, H4, H5, H6, H7, H8, H9, H10, Hk⟩
  sl_exec
  rw [wp_bind]
  iapply (Scf.wp_for Idealize.ShloMosaic.frame (wpE (defs₀ (F := F)) Variants.none (c : Thread nD τ) none) E _ _ _ _ _ _
    (fwdInv2 (F := F) c arg5 arg6 arg7 arg8 _ _ _ _ fL0 fL1)
    (fwdLoop2 (F := F) Variants.none c none E i arg1 harg1 arg2 harg2 arg3 harg3 arg4 harg4 arg5 harg5 arg6
      harg6 arg7 harg7 arg8 harg8 arg9 harg9 arg10 harg10 _ _ _ _ fL0 fL1).step)
  isplitl [H5 H6 H7 H8]
  · isplitl [H7]; · iexact H7
    isplitl [H8]; · iexact H8
    isplitl [H5]
    · iexists _; isplitl [H5]; · iexact H5
      ipureintro
      intro y
      rw [if_neg (by omega)]
    · iexists _; isplitl [H6]; · iexact H6
      ipureintro
      intro y
      rw [if_neg (by omega)]
  iintro %acc ⟨H7, H8, ⟨%g5, H5, %h5⟩, ⟨%g6, H6, %h6⟩⟩
  sl_step
  have ha : ∀ a : Fin 2, (![0, 0] : Fin 2 → ℕ) a = 0 := by decide
  have e5 : arg5.view.read (Elt F) fL0 = fwdLocalRe (arg3.view.read (Elt F) f3) (arg4.view.read (Elt F) f4)
      (arg1.view.read (Elt F) f1) (arg2.view.read (Elt F) f2) := funext fun y => by
    rw [hL3 y (step_lt y), readWhole _ _ ha, readWhole _ _ ha]
  have e6 : arg6.view.read (Elt F) fL1 = fwdLocalIm (arg3.view.read (Elt F) f3) (arg4.view.read (Elt F) f4)
      (arg1.view.read (Elt F) f1) (arg2.view.read (Elt F) f2) := funext fun y => by
    rw [hL5 y (step_lt y), readWhole _ _ ha, readWhole _ _ ha]
  have r8r : Rows arg7.view (fwdRun.sl.H7_1 arg3 arg4 f3 f4) 0 8 (fwdPow8Re (loadA arg3 f3) (loadA arg4 f4)) :=
    Rows.first arg7.view (o := 0) inb_S128x128_S8x128_0_0 _
  have r8i : Rows arg8.view (fwdRun.sl.H8_1 arg3 arg4 f3 f4) 0 8 (fwdPow8Im (loadA arg3 f3) (loadA arg4 f4)) :=
    Rows.first arg8.view (o := 0) inb_S128x128_S8x128_0_0 _
  have r16r : Rows arg7.view (fwdRun.sl.H7_2 arg3 arg4 arg7 arg8 f3 f4) 0 16
      (fwdPow16Re (loadA arg3 f3) (loadA arg4 f4)) :=
    r8r.up rfl inb_S128x128_S8x128_8_0 (congrArg₂ (k0_pay79 _ _) (r8r.load inb_S128x128_S8x128_0_0) (r8i.load inb_S128x128_S8x128_0_0))
  have r16i : Rows arg8.view (fwdRun.sl.H8_2 arg3 arg4 arg7 arg8 f3 f4) 0 16
      (fwdPow16Im (loadA arg3 f3) (loadA arg4 f4)) :=
    r8i.up rfl inb_S128x128_S8x128_8_0 (congrArg₂ (k0_pay80 _ _) (r8r.load inb_S128x128_S8x128_0_0) (r8i.load inb_S128x128_S8x128_0_0))
  have r32r : Rows arg7.view (fwdRun.sl.H7_3 arg3 arg4 arg7 arg8 f3 f4) 0 32
      (fwdPow32Re (loadA arg3 f3) (loadA arg4 f4)) :=
    r16r.up rfl inb_S128x128_S16x128_16_0 (congrArg₂ (k0_pay81 _ _) (r16r.load inb_S128x128_S16x128_0_0) (r16i.load inb_S128x128_S16x128_0_0))
  have r32i : Rows arg8.view (fwdRun.sl.H8_3 arg3 arg4 arg7 arg8 f3 f4) 0 32
      (fwdPow32Im (loadA arg3 f3) (loadA arg4 f4)) :=
    r16i.up rfl inb_S128x128_S16x128_16_0 (congrArg₂ (k0_pay82 _ _) (r16r.load inb_S128x128_S16x128_0_0) (r16i.load inb_S128x128_S16x128_0_0))
  have r64r : Rows arg7.view (fwdRun.sl.H7_4 arg3 arg4 arg7 arg8 f3 f4) 0 64
      (fwdPow64Re (loadA arg3 f3) (loadA arg4 f4)) :=
    r32r.up rfl inb_S128x128_S32x128_32_0 (congrArg₂ k0_pay85 (congrArg (k0_pay83 _) (r32r.load inb_S128x128_S32x128_0_0)) (congrArg (k0_pay84 _) (r32i.load inb_S128x128_S32x128_0_0)))
  have r64i : Rows arg8.view (fwdRun.sl.H8_4 arg3 arg4 arg7 arg8 f3 f4) 0 64
      (fwdPow64Im (loadA arg3 f3) (loadA arg4 f4)) :=
    r32i.up rfl inb_S128x128_S32x128_32_0 (congrArg₂ (k0_pay86 _ _) (r32r.load inb_S128x128_S32x128_0_0) (r32i.load inb_S128x128_S32x128_0_0))
  have r128r : Rows arg7.view (fwdRun.sl.H7_5 arg3 arg4 arg7 arg8 f3 f4) 0 128
      (fwdPowRe (loadA arg3 f3) (loadA arg4 f4)) :=
    r64r.up rfl inb_S128x128_S64x128_64_0 (congrArg₂ (k0_pay87 _ _) (r64r.load inb_S128x128_S64x128_0_0) (r64i.load inb_S128x128_S64x128_0_0))
  have r128i : Rows arg8.view (fwdRun.sl.H8_5 arg3 arg4 arg7 arg8 f3 f4) 0 128
      (fwdPowIm (loadA arg3 f3) (loadA arg4 f4)) :=
    r64i.up rfl inb_S128x128_S64x128_64_0 (congrArg₂ (k0_pay88 _ _) (r64r.load inb_S128x128_S64x128_0_0) (r64i.load inb_S128x128_S64x128_0_0))
  have c1 : fwdRun.sl.v351 c arg3 arg4 arg5 arg6 arg9 f3 f4 fL0 fL1
      = fwdCarryRe (loadA arg3 f3) (loadA arg4 f4) (step32 (arg5.view.read (Elt F) fL0) 127)
        (step32 (arg6.view.read (Elt F) fL1) 127) := by
    rw [← loadStep arg5.view fL0 (off := ![0, 4064, 0]) inb_S1x4096x128_S1x32x128_0_4064_0 rfl,
      ← loadStep arg6.view fL1 (off := ![0, 4064, 0]) inb_S1x4096x128_S1x32x128_0_4064_0 rfl]
    exact loadWhole arg9.view _ _ _
  have c2 : fwdRun.sl.v352 c arg3 arg4 arg5 arg6 arg10 f3 f4 fL0 fL1
      = fwdCarryIm (loadA arg3 f3) (loadA arg4 f4) (step32 (arg5.view.read (Elt F) fL0) 127)
        (step32 (arg6.view.read (Elt F) fL1) 127) := by
    rw [← loadStep arg5.view fL0 (off := ![0, 4064, 0]) inb_S1x4096x128_S1x32x128_0_4064_0 rfl,
      ← loadStep arg6.view fL1 (off := ![0, 4064, 0]) inb_S1x4096x128_S1x32x128_0_4064_0 rfl]
    exact loadWhole arg10.view _ _ _
  have k5 : arg5.view.read (Elt F) g5 = fwdRe (arg3.view.read (Elt F) f3) (arg4.view.read (Elt F) f4)
      (arg1.view.read (Elt F) f1) (arg2.view.read (Elt F) f2) := funext fun y => by
    rw [h5 y, if_pos (step_lt y), c1, c2, r128r.whole, r128i.whole, e5, e6, loadA, loadA, readWhole _ _ ha, readWhole _ _ ha]
    rfl
  have k6 : arg6.view.read (Elt F) g6 = fwdIm (arg3.view.read (Elt F) f3) (arg4.view.read (Elt F) f4)
      (arg1.view.read (Elt F) f1) (arg2.view.read (Elt F) f2) := funext fun y => by
    rw [h6 y, if_pos (step_lt y), c1, c2, r128r.whole, r128i.whole, e5, e6, loadA, loadA, readWhole _ _ ha, readWhole _ _ ha]
    rfl
  iapply Hk $$ %g5 %g6 %_ %_ %_ %_ [] H1 H2 H3 H4 H5 H6 H7 H8 H9 H10
  ipureintro
  exact ⟨k5, k6⟩

end Cert.Scan
-- ==== Proof.RevRun.lean ====
module

public import proofs.«01_k».proof.Proof.RevLoops
public import proofs.«01_k».proof.Proof.FwdRun

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄G" => MT nD τ sig Unit (Elt F) ℕ (UR sig nD τ) ℕ

section Pure

variable (a1 a2 : Vec F S1x128 .f32) (e1 e2 : Vec F S1x32x128 .f32)

/-- The first eight powers of the transition, the first of them in the last row. -/
def revPow8Re : RowsOf F 8 :=
  k1_pay86 (k1_pay21 a1 a2) (k1_pay22 a1 a2) (k1_pay23 a1 a2) (k1_pay24 a1 a2) k1_pay70 (k1_pay74 (k1_pay12 a1)
    (k1_pay13 a2)) (k1_pay75 (k1_pay12 a1) (k1_pay13 a2)) (k1_pay76 (k1_pay12 a1) (k1_pay13 a2) (k1_pay19 a1 a2)
    (k1_pay20 a1 a2)) (k1_pay77 (k1_pay12 a1) (k1_pay13 a2) (k1_pay19 a1 a2) (k1_pay20 a1 a2)) k1_pay78

/-- Their imaginary parts. -/
def revPow8Im : RowsOf F 8 :=
  k1_pay87 (k1_pay21 a1 a2) (k1_pay22 a1 a2) (k1_pay23 a1 a2) (k1_pay24 a1 a2) k1_pay70 (k1_pay74 (k1_pay12 a1)
    (k1_pay13 a2)) (k1_pay75 (k1_pay12 a1) (k1_pay13 a2)) (k1_pay76 (k1_pay12 a1) (k1_pay13 a2) (k1_pay19 a1 a2)
    (k1_pay20 a1 a2)) (k1_pay77 (k1_pay12 a1) (k1_pay13 a2) (k1_pay19 a1 a2) (k1_pay20 a1 a2)) k1_pay78

/-- Sixteen powers. -/
def revPow16Re : RowsOf F 16 :=
  stack rfl (k1_pay88 (k1_pay23 a1 a2) (k1_pay24 a1 a2) (revPow8Re a1 a2) (revPow8Im a1 a2)) (revPow8Re a1 a2)

/-- Their imaginary parts. -/
def revPow16Im : RowsOf F 16 :=
  stack rfl (k1_pay89 (k1_pay23 a1 a2) (k1_pay24 a1 a2) (revPow8Re a1 a2) (revPow8Im a1 a2)) (revPow8Im a1 a2)

/-- Thirty-two powers. -/
def revPow32Re : RowsOf F 32 :=
  stack rfl (k1_pay90 (k1_pay25 a1 a2) (k1_pay26 a1 a2) (revPow16Re a1 a2) (revPow16Im a1 a2)) (revPow16Re a1 a2)

/-- Their imaginary parts. -/
def revPow32Im : RowsOf F 32 :=
  stack rfl (k1_pay91 (k1_pay25 a1 a2) (k1_pay26 a1 a2) (revPow16Re a1 a2) (revPow16Im a1 a2)) (revPow16Im a1 a2)

/-- Sixty-four powers. -/
def revPow64Re : RowsOf F 64 :=
  stack rfl (k1_pay94 (k1_pay92 (k1_pay27 a1 a2) (revPow32Re a1 a2)) (k1_pay93 (k1_pay28 a1 a2) (revPow32Im a1 a2)))
    (revPow32Re a1 a2)

/-- Their imaginary parts. -/
def revPow64Im : RowsOf F 64 :=
  stack rfl (k1_pay95 (k1_pay27 a1 a2) (k1_pay28 a1 a2) (revPow32Re a1 a2) (revPow32Im a1 a2)) (revPow32Im a1 a2)

/-- The table: 128 powers, the first of them in the last row. -/
def revPowRe : RowsOf F 128 :=
  stack rfl (k1_pay96 (k1_pay29 a1 a2) (k1_pay30 a1 a2) (revPow64Re a1 a2) (revPow64Im a1 a2)) (revPow64Re a1 a2)

/-- Their imaginary parts. -/
def revPowIm : RowsOf F 128 :=
  stack rfl (k1_pay97 (k1_pay29 a1 a2) (k1_pay30 a1 a2) (revPow64Re a1 a2) (revPow64Im a1 a2)) (revPow64Im a1 a2)

/-- The states at the first steps of the chunks after the rounds that look 1, 2 and 4 chunks ahead, from the local ones. -/
def revEnd4Re : FVec F S32x128 .f32 :=
  k1_pay56 (k1_pay34 (k1_pay32 a1 a2) (k1_pay33 a1 a2)) (k1_pay35 (k1_pay31 a1 a2) (k1_pay32 a1 a2)) (k1_pay36
    (k1_pay31 a1 a2) (k1_pay32 a1 a2) (k1_pay33 a1 a2)) (k1_pay37 (k1_pay31 a1 a2) (k1_pay32 a1 a2) (k1_pay33 a1
    a2)) (k1_pay42 e1) (k1_pay43 e2) (iota .tc S32x128 32 [0] iota_S32x128_d0_w32) (k1_pay46 (k1_pay31 a1 a2)
    (k1_pay32 a1 a2) e1 e2) (k1_pay47 (k1_pay31 a1 a2) (k1_pay32 a1 a2) e1 e2)

/-- Their imaginary parts. -/
def revEnd4Im : FVec F S32x128 .f32 :=
  k1_pay57 (k1_pay34 (k1_pay32 a1 a2) (k1_pay33 a1 a2)) (k1_pay35 (k1_pay31 a1 a2) (k1_pay32 a1 a2)) (k1_pay36
    (k1_pay31 a1 a2) (k1_pay32 a1 a2) (k1_pay33 a1 a2)) (k1_pay37 (k1_pay31 a1 a2) (k1_pay32 a1 a2) (k1_pay33 a1
    a2)) (k1_pay42 e1) (k1_pay43 e2) (iota .tc S32x128 32 [0] iota_S32x128_d0_w32) (k1_pay46 (k1_pay31 a1 a2)
    (k1_pay32 a1 a2) e1 e2) (k1_pay47 (k1_pay31 a1 a2) (k1_pay32 a1 a2) e1 e2)

/-- The states the chunks are handed: the first steps of the chunks after them, after all five rounds. -/
def revCarryRe : Vec F S32x128 .f32 :=
  k1_pay68 (k1_pay66 (iota .tc S32x128 32 [0] iota_S32x128_d0_w32)) (k1_pay67 (k1_pay38 (k1_pay31 a1 a2) (k1_pay32
    a1 a2) (k1_pay33 a1 a2)) (k1_pay39 (k1_pay31 a1 a2) (k1_pay32 a1 a2) (k1_pay33 a1 a2)) (k1_pay40 (k1_pay31 a1
    a2) (k1_pay32 a1 a2) (k1_pay33 a1 a2)) (k1_pay41 (k1_pay31 a1 a2) (k1_pay32 a1 a2) (k1_pay33 a1 a2)) (iota .tc
    S32x128 32 [0] iota_S32x128_d0_w32) (revEnd4Re a1 a2 e1 e2) (revEnd4Im a1 a2 e1 e2) k1_pay58) (Scalar.ofBits
    .f32 0x00000000#32)

/-- Their imaginary parts. -/
def revCarryIm : Vec F S32x128 .f32 :=
  k1_pay69 (iota .tc S32x128 32 [0] iota_S32x128_d0_w32) (k1_pay65 (k1_pay38 (k1_pay31 a1 a2) (k1_pay32 a1 a2)
    (k1_pay33 a1 a2)) (k1_pay39 (k1_pay31 a1 a2) (k1_pay32 a1 a2) (k1_pay33 a1 a2)) (k1_pay40 (k1_pay31 a1 a2)
    (k1_pay32 a1 a2) (k1_pay33 a1 a2)) (k1_pay41 (k1_pay31 a1 a2) (k1_pay32 a1 a2) (k1_pay33 a1 a2)) (iota .tc
    S32x128 32 [0] iota_S32x128_d0_w32) (revEnd4Re a1 a2 e1 e2) (revEnd4Im a1 a2 e1 e2) k1_pay58)

variable (x1 x2 : Block F)

/-- The real parts of the states the call writes. -/
def revRe : Block F :=
  revFixRe
    (revCarryRe a1 a2 (step32 (revLocalRe a1 a2 x1 x2) 0) (step32 (revLocalIm a1 a2 x1 x2) 0))
    (revCarryIm a1 a2 (step32 (revLocalRe a1 a2 x1 x2) 0) (step32 (revLocalIm a1 a2 x1 x2) 0))
    (revPowRe a1 a2) (revPowIm a1 a2) (revLocalRe a1 a2 x1 x2)

/-- The imaginary parts of the states the call writes. -/
def revIm : Block F :=
  revFixIm
    (revCarryRe a1 a2 (step32 (revLocalRe a1 a2 x1 x2) 0) (step32 (revLocalIm a1 a2 x1 x2) 0))
    (revCarryIm a1 a2 (step32 (revLocalRe a1 a2 x1 x2) 0) (step32 (revLocalIm a1 a2 x1 x2) 0))
    (revPowRe a1 a2) (revPowIm a1 a2) (revLocalIm a1 a2 x1 x2)

/-- The sums of the products with the forward states `s1`, `s2`, a pair for each of the 32 chunks. -/
def revTotals (s1 s2 : Block F) : FVec F S32x128 .f32 × FVec F S32x128 .f32 :=
  revSums (iota .tc S32x128 32 [0] iota_S32x128_d0_w32) (k1_pay98 (iota .tc S32x128 32 [0] iota_S32x128_d0_w32))
    (step32 s1 127) (step32 s2 127)
    (revCarryRe a1 a2 (step32 (revLocalRe a1 a2 x1 x2) 0) (step32 (revLocalIm a1 a2 x1 x2) 0))
    (revCarryIm a1 a2 (step32 (revLocalRe a1 a2 x1 x2) 0) (step32 (revLocalIm a1 a2 x1 x2) 0))
    (revPowRe a1 a2) (revPowIm a1 a2) (revLocalRe a1 a2 x1 x2) (revLocalIm a1 a2 x1 x2) s1 s2 128

end Pure

/-- Every row of a block belongs to one of the reverse loops' 128 steps. -/
theorem rev_step_lt (y : S1x4096x128.Idx) : (y 1).val / 32 < Scf.trips k1_t2_loop.lb k1_t2_loop.ub k1_t2_loop.st
    ∧ 127 - (y 1).val / 32 < Scf.trips k1_t1_loop.lb k1_t1_loop.ub k1_t1_loop.st := by
  have h1 : (y 1).val < 4096 := (y 1).isLt
  have h2 : Scf.trips k1_t1_loop.lb k1_t1_loop.ub k1_t1_loop.st = 128 := by decide +kernel
  have h3 : Scf.trips k1_t2_loop.lb k1_t2_loop.ub k1_t2_loop.st = 128 := by decide +kernel
  omega

/-- The reverse call's body: it leaves its six inputs alone, and the four outputs read the states and the sums. -/
theorem revRun (c : Dev nD) (i : grid1.Coords)
  (arg1 : Memref sig .tc .vmem S1x4096x128 .f32) (harg1 : arg1.IsWhole)
  (arg2 : Memref sig .tc .vmem S1x4096x128 .f32) (harg2 : arg2.IsWhole)
  (arg3 : Memref sig .tc .vmem S1x128 .f32) (harg3 : arg3.IsWhole)
  (arg4 : Memref sig .tc .vmem S1x128 .f32) (harg4 : arg4.IsWhole)
  (arg5 : Memref sig .tc .vmem S1x4096x128 .f32) (harg5 : arg5.IsWhole)
  (arg6 : Memref sig .tc .vmem S1x4096x128 .f32) (harg6 : arg6.IsWhole)
  (arg7 : Memref sig .tc .vmem S1x4096x128 .f32) (harg7 : arg7.IsWhole)
  (arg8 : Memref sig .tc .vmem S1x4096x128 .f32) (harg8 : arg8.IsWhole)
  (arg9 : Memref sig .tc .vmem S1x1x128 .f32) (harg9 : arg9.IsWhole)
  (arg10 : Memref sig .tc .vmem S1x1x128 .f32) (harg10 : arg10.IsWhole)
  (arg11 : Memref sig .tc .vmem S128x128 .f32) (harg11 : arg11.IsWhole)
  (arg12 : Memref sig .tc .vmem S128x128 .f32) (harg12 : arg12.IsWhole)
  (arg13 : Memref sig .tc .vmem S32x128 .f32) (harg13 : arg13.IsWhole)
  (arg14 : Memref sig .tc .vmem S32x128 .f32) (harg14 : arg14.IsWhole)
  (f1 f2 f3 f4 f5 f6 f7 f8 f9 f10 f11 f12 f13 f14) (E : Set ℕ) (Q : PUnit → sProp 𝕄G) :
  iprop(pt c arg1 f1 ∗ pt c arg2 f2 ∗ pt c arg3 f3 ∗ pt c arg4 f4 ∗ pt c arg5 f5 ∗ pt c arg6 f6 ∗ pt c arg7 f7 ∗ pt c arg8 f8
    ∗ pt c arg9 f9 ∗ pt c arg10 f10 ∗ pt c arg11 f11 ∗ pt c arg12 f12 ∗ pt c arg13 f13 ∗ pt c arg14 f14
    ∗ (∀ g7 g8 g9 g10 g11 g12 g13 g14,
        ⌜arg7.view.read (Elt F) g7 = revRe (arg3.view.read (Elt F) f3) (arg4.view.read (Elt F) f4)
            (arg1.view.read (Elt F) f1) (arg2.view.read (Elt F) f2)
          ∧ arg8.view.read (Elt F) g8 = revIm (arg3.view.read (Elt F) f3) (arg4.view.read (Elt F) f4)
            (arg1.view.read (Elt F) f1) (arg2.view.read (Elt F) f2)
          ∧ arg9.view.read (Elt F) g9 = k1_pay5 (revTotals (arg3.view.read (Elt F) f3) (arg4.view.read (Elt F) f4)
            (arg1.view.read (Elt F) f1) (arg2.view.read (Elt F) f2)
            (arg5.view.read (Elt F) f5) (arg6.view.read (Elt F) f6)).1
          ∧ arg10.view.read (Elt F) g10 = k1_pay6 (revTotals (arg3.view.read (Elt F) f3) (arg4.view.read (Elt F) f4)
            (arg1.view.read (Elt F) f1) (arg2.view.read (Elt F) f2)
            (arg5.view.read (Elt F) f5) (arg6.view.read (Elt F) f6)).2⌝ -∗
        pt c arg1 f1 -∗ pt c arg2 f2 -∗ pt c arg3 f3 -∗ pt c arg4 f4 -∗ pt c arg5 f5 -∗ pt c arg6 f6 -∗ pt c arg7 g7 -∗
        pt c arg8 g8 -∗ pt c arg9 g9 -∗ pt c arg10 g10 -∗ pt c arg11 g11 -∗ pt c arg12 g12 -∗ pt c arg13 g13 -∗ pt c arg14 g14 -∗
        Q ⟨⟩))
  ⊢ wp frame (wpE (defs₀ (F := F)) Variants.none c none) E (cc1_ssm_scan_rev i arg1 harg1 arg2 harg2 arg3 harg3 arg4 harg4 arg5 harg5 arg6
      harg6 arg7 harg7 arg8 harg8 arg9 harg9 arg10 harg10 arg11 harg11 arg12 harg12 arg13 harg13 arg14 harg14) Q := by
  iintro ⟨H1, H2, H3, H4, H5, H6, H7, H8, H9, H10, H11, H12, H13, H14, Hk⟩
  sl_exec
  rw [wp_bind]
  iapply (Scf.wp_for Idealize.ShloMosaic.frame (wpE (defs₀ (F := F)) Variants.none (c : Thread nD τ) none) E _ _ _ _ _ _
    (revInv2 (F := F) c arg5 arg6 arg7 arg8 arg11 arg12 _ _ _ _ _ _ f5 f6 _ _ fL0 fL1)
    (revLoop2 (F := F) Variants.none c none E i arg1 harg1 arg2 harg2 arg3 harg3 arg4 harg4 arg5 harg5 arg6
      harg6 arg7 harg7 arg8 harg8 arg9 harg9 arg10 harg10 arg11 harg11 arg12 harg12 arg13 harg13 arg14 harg14 _ _ _ _ _ _
      f5 f6 _ _ fL0 fL1).step)
  isplitl [H5 H6 H7 H8 H11 H12]
  · isplitl [H5]; · iexact H5
    isplitl [H6]; · iexact H6
    isplitl [H11]; · iexact H11
    isplitl [H12]; · iexact H12
    isplitl [H7]
    · iexists _; isplitl [H7]; · iexact H7
      ipureintro
      intro y
      rw [if_neg (by omega)]
    isplitl [H8]
    · iexists _; isplitl [H8]; · iexact H8
      ipureintro
      intro y
      rw [if_neg (by omega)]
    ipureintro
    rfl
  iintro %acc ⟨H5, H6, H11, H12, ⟨%g7, H7, %h7⟩, ⟨%g8, H8, %h8⟩, %hacc⟩
  subst hacc
  sl_exec
  have ht : Scf.trips k1_t2_loop.lb k1_t2_loop.ub k1_t2_loop.st = 128 := by decide +kernel
  have h2 : ∀ a : Fin 2, (![0, 0] : Fin 2 → ℕ) a = 0 := by decide
  have h3 : ∀ a : Fin 3, (![0, 0, 0] : Fin 3 → ℕ) a = 0 := by decide
  have e3 : loadA arg3 f3 = arg3.view.read (Elt F) f3 := readWhole _ _ h2 _
  have e4 : loadA arg4 f4 = arg4.view.read (Elt F) f4 := readWhole _ _ h2 _
  have e7 : arg7.view.read (Elt F) fL0 = revLocalRe (arg3.view.read (Elt F) f3) (arg4.view.read (Elt F) f4)
      (arg1.view.read (Elt F) f1) (arg2.view.read (Elt F) f2) := funext fun y => by
    rw [hL3 y (rev_step_lt y).2, readWhole _ _ h2, readWhole _ _ h2]
  have e8 : arg8.view.read (Elt F) fL1 = revLocalIm (arg3.view.read (Elt F) f3) (arg4.view.read (Elt F) f4)
      (arg1.view.read (Elt F) f1) (arg2.view.read (Elt F) f2) := funext fun y => by
    rw [hL5 y (rev_step_lt y).2, readWhole _ _ h2, readWhole _ _ h2]
  have r8r : Rows arg11.view (revRun.sl.H11_1 arg3 arg4 f3 f4) 120 8
      (revPow8Re (loadA arg3 f3) (loadA arg4 f4)) :=
    Rows.first arg11.view (o := 120) inb_S128x128_S8x128_120_0 _
  have r8i : Rows arg12.view (revRun.sl.H12_1 arg3 arg4 f3 f4) 120 8
      (revPow8Im (loadA arg3 f3) (loadA arg4 f4)) :=
    Rows.first arg12.view (o := 120) inb_S128x128_S8x128_120_0 _
  have r16r : Rows arg11.view (revRun.sl.H11_2 arg3 arg4 arg11 arg12 f3 f4) 112 16
      (revPow16Re (loadA arg3 f3) (loadA arg4 f4)) :=
    r8r.down rfl inb_S128x128_S8x128_112_0 (congrArg₂ (k1_pay88 _ _) (r8r.load inb_S128x128_S8x128_120_0)
        (r8i.load inb_S128x128_S8x128_120_0))
  have r16i : Rows arg12.view (revRun.sl.H12_2 arg3 arg4 arg11 arg12 f3 f4) 112 16
      (revPow16Im (loadA arg3 f3) (loadA arg4 f4)) :=
    r8i.down rfl inb_S128x128_S8x128_112_0 (congrArg₂ (k1_pay89 _ _) (r8r.load inb_S128x128_S8x128_120_0)
        (r8i.load inb_S128x128_S8x128_120_0))
  have r32r : Rows arg11.view (revRun.sl.H11_3 arg3 arg4 arg11 arg12 f3 f4) 96 32
      (revPow32Re (loadA arg3 f3) (loadA arg4 f4)) :=
    r16r.down rfl inb_S128x128_S16x128_96_0 (congrArg₂ (k1_pay90 _ _) (r16r.load inb_S128x128_S16x128_112_0)
        (r16i.load inb_S128x128_S16x128_112_0))
  have r32i : Rows arg12.view (revRun.sl.H12_3 arg3 arg4 arg11 arg12 f3 f4) 96 32
      (revPow32Im (loadA arg3 f3) (loadA arg4 f4)) :=
    r16i.down rfl inb_S128x128_S16x128_96_0 (congrArg₂ (k1_pay91 _ _) (r16r.load inb_S128x128_S16x128_112_0)
        (r16i.load inb_S128x128_S16x128_112_0))
  have r64r : Rows arg11.view (revRun.sl.H11_4 arg3 arg4 arg11 arg12 f3 f4) 64 64
      (revPow64Re (loadA arg3 f3) (loadA arg4 f4)) :=
    r32r.down rfl inb_S128x128_S32x128_64_0 (congrArg₂ k1_pay94 (congrArg (k1_pay92 _) (r32r.load inb_S128x128_S32x128_96_0))
        (congrArg (k1_pay93 _) (r32i.load inb_S128x128_S32x128_96_0)))
  have r64i : Rows arg12.view (revRun.sl.H12_4 arg3 arg4 arg11 arg12 f3 f4) 64 64
      (revPow64Im (loadA arg3 f3) (loadA arg4 f4)) :=
    r32i.down rfl inb_S128x128_S32x128_64_0 (congrArg₂ (k1_pay95 _ _) (r32r.load inb_S128x128_S32x128_96_0)
        (r32i.load inb_S128x128_S32x128_96_0))
  have r128r : Rows arg11.view (revRun.sl.H11_5 arg3 arg4 arg11 arg12 f3 f4) 0 128
      (revPowRe (loadA arg3 f3) (loadA arg4 f4)) :=
    r64r.down rfl inb_S128x128_S64x128_0_0 (congrArg₂ (k1_pay96 _ _) (r64r.load inb_S128x128_S64x128_64_0)
        (r64i.load inb_S128x128_S64x128_64_0))
  have r128i : Rows arg12.view (revRun.sl.H12_5 arg3 arg4 arg11 arg12 f3 f4) 0 128
      (revPowIm (loadA arg3 f3) (loadA arg4 f4)) :=
    r64i.down rfl inb_S128x128_S64x128_0_0 (congrArg₂ (k1_pay97 _ _) (r64r.load inb_S128x128_S64x128_64_0)
        (r64i.load inb_S128x128_S64x128_64_0))
  have c1 : revRun.sl.v351 c arg3 arg4 arg7 arg8 arg13 f3 f4 fL0 fL1
      = revCarryRe (loadA arg3 f3) (loadA arg4 f4) (step32 (arg7.view.read (Elt F) fL0) 0) (step32 (arg8.view.read (Elt F) fL1) 0) := by
    rw [← loadStep arg7.view fL0 (off := ![0, 0, 0]) inb_S1x4096x128_S1x32x128_0_0_0 rfl,
      ← loadStep arg8.view fL1 (off := ![0, 0, 0]) inb_S1x4096x128_S1x32x128_0_0_0 rfl]
    exact loadWhole arg13.view _ _ _
  have c2 : revRun.sl.v352 c arg3 arg4 arg7 arg8 arg14 f3 f4 fL0 fL1
      = revCarryIm (loadA arg3 f3) (loadA arg4 f4) (step32 (arg7.view.read (Elt F) fL0) 0) (step32 (arg8.view.read (Elt F) fL1) 0) := by
    rw [← loadStep arg7.view fL0 (off := ![0, 0, 0]) inb_S1x4096x128_S1x32x128_0_0_0 rfl,
      ← loadStep arg8.view fL1 (off := ![0, 0, 0]) inb_S1x4096x128_S1x32x128_0_0_0 rfl]
    exact loadWhole arg14.view _ _ _
  have s : revSums revRun.sl.v77 (k1_pay98 revRun.sl.v77)
      (arg5.view.readAt (Elt F) (Rect.unit (s := S1x4096x128) ![0, 4064, 0] S1x32x128.size
        inb_S1x4096x128_S1x32x128_0_4064_0).toLoadRect f5)
      (arg6.view.readAt (Elt F) (Rect.unit (s := S1x4096x128) ![0, 4064, 0] S1x32x128.size
        inb_S1x4096x128_S1x32x128_0_4064_0).toLoadRect f6)
      (revRun.sl.v351 c arg3 arg4 arg7 arg8 arg13 f3 f4 fL0 fL1)
      (revRun.sl.v352 c arg3 arg4 arg7 arg8 arg14 f3 f4 fL0 fL1)
      (arg11.view.read (Elt F) (arg11.view.writes (Elt F) arg11.view.junk (revRun.sl.H11_5 arg3 arg4 arg11 arg12 f3 f4)))
      (arg12.view.read (Elt F) (arg12.view.writes (Elt F) arg12.view.junk (revRun.sl.H12_5 arg3 arg4 arg11 arg12 f3 f4)))
      (arg7.view.read (Elt F) fL0) (arg8.view.read (Elt F) fL1) (arg5.view.read (Elt F) f5) (arg6.view.read (Elt F) f6) (Scf.trips k1_t2_loop.lb k1_t2_loop.ub k1_t2_loop.st)
      = revTotals (arg3.view.read (Elt F) f3) (arg4.view.read (Elt F) f4)
      (arg1.view.read (Elt F) f1) (arg2.view.read (Elt F) f2) (arg5.view.read (Elt F) f5)
        (arg6.view.read (Elt F) f6) := by
    rw [ht, c1, c2, r128r.whole, r128i.whole, e7, e8, e3, e4, loadStep arg5.view f5 (n := 127) _ rfl,
      loadStep arg6.view f6 (n := 127) _ rfl]
    rfl
  have k7 : arg7.view.read (Elt F) g7 = revRe (arg3.view.read (Elt F) f3) (arg4.view.read (Elt F) f4)
      (arg1.view.read (Elt F) f1) (arg2.view.read (Elt F) f2) := funext fun y => by
    rw [h7 y, if_pos (rev_step_lt y).1, c1, c2, r128r.whole, r128i.whole, e7, e8, e3, e4]
    rfl
  have k8 : arg8.view.read (Elt F) g8 = revIm (arg3.view.read (Elt F) f3) (arg4.view.read (Elt F) f4)
      (arg1.view.read (Elt F) f1) (arg2.view.read (Elt F) f2) := funext fun y => by
    rw [h8 y, if_pos (rev_step_lt y).1, c1, c2, r128r.whole, r128i.whole, e7, e8, e3, e4]
    rfl
  sl_step
  iapply Hk $$ %g7 %g8 %_ %_ %_ %_ %_ %_ [] H1 H2 H3 H4 H5 H6 H7 H8 H9 H10 H11 H12 H13 H14
  ipureintro
  refine ⟨k7, k8, (writeWhole arg9.view _ h3 _ _ _).trans ?_, (writeWhole arg10.view _ h3 _ _ _).trans ?_⟩
  · rw [s]
  · rw [s]

end Cert.Scan
-- ==== Proof.FwdRegion.lean ====
/-
  The forward scan as a region: what its windows hold before and after each grid point, and the region's record.

  A grid point is one block of 128 lanes.  Its four inputs are the two halves (real and imaginary) of the inputs
  `main_v6` and the two halves of the transition `main_v0`; its two outputs are the states.  Both halves of an array
  are windows of the same array, so each window holds a share of it.
-/
module

public import proofs.«01_k».proof.Proof.FwdRun
public import proofs.«01_k».proof.Proof.Gen.KernelIdeal.Regions
public import proofs.«01_k».proof.Proof.Gen.KernelIdeal.Points
public import Idealize.ShloMosaic.Lib.Pipeline.RegionsLoop

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
local notation "𝕄G" => MT nD τ sig Unit (Elt F) ℕ (UR sig nD τ) ℕ

/-- The contents of a core's buffers. -/
abbrev Contents : Type := (c : Dev nD) → (b : Ref sig .tc) → Buf (Elt F) ((c : Thread nD τ).loc b)

variable (V : Contents (F := F))

/-- The block of the real inputs at a grid point. -/
abbrev fwdIn0 (c : Dev nD) (t : Fin cfg0.N) : Block F := ((cfg0.win 0).blk t).view.read (Elt F) (V c main_v6)
/-- The block of the imaginary inputs. -/
abbrev fwdIn1 (c : Dev nD) (t : Fin cfg0.N) : Block F := ((cfg0.win 1).blk t).view.read (Elt F) (V c main_v6)
/-- The real parts of the transition's lanes. -/
abbrev fwdIn2 (c : Dev nD) (t : Fin cfg0.N) : Vec F S1x128 .f32 := ((cfg0.win 2).blk t).view.read (Elt F) (V c main_v0)
/-- The imaginary parts. -/
abbrev fwdIn3 (c : Dev nD) (t : Fin cfg0.N) : Vec F S1x128 .f32 := ((cfg0.win 3).blk t).view.read (Elt F) (V c main_v0)
/-- The block of real states at a grid point. -/
abbrev fwdOut4 (c : Dev nD) (t : Fin cfg0.N) : Block F := fwdRe (fwdIn2 V c t) (fwdIn3 V c t) (fwdIn0 V c t) (fwdIn1 V c t)
/-- The block of imaginary states. -/
abbrev fwdOut5 (c : Dev nD) (t : Fin cfg0.N) : Block F := fwdIm (fwdIn2 V c t) (fwdIn3 V c t) (fwdIn0 V c t) (fwdIn1 V c t)

/-- The forward scan's proof data, entered from contents `V`. -/
def fwdDat (c : Dev nD) : Dat τ (Elt F) Unit ℕ (UR sig nD τ) ℕ cfg0 c where
  A w := V c (Pipeline.arrRef spec0 w)
  after w t := match w with
    | ⟨0, _⟩ => fwdIn0 V c t
    | ⟨1, _⟩ => fwdIn1 V c t
    | ⟨2, _⟩ => fwdIn2 V c t
    | ⟨3, _⟩ => fwdIn3 V c t
    | ⟨4, _⟩ => fwdOut4 V c t
    | ⟨5, _⟩ => fwdOut5 V c t
  Φ _ := Pipeline.scopedRest (Ix := Unit) (Name := ℕ) (U := UR sig nD τ) (Lvl := ℕ) (Val := Elt F) spec0 c
  q w := Pipeline.shareOf spec0 w
  owed _ := 0

theorem fwd_before0 (c : Dev nD) (t : Fin cfg0.N) (d) : (fwdDat V c).before 0 t d = fwdIn0 V c t :=
  ((fwdDat V c).before_fetched 0 t (fetch0_0 t) d).trans rfl
theorem fwd_before1 (c : Dev nD) (t : Fin cfg0.N) (d) : (fwdDat V c).before 1 t d = fwdIn1 V c t :=
  ((fwdDat V c).before_fetched 1 t (fetch0_1 t) d).trans rfl
theorem fwd_before2 (c : Dev nD) (t : Fin cfg0.N) (d) : (fwdDat V c).before 2 t d = fwdIn2 V c t :=
  ((fwdDat V c).before_fetched 2 t (fetch0_2 t) d).trans rfl
theorem fwd_before3 (c : Dev nD) (t : Fin cfg0.N) (d) : (fwdDat V c).before 3 t d = fwdIn3 V c t :=
  ((fwdDat V c).before_fetched 3 t (fetch0_3 t) d).trans rfl

theorem fwd_after0 (c : Dev nD) (t : Fin cfg0.N) : (fwdDat V c).after 0 t = fwdIn0 V c t := rfl
theorem fwd_after1 (c : Dev nD) (t : Fin cfg0.N) : (fwdDat V c).after 1 t = fwdIn1 V c t := rfl
theorem fwd_after2 (c : Dev nD) (t : Fin cfg0.N) : (fwdDat V c).after 2 t = fwdIn2 V c t := rfl
theorem fwd_after3 (c : Dev nD) (t : Fin cfg0.N) : (fwdDat V c).after 3 t = fwdIn3 V c t := rfl
theorem fwd_after4 (c : Dev nD) (t : Fin cfg0.N) : (fwdDat V c).after 4 t = fwdOut4 V c t := rfl
theorem fwd_after5 (c : Dev nD) (t : Fin cfg0.N) : (fwdDat V c).after 5 t = fwdOut5 V c t := rfl

/-- A whole buffer at some contents, as the runs take it. -/
theorem pt_whole (c : Dev nD) (b : Ref sig .tc) (f : Buf (Elt F) ((c : Thread nD τ).loc b)) :
    (pt c (Memref.whole b) f : sProp 𝕄G) = (((c : Thread nD τ).loc b) ↦{fullShare} f) := by
  unfold pt
  rw [(Memref.isWhole_whole b).set_eq_univ]

set_option maxHeartbeats 2000000 in
/-- At every grid point the forward scan's body takes its windows from what they hold before to what they hold after. -/
theorem fwd_obligation (c : Dev nD) : BodyObligation (fwdDat V c) (defs₀ (F := F)) Variants.none () Set.univ := fun t => by
  rw [bigSep_W0, bigSep_W0]
  unfold owns
  rw [show (fwdDat V c).Φ t.castSucc = Pipeline.scopedRest spec0 c from rfl,
    show (fwdDat V c).Φ t.succ = Pipeline.scopedRest spec0 c from rfl,
    show (fwdDat V c).owesAt () t.succ = (fwdDat V c).owesAt () t.castSucc from rfl, scopedRest0_split]
  simp only [← pt_whole]
  iintro ⟨⟨⟨⟨%s0, HS0⟩, ⟨%s1, HS1⟩, ⟨%s2, HS2⟩, ⟨%s3, HS3⟩⟩, Hrest⟩, Howes, ⟨%d0, %f0, %hf0, H0⟩, ⟨%d1, %f1, %hf1, H1⟩,
    ⟨%d2, %f2, %hf2, H2⟩, ⟨%d3, %f3, %hf3, H3⟩, ⟨%d4, %f4, -, H4⟩, ⟨%d5, %f5, -, H5⟩⟩
  rw [fwd_before0] at hf0
  rw [fwd_before1] at hf1
  rw [fwd_before2] at hf2
  rw [fwd_before3] at hf3
  iapply (fwdRun c (grid0.coords t) (win0_0.stage (cfg0.slots t 0)) (hstage0_0 ((cfg0.slots t 0).cast nbuf0_0))
    (win0_1.stage (cfg0.slots t 1)) (hstage0_1 ((cfg0.slots t 1).cast nbuf0_1))
    (win0_2.stage (cfg0.slots t 2)) (hstage0_2 ((cfg0.slots t 2).cast nbuf0_2))
    (win0_3.stage (cfg0.slots t 3)) (hstage0_3 ((cfg0.slots t 3).cast nbuf0_3))
    (win0_4.stage (cfg0.slots t 4)) (hstage0_4 ((cfg0.slots t 4).cast nbuf0_4))
    (win0_5.stage (cfg0.slots t 5)) (hstage0_5 ((cfg0.slots t 5).cast nbuf0_5))
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    f0 f1 f2 f3 f4 f5 s0 s1 s2 s3 Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  isplitl [HS3]; · iexact HS3
  iintro %g4 %g5 %u0 %u1 %u2 %u3 %hg H0 H1 H2 H3 H4 H5 HS0 HS1 HS2 HS3
  isplitl [Hrest HS0 HS1 HS2 HS3]
  · isplitr [Hrest]; swap; · iexact Hrest
    isplitl [HS0]; · iexists _; iexact HS0
    isplitl [HS1]; · iexists _; iexact HS1
    isplitl [HS2]; · iexists _; iexact HS2
    iexists _; iexact HS3
  isplitl [Howes]; · iexact Howes
  isplitl [H0]; · iexists _; isplitr; swap; (· iexact H0); ipureintro; rw [fwd_after0]; exact hf0
  isplitl [H1]; · iexists _; isplitr; swap; (· iexact H1); ipureintro; rw [fwd_after1]; exact hf1
  isplitl [H2]; · iexists _; isplitr; swap; (· iexact H2); ipureintro; rw [fwd_after2]; exact hf2
  isplitl [H3]; · iexists _; isplitr; swap; (· iexact H3); ipureintro; rw [fwd_after3]; exact hf3
  have e0 : (win0_0.stage (cfg0.slots t 0)).view.read (Elt F) f0 = fwdIn0 V c t := hf0
  have e1 : (win0_1.stage (cfg0.slots t 1)).view.read (Elt F) f1 = fwdIn1 V c t := hf1
  have e2 : (win0_2.stage (cfg0.slots t 2)).view.read (Elt F) f2 = fwdIn2 V c t := hf2
  have e3 : (win0_3.stage (cfg0.slots t 3)).view.read (Elt F) f3 = fwdIn3 V c t := hf3
  rw [e0, e1, e2, e3] at hg
  isplitl [H4]
  · iexists _; isplitr; swap; (· iexact H4); ipureintro; rw [fwd_after4]; exact hg.1
  · iexists _; isplitr; swap; (· iexact H5); ipureintro; rw [fwd_after5]; exact hg.2

end Cert.Scan

end
-- ==== Proof.RevRegion.lean ====
/-
  The reverse scan as a region: what its windows hold before and after each grid point.

  A grid point is one block of 128 lanes.  Its inputs are the two halves of the cotangents `main_v13`, the two halves
  of the conjugate transition `main_v17` and the states the forward scan left in `main_v7_0` and `main_v7_1`; its
  outputs are the inputs' cotangents and, one row a block, the transition's.
-/
module

public import proofs.«01_k».proof.Proof.RevRun
public import proofs.«01_k».proof.Proof.FwdRegion

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
local notation "𝕄G" => MT nD τ sig Unit (Elt F) ℕ (UR sig nD τ) ℕ

variable (V : Contents (F := F))

/-- The block of the real cotangents at a grid point. -/
abbrev revIn0 (c : Dev nD) (t : Fin cfg1.N) : Block F := ((cfg1.win 0).blk t).view.read (Elt F) (V c main_v13)
/-- The block of the imaginary cotangents. -/
abbrev revIn1 (c : Dev nD) (t : Fin cfg1.N) : Block F := ((cfg1.win 1).blk t).view.read (Elt F) (V c main_v13)
/-- The real parts of the conjugate transition's lanes. -/
abbrev revIn2 (c : Dev nD) (t : Fin cfg1.N) : Vec F S1x128 .f32 := ((cfg1.win 2).blk t).view.read (Elt F) (V c main_v17)
/-- The imaginary parts. -/
abbrev revIn3 (c : Dev nD) (t : Fin cfg1.N) : Vec F S1x128 .f32 := ((cfg1.win 3).blk t).view.read (Elt F) (V c main_v17)
/-- The block of the forward scan's real states. -/
abbrev revIn4 (c : Dev nD) (t : Fin cfg1.N) : Block F := ((cfg1.win 4).blk t).view.read (Elt F) (V c main_v7_0)
/-- The block of its imaginary states. -/
abbrev revIn5 (c : Dev nD) (t : Fin cfg1.N) : Block F := ((cfg1.win 5).blk t).view.read (Elt F) (V c main_v7_1)
/-- The block of the inputs' real cotangents. -/
abbrev revOut6 (c : Dev nD) (t : Fin cfg1.N) : Block F := revRe (revIn2 V c t) (revIn3 V c t) (revIn0 V c t) (revIn1 V c t)
/-- The block of their imaginary cotangents. -/
abbrev revOut7 (c : Dev nD) (t : Fin cfg1.N) : Block F := revIm (revIn2 V c t) (revIn3 V c t) (revIn0 V c t) (revIn1 V c t)
/-- The transition's cotangents of a block of lanes before the last sum, over 32 rows. -/
abbrev revSum (c : Dev nD) (t : Fin cfg1.N) : FVec F S32x128 .f32 × FVec F S32x128 .f32 :=
  revTotals (revIn2 V c t) (revIn3 V c t) (revIn0 V c t) (revIn1 V c t) (revIn4 V c t) (revIn5 V c t)
/-- The transition's real cotangents of a block of lanes. -/
abbrev revOut8 (c : Dev nD) (t : Fin cfg1.N) : Vec F S1x1x128 .f32 := k1_pay5 (revSum V c t).1
/-- Its imaginary cotangents. -/
abbrev revOut9 (c : Dev nD) (t : Fin cfg1.N) : Vec F S1x1x128 .f32 := k1_pay6 (revSum V c t).2

/-- The reverse scan's proof data, entered from contents `V`. -/
def revDat (c : Dev nD) : Dat τ (Elt F) Unit ℕ (UR sig nD τ) ℕ cfg1 c where
  A w := V c (Pipeline.arrRef spec1 w)
  after w t := match w with
    | ⟨0, _⟩ => revIn0 V c t
    | ⟨1, _⟩ => revIn1 V c t
    | ⟨2, _⟩ => revIn2 V c t
    | ⟨3, _⟩ => revIn3 V c t
    | ⟨4, _⟩ => revIn4 V c t
    | ⟨5, _⟩ => revIn5 V c t
    | ⟨6, _⟩ => revOut6 V c t
    | ⟨7, _⟩ => revOut7 V c t
    | ⟨8, _⟩ => revOut8 V c t
    | ⟨9, _⟩ => revOut9 V c t
  Φ _ := Pipeline.scopedRest (Ix := Unit) (Name := ℕ) (U := UR sig nD τ) (Lvl := ℕ) (Val := Elt F) spec1 c
  q w := Pipeline.shareOf spec1 w
  owed _ := 0

theorem rev_before0 (c : Dev nD) (t : Fin cfg1.N) (d) : (revDat V c).before 0 t d = revIn0 V c t :=
  ((revDat V c).before_fetched 0 t (fetch1_0 t) d).trans rfl
theorem rev_before1 (c : Dev nD) (t : Fin cfg1.N) (d) : (revDat V c).before 1 t d = revIn1 V c t :=
  ((revDat V c).before_fetched 1 t (fetch1_1 t) d).trans rfl
theorem rev_before2 (c : Dev nD) (t : Fin cfg1.N) (d) : (revDat V c).before 2 t d = revIn2 V c t :=
  ((revDat V c).before_fetched 2 t (fetch1_2 t) d).trans rfl
theorem rev_before3 (c : Dev nD) (t : Fin cfg1.N) (d) : (revDat V c).before 3 t d = revIn3 V c t :=
  ((revDat V c).before_fetched 3 t (fetch1_3 t) d).trans rfl
theorem rev_before4 (c : Dev nD) (t : Fin cfg1.N) (d) : (revDat V c).before 4 t d = revIn4 V c t :=
  ((revDat V c).before_fetched 4 t (fetch1_4 t) d).trans rfl
theorem rev_before5 (c : Dev nD) (t : Fin cfg1.N) (d) : (revDat V c).before 5 t d = revIn5 V c t :=
  ((revDat V c).before_fetched 5 t (fetch1_5 t) d).trans rfl
theorem rev_after0 (c : Dev nD) (t : Fin cfg1.N) : (revDat V c).after 0 t = revIn0 V c t := rfl
theorem rev_after1 (c : Dev nD) (t : Fin cfg1.N) : (revDat V c).after 1 t = revIn1 V c t := rfl
theorem rev_after2 (c : Dev nD) (t : Fin cfg1.N) : (revDat V c).after 2 t = revIn2 V c t := rfl
theorem rev_after3 (c : Dev nD) (t : Fin cfg1.N) : (revDat V c).after 3 t = revIn3 V c t := rfl
theorem rev_after4 (c : Dev nD) (t : Fin cfg1.N) : (revDat V c).after 4 t = revIn4 V c t := rfl
theorem rev_after5 (c : Dev nD) (t : Fin cfg1.N) : (revDat V c).after 5 t = revIn5 V c t := rfl
theorem rev_after6 (c : Dev nD) (t : Fin cfg1.N) : (revDat V c).after 6 t = revOut6 V c t := rfl
theorem rev_after7 (c : Dev nD) (t : Fin cfg1.N) : (revDat V c).after 7 t = revOut7 V c t := rfl
theorem rev_after8 (c : Dev nD) (t : Fin cfg1.N) : (revDat V c).after 8 t = revOut8 V c t := rfl
theorem rev_after9 (c : Dev nD) (t : Fin cfg1.N) : (revDat V c).after 9 t = revOut9 V c t := rfl

/-- The reverse scan's own scratch buffers taken out of what its windows do not stage. -/
theorem scopedRest1_split (c : Dev nD) :
    (Pipeline.scopedRest (Ix := Unit) (Name := ℕ) (U := UR sig nD τ) (Lvl := ℕ) (Val := Elt F) spec1 c : sProp 𝕄G)
      = iprop(iprop((∃ f : Buf (Elt F) ((c : Thread nD τ).loc cc1_scratch0), ((c : Thread nD τ).loc cc1_scratch0) ↦{fullShare} f)
          ∗ (∃ f : Buf (Elt F) ((c : Thread nD τ).loc cc1_scratch1), ((c : Thread nD τ).loc cc1_scratch1) ↦{fullShare} f)
          ∗ (∃ f : Buf (Elt F) ((c : Thread nD τ).loc cc1_scratch2), ((c : Thread nD τ).loc cc1_scratch2) ↦{fullShare} f)
          ∗ (∃ f : Buf (Elt F) ((c : Thread nD τ).loc cc1_scratch3), ((c : Thread nD τ).loc cc1_scratch3) ↦{fullShare} f))
          ∗ Pipeline.scopedRestBut (Ix := Unit) (Name := ℕ) (U := UR sig nD τ) (Lvl := ℕ) (Val := Elt F) spec1 c
              [cc1_scratch0, cc1_scratch1, cc1_scratch2, cc1_scratch3]) :=
  Pipeline.scopedRest_split_of_list spec1 c [cc1_scratch0, cc1_scratch1, cc1_scratch2, cc1_scratch3] (by decide) (by decide)

set_option maxHeartbeats 4000000 in
/-- At every grid point the reverse scan's body takes its windows from what they hold before to what they hold after. -/
theorem rev_obligation (c : Dev nD) : BodyObligation (revDat V c) (defs₀ (F := F)) Variants.none () Set.univ := fun t => by
  rw [bigSep_W1, bigSep_W1]
  unfold owns
  rw [show (revDat V c).Φ t.castSucc = Pipeline.scopedRest spec1 c from rfl,
    show (revDat V c).Φ t.succ = Pipeline.scopedRest spec1 c from rfl,
    show (revDat V c).owesAt () t.succ = (revDat V c).owesAt () t.castSucc from rfl, scopedRest1_split]
  simp only [← pt_whole]
  iintro ⟨⟨⟨⟨%s0, HS0⟩, ⟨%s1, HS1⟩, ⟨%s2, HS2⟩, ⟨%s3, HS3⟩⟩, Hrest⟩, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, -, H6⟩, ⟨%d7, %f7, -, H7⟩, ⟨%d8, %f8, -, H8⟩, ⟨%d9, %f9, -, H9⟩⟩
  rw [rev_before0] at hf0
  rw [rev_before1] at hf1
  rw [rev_before2] at hf2
  rw [rev_before3] at hf3
  rw [rev_before4] at hf4
  rw [rev_before5] at hf5
  iapply (revRun c (grid1.coords t)
    (win1_0.stage (cfg1.slots t 0)) (hstage1_0 ((cfg1.slots t 0).cast nbuf1_0))
    (win1_1.stage (cfg1.slots t 1)) (hstage1_1 ((cfg1.slots t 1).cast nbuf1_1))
    (win1_2.stage (cfg1.slots t 2)) (hstage1_2 ((cfg1.slots t 2).cast nbuf1_2))
    (win1_3.stage (cfg1.slots t 3)) (hstage1_3 ((cfg1.slots t 3).cast nbuf1_3))
    (win1_4.stage (cfg1.slots t 4)) (hstage1_4 ((cfg1.slots t 4).cast nbuf1_4))
    (win1_5.stage (cfg1.slots t 5)) (hstage1_5 ((cfg1.slots t 5).cast nbuf1_5))
    (win1_6.stage (cfg1.slots t 6)) (hstage1_6 ((cfg1.slots t 6).cast nbuf1_6))
    (win1_7.stage (cfg1.slots t 7)) (hstage1_7 ((cfg1.slots t 7).cast nbuf1_7))
    (win1_8.stage (cfg1.slots t 8)) (hstage1_8 ((cfg1.slots t 8).cast nbuf1_8))
    (win1_9.stage (cfg1.slots t 9)) (hstage1_9 ((cfg1.slots t 9).cast nbuf1_9))
    (Memref.whole cc1_scratch0) (Memref.isWhole_whole _) (Memref.whole cc1_scratch1) (Memref.isWhole_whole _)
    (Memref.whole cc1_scratch2) (Memref.isWhole_whole _) (Memref.whole cc1_scratch3) (Memref.isWhole_whole _)
    f0 f1 f2 f3 f4 f5 f6 f7 f8 f9 s0 s1 s2 s3 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [HS0]; · iexact HS0
  isplitl [HS1]; · iexact HS1
  isplitl [HS2]; · iexact HS2
  isplitl [HS3]; · iexact HS3
  iintro %g6 %g7 %g8 %g9 %u0 %u1 %u2 %u3 %hg H0 H1 H2 H3 H4 H5 H6 H7 H8 H9 HS0 HS1 HS2 HS3
  isplitl [Hrest HS0 HS1 HS2 HS3]
  · isplitr [Hrest]; swap; · iexact Hrest
    isplitl [HS0]; · iexists _; iexact HS0
    isplitl [HS1]; · iexists _; iexact HS1
    isplitl [HS2]; · iexists _; iexact HS2
    iexists _; iexact HS3
  isplitl [Howes]; · iexact Howes
  isplitl [H0]; · iexists _; isplitr; swap; (· iexact H0); ipureintro; rw [rev_after0]; exact hf0
  isplitl [H1]; · iexists _; isplitr; swap; (· iexact H1); ipureintro; rw [rev_after1]; exact hf1
  isplitl [H2]; · iexists _; isplitr; swap; (· iexact H2); ipureintro; rw [rev_after2]; exact hf2
  isplitl [H3]; · iexists _; isplitr; swap; (· iexact H3); ipureintro; rw [rev_after3]; exact hf3
  isplitl [H4]; · iexists _; isplitr; swap; (· iexact H4); ipureintro; rw [rev_after4]; exact hf4
  isplitl [H5]; · iexists _; isplitr; swap; (· iexact H5); ipureintro; rw [rev_after5]; exact hf5
  have e0 : (win1_0.stage (cfg1.slots t 0)).view.read (Elt F) f0 = revIn0 V c t := hf0
  have e1 : (win1_1.stage (cfg1.slots t 1)).view.read (Elt F) f1 = revIn1 V c t := hf1
  have e2 : (win1_2.stage (cfg1.slots t 2)).view.read (Elt F) f2 = revIn2 V c t := hf2
  have e3 : (win1_3.stage (cfg1.slots t 3)).view.read (Elt F) f3 = revIn3 V c t := hf3
  have e4 : (win1_4.stage (cfg1.slots t 4)).view.read (Elt F) f4 = revIn4 V c t := hf4
  have e5 : (win1_5.stage (cfg1.slots t 5)).view.read (Elt F) f5 = revIn5 V c t := hf5
  rw [e0, e1, e2, e3, e4, e5] at hg
  isplitl [H6]
  · iexists _; isplitr; swap; (· iexact H6); ipureintro; rw [rev_after6]; exact hg.1
  isplitl [H7]
  · iexists _; isplitr; swap; (· iexact H7); ipureintro; rw [rev_after7]; exact hg.2.1
  isplitl [H8]
  · iexists _; isplitr; swap; (· iexact H8); ipureintro; rw [rev_after8]; exact hg.2.2.1
  · iexists _; isplitr; swap; (· iexact H9); ipureintro; rw [rev_after9]; exact hg.2.2.2

end Cert.Scan

end
-- ==== Proof.Run.lean ====
/-
  The whole run of the kernel's program: the host code, the forward scan, the host code between, the reverse scan, the
  host code after it.  `run_main` says that every fair execution ends, that the six arguments are as they were, that no
  semaphore is left raised, and what the six results hold.
-/
module

public import proofs.«01_k».proof.Proof.RevRegion

@[expose] public section

set_option maxRecDepth 16384

noncomputable section

namespace Cert.Scan

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation Seg HostSeg RegionSeg)

variable {F : FTy → Type} [FloatOps F]
local notation "𝕄G" => MT nD τ sig Unit (Elt F) ℕ (UR sig nD τ) ℕ

variable (m : (ℓ : Loc nD τ sig) → Buf (Elt F) ℓ)

/-- What a core's buffers hold when the forward scan is entered. -/
abbrev atFwd : Contents (F := F) := fun c b => V1 m c b

/-- What the forward scan leaves in its two outputs (every other buffer as it was). -/
def fwdLeaves (c : Dev nD) : Valuation τ sig (Elt F) :=
  Function.update (Function.update (V1 m c) main_v7_0 ((fwdDat (atFwd m) c).arrAt 4 cfg0.N)) main_v7_1
    ((fwdDat (atFwd m) c).arrAt 5 cfg0.N)

/-- What a core's buffers hold when the reverse scan is entered. -/
abbrev atRev : Contents (F := F) := fun c b => V3 m (fun _ r c => fwdLeaves m c r) c b

/-- What the reverse scan leaves in its four outputs. -/
def revLeaves (c : Dev nD) : Valuation τ sig (Elt F) :=
  Function.update (Function.update (Function.update (Function.update (V3 m (fun _ r c => fwdLeaves m c r) c)
    main_v18_0 ((revDat (atRev m) c).arrAt 6 cfg1.N)) main_v18_1 ((revDat (atRev m) c).arrAt 7 cfg1.N))
    main_v18_2 ((revDat (atRev m) c).arrAt 8 cfg1.N)) main_v18_3 ((revDat (atRev m) c).arrAt 9 cfg1.N)

/-- What the two scans leave. -/
def leaves : Outs (F := F) := fun J r c => if J = 2 then fwdLeaves m c r else revLeaves m c r

theorem leaves_v7_0 (c : Dev nD) : leaves m 2 main_v7_0 c = (fwdDat (atFwd m) c).arrAt 4 cfg0.N := by
  rw [leaves, if_pos rfl, fwdLeaves, Function.update_of_ne (by decide), Function.update_self]
theorem leaves_v7_1 (c : Dev nD) : leaves m 2 main_v7_1 c = (fwdDat (atFwd m) c).arrAt 5 cfg0.N := by
  rw [leaves, if_pos rfl, fwdLeaves, Function.update_self]

/-- The contents the reverse scan is entered from do not depend on what it leaves. -/
theorem V3_leaves : V3 m (leaves m) = V3 m (fun _ r c => fwdLeaves m c r) := by
  funext c
  show StableHlo.after hostOps1 (V2 m (leaves m) c) = StableHlo.after hostOps1 (V2 m (fun _ r c => fwdLeaves m c r) c)
  simp only [V2, leaves, if_pos]

theorem leaves_v18_0 (c : Dev nD) : leaves m 4 main_v18_0 c = (revDat (atRev m) c).arrAt 6 cfg1.N := by
  rw [leaves, if_neg (by decide), revLeaves, Function.update_of_ne (by decide), Function.update_of_ne (by decide),
    Function.update_of_ne (by decide), Function.update_self]
theorem leaves_v18_1 (c : Dev nD) : leaves m 4 main_v18_1 c = (revDat (atRev m) c).arrAt 7 cfg1.N := by
  rw [leaves, if_neg (by decide), revLeaves, Function.update_of_ne (by decide), Function.update_of_ne (by decide),
    Function.update_self]
theorem leaves_v18_2 (c : Dev nD) : leaves m 4 main_v18_2 c = (revDat (atRev m) c).arrAt 8 cfg1.N := by
  rw [leaves, if_neg (by decide), revLeaves, Function.update_of_ne (by decide), Function.update_self]
theorem leaves_v18_3 (c : Dev nD) : leaves m 4 main_v18_3 c = (revDat (atRev m) c).arrAt 9 cfg1.N := by
  rw [leaves, if_neg (by decide), revLeaves, Function.update_self]

/-- The two scans' proof data, the reverse one's over what the forward scan left. -/
def pdats : (p : Fin 2) → (c : Dev nD) → Dat τ (Elt F) Unit ℕ (UR sig nD τ) ℕ (cfgs p) c
  | ⟨0, _⟩ => fun c => fwdDat (atFwd m) c
  | ⟨1, _⟩ => fun c => revDat (atRev m) c

/-- No core owes another anything: no level is assigned. -/
abbrev noLevels : GSem nD τ sig → Finset Unit := fun _ => ∅
/-- The level of a debt, of which there is none. -/
abbrev noLevel : GSem nD τ sig → Unit → ℕ := fun _ _ => 0

/-- What a core owes: nothing. -/
abbrev owesNone (c : Dev nD) : sProp 𝕄G := iprop(∃ W, owes (c : Thread nD τ) (0 : CellTallies nD τ sig Unit) W)

/-- The forward scan entered at `V1` leaves `V2`. -/
theorem fwd_exit (c : Dev nD) (w : Fin cfg0.W) :
    (fwdDat (atFwd m) c).arrAt w cfg0.N = V2 m (leaves m) c (Pipeline.arrRef spec0 w) := by
  fin_cases w
  · exact ((fwdDat (atFwd m) c).arrAt_in 0 rfl _).trans (V2_of m (leaves m) c main_v6 (by decide)).symm
  · exact ((fwdDat (atFwd m) c).arrAt_in 1 rfl _).trans (V2_of m (leaves m) c main_v6 (by decide)).symm
  · exact ((fwdDat (atFwd m) c).arrAt_in 2 rfl _).trans (V2_of m (leaves m) c main_v0 (by decide)).symm
  · exact ((fwdDat (atFwd m) c).arrAt_in 3 rfl _).trans (V2_of m (leaves m) c main_v0 (by decide)).symm
  · show (fwdDat (atFwd m) c).arrAt 4 cfg0.N = V2 m (leaves m) c main_v7_0
    rw [V2, Function.update_of_ne (by decide), Function.update_self, leaves_v7_0]
  · show (fwdDat (atFwd m) c).arrAt 5 cfg0.N = V2 m (leaves m) c main_v7_1
    rw [V2, Function.update_self, leaves_v7_1]

theorem V4_v18_0 (outs : Outs (F := F)) (c : Dev nD) : V4 m outs c main_v18_0 = outs 4 main_v18_0 c :=
  (Function.update_of_ne (by decide) _ _).trans ((Function.update_of_ne (by decide) _ _).trans
    ((Function.update_of_ne (by decide) _ _).trans (Function.update_self _ _ _)))
theorem V4_v18_1 (outs : Outs (F := F)) (c : Dev nD) : V4 m outs c main_v18_1 = outs 4 main_v18_1 c :=
  (Function.update_of_ne (by decide) _ _).trans ((Function.update_of_ne (by decide) _ _).trans (Function.update_self _ _ _))
theorem V4_v18_2 (outs : Outs (F := F)) (c : Dev nD) : V4 m outs c main_v18_2 = outs 4 main_v18_2 c :=
  (Function.update_of_ne (by decide) _ _).trans (Function.update_self _ _ _)
theorem V4_v18_3 (outs : Outs (F := F)) (c : Dev nD) : V4 m outs c main_v18_3 = outs 4 main_v18_3 c :=
  Function.update_self _ _ _

/-- A buffer the reverse scan does not write, across it. -/
theorem V4_other (c : Dev nD) (r : Ref sig .tc) (h : r ∉ ([main_v18_0, main_v18_1, main_v18_2, main_v18_3] : List (Ref sig .tc))) :
    atRev m c r = V4 m (leaves m) c r := by
  rw [V4_of m (leaves m) c r h, V3_leaves]

set_option maxHeartbeats 1000000 in
/-- The reverse scan entered at `V3` leaves `V4`. -/
theorem rev_exit (c : Dev nD) (w : Fin cfg1.W) :
    (revDat (atRev m) c).arrAt w cfg1.N = V4 m (leaves m) c (Pipeline.arrRef spec1 w) := by
  fin_cases w
  · exact ((revDat (atRev m) c).arrAt_in 0 rfl _).trans (V4_other m c main_v13 (by decide))
  · exact ((revDat (atRev m) c).arrAt_in 1 rfl _).trans (V4_other m c main_v13 (by decide))
  · exact ((revDat (atRev m) c).arrAt_in 2 rfl _).trans (V4_other m c main_v17 (by decide))
  · exact ((revDat (atRev m) c).arrAt_in 3 rfl _).trans (V4_other m c main_v17 (by decide))
  · exact ((revDat (atRev m) c).arrAt_in 4 rfl _).trans (V4_other m c main_v7_0 (by decide))
  · exact ((revDat (atRev m) c).arrAt_in 5 rfl _).trans (V4_other m c main_v7_1 (by decide))
  · exact (leaves_v18_0 m c).symm.trans (V4_v18_0 m (leaves m) c).symm
  · exact (leaves_v18_1 m c).symm.trans (V4_v18_1 m (leaves m) c).symm
  · exact (leaves_v18_2 m c).symm.trans (V4_v18_2 m (leaves m) c).symm
  · exact (leaves_v18_3 m c).symm.trans (V4_v18_3 m (leaves m) c).symm

set_option backward.isDefEq.respectTransparency.types false in
/-- The forward scan as a segment of the run. -/
def fwdSeg : RegionSeg (pcfgs (F := F)) adm (pdats m) () defs₀ Variants.none noLevels noLevel 0 where
  win := (launch₀0).win
  block_pos := (launch₀0).block_pos
  stage_whole := (launch₀0).stage_whole
  K := PEmpty
  osem k := k.elim
  ho := Pipeline.OwnSemFacts.none _
  hbody c := (fwd_obligation (atFwd m) c).loose
  hwaits := Pipeline.hwaits_of_owed_zero _ _ _ _ noLevels noLevel 0 fun _ _ => rfl
  pre c := iprop(StableHlo.held (c : Thread nD τ) (Pipeline.ucRefs τ sig) (V1 m c) ∗ owesNone c)
  post c := iprop(StableHlo.held (c : Thread nD τ) (Pipeline.ucRefs τ sig) (V2 m (leaves m) c) ∗ owesNone c)
  X _ := BI.emp
  Y _ := BI.emp
  Z c := Pipeline.unscopedRest (Ix := Unit) (Name := ℕ) (U := UR sig nD τ) (Lvl := ℕ) spec0 c (atFwd m c)
  hentry c := by
    rw [Pipeline.ownSems0_none, ← Pipeline.unscopedBufs_held]
    have hsplit := Pipeline.arrays_of_unscopedBufs_shared (p := 0) (pcfgs (F := F)) adm (pdats m) (launch₀0).win
      (launch₀0).sharedIn (launch₀0).arr_whole c (fun _ _ => rfl) (atFwd m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest spec0 c from rfl]
    iintro ⟨-, -, Hr⟩; iexact Hr
  hout c := by
    rw [Pipeline.ownSems0_none, show (pdats m 0 c).Φ (Fin.last _) = Pipeline.scopedRest spec0 c from rfl]
    iintro Hr
    isplitr; · iempintro
    isplitr; · iempintro
    iexact Hr
  hexit c := by
    rw [← Pipeline.unscopedBufs_held]
    have hjoin := Pipeline.unscopedBufs_of_arrays_shared (p := 0) (pcfgs (F := F)) adm (Ix := Unit) (Name := ℕ)
      (U := UR sig nD τ) (Lvl := ℕ) (launch₀0).win (launch₀0).sharedIn (launch₀0).arr_whole c (pdats m) (fun _ _ => rfl)
      (atFwd m c) (fun b => V2 m (leaves m) c b) ((pdats m 0 c).arrAt · cfg0.N) (fwd_exit m c)
      (fun b hb => V2_of m (leaves m) c b fun h => hb (by
        rcases List.mem_cons.mp h with h | h
        · exact h ▸ Finset.mem_image.mpr ⟨4, Finset.mem_univ _, rfl⟩
        · exact (List.mem_singleton.mp h) ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- The reverse scan as a segment of the run. -/
def revSeg : RegionSeg (pcfgs (F := F)) adm (pdats m) () defs₀ Variants.none noLevels noLevel 1 where
  win := (launch₀1).win
  block_pos := (launch₀1).block_pos
  stage_whole := (launch₀1).stage_whole
  K := PEmpty
  osem k := k.elim
  ho := Pipeline.OwnSemFacts.none _
  hbody c := (rev_obligation (atRev m) c).loose
  hwaits := Pipeline.hwaits_of_owed_zero _ _ _ _ noLevels noLevel 1 fun _ _ => rfl
  pre c := iprop(StableHlo.held (c : Thread nD τ) (Pipeline.ucRefs τ sig) (V3 m (leaves m) c) ∗ owesNone c)
  post c := iprop(StableHlo.held (c : Thread nD τ) (Pipeline.ucRefs τ sig) (V4 m (leaves m) c) ∗ owesNone c)
  X _ := BI.emp
  Y _ := BI.emp
  Z c := Pipeline.unscopedRest (Ix := Unit) (Name := ℕ) (U := UR sig nD τ) (Lvl := ℕ) spec1 c (atRev m c)
  hentry c := by
    rw [Pipeline.ownSems0_none, ← Pipeline.unscopedBufs_held, V3_leaves]
    have hsplit := Pipeline.arrays_of_unscopedBufs_shared (p := 1) (pcfgs (F := F)) adm (pdats m) (launch₀1).win
      (launch₀1).sharedIn (launch₀1).arr_whole c (fun _ _ => rfl) (atRev m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest spec1 c from rfl]
    iintro ⟨-, -, Hr⟩; iexact Hr
  hout c := by
    rw [Pipeline.ownSems0_none, show (pdats m 1 c).Φ (Fin.last _) = Pipeline.scopedRest spec1 c from rfl]
    iintro Hr
    isplitr; · iempintro
    isplitr; · iempintro
    iexact Hr
  hexit c := by
    rw [← Pipeline.unscopedBufs_held]
    have hjoin := Pipeline.unscopedBufs_of_arrays_shared (p := 1) (pcfgs (F := F)) adm (Ix := Unit) (Name := ℕ)
      (U := UR sig nD τ) (Lvl := ℕ) (launch₀1).win (launch₀1).sharedIn (launch₀1).arr_whole c (pdats m) (fun _ _ => rfl)
      (atRev m c) (fun b => V4 m (leaves m) c b) ((pdats m 1 c).arrAt · cfg1.N) (rev_exit m c)
      (fun b hb => (V4_of m (leaves m) c b fun h => hb (by
        simp only [List.mem_cons, List.not_mem_nil, or_false] at h
        rcases h with h | h | h | h
        · exact h ▸ Finset.mem_image.mpr ⟨6, Finset.mem_univ _, rfl⟩
        · exact h ▸ Finset.mem_image.mpr ⟨7, Finset.mem_univ _, rfl⟩
        · exact h ▸ Finset.mem_image.mpr ⟨8, Finset.mem_univ _, rfl⟩
        · exact h ▸ Finset.mem_image.mpr ⟨9, Finset.mem_univ _, rfl⟩)).trans (by rw [V3_leaves]))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- What the program's results and arguments hold at its end. -/
def Ends (c : Dev nD) (s : MemSt nD τ sig (Elt F)) : Prop :=
  (∀ b : Ref sig .tc, b.isScoped = false → s.mem ((c.tc : Thread nD τ).loc b) = V5 m (leaves m) c b)

set_option backward.isDefEq.respectTransparency.types false in
/-- Every fair execution of the program from memory `m` ends, with every buffer outside the scans at its last contents
    and every semaphore at zero. -/
theorem run_all (ρ : Dev nD → PrngReg) :
    θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) () cellOf_inj
    (emb₁ : Emb (UR sig nD τ) 𝕄G) defs₀ Variants.none noLevels noLevel m ρ main
    (segs m (leaves m) Variants.none noLevels noLevel (fun _ => owesNone) () (pdats m) (fwdSeg m) (revSeg m))
    (fun c Q => by
      rewrite [main_chain c, Seg.run_eq_chain,
        show (segs m (leaves m) Variants.none noLevels noLevel (fun _ => owesNone) () (pdats m) (fwdSeg m) (revSeg m) c).map Seg.prog = [
          StableHlo.seq hostOps0,
          Prog.lift (.customCall (Pipeline.entry 0) ()),
          StableHlo.seq hostOps1,
          Prog.lift (.customCall (Pipeline.entry 1) ()),
          StableHlo.seq hostOps2 ] from rfl]
      exact .rfl)
    (fun c => by simp only [segs, Seg.pipes_host, Seg.pipes_region, Seg.pipes_nil]; decide) 0 (fun _ _ => rfl)
    (fun _ => BI.emp) (initOf (Pipeline.cells cfgs cellOf_inj) (Pipeline.launchToks cfgs cellOf_inj)) ?_
    (T₀ := fun c => iprop(StableHlo.held (c : Thread nD τ) (Pipeline.ucRefs τ sig) (V0 m c) ∗ owesNone c))
    (Tₙ := fun c => StableHlo.held (c : Thread nD τ) (Pipeline.ucRefs τ sig) (V5 m (leaves m) c))
    (hch := fun c => ⟨.rfl, .rfl, .rfl, .rfl, .rfl, .rfl⟩)
    (hinit := ?_) (QY := fun c s => Ends m c s)
    (hfin := fun c s' => ?_) (hQ := fun _ h hz => ⟨h, funext fun g => hz g (.inr (regions_no_unscoped g.2))⟩)
  · iintro Hu; imodintro
    isplitl [Hu]
    · iapply (show (ownU _ : sProp 𝕄G) ⊢ BI.own (emb₁ (initOf (Pipeline.cells cfgs cellOf_inj)
        (Pipeline.launchToks cfgs cellOf_inj))) from .rfl)
      iexact Hu
    iapply (show (BI.emp : sProp 𝕄G) ⊢ bigSep Finset.univ (fun _ : Dev nD => (BI.emp : sProp 𝕄G)) from by
      rw [BI.bigSep_emp_const])
    iempintro
  · refine Pipeline.initEach noLevels noLevel fun c => ?_
    rw [← Pipeline.unscopedBufs_held (Ix := Unit) (Name := ℕ) (U := UR sig nD τ) (Lvl := ℕ) c (V0 m c)]
    iintro ⟨⟨Hb, -, Ho, -, -, -⟩, -⟩
    imodintro
    isplitl [Hb]; · iexact Hb
    iexists _; iexact Ho
  · unfold StableHlo.held
    iintro ⟨Hh, HSI⟩
    ihave Hr := (pointsTo_read_all (Pipeline.ucRefs τ sig) (fun b => ((c : Thread nD τ).1, b)) (V5 m (leaves m) c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, by simpa using hb⟩)
    · iexact HSI

/-- Every fair execution of the program ends, with its arguments as they were, its results at their last contents and
    every semaphore at zero. -/
theorem run_main (ρ : Dev nD → PrngReg) :
    θ_run defs (onTc (τ := τ) (main (F := F))) ⟨m, fun _ => 0, ρ⟩ (fun r => (∀ c : Dev nD,
      (r.2.mem ((c.tc : Thread nD τ).loc main_v23) = V5 m (leaves m) c main_v23
      ∧ r.2.mem ((c.tc : Thread nD τ).loc main_v28) = V5 m (leaves m) c main_v28
      ∧ r.2.mem ((c.tc : Thread nD τ).loc main_v33) = V5 m (leaves m) c main_v33
      ∧ r.2.mem ((c.tc : Thread nD τ).loc main_v38) = V5 m (leaves m) c main_v38
      ∧ r.2.mem ((c.tc : Thread nD τ).loc main_v39) = V5 m (leaves m) c main_v39
      ∧ r.2.mem ((c.tc : Thread nD τ).loc main_v40) = V5 m (leaves m) c main_v40)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨⟨h.1 c main_v23 rfl, h.1 c main_v28 rfl, h.1 c main_v33 rfl, h.1 c main_v38 rfl, h.1 c main_v39 rfl, h.1 c main_v40 rfl⟩,
    (h.1 c main_arg0 rfl).trans (V5_main_arg0 m (leaves m) c),
    (h.1 c main_arg1 rfl).trans (V5_main_arg1 m (leaves m) c),
    (h.1 c main_arg2 rfl).trans (V5_main_arg2 m (leaves m) c),
    (h.1 c main_arg3 rfl).trans (V5_main_arg3 m (leaves m) c),
    (h.1 c main_arg4 rfl).trans (V5_main_arg4 m (leaves m) c),
    (h.1 c main_arg5 rfl).trans (V5_main_arg5 m (leaves m) c)⟩, h.2⟩) (run_all m ρ)

end Cert.Scan

end
-- ==== Proof.RefOps.lean ====
/-
  The plain recurrence's program as lists of operations. Its main function is a line of operations, a counted loop that
  runs the recurrence forward over the 4096 rows, a second line, and a second counted loop that runs the adjoint
  recurrence over the rows from the last to the first. The functions the loops' bodies call (read one row of an array,
  write one row of it) are written out here in place, and the program equals the lines and loops so spelt.
-/
module

public import proofs.«01_k».proof.ReferenceIdeal
public import proofs.«01_k».proof.Proof.Gen.ReferenceIdeal
public import Idealize.ShloMosaic.Lib.StableHlo.RunLoop
public import Idealize.ShloMosaic.Lib.StableHlo.RunRead
public import Idealize.ShloMosaic.Lib.Tactic

@[expose] public section

noncomputable section

namespace Cert.RefScan

open Cert.ReferenceIdeal Cert.ReferenceIdeal.Gen
open Idealize.ShloMosaic Idealize.ShloMosaic.TcCoe Idealize.ShloMosaic.StableHlo
open Idealize.SL.Sem

variable {F : FTy → Type} [FloatOps F]

/-- A row of 2048 numbers. -/
abbrev Row (F : FTy → Type) : Type := (⟨S2048, .f32⟩ : BufTy).Contents (Elt F)
/-- A row of 2048 numbers, as an array of one row. -/
abbrev Row1 (F : FTy → Type) : Type := (⟨S1x2048, .f32⟩ : BufTy).Contents (Elt F)
/-- An array of 4096 rows. -/
abbrev Rows (F : FTy → Type) : Type := (⟨S4096x2048, .f32⟩ : BufTy).Contents (Elt F)
/-- One number. -/
abbrev One (F : FTy → Type) : Type := (⟨S_, .f32⟩ : BufTy).Contents (Elt F)
/-- One 32-bit word. -/
abbrev Word (F : FTy → Type) : Type := (⟨S_, .i32⟩ : BufTy).Contents (Elt F)

/-- One number at every place of a row. -/
def splatS2048 : One F → Row F := broadcastInDim S2048 ![] bcast_S_S2048
/-- One number at every place of an array of one row. -/
def splatS1x2048 : One F → Row1 F := broadcastInDim S1x2048 ![] bcast_S_S1x2048
/-- One number at every place of an array of 4096 rows. -/
def splatS4096x2048 : One F → Rows F := broadcastInDim S4096x2048 ![] bcast_S_S4096x2048
/-- A row as an array of one row. -/
def rowOf : Row F → Row1 F := broadcastInDim S1x2048 ![1] bcast_S2048_S1x2048_1
/-- The row of an array at which two index words point. -/
def sliceRow : Rows F → (Fin 2 → Word F) → Row1 F := fun x i =>
  Host.dynamicSlice S1x2048 x (fun k => (i k (Shape.Idx.first h_S_)).toInt) sliceFits_S4096x2048_S1x2048
/-- An array with the row at which two index words point replaced. -/
def updateRow : Rows F → Row1 F → (Fin 2 → Word F) → Rows F := fun x u i =>
  Host.dynamicUpdateSlice x u (fun k => (i k (Shape.Idx.first h_S_)).toInt) updateFits_S4096x2048_S1x2048
/-- Words added, subtracted and compared. -/
def addI : Word F → Word F → Word F := addi (s := S_) (w := 32)
@[inherit_doc addI]
def subI : Word F → Word F → Word F := subi (s := S_) (w := 32)
@[inherit_doc addI]
def lessI : Word F → Word F → (⟨S_, .i1⟩ : BufTy).Contents (Elt F) := cmpi (s := S_) (w := 32) .slt

set_option maxRecDepth 16384

/-- The operations before the first loop: the zero arrays, the four copies of the multiplier's row, and the first
    loop's carried values. -/
abbrev preOps : List (HloOp τ sig (Elt F)) :=
  [nullary main_cst (constant S_ .f32 0x00000000#32),
   unary main_cst main_v0 splatS2048,
   reshape main_arg2 main_v1 (rfl : (.f32 : EltTy) = .f32) shapeCasts_S1x2048_S2048,
   reshape main_arg3 main_v2 (rfl : (.f32 : EltTy) = .f32) shapeCasts_S1x2048_S2048,
   reshape main_arg2 main_v3 (rfl : (.f32 : EltTy) = .f32) shapeCasts_S1x2048_S2048,
   reshape main_arg3 main_v4 (rfl : (.f32 : EltTy) = .f32) shapeCasts_S1x2048_S2048,
   nullary main_cst_0 (constant S_ .f32 0x00000000#32),
   unary main_cst_0 main_v5 splatS4096x2048,
   nullary main_cst_1 (constant S_ .f32 0x00000000#32),
   unary main_cst_1 main_v6 splatS4096x2048,
   nullary main_cst_2 (constant S_ .f32 0x00000000#32),
   unary main_cst_2 main_v7 splatS4096x2048,
   nullary main_cst_3 (constant S_ .f32 0x00000000#32),
   unary main_cst_3 main_v8 splatS4096x2048,
   nullary main_c (constantI S_ 32 0#32),
   unary main_arg0 main_v9_0 id,
   unary main_arg1 main_v9_1 id,
   unary main_v1 main_v9_2 id,
   unary main_v2 main_v9_3 id,
   unary main_v3 main_v9_4 id,
   unary main_v4 main_v9_5 id,
   unary main_c main_v9_6 id,
   unary main_v0 main_v9_7 id,
   unary main_v0 main_v9_8 id,
   unary main_v5 main_v9_9 id,
   unary main_v6 main_v9_10 id,
   unary main_v7 main_v9_11 id,
   unary main_v8 main_v9_12 id]

/-- The operations between the loops: zero arrays and the second loop's carried values. -/
abbrev midOps : List (HloOp τ sig (Elt F)) :=
  [nullary main_cst_4 (constant S_ .f32 0x00000000#32),
   unary main_cst_4 main_v10 splatS2048,
   nullary main_cst_5 (constant S_ .f32 0x00000000#32),
   unary main_cst_5 main_v11 splatS2048,
   nullary main_cst_6 (constant S_ .f32 0x00000000#32),
   unary main_cst_6 main_v12 splatS2048,
   nullary main_cst_7 (constant S_ .f32 0x00000000#32),
   unary main_cst_7 main_v13 splatS2048,
   nullary main_cst_8 (constant S_ .f32 0x00000000#32),
   unary main_cst_8 main_v14 splatS1x2048,
   nullary main_cst_9 (constant S_ .f32 0x00000000#32),
   unary main_cst_9 main_v15 splatS1x2048,
   nullary main_cst_10 (constant S_ .f32 0x00000000#32),
   unary main_cst_10 main_v16 splatS4096x2048,
   nullary main_cst_11 (constant S_ .f32 0x00000000#32),
   unary main_cst_11 main_v17 splatS4096x2048,
   nullary main_c_12 (constantI S_ 32 0#32),
   unary main_arg4 main_v18_0 id,
   unary main_arg5 main_v18_1 id,
   unary main_v9_11 main_v18_2 id,
   unary main_v9_12 main_v18_3 id,
   unary main_v1 main_v18_4 id,
   unary main_v2 main_v18_5 id,
   unary main_v3 main_v18_6 id,
   unary main_v4 main_v18_7 id,
   unary main_c_12 main_v18_8 id,
   unary main_v14 main_v18_9 id,
   unary main_v15 main_v18_10 id,
   unary main_v12 main_v18_11 id,
   unary main_v13 main_v18_12 id,
   unary main_v16 main_v18_13 id,
   unary main_v17 main_v18_14 id]

/-- The loop's condition: the counter is below 4096. -/
abbrev condOps0 : List (HloOp τ sig (Elt F)) :=
  [nullary main_while0c_c_25 (constantI S_ 32 4096#32),
   binary main_v9_6 main_while0c_c_25 main_while0c_v19 lessI]

/-- One trip of the first loop, whole: two input rows are read, the state is stepped, and four rows are written. -/
abbrev bodyOps0 : List (HloOp τ sig (Elt F)) :=
  [nullary main_while0b_call0_c (constantI S_ 32 0#32),
   TRef.unaryIndexed (.of main_v9_0) ![.of main_v9_6, .of main_while0b_call0_c] (.of main_while0b_call0_v0) sliceRow,
   reshape main_while0b_call0_v0 main_while0b_v19 (rfl : (.f32 : EltTy) = .f32) shapeCasts_S1x2048_S2048,
   nullary main_while0b_call1_c (constantI S_ 32 0#32),
   TRef.unaryIndexed (.of main_v9_1) ![.of main_v9_6, .of main_while0b_call1_c] (.of main_while0b_call1_v0) sliceRow,
   reshape main_while0b_call1_v0 main_while0b_v20 (rfl : (.f32 : EltTy) = .f32) shapeCasts_S1x2048_S2048,
   binary main_v9_2 main_v9_7 main_while0b_v21 (mulf (F := F) (s := S2048) (φ := .f32)),
   binary main_v9_3 main_v9_8 main_while0b_v22 (mulf (F := F) (s := S2048) (φ := .f32)),
   binary main_while0b_v21 main_while0b_v22 main_while0b_v23 (subf (F := F) (s := S2048) (φ := .f32)),
   binary main_while0b_v23 main_while0b_v19 main_while0b_v24 (addf (F := F) (s := S2048) (φ := .f32)),
   binary main_v9_4 main_v9_8 main_while0b_v25 (mulf (F := F) (s := S2048) (φ := .f32)),
   binary main_v9_5 main_v9_7 main_while0b_v26 (mulf (F := F) (s := S2048) (φ := .f32)),
   binary main_while0b_v25 main_while0b_v26 main_while0b_v27 (addf (F := F) (s := S2048) (φ := .f32)),
   binary main_while0b_v27 main_while0b_v20 main_while0b_v28 (addf (F := F) (s := S2048) (φ := .f32)),
   unary main_while0b_v24 main_while0b_call2_v0 rowOf,
   nullary main_while0b_call2_c (constantI S_ 32 0#32),
   TRef.binaryIndexed (.of main_v9_9) (.of main_while0b_call2_v0) ![.of main_v9_6, .of main_while0b_call2_c] (.of main_while0b_v29) updateRow,
   unary main_while0b_v28 main_while0b_call3_v0 rowOf,
   nullary main_while0b_call3_c (constantI S_ 32 0#32),
   TRef.binaryIndexed (.of main_v9_10) (.of main_while0b_call3_v0) ![.of main_v9_6, .of main_while0b_call3_c] (.of main_while0b_v30) updateRow,
   unary main_v9_7 main_while0b_call4_v0 rowOf,
   nullary main_while0b_call4_c (constantI S_ 32 0#32),
   TRef.binaryIndexed (.of main_v9_11) (.of main_while0b_call4_v0) ![.of main_v9_6, .of main_while0b_call4_c] (.of main_while0b_v31) updateRow,
   unary main_v9_8 main_while0b_call5_v0 rowOf,
   nullary main_while0b_call5_c (constantI S_ 32 0#32),
   TRef.binaryIndexed (.of main_v9_12) (.of main_while0b_call5_v0) ![.of main_v9_6, .of main_while0b_call5_c] (.of main_while0b_v32) updateRow,
   nullary main_while0b_c_25 (constantI S_ 32 1#32),
   binary main_v9_6 main_while0b_c_25 main_while0b_v33 addI,
   unary main_while0b_v33 main_v9_6 id,
   unary main_while0b_v24 main_v9_7 id,
   unary main_while0b_v28 main_v9_8 id,
   unary main_while0b_v29 main_v9_9 id,
   unary main_while0b_v30 main_v9_10 id,
   unary main_while0b_v31 main_v9_11 id,
   unary main_while0b_v32 main_v9_12 id]

/-- A stretch of the trip: the operations of one called function. -/
abbrev trip0_0 : List (HloOp τ sig (Elt F)) :=
  [nullary main_while0b_call0_c (constantI S_ 32 0#32),
   TRef.unaryIndexed (.of main_v9_0) ![.of main_v9_6, .of main_while0b_call0_c] (.of main_while0b_call0_v0) sliceRow,
   reshape main_while0b_call0_v0 main_while0b_v19 (rfl : (.f32 : EltTy) = .f32) shapeCasts_S1x2048_S2048]

theorem trip0_0_eq : fn_dynamic_index_in_dim.body (F := F) (.of main_v9_0) (.of main_v9_6) main_while0b_call0 = (seq trip0_0 : Prog _ PUnit) := by
  chain_rfl

/-- A stretch of the trip: the operations of one called function. -/
abbrev trip0_1 : List (HloOp τ sig (Elt F)) :=
  [nullary main_while0b_call1_c (constantI S_ 32 0#32),
   TRef.unaryIndexed (.of main_v9_1) ![.of main_v9_6, .of main_while0b_call1_c] (.of main_while0b_call1_v0) sliceRow,
   reshape main_while0b_call1_v0 main_while0b_v20 (rfl : (.f32 : EltTy) = .f32) shapeCasts_S1x2048_S2048]

theorem trip0_1_eq : fn_dynamic_index_in_dim.body (F := F) (.of main_v9_1) (.of main_v9_6) main_while0b_call1 = (seq trip0_1 : Prog _ PUnit) := by
  chain_rfl

/-- A stretch of the trip: operations of the loop's own. -/
abbrev trip0_2 : List (HloOp τ sig (Elt F)) :=
  [binary main_v9_2 main_v9_7 main_while0b_v21 (mulf (F := F) (s := S2048) (φ := .f32)),
   binary main_v9_3 main_v9_8 main_while0b_v22 (mulf (F := F) (s := S2048) (φ := .f32)),
   binary main_while0b_v21 main_while0b_v22 main_while0b_v23 (subf (F := F) (s := S2048) (φ := .f32)),
   binary main_while0b_v23 main_while0b_v19 main_while0b_v24 (addf (F := F) (s := S2048) (φ := .f32)),
   binary main_v9_4 main_v9_8 main_while0b_v25 (mulf (F := F) (s := S2048) (φ := .f32)),
   binary main_v9_5 main_v9_7 main_while0b_v26 (mulf (F := F) (s := S2048) (φ := .f32)),
   binary main_while0b_v25 main_while0b_v26 main_while0b_v27 (addf (F := F) (s := S2048) (φ := .f32)),
   binary main_while0b_v27 main_while0b_v20 main_while0b_v28 (addf (F := F) (s := S2048) (φ := .f32))]

/-- A stretch of the trip: the operations of one called function. -/
abbrev trip0_3 : List (HloOp τ sig (Elt F)) :=
  [unary main_while0b_v24 main_while0b_call2_v0 rowOf,
   nullary main_while0b_call2_c (constantI S_ 32 0#32),
   TRef.binaryIndexed (.of main_v9_9) (.of main_while0b_call2_v0) ![.of main_v9_6, .of main_while0b_call2_c] (.of main_while0b_v29) updateRow]

theorem trip0_3_eq : fn_dynamic_update_index_in_dim.body (F := F) (.of main_v9_9) (.of main_while0b_v24) (.of main_v9_6) main_while0b_call2 = (seq trip0_3 : Prog _ PUnit) := by
  chain_rfl

/-- A stretch of the trip: the operations of one called function. -/
abbrev trip0_4 : List (HloOp τ sig (Elt F)) :=
  [unary main_while0b_v28 main_while0b_call3_v0 rowOf,
   nullary main_while0b_call3_c (constantI S_ 32 0#32),
   TRef.binaryIndexed (.of main_v9_10) (.of main_while0b_call3_v0) ![.of main_v9_6, .of main_while0b_call3_c] (.of main_while0b_v30) updateRow]

theorem trip0_4_eq : fn_dynamic_update_index_in_dim.body (F := F) (.of main_v9_10) (.of main_while0b_v28) (.of main_v9_6) main_while0b_call3 = (seq trip0_4 : Prog _ PUnit) := by
  chain_rfl

/-- A stretch of the trip: the operations of one called function. -/
abbrev trip0_5 : List (HloOp τ sig (Elt F)) :=
  [unary main_v9_7 main_while0b_call4_v0 rowOf,
   nullary main_while0b_call4_c (constantI S_ 32 0#32),
   TRef.binaryIndexed (.of main_v9_11) (.of main_while0b_call4_v0) ![.of main_v9_6, .of main_while0b_call4_c] (.of main_while0b_v31) updateRow]

theorem trip0_5_eq : fn_dynamic_update_index_in_dim.body (F := F) (.of main_v9_11) (.of main_v9_7) (.of main_v9_6) main_while0b_call4 = (seq trip0_5 : Prog _ PUnit) := by
  chain_rfl

/-- A stretch of the trip: the operations of one called function. -/
abbrev trip0_6 : List (HloOp τ sig (Elt F)) :=
  [unary main_v9_8 main_while0b_call5_v0 rowOf,
   nullary main_while0b_call5_c (constantI S_ 32 0#32),
   TRef.binaryIndexed (.of main_v9_12) (.of main_while0b_call5_v0) ![.of main_v9_6, .of main_while0b_call5_c] (.of main_while0b_v32) updateRow]

theorem trip0_6_eq : fn_dynamic_update_index_in_dim.body (F := F) (.of main_v9_12) (.of main_v9_8) (.of main_v9_6) main_while0b_call5 = (seq trip0_6 : Prog _ PUnit) := by
  chain_rfl

/-- A stretch of the trip: operations of the loop's own. -/
abbrev trip0_7 : List (HloOp τ sig (Elt F)) :=
  [nullary main_while0b_c_25 (constantI S_ 32 1#32),
   binary main_v9_6 main_while0b_c_25 main_while0b_v33 addI,
   unary main_while0b_v33 main_v9_6 id,
   unary main_while0b_v24 main_v9_7 id,
   unary main_while0b_v28 main_v9_8 id,
   unary main_while0b_v29 main_v9_9 id,
   unary main_while0b_v30 main_v9_10 id,
   unary main_while0b_v31 main_v9_11 id,
   unary main_while0b_v32 main_v9_12 id]

/-- The stretches of the loop's trip, in order. -/
abbrev trips0 : List (List (HloOp τ sig (Elt F))) :=
  [trip0_0, trip0_1, trip0_2, trip0_3, trip0_4, trip0_5, trip0_6, trip0_7]

theorem trips0_flatten : (trips0 (F := F)).flatten = bodyOps0 := rfl

theorem body0_chain : main_while0_body (F := F)
    = Pipeline.chain [fn_dynamic_index_in_dim.body (.of main_v9_0) (.of main_v9_6) main_while0b_call0,
      fn_dynamic_index_in_dim.body (.of main_v9_1) (.of main_v9_6) main_while0b_call1,
      seq trip0_2,
      fn_dynamic_update_index_in_dim.body (.of main_v9_9) (.of main_while0b_v24) (.of main_v9_6) main_while0b_call2,
      fn_dynamic_update_index_in_dim.body (.of main_v9_10) (.of main_while0b_v28) (.of main_v9_6) main_while0b_call3,
      fn_dynamic_update_index_in_dim.body (.of main_v9_11) (.of main_v9_7) (.of main_v9_6) main_while0b_call4,
      fn_dynamic_update_index_in_dim.body (.of main_v9_12) (.of main_v9_8) (.of main_v9_6) main_while0b_call5,
      seq trip0_7] := by
  chain_rfl

theorem body0_eq : main_while0_body (F := F) = Pipeline.chain (trips0.map fun ops => (seq ops : Prog _ PUnit)) := by
  rw [body0_chain, trip0_0_eq, trip0_1_eq, trip0_3_eq, trip0_4_eq, trip0_5_eq, trip0_6_eq]
  rfl

theorem trips0_plain : Plain (trips0 (F := F)) :=
  .cons (by simp [trip0_0]) (.cons (by simp [trip0_1]) (.cons (by simp [trip0_2]) (.cons (by simp [trip0_3]) (.cons (by simp [trip0_4]) (.cons (by simp [trip0_5]) (.cons (by simp [trip0_6]) (.cons (by simp [trip0_7]) (.nil))))))))

/-- The loop's condition: the counter is below 4096. -/
abbrev condOps1 : List (HloOp τ sig (Elt F)) :=
  [nullary main_while1c_c_27 (constantI S_ 32 4096#32),
   binary main_v18_8 main_while1c_c_27 main_while1c_v19 lessI]

/-- One trip of the second loop, whole: the cotangent's rows and the saved states are read, the adjoint state is
    stepped, the two sums are advanced, and two rows are written. -/
abbrev bodyOps1 : List (HloOp τ sig (Elt F)) :=
  [nullary main_while1b_c_27 (constantI S_ 32 4096#32),
   binary main_while1b_c_27 main_v18_8 main_while1b_v19 subI,
   nullary main_while1b_c_28 (constantI S_ 32 1#32),
   binary main_while1b_v19 main_while1b_c_28 main_while1b_v20 subI,
   nullary main_while1b_call6_c (constantI S_ 32 0#32),
   TRef.unaryIndexed (.of main_v18_0) ![.of main_while1b_v20, .of main_while1b_call6_c] (.of main_while1b_call6_v0) sliceRow,
   reshape main_while1b_call6_v0 main_while1b_v21 (rfl : (.f32 : EltTy) = .f32) shapeCasts_S1x2048_S2048,
   nullary main_while1b_call7_c (constantI S_ 32 0#32),
   TRef.unaryIndexed (.of main_v18_1) ![.of main_while1b_v20, .of main_while1b_call7_c] (.of main_while1b_call7_v0) sliceRow,
   reshape main_while1b_call7_v0 main_while1b_v22 (rfl : (.f32 : EltTy) = .f32) shapeCasts_S1x2048_S2048,
   nullary main_while1b_call8_c (constantI S_ 32 0#32),
   TRef.unaryIndexed (.of main_v18_2) ![.of main_while1b_v20, .of main_while1b_call8_c] (.of main_while1b_call8_v0) sliceRow,
   reshape main_while1b_call8_v0 main_while1b_v23 (rfl : (.f32 : EltTy) = .f32) shapeCasts_S1x2048_S2048,
   nullary main_while1b_call9_c (constantI S_ 32 0#32),
   TRef.unaryIndexed (.of main_v18_3) ![.of main_while1b_v20, .of main_while1b_call9_c] (.of main_while1b_call9_v0) sliceRow,
   reshape main_while1b_call9_v0 main_while1b_v24 (rfl : (.f32 : EltTy) = .f32) shapeCasts_S1x2048_S2048,
   binary main_v18_11 main_while1b_v21 main_while1b_v25 (addf (F := F) (s := S2048) (φ := .f32)),
   binary main_v18_12 main_while1b_v22 main_while1b_v26 (addf (F := F) (s := S2048) (φ := .f32)),
   binary main_v18_7 main_while1b_v26 main_while1b_v27 (mulf (F := F) (s := S2048) (φ := .f32)),
   binary main_while1b_v26 main_while1b_v23 main_while1b_v28 (mulf (F := F) (s := S2048) (φ := .f32)),
   unary main_while1b_v28 main_while1b_v29 rowOf,
   binary main_v18_10 main_while1b_v29 main_while1b_v30 (addf (F := F) (s := S1x2048) (φ := .f32)),
   binary main_v18_6 main_while1b_v26 main_while1b_v31 (mulf (F := F) (s := S2048) (φ := .f32)),
   binary main_while1b_v26 main_while1b_v24 main_while1b_v32 (mulf (F := F) (s := S2048) (φ := .f32)),
   unary main_while1b_v32 main_while1b_v33 rowOf,
   binary main_v18_9 main_while1b_v33 main_while1b_v34 (addf (F := F) (s := S1x2048) (φ := .f32)),
   unary main_while1b_v25 main_while1b_v35 (Host.negf (F := F) (s := S2048) (φ := .f32)),
   binary main_v18_5 main_while1b_v35 main_while1b_v36 (mulf (F := F) (s := S2048) (φ := .f32)),
   binary main_while1b_v31 main_while1b_v36 main_while1b_v37 (addf (F := F) (s := S2048) (φ := .f32)),
   binary main_while1b_v35 main_while1b_v24 main_while1b_v38 (mulf (F := F) (s := S2048) (φ := .f32)),
   unary main_while1b_v38 main_while1b_v39 rowOf,
   binary main_while1b_v30 main_while1b_v39 main_while1b_v40 (addf (F := F) (s := S1x2048) (φ := .f32)),
   binary main_v18_4 main_while1b_v25 main_while1b_v41 (mulf (F := F) (s := S2048) (φ := .f32)),
   binary main_while1b_v27 main_while1b_v41 main_while1b_v42 (addf (F := F) (s := S2048) (φ := .f32)),
   binary main_while1b_v25 main_while1b_v23 main_while1b_v43 (mulf (F := F) (s := S2048) (φ := .f32)),
   unary main_while1b_v43 main_while1b_v44 rowOf,
   binary main_while1b_v34 main_while1b_v44 main_while1b_v45 (addf (F := F) (s := S1x2048) (φ := .f32)),
   unary main_while1b_v25 main_while1b_call10_v0 rowOf,
   nullary main_while1b_call10_c (constantI S_ 32 0#32),
   TRef.binaryIndexed (.of main_v18_13) (.of main_while1b_call10_v0) ![.of main_while1b_v20, .of main_while1b_call10_c] (.of main_while1b_v46) updateRow,
   unary main_while1b_v26 main_while1b_call11_v0 rowOf,
   nullary main_while1b_call11_c (constantI S_ 32 0#32),
   TRef.binaryIndexed (.of main_v18_14) (.of main_while1b_call11_v0) ![.of main_while1b_v20, .of main_while1b_call11_c] (.of main_while1b_v47) updateRow,
   nullary main_while1b_c_29 (constantI S_ 32 1#32),
   binary main_v18_8 main_while1b_c_29 main_while1b_v48 addI,
   unary main_while1b_v48 main_v18_8 id,
   unary main_while1b_v45 main_v18_9 id,
   unary main_while1b_v40 main_v18_10 id,
   unary main_while1b_v42 main_v18_11 id,
   unary main_while1b_v37 main_v18_12 id,
   unary main_while1b_v46 main_v18_13 id,
   unary main_while1b_v47 main_v18_14 id]

/-- A stretch of the trip: operations of the loop's own. -/
abbrev trip1_0 : List (HloOp τ sig (Elt F)) :=
  [nullary main_while1b_c_27 (constantI S_ 32 4096#32),
   binary main_while1b_c_27 main_v18_8 main_while1b_v19 subI,
   nullary main_while1b_c_28 (constantI S_ 32 1#32),
   binary main_while1b_v19 main_while1b_c_28 main_while1b_v20 subI]

/-- A stretch of the trip: the operations of one called function. -/
abbrev trip1_1 : List (HloOp τ sig (Elt F)) :=
  [nullary main_while1b_call6_c (constantI S_ 32 0#32),
   TRef.unaryIndexed (.of main_v18_0) ![.of main_while1b_v20, .of main_while1b_call6_c] (.of main_while1b_call6_v0) sliceRow,
   reshape main_while1b_call6_v0 main_while1b_v21 (rfl : (.f32 : EltTy) = .f32) shapeCasts_S1x2048_S2048]

theorem trip1_1_eq : fn_dynamic_index_in_dim.body (F := F) (.of main_v18_0) (.of main_while1b_v20) main_while1b_call6 = (seq trip1_1 : Prog _ PUnit) := by
  chain_rfl

/-- A stretch of the trip: the operations of one called function. -/
abbrev trip1_2 : List (HloOp τ sig (Elt F)) :=
  [nullary main_while1b_call7_c (constantI S_ 32 0#32),
   TRef.unaryIndexed (.of main_v18_1) ![.of main_while1b_v20, .of main_while1b_call7_c] (.of main_while1b_call7_v0) sliceRow,
   reshape main_while1b_call7_v0 main_while1b_v22 (rfl : (.f32 : EltTy) = .f32) shapeCasts_S1x2048_S2048]

theorem trip1_2_eq : fn_dynamic_index_in_dim.body (F := F) (.of main_v18_1) (.of main_while1b_v20) main_while1b_call7 = (seq trip1_2 : Prog _ PUnit) := by
  chain_rfl

/-- A stretch of the trip: the operations of one called function. -/
abbrev trip1_3 : List (HloOp τ sig (Elt F)) :=
  [nullary main_while1b_call8_c (constantI S_ 32 0#32),
   TRef.unaryIndexed (.of main_v18_2) ![.of main_while1b_v20, .of main_while1b_call8_c] (.of main_while1b_call8_v0) sliceRow,
   reshape main_while1b_call8_v0 main_while1b_v23 (rfl : (.f32 : EltTy) = .f32) shapeCasts_S1x2048_S2048]

theorem trip1_3_eq : fn_dynamic_index_in_dim_0.body (F := F) (.of main_v18_2) (.of main_while1b_v20) main_while1b_call8 = (seq trip1_3 : Prog _ PUnit) := by
  chain_rfl

/-- A stretch of the trip: the operations of one called function. -/
abbrev trip1_4 : List (HloOp τ sig (Elt F)) :=
  [nullary main_while1b_call9_c (constantI S_ 32 0#32),
   TRef.unaryIndexed (.of main_v18_3) ![.of main_while1b_v20, .of main_while1b_call9_c] (.of main_while1b_call9_v0) sliceRow,
   reshape main_while1b_call9_v0 main_while1b_v24 (rfl : (.f32 : EltTy) = .f32) shapeCasts_S1x2048_S2048]

theorem trip1_4_eq : fn_dynamic_index_in_dim_0.body (F := F) (.of main_v18_3) (.of main_while1b_v20) main_while1b_call9 = (seq trip1_4 : Prog _ PUnit) := by
  chain_rfl

/-- A stretch of the trip: operations of the loop's own. -/
abbrev trip1_5 : List (HloOp τ sig (Elt F)) :=
  [binary main_v18_11 main_while1b_v21 main_while1b_v25 (addf (F := F) (s := S2048) (φ := .f32)),
   binary main_v18_12 main_while1b_v22 main_while1b_v26 (addf (F := F) (s := S2048) (φ := .f32)),
   binary main_v18_7 main_while1b_v26 main_while1b_v27 (mulf (F := F) (s := S2048) (φ := .f32)),
   binary main_while1b_v26 main_while1b_v23 main_while1b_v28 (mulf (F := F) (s := S2048) (φ := .f32)),
   unary main_while1b_v28 main_while1b_v29 rowOf,
   binary main_v18_10 main_while1b_v29 main_while1b_v30 (addf (F := F) (s := S1x2048) (φ := .f32)),
   binary main_v18_6 main_while1b_v26 main_while1b_v31 (mulf (F := F) (s := S2048) (φ := .f32)),
   binary main_while1b_v26 main_while1b_v24 main_while1b_v32 (mulf (F := F) (s := S2048) (φ := .f32)),
   unary main_while1b_v32 main_while1b_v33 rowOf,
   binary main_v18_9 main_while1b_v33 main_while1b_v34 (addf (F := F) (s := S1x2048) (φ := .f32)),
   unary main_while1b_v25 main_while1b_v35 (Host.negf (F := F) (s := S2048) (φ := .f32)),
   binary main_v18_5 main_while1b_v35 main_while1b_v36 (mulf (F := F) (s := S2048) (φ := .f32)),
   binary main_while1b_v31 main_while1b_v36 main_while1b_v37 (addf (F := F) (s := S2048) (φ := .f32)),
   binary main_while1b_v35 main_while1b_v24 main_while1b_v38 (mulf (F := F) (s := S2048) (φ := .f32)),
   unary main_while1b_v38 main_while1b_v39 rowOf,
   binary main_while1b_v30 main_while1b_v39 main_while1b_v40 (addf (F := F) (s := S1x2048) (φ := .f32)),
   binary main_v18_4 main_while1b_v25 main_while1b_v41 (mulf (F := F) (s := S2048) (φ := .f32)),
   binary main_while1b_v27 main_while1b_v41 main_while1b_v42 (addf (F := F) (s := S2048) (φ := .f32)),
   binary main_while1b_v25 main_while1b_v23 main_while1b_v43 (mulf (F := F) (s := S2048) (φ := .f32)),
   unary main_while1b_v43 main_while1b_v44 rowOf,
   binary main_while1b_v34 main_while1b_v44 main_while1b_v45 (addf (F := F) (s := S1x2048) (φ := .f32))]

/-- A stretch of the trip: the operations of one called function. -/
abbrev trip1_6 : List (HloOp τ sig (Elt F)) :=
  [unary main_while1b_v25 main_while1b_call10_v0 rowOf,
   nullary main_while1b_call10_c (constantI S_ 32 0#32),
   TRef.binaryIndexed (.of main_v18_13) (.of main_while1b_call10_v0) ![.of main_while1b_v20, .of main_while1b_call10_c] (.of main_while1b_v46) updateRow]

theorem trip1_6_eq : fn_dynamic_update_index_in_dim.body (F := F) (.of main_v18_13) (.of main_while1b_v25) (.of main_while1b_v20) main_while1b_call10 = (seq trip1_6 : Prog _ PUnit) := by
  chain_rfl

/-- A stretch of the trip: the operations of one called function. -/
abbrev trip1_7 : List (HloOp τ sig (Elt F)) :=
  [unary main_while1b_v26 main_while1b_call11_v0 rowOf,
   nullary main_while1b_call11_c (constantI S_ 32 0#32),
   TRef.binaryIndexed (.of main_v18_14) (.of main_while1b_call11_v0) ![.of main_while1b_v20, .of main_while1b_call11_c] (.of main_while1b_v47) updateRow]

theorem trip1_7_eq : fn_dynamic_update_index_in_dim.body (F := F) (.of main_v18_14) (.of main_while1b_v26) (.of main_while1b_v20) main_while1b_call11 = (seq trip1_7 : Prog _ PUnit) := by
  chain_rfl

/-- A stretch of the trip: operations of the loop's own. -/
abbrev trip1_8 : List (HloOp τ sig (Elt F)) :=
  [nullary main_while1b_c_29 (constantI S_ 32 1#32),
   binary main_v18_8 main_while1b_c_29 main_while1b_v48 addI,
   unary main_while1b_v48 main_v18_8 id,
   unary main_while1b_v45 main_v18_9 id,
   unary main_while1b_v40 main_v18_10 id,
   unary main_while1b_v42 main_v18_11 id,
   unary main_while1b_v37 main_v18_12 id,
   unary main_while1b_v46 main_v18_13 id,
   unary main_while1b_v47 main_v18_14 id]

/-- The stretches of the loop's trip, in order. -/
abbrev trips1 : List (List (HloOp τ sig (Elt F))) :=
  [trip1_0, trip1_1, trip1_2, trip1_3, trip1_4, trip1_5, trip1_6, trip1_7, trip1_8]

theorem trips1_flatten : (trips1 (F := F)).flatten = bodyOps1 := rfl

theorem body1_chain : main_while1_body (F := F)
    = Pipeline.chain [seq trip1_0,
      fn_dynamic_index_in_dim.body (.of main_v18_0) (.of main_while1b_v20) main_while1b_call6,
      fn_dynamic_index_in_dim.body (.of main_v18_1) (.of main_while1b_v20) main_while1b_call7,
      fn_dynamic_index_in_dim_0.body (.of main_v18_2) (.of main_while1b_v20) main_while1b_call8,
      fn_dynamic_index_in_dim_0.body (.of main_v18_3) (.of main_while1b_v20) main_while1b_call9,
      seq trip1_5,
      fn_dynamic_update_index_in_dim.body (.of main_v18_13) (.of main_while1b_v25) (.of main_while1b_v20) main_while1b_call10,
      fn_dynamic_update_index_in_dim.body (.of main_v18_14) (.of main_while1b_v26) (.of main_while1b_v20) main_while1b_call11,
      seq trip1_8] := by
  chain_rfl

theorem body1_eq : main_while1_body (F := F) = Pipeline.chain (trips1.map fun ops => (seq ops : Prog _ PUnit)) := by
  rw [body1_chain, trip1_1_eq, trip1_2_eq, trip1_3_eq, trip1_4_eq, trip1_6_eq, trip1_7_eq]
  rfl

theorem trips1_plain : Plain (trips1 (F := F)) :=
  .cons (by simp [trip1_0]) (.cons (by simp [trip1_1]) (.cons (by simp [trip1_2]) (.cons (by simp [trip1_3]) (.cons (by simp [trip1_4]) (.cons (by simp [trip1_5]) (.cons (by simp [trip1_6]) (.cons (by simp [trip1_7]) (.cons (by simp [trip1_8]) (.nil)))))))))

theorem main_eq (c : Dev nD) : main (F := F) c
    = Pipeline.chain [seq preOps, HostLoop.enter 0, seq midOps, HostLoop.enter 1] := by
  chain_rfl

theorem preOps_plain : Plain [preOps (F := F)] := .cons (by simp [preOps]) .nil
theorem midOps_plain : Plain [midOps (F := F)] := .cons (by simp [midOps]) .nil

end Cert.RefScan

end
-- ==== Proof.RefRun.lean ====
/-
  The run of the plain recurrence's program: from any memory with zero counters every weakly fair execution of its main
  function terminates with every counter at zero again, and every tensor's buffer ends at what the first line, 4096
  trips of the first loop, the second line and 4096 trips of the second loop leave in it. Each loop's counter is its trip's
  number, so its condition holds for the first 4096 trips and fails then.
-/
module

public import proofs.«01_k».proof.Proof.RefOps
public import Idealize.ShloMosaic.Lib.StableHlo.Predicate

@[expose] public section

noncomputable section

namespace Cert.RefScan

open Cert.ReferenceIdeal Cert.ReferenceIdeal.Gen
open Idealize.ShloMosaic Idealize.ShloMosaic.TcCoe Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (CSeg Ticket PCfg ucRefs unscopedBufs_held sub_ucRefs)

variable {F : FTy → Type} [FloatOps F]

local notation "𝕄" => MT nD τ sig Unit (Elt F) ℕ (Option PUnit) ℕ

/-! ## What the buffers hold between the lines and loops -/

section Contents
variable (m : (ℓ : Loc nD τ sig) → Buf (Elt F) ℓ) (c : Dev nD)

/-- Every buffer before the first loop. -/
def W0 (c : Dev nD) : Valuation τ sig (Elt F) := afterL [preOps] (launchContents m c)
/-- Every buffer before the `k`-th test of the first loop. -/
def W0at (k : ℕ) (c : Dev nD) : Valuation τ sig (Elt F) := atTrip condOps0 trips0 (W0 m) k c
/-- Every buffer before the second loop. -/
def W1 (c : Dev nD) : Valuation τ sig (Elt F) := afterL [midOps] (after condOps0 (atTrip condOps0 trips0 (W0 m) 4096 c))
/-- Every buffer before the `k`-th test of the second loop. -/
def W1at (k : ℕ) (c : Dev nD) : Valuation τ sig (Elt F) := atTrip condOps1 trips1 (W1 m) k c
/-- Every buffer at the end. -/
def WEnd (c : Dev nD) : Valuation τ sig (Elt F) := after condOps1 (W1at m 4096 c)

/-- One trip of the first loop. -/
theorem W0at_succ (k : ℕ) : W0at m (k + 1) c = after bodyOps0 (after condOps0 (W0at m k c)) := by
  show afterL trips0 _ = _
  rw [afterL_eq_after_flatten, trips0_flatten]; rfl
/-- One trip of the second loop. -/
theorem W1at_succ (k : ℕ) : W1at m (k + 1) c = after bodyOps1 (after condOps1 (W1at m k c)) := by
  show afterL trips1 _ = _
  rw [afterL_eq_after_flatten, trips1_flatten]; rfl

/-- The first loop's counter. -/
theorem W0at_counter : ∀ k : ℕ, W0at m k c (Proc.devRef .tc main_v9_6) = fun _ => BitVec.ofNat 32 k
  | 0 => by
    show after preOps (launchContents m c) (Proc.devRef .tc main_v9_6) = _
    after_reads_simp
    rfl
  | k + 1 => by
    rw [W0at_succ]
    have h : ∀ V : Valuation τ sig (Elt F), after bodyOps0 (after condOps0 V) (Proc.devRef .tc main_v9_6)
        = addI (V (Proc.devRef .tc main_v9_6)) (constantI S_ 32 1#32) := fun V => by
      after_reads_simp
      rfl
    rw [h, W0at_counter k]
    funext _
    show BitVec.ofNat 32 k + 1#32 = BitVec.ofNat 32 (k + 1)
    rw [BitVec.ofNat_add]

/-- The second loop's counter. -/
theorem W1at_counter : ∀ k : ℕ, W1at m k c (Proc.devRef .tc main_v18_8) = fun _ => BitVec.ofNat 32 k
  | 0 => by
    show after (midOps (F := F)) _ (Proc.devRef .tc main_v18_8) = _
    after_reads_simp
    rfl
  | k + 1 => by
    rw [W1at_succ]
    have h : ∀ V : Valuation τ sig (Elt F), after bodyOps1 (after condOps1 V) (Proc.devRef .tc main_v18_8)
        = addI (V (Proc.devRef .tc main_v18_8)) (constantI S_ 32 1#32) := fun V => by
      after_reads_simp
      rfl
    rw [h, W1at_counter k]
    funext _
    show BitVec.ofNat 32 k + 1#32 = BitVec.ofNat 32 (k + 1)
    rw [BitVec.ofNat_add]

end Contents

/-! ## The loops as segments of the run -/

section Run

/-- No kernel is launched. -/
abbrev admitted : (p : Fin 0) → (pcfgs (F := F) p).Adm := fun p => p.elim0
/-- No kernel is launched: no ticket. -/
abbrev noTicket : Fin 0 → Ticket (Ix := Unit) (Name := ℕ) (U := Option PUnit) (Lvl := ℕ) (nD := nD) (τ := τ)
    (pcfgs (F := F)) admitted := fun j => j.elim0
/-- What is carried beside the buffers. -/
abbrev Rest (c : Dev nD) : sProp 𝕄 := iprop(∃ W, owes (c : Thread nD τ) (0 : CellTallies nD τ sig Unit) W)

/-- A word of at most 4096 is below 4096, as signed words, exactly when its number is. -/
theorem less_iff (k : ℕ) (hk : k ≤ 4096) :
    Iff (IntOp.cmpi .slt (BitVec.ofNat 32 k) (4096#32) = 1#1) (k < 4096) := by
  have e : (BitVec.ofNat 32 k).toNat = k := Nat.mod_eq_of_lt (by omega)
  rw [Predicate.slt_iff_toNat (by rw [e]; omega) (by decide), e]
  rfl

variable (m : (ℓ : Loc nD τ sig) → Buf (Elt F) ℓ)

set_option maxRecDepth 16384 in
set_option backward.isDefEq.respectTransparency.types false in
theorem cond0_spec : LoopCond (pcfgs (F := F)) defs₀ Variants.none loops (Rest (F := F)) main_while0_cond condOps0 trips0
    (W0 m) 4096 := by
  intro k hk c bd
  have hctr : atTrip condOps0 trips0 (W0 m) k c (Proc.devRef .tc main_v9_6) = fun _ => BitVec.ofNat 32 k :=
    W0at_counter m c k
  unfold main_while0_cond
  rw [wp_bind]
  iintro ⟨Hb, Hh, HR⟩
  iapply (wp_hlo_within (Variants.lift Variants.none) (c : Thread nD τ) bd Set.univ
    (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ
    (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps0 trips0 (W0 m) k c) main_v9_6 HostLoop.idx0)
        (HloOp.result _ (atTrip condOps0 trips0 (W0 m) k c) main_while0c_c_25 HostLoop.idx0) = 1#1) (k < 4096)
    rw [nullary_result_ne _ _ _ _ (by decide), nullary_result, hctr]
    exact less_iff k hk
  isplitl [Hb]; · iexact Hb
  isplitl [Hh]; · iexact Hh
  iexact HR

set_option maxRecDepth 16384 in
set_option backward.isDefEq.respectTransparency.types false in
theorem cond1_spec : LoopCond (pcfgs (F := F)) defs₀ Variants.none loops (Rest (F := F)) main_while1_cond condOps1 trips1
    (W1 m) 4096 := by
  intro k hk c bd
  have hctr : atTrip condOps1 trips1 (W1 m) k c (Proc.devRef .tc main_v18_8) = fun _ => BitVec.ofNat 32 k :=
    W1at_counter m c k
  unfold main_while1_cond
  rw [wp_bind]
  iintro ⟨Hb, Hh, HR⟩
  iapply (wp_hlo_within (Variants.lift Variants.none) (c : Thread nD τ) bd Set.univ
    (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ
    (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip condOps1 trips1 (W1 m) k c) main_v18_8 HostLoop.idx0)
        (HloOp.result _ (atTrip condOps1 trips1 (W1 m) k c) main_while1c_c_27 HostLoop.idx0) = 1#1) (k < 4096)
    rw [nullary_result_ne _ _ _ _ (by decide), nullary_result, hctr]
    exact less_iff k hk
  isplitl [Hb]; · iexact Hb
  isplitl [Hh]; · iexact Hh
  iexact HR

/-- The main function's segments: a line, a loop, a line, a loop. -/
def segments : List (CSeg (pcfgs (F := F)) admitted defs₀ Variants.none (fun _ => (∅ : Finset Unit)) (fun _ _ => (0 : ℕ))
    loops (noTicket (F := F))) :=
  segsOf _ _ _ _ _ _ _ _ Rest [preOps] preOps_plain (launchContents m)
    ++ loopSeg _ _ _ _ _ _ _ _ 0 main_while0_cond main_while0_body rfl condOps0 trips0 trips0_plain body0_eq 4096 (W0 m)
        Rest (cond0_spec m)
      :: (segsOf _ _ _ _ _ _ _ _ Rest [midOps] midOps_plain
            (fun c => after condOps0 (atTrip condOps0 trips0 (W0 m) 4096 c))
          ++ [loopSeg _ _ _ _ _ _ _ _ 1 main_while1_cond main_while1_body rfl condOps1 trips1 trips1_plain body1_eq 4096
                (W1 m) Rest (cond1_spec m)])

theorem segments_prog : (segments m).map CSeg.prog
    = [seq preOps, HostLoop.enter 0, seq midOps, HostLoop.enter 1] := by
  unfold segments
  rw [List.map_append, List.map_cons, List.map_append, segsOf_prog, segsOf_prog]
  rfl

theorem segments_chains :
    CSeg.Chains (fun c => iprop(held (c : Thread nD τ) (ucRefs τ sig) (launchContents m c) ∗ Rest c)) (segments m)
      (fun c => iprop(iprop(held (c : Thread nD τ) (ucRefs τ sig) (WEnd m c))
        ∗ ∃ W, owes (c : Thread nD τ) (0 : CellTallies nD τ sig Unit) W)) := by
  unfold segments
  exact CSeg.Chains.append (segsOf_chains _ _ _ _ _ _ _ _ Rest [preOps] preOps_plain _)
    ⟨fun _ => .rfl, CSeg.Chains.append (segsOf_chains _ _ _ _ _ _ _ _ Rest [midOps] midOps_plain _)
      ⟨fun _ => .rfl, fun _ => .rfl⟩⟩

/-- Every semaphore of the tensor core is scoped. -/
theorem sems_scoped : ∀ sm : SemLoc sig, sm.isScoped .tc = true := by decide

variable (ρ : Dev nD → PrngReg)

set_option maxHeartbeats 2000000 in
set_option maxRecDepth 16384 in
/-- THE RUN: every tensor's buffer ends at `WEnd`, every counter at zero. -/
theorem run_ends : θ_run (defs (F := F)) (onTc (τ := τ) (main (F := F))) ⟨m, fun _ => 0, ρ⟩
    (fun r => (∀ (c : Dev nD) (b : Ref sig .tc), (Proc.devRef .tc b : DevRef τ sig).isScoped = false →
        r.2.mem ((c.tc : Thread nD τ).loc b) = WEnd m c (Proc.devRef .tc b)) ∧ r.2.sem = fun _ => 0) :=
  Pipeline.θ_run_regions_loop_kit_sems (Ix := Unit) (Name := ℕ) (U := Option PUnit) (Lvl := ℕ) (J := Fin 0) (P := Fin 0)
    (Val := Elt F) pcfgs admitted (fun k => k.1.elim0) defs₀ Variants.none (fun _ => ∅) (fun _ _ => 0) loops noTicket m ρ
    main (segments m)
    (fun c Q => by
      rw [main_eq c]
      show wp _ _ _ (Pipeline.chain ((segments m).map CSeg.prog)) Q ⊢ _
      rw [segments_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by
          rw [BI.bigSep_emp_const])
        iempintro)
    (T₀ := fun c => iprop(held (c : Thread nD τ) (ucRefs τ sig) (launchContents m c) ∗ Rest c))
    (Tₙ := fun c => iprop(held (c : Thread nD τ) (ucRefs τ sig) (WEnd m c)))
    (hch := segments_chains m)
    (hinit := by
      refine Pipeline.initEach (fun _ => ∅) (fun _ _ => 0) fun c => ?_
      rw [show unscopedBufs c (fun b => m ((c : Thread nD τ).loc b))
        = held (c : Thread nD τ) (ucRefs τ sig) (launchContents m c) from unscopedBufs_held c (launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = WEnd m c b)
    (hfin := fun c s' => by
      unfold held
      iintro ⟨Hh, HSI⟩
      ihave Hr := (pointsTo_read_all (ucRefs τ sig) (fun b => ((c : Dev nD), b)) (fun b => WEnd m c b) s') $$ [Hh HSI]
      · isplitl [Hh] <;> iassumption
      icases Hr with ⟨%h, HSI⟩
      imodintro
      isplitr; · ipureintro; exact h
      iexact HSI)
    (hQ := fun s h hz => ⟨fun c b hb => h c _ (devRef_mem_ucRefs b hb), funext fun g => hz g (by
      rcases g with ⟨⟨d, p⟩, sm⟩
      by_cases hp : p = .tc
      · subst hp; exact .inr (sems_scoped sm)
      · exact Or.inl hp)⟩)

end Run

end Cert.RefScan

end
-- ==== Proof.Frames.lean ====
module

public import proofs.«01_k».proof.Defs
public import proofs.«01_k».proof.Proof.Gen.Kernel
public import proofs.«01_k».proof.Proof.Run
public import proofs.«01_k».proof.Proof.RefRun

/-!
# The frames

Both programs leave their arguments as they were and every counter at zero. The kernel's run holds at every number
format, so the frame at the machine's bits and the one at the extended reals are the same theorem.
-/

@[expose] public section

noncomputable section

namespace Cert.RefScan

open Cert.ReferenceIdeal Cert.ReferenceIdeal.Gen
open Idealize.ShloMosaic Idealize.ShloMosaic.TcCoe Idealize.ShloMosaic.StableHlo

variable {F : FTy → Type} [FloatOps F]
variable (m : (ℓ : Loc nD τ sig) → Buf (Elt F) ℓ) (c : Dev nD)

/-- A tensor no operation of the two loops writes keeps its contents through any number of trips. -/
theorem atTrip_keep (ops : List (HloOp τ sig (Elt F))) (trips : List (List (HloOp τ sig (Elt F))))
    (V : Dev nD → Valuation τ sig (Elt F)) (r : DevRef τ sig) (h : ∀ V, after ops V r = V r)
    (h' : ∀ V, afterL trips V r = V r) : ∀ k, atTrip ops trips V k c r = V c r
  | 0 => rfl
  | k + 1 => by
    show afterL trips (after ops (atTrip ops trips V k c)) r = _
    rw [h', h, atTrip_keep ops trips V r h h' k]

/-- A tensor no operation writes ends as it began. -/
theorem WEnd_keep (r : DevRef τ sig) (h0 : ∀ V, after (preOps (F := F)) V r = V r)
    (h1 : ∀ V, after (condOps0 (F := F)) V r = V r) (h2 : ∀ V, after (bodyOps0 (F := F)) V r = V r)
    (h3 : ∀ V, after (midOps (F := F)) V r = V r) (h4 : ∀ V, after (condOps1 (F := F)) V r = V r)
    (h5 : ∀ V, after (bodyOps1 (F := F)) V r = V r) : WEnd m c r = launchContents m c r := by
  have e0 : ∀ V, afterL (trips0 (F := F)) V r = V r := fun V => by
    rw [afterL_eq_after_flatten, trips0_flatten]; exact h2 V
  have e1 : ∀ V, afterL (trips1 (F := F)) V r = V r := fun V => by
    rw [afterL_eq_after_flatten, trips1_flatten]; exact h5 V
  show after condOps1 (W1at m 4096 c) r = _
  rw [h4]
  show atTrip condOps1 trips1 (W1 m) 4096 c r = _
  rw [atTrip_keep c _ _ _ _ h4 e1]
  show after midOps (after condOps0 (atTrip condOps0 trips0 (W0 m) 4096 c)) r = _
  rw [h3, h1, atTrip_keep c _ _ _ _ h1 e0]
  exact h0 _

theorem WEnd_arg0 : WEnd m c (Proc.devRef .tc main_arg0) = m ((c.tc : Thread nD τ).loc main_arg0) :=
  WEnd_keep m c _ (fun V => by after_reads_simp) (fun V => by after_reads_simp) (fun V => by after_reads_simp)
    (fun V => by after_reads_simp) (fun V => by after_reads_simp) (fun V => by after_reads_simp)

theorem WEnd_arg1 : WEnd m c (Proc.devRef .tc main_arg1) = m ((c.tc : Thread nD τ).loc main_arg1) :=
  WEnd_keep m c _ (fun V => by after_reads_simp) (fun V => by after_reads_simp) (fun V => by after_reads_simp)
    (fun V => by after_reads_simp) (fun V => by after_reads_simp) (fun V => by after_reads_simp)

theorem WEnd_arg2 : WEnd m c (Proc.devRef .tc main_arg2) = m ((c.tc : Thread nD τ).loc main_arg2) :=
  WEnd_keep m c _ (fun V => by after_reads_simp) (fun V => by after_reads_simp) (fun V => by after_reads_simp)
    (fun V => by after_reads_simp) (fun V => by after_reads_simp) (fun V => by after_reads_simp)

theorem WEnd_arg3 : WEnd m c (Proc.devRef .tc main_arg3) = m ((c.tc : Thread nD τ).loc main_arg3) :=
  WEnd_keep m c _ (fun V => by after_reads_simp) (fun V => by after_reads_simp) (fun V => by after_reads_simp)
    (fun V => by after_reads_simp) (fun V => by after_reads_simp) (fun V => by after_reads_simp)

theorem WEnd_arg4 : WEnd m c (Proc.devRef .tc main_arg4) = m ((c.tc : Thread nD τ).loc main_arg4) :=
  WEnd_keep m c _ (fun V => by after_reads_simp) (fun V => by after_reads_simp) (fun V => by after_reads_simp)
    (fun V => by after_reads_simp) (fun V => by after_reads_simp) (fun V => by after_reads_simp)

theorem WEnd_arg5 : WEnd m c (Proc.devRef .tc main_arg5) = m ((c.tc : Thread nD τ).loc main_arg5) :=
  WEnd_keep m c _ (fun V => by after_reads_simp) (fun V => by after_reads_simp) (fun V => by after_reads_simp)
    (fun V => by after_reads_simp) (fun V => by after_reads_simp) (fun V => by after_reads_simp)

end Cert.RefScan

namespace Cert.Proof

open Idealize.ShloMosaic Idealize.SL.Sem

attribute [local instance] Cert.Kernel.Gen.facts

/-- The two programs have one text: their runs are the same. -/
theorem same_run (m : (ℓ : Loc Cert.Kernel.nD Cert.Kernel.τ Cert.Kernel.sig) → Buf (Elt Bits) ℓ)
    (ρ : Dev Cert.Kernel.nD → PrngReg) :
    θ_run (Cert.Kernel.defs (F := Bits)) (onTc (τ := Cert.Kernel.τ) (Cert.Kernel.main (F := Bits))) ⟨m, fun _ => 0, ρ⟩
      = θ_run (Cert.KernelIdeal.defs (F := Bits)) (onTc (τ := Cert.KernelIdeal.τ) (Cert.KernelIdeal.main (F := Bits)))
        ⟨m, fun _ => 0, ρ⟩ := by
  chain_rfl

theorem frame_kernel : Cert.quiescent_Kernel := fun m ρ _ => by
  rw [same_run]
  exact (θ_run Cert.KernelIdeal.defs _ _).mono (fun _ h => ⟨fun c => (h.1 c).2, h.2⟩)
    (Cert.Scan.run_main (F := Bits) m ρ)

theorem frame_kernelIdeal : Cert.quiescent_KernelIdeal := fun m ρ _ =>
  (θ_run Cert.KernelIdeal.defs _ _).mono (fun _ h => ⟨fun c => (h.1 c).2, h.2⟩) (Cert.Scan.run_main (F := Ideal) m ρ)

open Cert.ReferenceIdeal Cert.RefScan in
theorem frame_reference : Cert.quiescent_ReferenceIdeal := fun m ρ _ =>
  (θ_run Cert.ReferenceIdeal.defs _ _).mono (fun _ h => ⟨fun c => ⟨(h.1 c main_arg0 rfl).trans (WEnd_arg0 m c),
      (h.1 c main_arg1 rfl).trans (WEnd_arg1 m c),
      (h.1 c main_arg2 rfl).trans (WEnd_arg2 m c),
      (h.1 c main_arg3 rfl).trans (WEnd_arg3 m c),
      (h.1 c main_arg4 rfl).trans (WEnd_arg4 m c),
      (h.1 c main_arg5 rfl).trans (WEnd_arg5 m c)⟩, h.2⟩)
    (run_ends (F := Ideal) m ρ)

end Cert.Proof
-- ==== Proof.RefTrip.lean ====
module

public import proofs.«01_k».proof.Proof.RefRun
public import proofs.«01_k».proof.Proof.Frames
public import Idealize.ShloMosaic.Lib.PointwiseCore

/-!
# One trip of each of the reference's loops

What a trip leaves in each carried tensor, as a function of what the carried tensors held. Reading row `k` of an array
gives that row, and writing row `k` changes that row only.
-/

@[expose] public section

set_option maxRecDepth 16384

noncomputable section

namespace Cert.RefScan

open Cert.ReferenceIdeal Cert.ReferenceIdeal.Gen
open Idealize.ShloMosaic Idealize.ShloMosaic.TcCoe Idealize.ShloMosaic.StableHlo

variable {F : FTy → Type} [FloatOps F]

/-- Row `r`, column `n`. -/
abbrev at2 (r : Fin 4096) (n : Fin 2048) : S4096x2048.Idx := ix2 (n0 := 4096) (n1 := 2048) r n

/-- The word of the number `k`. -/
abbrev word (k : ℕ) : Word F := fun _ => BitVec.ofNat 32 k

theorem word_toInt (k : ℕ) (hk : k < 4096) : (BitVec.ofNat 32 k).toInt = (k : ℤ) := by
  rw [BitVec.toInt_eq_toNat_of_lt (by rw [BitVec.toNat_ofNat]; omega), BitVec.toNat_ofNat, Nat.mod_eq_of_lt (by omega)]

/-- Row `k` of an array, read as an array of one row. -/
theorem sliceRow_apply (x : Rows F) (k : ℕ) (hk : k < 4096) (y : S1x2048.Idx) :
    sliceRow x ![word k, word 0] y = x (at2 ⟨k, hk⟩ (y 1)) := by
  unfold sliceRow
  rw [Host.dynamicSlice_apply]
  refine congrArg x (funext fun a => ?_)
  have h0 : (y 0).val < 1 := (y 0).isLt
  match a with
  | ⟨0, _⟩ =>
    refine Fin.ext ?_
    show Host.clampedStart S4096x2048 S1x2048 _ _ 0 + (y 0).val = k
    rw [Host.clampedStart_of_le _ _ 0 k (word_toInt k hk) (by show k + 1 ≤ 4096; omega)]
    omega
  | ⟨1, _⟩ =>
    refine Fin.ext ?_
    show Host.clampedStart S4096x2048 S1x2048 _ _ 1 + (y 1).val = (y 1).val
    rw [Host.clampedStart_of_le _ _ 1 0 (word_toInt 0 (by decide)) (by show 0 + 2048 ≤ 2048; omega)]
    omega

/-- An array with row `k` replaced. -/
theorem updateRow_apply (x : Rows F) (u : Row1 F) (k : ℕ) (hk : k < 4096) (i : S4096x2048.Idx) :
    updateRow x u ![word k, word 0] i = if (i 0).val = k then u (ix2 (n0 := 1) (n1 := 2048) 0 (i 1)) else x i := by
  unfold updateRow
  rw [Host.dynamicUpdateSlice_apply]
  have e0 : ∀ h, Host.clampedStart S4096x2048 S1x2048 h
      (fun j => ((![word (F := F) k, word 0] : Fin 2 → Word F) j (Shape.Idx.first h_S_)).toInt) 0 = k := fun h =>
    Host.clampedStart_of_le _ _ 0 k (word_toInt k hk) (by show k + 1 ≤ 4096; omega)
  have e1 : ∀ h, Host.clampedStart S4096x2048 S1x2048 h
      (fun j => ((![word (F := F) k, word 0] : Fin 2 → Word F) j (Shape.Idx.first h_S_)).toInt) 1 = 0 := fun h =>
    Host.clampedStart_of_le _ _ 1 0 (word_toInt 0 (by decide)) (by show 0 + 2048 ≤ 2048; omega)
  have h1 : (i 1).val < 2048 := (i 1).isLt
  by_cases h : (i 0).val = k
  · rw [if_pos h, dif_pos]
    · refine congrArg u (funext fun b => ?_)
      match b with
      | ⟨0, _⟩ => exact Fin.ext (by
          show (i 0).val - Host.clampedStart S4096x2048 S1x2048 _ _ 0 = 0
          rw [e0]; omega)
      | ⟨1, _⟩ => exact Fin.ext (by
          show (i 1).val - Host.clampedStart S4096x2048 S1x2048 _ _ 1 = (i 1).val
          rw [e1]; omega)
    · intro a
      match a with
      | ⟨0, _⟩ =>
        show Host.clampedStart S4096x2048 S1x2048 _ _ 0 ≤ (i 0).val
          ∧ (i 0).val < Host.clampedStart S4096x2048 S1x2048 _ _ 0 + 1
        rw [e0]; omega
      | ⟨1, _⟩ =>
        show Host.clampedStart S4096x2048 S1x2048 _ _ 1 ≤ (i 1).val
          ∧ (i 1).val < Host.clampedStart S4096x2048 S1x2048 _ _ 1 + 2048
        rw [e1]; omega
  · rw [if_neg h, dif_neg]
    intro hin
    have h0 := hin 0
    have : Host.clampedStart S4096x2048 S1x2048 _ _ 0 ≤ (i 0).val
          ∧ (i 0).val < Host.clampedStart S4096x2048 S1x2048 _ _ 0 + 1 := h0
    rw [e0] at this
    omega

/-- Row `k` of an array, as a row. -/
def rowAt (x : Rows F) (i : Fin 2 → Word F) : Row F := shapeCast S2048 (sliceRow x i) shapeCasts_S1x2048_S2048

theorem rowAt_apply (x : Rows F) (k : ℕ) (hk : k < 4096) (n : S2048.Idx) :
    rowAt x ![word k, word 0] n = x (at2 ⟨k, hk⟩ (n 0)) := by
  unfold rowAt
  idx_vars n
  rw [show shapeCast S2048 (sliceRow x ![word k, word 0]) shapeCasts_S1x2048_S2048 (ix1 (n0 := 2048) n0)
    = sliceRow x ![word k, word 0] (ix2 (n0 := 1) (n1 := 2048) 0 n0) by pointwise]
  exact sliceRow_apply x k hk _

theorem rowOf_apply (x : Row F) (y : S1x2048.Idx) : rowOf x y = x (ix1 (n0 := 2048) (y 1)) := by
  idx_vars y
  pointwise [rowOf]

/-! ## The first loop -/

section First
variable (V : Valuation τ sig (Elt F))

/-- What every trip leaves alone. -/
theorem trip0_keep : after bodyOps0 (after condOps0 V) (Proc.devRef .tc main_v9_0) = V (Proc.devRef .tc main_v9_0)
    ∧ after bodyOps0 (after condOps0 V) (Proc.devRef .tc main_v9_1) = V (Proc.devRef .tc main_v9_1)
    ∧ after bodyOps0 (after condOps0 V) (Proc.devRef .tc main_v9_2) = V (Proc.devRef .tc main_v9_2)
    ∧ after bodyOps0 (after condOps0 V) (Proc.devRef .tc main_v9_3) = V (Proc.devRef .tc main_v9_3)
    ∧ after bodyOps0 (after condOps0 V) (Proc.devRef .tc main_v9_4) = V (Proc.devRef .tc main_v9_4)
    ∧ after bodyOps0 (after condOps0 V) (Proc.devRef .tc main_v9_5) = V (Proc.devRef .tc main_v9_5) := by
  refine ⟨?_, ?_, ?_, ?_, ?_, ?_⟩ <;> after_reads_simp

variable {V} {k : ℕ} (hk : V (Proc.devRef .tc main_v9_6) = word (F := F) k)
include hk

theorem trip0_re : after bodyOps0 (after condOps0 V) (Proc.devRef .tc main_v9_7)
    = addf (subf (mulf (V (Proc.devRef .tc main_v9_2) : Row F) (V (Proc.devRef .tc main_v9_7) : Row F))
        (mulf (V (Proc.devRef .tc main_v9_3) : Row F) (V (Proc.devRef .tc main_v9_8) : Row F)))
      (rowAt (V (Proc.devRef .tc main_v9_0)) ![word k, word 0]) := by
  rw [← hk]
  after_reads_simp [unaryIndexed_result_read, binaryIndexed_result_read, indexContents_tref_cons,
    indexContents_tref_empty]
  rfl

theorem trip0_im : after bodyOps0 (after condOps0 V) (Proc.devRef .tc main_v9_8)
    = addf (addf (mulf (V (Proc.devRef .tc main_v9_4) : Row F) (V (Proc.devRef .tc main_v9_8) : Row F))
        (mulf (V (Proc.devRef .tc main_v9_5) : Row F) (V (Proc.devRef .tc main_v9_7) : Row F)))
      (rowAt (V (Proc.devRef .tc main_v9_1)) ![word k, word 0]) := by
  rw [← hk]
  after_reads_simp [unaryIndexed_result_read, binaryIndexed_result_read, indexContents_tref_cons,
    indexContents_tref_empty]
  rfl

theorem trip0_out_re : after bodyOps0 (after condOps0 V) (Proc.devRef .tc main_v9_9)
    = updateRow (V (Proc.devRef .tc main_v9_9)) (rowOf (after bodyOps0 (after condOps0 V) (Proc.devRef .tc main_v9_7))) ![word k, word 0] := by
  rw [← hk]
  after_reads_simp [unaryIndexed_result_read, binaryIndexed_result_read, indexContents_tref_cons,
    indexContents_tref_empty]
  rfl

theorem trip0_out_im : after bodyOps0 (after condOps0 V) (Proc.devRef .tc main_v9_10)
    = updateRow (V (Proc.devRef .tc main_v9_10)) (rowOf (after bodyOps0 (after condOps0 V) (Proc.devRef .tc main_v9_8))) ![word k, word 0] := by
  rw [← hk]
  after_reads_simp [unaryIndexed_result_read, binaryIndexed_result_read, indexContents_tref_cons,
    indexContents_tref_empty]
  rfl

theorem trip0_before_re : after bodyOps0 (after condOps0 V) (Proc.devRef .tc main_v9_11)
    = updateRow (V (Proc.devRef .tc main_v9_11)) (rowOf (V (Proc.devRef .tc main_v9_7))) ![word k, word 0] := by
  rw [← hk]
  after_reads_simp [unaryIndexed_result_read, binaryIndexed_result_read, indexContents_tref_cons,
    indexContents_tref_empty]
  rfl

theorem trip0_before_im : after bodyOps0 (after condOps0 V) (Proc.devRef .tc main_v9_12)
    = updateRow (V (Proc.devRef .tc main_v9_12)) (rowOf (V (Proc.devRef .tc main_v9_8))) ![word k, word 0] := by
  rw [← hk]
  after_reads_simp [unaryIndexed_result_read, binaryIndexed_result_read, indexContents_tref_cons,
    indexContents_tref_empty]
  rfl

end First

/-! ## The second loop -/

section Second
variable (V : Valuation τ sig (Elt F))

/-- What every trip leaves alone. -/
theorem trip1_keep : after bodyOps1 (after condOps1 V) (Proc.devRef .tc main_v18_0) = V (Proc.devRef .tc main_v18_0)
    ∧ after bodyOps1 (after condOps1 V) (Proc.devRef .tc main_v18_1) = V (Proc.devRef .tc main_v18_1)
    ∧ after bodyOps1 (after condOps1 V) (Proc.devRef .tc main_v18_2) = V (Proc.devRef .tc main_v18_2)
    ∧ after bodyOps1 (after condOps1 V) (Proc.devRef .tc main_v18_3) = V (Proc.devRef .tc main_v18_3)
    ∧ after bodyOps1 (after condOps1 V) (Proc.devRef .tc main_v18_4) = V (Proc.devRef .tc main_v18_4)
    ∧ after bodyOps1 (after condOps1 V) (Proc.devRef .tc main_v18_5) = V (Proc.devRef .tc main_v18_5)
    ∧ after bodyOps1 (after condOps1 V) (Proc.devRef .tc main_v18_6) = V (Proc.devRef .tc main_v18_6)
    ∧ after bodyOps1 (after condOps1 V) (Proc.devRef .tc main_v18_7) = V (Proc.devRef .tc main_v18_7) := by
  refine ⟨?_, ?_, ?_, ?_, ?_, ?_, ?_, ?_⟩ <;> after_reads_simp

/-- The adjoint state of the trip, its real part, from the carried part and the row `r` read. -/
def adjRe (V : Valuation τ sig (Elt F)) (r : ℕ) : Row F :=
  addf (V (Proc.devRef .tc main_v18_11) : Row F) (rowAt (V (Proc.devRef .tc main_v18_0)) ![word r, word 0])
/-- Its imaginary part. -/
def adjIm (V : Valuation τ sig (Elt F)) (r : ℕ) : Row F :=
  addf (V (Proc.devRef .tc main_v18_12) : Row F) (rowAt (V (Proc.devRef .tc main_v18_1)) ![word r, word 0])
/-- The row of the states one step earlier, real part. -/
def befRe (V : Valuation τ sig (Elt F)) (r : ℕ) : Row F := rowAt (V (Proc.devRef .tc main_v18_2)) ![word r, word 0]
/-- Its imaginary part. -/
def befIm (V : Valuation τ sig (Elt F)) (r : ℕ) : Row F := rowAt (V (Proc.devRef .tc main_v18_3)) ![word r, word 0]

/-- The word of the row that trip `k` works on. -/
theorem row_word (k : ℕ) (hk : k < 4096) :
    subI (subI (constantI S_ 32 4096#32) (word (F := F) k)) (constantI S_ 32 1#32) = word (4095 - k) := by
  funext _
  show 4096#32 - BitVec.ofNat 32 k - 1#32 = BitVec.ofNat 32 (4095 - k)
  refine BitVec.eq_of_toNat_eq ?_
  simp only [BitVec.toNat_sub, BitVec.toNat_ofNat]
  omega

variable {V} {k : ℕ} (hk : V (Proc.devRef .tc main_v18_8) = word (F := F) k) (hlt : k < 4096)
include hk hlt

set_option maxHeartbeats 1000000 in
theorem trip1_da_re : after bodyOps1 (after condOps1 V) (Proc.devRef .tc main_v18_9)
    = addf (addf (V (Proc.devRef .tc main_v18_9) : Row1 F) (rowOf (mulf (adjIm V (4095 - k)) (befIm V (4095 - k)))))
      (rowOf (mulf (adjRe V (4095 - k)) (befRe V (4095 - k)))) := by
  unfold adjRe adjIm befRe befIm
  rw [← row_word k hlt, ← hk]
  after_reads_simp [unaryIndexed_result_read, binaryIndexed_result_read, indexContents_tref_cons,
    indexContents_tref_empty]
  rfl

set_option maxHeartbeats 1000000 in
theorem trip1_da_im : after bodyOps1 (after condOps1 V) (Proc.devRef .tc main_v18_10)
    = addf (addf (V (Proc.devRef .tc main_v18_10) : Row1 F) (rowOf (mulf (adjIm V (4095 - k)) (befRe V (4095 - k)))))
      (rowOf (mulf (Host.negf (adjRe V (4095 - k))) (befIm V (4095 - k)))) := by
  unfold adjRe adjIm befRe befIm
  rw [← row_word k hlt, ← hk]
  after_reads_simp [unaryIndexed_result_read, binaryIndexed_result_read, indexContents_tref_cons,
    indexContents_tref_empty]
  rfl

theorem trip1_re : after bodyOps1 (after condOps1 V) (Proc.devRef .tc main_v18_11)
    = addf (mulf (V (Proc.devRef .tc main_v18_7) : Row F) (adjIm V (4095 - k))) (mulf (V (Proc.devRef .tc main_v18_4) : Row F) (adjRe V (4095 - k))) := by
  unfold adjRe adjIm
  rw [← row_word k hlt, ← hk]
  after_reads_simp [unaryIndexed_result_read, binaryIndexed_result_read, indexContents_tref_cons,
    indexContents_tref_empty]
  rfl

theorem trip1_im : after bodyOps1 (after condOps1 V) (Proc.devRef .tc main_v18_12)
    = addf (mulf (V (Proc.devRef .tc main_v18_6) : Row F) (adjIm V (4095 - k))) (mulf (V (Proc.devRef .tc main_v18_5) : Row F) (Host.negf (adjRe V (4095 - k)))) := by
  unfold adjRe adjIm
  rw [← row_word k hlt, ← hk]
  after_reads_simp [unaryIndexed_result_read, binaryIndexed_result_read, indexContents_tref_cons,
    indexContents_tref_empty]
  rfl

set_option maxHeartbeats 1000000 in
theorem trip1_out_re : after bodyOps1 (after condOps1 V) (Proc.devRef .tc main_v18_13)
    = updateRow (V (Proc.devRef .tc main_v18_13)) (rowOf (adjRe V (4095 - k))) ![word (4095 - k), word 0] := by
  unfold adjRe
  rw [← row_word k hlt, ← hk]
  after_reads_simp [unaryIndexed_result_read, binaryIndexed_result_read, indexContents_tref_cons,
    indexContents_tref_empty]
  rfl

set_option maxHeartbeats 1000000 in
theorem trip1_out_im : after bodyOps1 (after condOps1 V) (Proc.devRef .tc main_v18_14)
    = updateRow (V (Proc.devRef .tc main_v18_14)) (rowOf (adjIm V (4095 - k))) ![word (4095 - k), word 0] := by
  unfold adjIm
  rw [← row_word k hlt, ← hk]
  after_reads_simp [unaryIndexed_result_read, binaryIndexed_result_read, indexContents_tref_cons,
    indexContents_tref_empty]
  rfl

end Second

end Cert.RefScan
-- ==== Proof.Parts.lean ====
module

public import proofs.«01_k».proof.Proof.Table
public import Mathlib.Data.Complex.Basic
public import Mathlib.Data.EReal.Operations
public import Idealize.ShloMosaic.Lib.PointwiseCore
public import Idealize.ShloMosaic.Lib.KernelVsHost
public import Idealize.ShloMosaic.Lib.IdealHost
public import Idealize.ShloMosaic.Lib.StableHlo.Predicate
public import Idealize.ShloMosaic.Lib.Pipeline.Value

/-!
# Pairs of tensors as complex numbers

Over the extended reals a pair of tensors whose entries are all finite is the real and imaginary part of a tensor of
complex numbers. `Parts x y f` says that `x`, `y` are the parts of `f`; the operations of the two scans, taken in pairs,
are then sums and products of complex numbers.
-/

@[expose] public section

set_option maxRecDepth 16384

noncomputable section

namespace Cert.Scan

open Cert.KernelIdeal
open Idealize.ShloMosaic

/-- `x` and `y` are the real and imaginary parts of `f`. -/
def Parts {ι : Type} (x y : ι → EReal) (f : ι → ℂ) : Prop :=
  ∀ i, x i = ((f i).re : EReal) ∧ y i = ((f i).im : EReal)

namespace Parts

variable {s : Shape} {x y u v : FVec Ideal s .f32} {f g : s.Idx → ℂ}

theorem congr {ι : Type} {x y : ι → EReal} {f g : ι → ℂ} (h : Parts x y f) (e : ∀ i, f i = g i) : Parts x y g :=
  fun i => e i ▸ h i

/-- The sum of two pairs. -/
theorem add (h : Parts x y f) (k : Parts u v g) : Parts (addf x u) (addf y v) (fun i => f i + g i) := fun i => by
  refine ⟨?_, ?_⟩
  · show x i + u i = _
    rw [(h i).1, (k i).1, Complex.add_re, EReal.coe_add]
  · show y i + v i = _
    rw [(h i).2, (k i).2, Complex.add_im, EReal.coe_add]

/-- The product of two pairs, as the scans spell it. -/
theorem mul (h : Parts x y f) (k : Parts u v g) :
    Parts (subf (mulf x u) (mulf y v)) (addf (mulf x v) (mulf y u)) (fun i => f i * g i) := fun i => by
  refine ⟨?_, ?_⟩
  · show x i * u i - y i * v i = _
    rw [(h i).1, (k i).1, (h i).2, (k i).2, Complex.mul_re, EReal.coe_sub, EReal.coe_mul, EReal.coe_mul]
  · show x i * v i + y i * u i = _
    rw [(h i).1, (k i).1, (h i).2, (k i).2, Complex.mul_im, EReal.coe_add, EReal.coe_mul, EReal.coe_mul]

/-- A choice between two pairs. -/
theorem select (c : IVec s 1) (h : Parts x y f) (k : Parts u v g) :
    Parts (Idealize.ShloMosaic.select c x u) (Idealize.ShloMosaic.select c y v)
      (fun i => if c i = 1#1 then f i else g i) := fun i => by
  show (if c i = 1#1 then x i else u i) = (((if c i = 1#1 then f i else g i).re : ℝ) : EReal)
    ∧ (if c i = 1#1 then y i else v i) = (((if c i = 1#1 then f i else g i).im : ℝ) : EReal)
  split
  · exact h i
  · exact k i

/-- Both tensors read through the same map of indices. -/
theorem comp {ι κ : Type} {x y : ι → EReal} {f : ι → ℂ} (h : Parts x y f) (e : κ → ι) :
    Parts (fun k => x (e k)) (fun k => y (e k)) (fun k => f (e k)) := fun k => h (e k)

end Parts

/-- The bit pattern of zero. -/
theorem zero_bits : (Scalar.ofBits .f32 0x00000000#32 : Ideal .f32) = ((0 : ℝ) : EReal) :=
  Ideal.ofBits_zero_f32

/-- The bit pattern of one. -/
theorem one_bits : (Scalar.ofBits .f32 0x3F800000#32 : Ideal .f32) = ((1 : ℝ) : EReal) :=
  Ideal.ofBits_one_f32

/-- Zeros are the parts of zero. -/
theorem parts_zero (s : Shape) : Parts (broadcast (α := Ideal .f32) s (Scalar.ofBits .f32 0x00000000#32))
    (broadcast (α := Ideal .f32) s (Scalar.ofBits .f32 0x00000000#32)) (fun _ => 0) := fun i => by
  constructor <;> exact zero_bits

/-- A one and a zero are the parts of one. -/
theorem parts_one (s : Shape) : Parts (broadcast (α := Ideal .f32) s (Scalar.ofBits .f32 0x3F800000#32))
    (broadcast (α := Ideal .f32) s (Scalar.ofBits .f32 0x00000000#32)) (fun _ => 1) := fun i =>
  ⟨one_bits, zero_bits⟩

/-- A row of lanes repeated over `n` rows. -/
theorem parts_rows {n : ℕ} {x y : Vec Ideal S1x128 .f32} {z : Fin 128 → ℂ} (h : Parts x y (fun i => z (i 1)))
    (b : S1x128.Broadcasts (⟨2, ![n, 128]⟩ : Shape)) :
    Parts (broadcastTo (⟨2, ![n, 128]⟩ : Shape) x b) (broadcastTo (⟨2, ![n, 128]⟩ : Shape) y b) (fun i => z (i 1)) :=
  fun i => by
    have e : ∀ w : Vec Ideal S1x128 .f32, broadcastTo (⟨2, ![n, 128]⟩ : Shape) w b i
        = w (ix2 (n0 := 1) (n1 := 128) 0 (i 1)) := fun w =>
      broadcastTo_apply w b i _ fun a => match a with
        | ⟨0, _⟩ => rfl
        | ⟨1, _⟩ => rfl
    rw [e, e]
    exact h _

/-- A cast to the shape a tensor has. -/
theorem parts_cast {s : Shape} {x y : FVec Ideal s .f32} {f : s.Idx → ℂ} (h : Parts x y f) (c : s.ShapeCasts s) :
    Parts (shapeCast s x c) (shapeCast s y c) f := by
  rw [shapeCast_self, shapeCast_self]
  exact h

/-- A leading unit axis dropped. -/
theorem parts_drop {x y : Vec Ideal S1x32x128 .f32} {e : ℕ → Fin 128 → ℂ}
    (h : Parts x y (fun i => e (i 1).val (i 2))) (c : S1x32x128.ShapeCasts S32x128) :
    Parts (shapeCast S32x128 x c) (shapeCast S32x128 y c) (fun i => e (i 0).val (i 1)) := fun i => by
  idx_vars i
  pointwise
  exact h _

/-- A leading unit axis added. -/
theorem parts_lift {x y : FVec Ideal S32x128 .f32} {e : ℕ → Fin 128 → ℂ}
    (h : Parts x y (fun i => e (i 0).val (i 1))) (c : S32x128.ShapeCasts S1x32x128) :
    Parts (shapeCast S1x32x128 x c) (shapeCast S1x32x128 y c) (fun i => e (i 1).val (i 2)) := fun i => by
  idx_vars i
  pointwise
  exact h _

/-- The rows moved `d` down, zeros above: the state of the chunk `d` before. -/
theorem parts_down {x y : FVec Ideal S32x128 .f32} {e : ℕ → Fin 128 → ℂ} (h : Parts x y (fun i => e (i 0).val (i 1)))
    (d : ℕ) (hd : d < 32) (c : S32x128.Rotates 0 none) (hi : S32x128.Iotas .tc 32 [0]) :
    Parts (select (cmpi .sge (iota .tc S32x128 32 [0] hi) (broadcast S32x128 (BitVec.ofNat 32 d)))
        (dynamicRotate 0 (BitVec.ofNat 32 d) none x c) (broadcast (α := Ideal .f32) S32x128 (Scalar.ofBits .f32 0x00000000#32)))
      (select (cmpi .sge (iota .tc S32x128 32 [0] hi) (broadcast S32x128 (BitVec.ofNat 32 d)))
        (dynamicRotate 0 (BitVec.ofNat 32 d) none y c) (broadcast (α := Ideal .f32) S32x128 (Scalar.ofBits .f32 0x00000000#32)))
      (fun i => if d ≤ (i 0).val then e ((i 0).val - d) (i 1) else 0) := fun i => by
  have h0 : (i 0).val < 32 := (i 0).isLt
  have hw : (BitVec.ofNat 32 d).toNat = d := by rw [BitVec.toNat_ofNat]; omega
  have hc : cmpi .sge (iota .tc S32x128 32 [0] hi) (broadcast S32x128 (BitVec.ofNat 32 d)) i = 1 ↔ d ≤ (i 0).val := by
    show IntOp.cmpi .sge (BitVec.ofNat 32 (0 * 32 + (i 0).val)) (BitVec.ofNat 32 d) = 1#1 ↔ _
    rw [StableHlo.Predicate.sge_iff_toNat (by rw [BitVec.toNat_ofNat]; omega) (by omega), hw, BitVec.toNat_ofNat]
    omega
  have hr : ∀ (w : FVec Ideal S32x128 .f32), d ≤ (i 0).val → dynamicRotate 0 (BitVec.ofNat 32 d) none w c i
      = w (ix2 (n0 := 32) (n1 := 128) ⟨(i 0).val - d, by omega⟩ (i 1)) := fun w hle =>
    dynamicRotate_apply (s := S32x128) 0 _ w c i _ fun b => match b with
      | ⟨0, _⟩ => by
        show (i 0).val - d = ((i 0).val + 32 - (BitVec.ofNat 32 d).toNat % 32) % 32
        rw [hw]; omega
      | ⟨1, _⟩ => rfl
  by_cases hle : d ≤ (i 0).val
  · simp only [Idealize.ShloMosaic.select, Scalar.select, if_pos (hc.mpr hle), if_pos hle]
    rw [hr x hle, hr y hle]
    exact h _
  · simp only [Idealize.ShloMosaic.select, Scalar.select, if_neg (mt hc.mp hle), if_neg hle]
    exact parts_zero S32x128 i

/-- The rows moved up by `32 - u`, zeros below: in reversed order, the state of the chunk `32 - u` before. -/
theorem parts_up {x y : FVec Ideal S32x128 .f32} {e : ℕ → Fin 128 → ℂ} (h : Parts x y (fun i => e (31 - (i 0).val) (i 1)))
    (u : ℕ) (hu : u < 32) (hu0 : 0 < u) (c : S32x128.Rotates 0 none) (hi : S32x128.Iotas .tc 32 [0]) :
    Parts (select (cmpi .slt (iota .tc S32x128 32 [0] hi) (broadcast S32x128 (BitVec.ofNat 32 u)))
        (dynamicRotate 0 (BitVec.ofNat 32 u) none x c) (broadcast (α := Ideal .f32) S32x128 (Scalar.ofBits .f32 0x00000000#32)))
      (select (cmpi .slt (iota .tc S32x128 32 [0] hi) (broadcast S32x128 (BitVec.ofNat 32 u)))
        (dynamicRotate 0 (BitVec.ofNat 32 u) none y c) (broadcast (α := Ideal .f32) S32x128 (Scalar.ofBits .f32 0x00000000#32)))
      (fun i => if 32 - u ≤ 31 - (i 0).val then e (31 - (i 0).val - (32 - u)) (i 1) else 0) := fun i => by
  have h0 : (i 0).val < 32 := (i 0).isLt
  have hw : (BitVec.ofNat 32 u).toNat = u := by rw [BitVec.toNat_ofNat]; omega
  have hc : cmpi .slt (iota .tc S32x128 32 [0] hi) (broadcast S32x128 (BitVec.ofNat 32 u)) i = 1
      ↔ 32 - u ≤ 31 - (i 0).val := by
    show IntOp.cmpi .slt (BitVec.ofNat 32 (0 * 32 + (i 0).val)) (BitVec.ofNat 32 u) = 1#1 ↔ _
    rw [StableHlo.Predicate.slt_iff_toNat (by rw [BitVec.toNat_ofNat]; omega) (by omega), hw, BitVec.toNat_ofNat]
    omega
  have hr : ∀ (w : FVec Ideal S32x128 .f32), 32 - u ≤ 31 - (i 0).val → ∀ hlt : (i 0).val + (32 - u) < 32,
      dynamicRotate 0 (BitVec.ofNat 32 u) none w c i
        = w (ix2 (n0 := 32) (n1 := 128) ⟨(i 0).val + (32 - u), hlt⟩ (i 1)) := fun w hle hlt =>
    dynamicRotate_apply (s := S32x128) 0 _ w c i _ fun b => match b with
      | ⟨0, _⟩ => by
        show (i 0).val + (32 - u) = ((i 0).val + 32 - (BitVec.ofNat 32 u).toNat % 32) % 32
        rw [hw]; omega
      | ⟨1, _⟩ => rfl
  by_cases hle : 32 - u ≤ 31 - (i 0).val
  · have hlt : (i 0).val + (32 - u) < 32 := by omega
    have hi' : 31 - (i 0).val - (32 - u) = 31 - ((i 0).val + (32 - u)) := by omega
    simp only [Idealize.ShloMosaic.select, Scalar.select, if_pos (hc.mpr hle), if_pos hle, hi']
    rw [hr x hle hlt, hr y hle hlt]
    exact h _
  · simp only [Idealize.ShloMosaic.select, Scalar.select, if_neg (mt hc.mp hle), if_neg hle]
    exact parts_zero S32x128 i

end Cert.Scan
-- ==== Proof.Recur.lean ====
module

public import Mathlib.Data.Complex.Basic
public import Mathlib.Algebra.BigOperators.Group.Finset.Basic

/-!
# A linear recurrence, cut into chunks

`run a b s n` is the state after the steps `s, …, s + n - 1` of the recurrence `h ↦ a h + b`, started from zero at step
`s`. A run cut in two is the later part plus a power of `a` times the earlier one; hence the states at the ends of
chunks of 128 steps can be put together by doubling, each round looking twice as many chunks back as the one before.
-/

@[expose] public section

noncomputable section

namespace Cert.Scan

/-- The state after `n` steps from step `s`, started from zero. -/
def run (a : ℂ) (b : ℕ → ℂ) (s : ℕ) : ℕ → ℂ
  | 0 => 0
  | n + 1 => a * run a b s n + b (s + n)

variable (a : ℂ) (b : ℕ → ℂ)

/-- A run cut in two. -/
theorem run_append (s m n : ℕ) : run a b s (m + n) = a ^ n * run a b s m + run a b (s + m) n := by
  induction n with
  | zero => simp [run]
  | succ n ih =>
    rw [← Nat.add_assoc, run, ih, run, pow_succ, Nat.add_assoc s m n]
    ring

/-- A run depends on the steps it takes only. -/
theorem run_congr {b b' : ℕ → ℂ} (s n : ℕ) (h : ∀ t < s + n, b t = b' t) : run a b s n = run a b' s n := by
  induction n with
  | zero => rfl
  | succ n ih => rw [run, run, ih fun t ht => h t (by omega), h (s + n) (by omega)]

/-- The state at the end of chunk `r` of the run over the last `d` chunks up to it. -/
def ends (d r : ℕ) : ℂ := run a b (128 * (r + 1 - d)) (128 * min d (r + 1))

/-- One chunk alone. -/
theorem ends_one (r : ℕ) : ends a b 1 r = run a b (128 * r) 128 := by
  unfold ends
  rw [Nat.add_sub_cancel, Nat.min_eq_left (by omega)]

/-- A round: the runs over twice as many chunks. -/
theorem ends_double (d r : ℕ) :
    ends a b d r + a ^ (128 * d) * (if d ≤ r then ends a b d (r - d) else 0) = ends a b (2 * d) r := by
  unfold ends
  split
  · next h =>
    have e1 : 128 * min (2 * d) (r + 1) = 128 * min d (r - d + 1) + 128 * d := by omega
    have e2 : 128 * (r + 1 - 2 * d) = 128 * (r - d + 1 - d) := by omega
    have e3 : 128 * (r - d + 1 - d) + 128 * min d (r - d + 1) = 128 * (r + 1 - d) := by omega
    have e4 : 128 * min d (r + 1) = 128 * d := by omega
    rw [e1, e2, run_append, e3, e4]
    ring
  · next h =>
    have e1 : min (2 * d) (r + 1) = min d (r + 1) := by omega
    have e2 : r + 1 - 2 * d = r + 1 - d := by omega
    rw [e1, e2, mul_zero, add_zero]

/-- All chunks. -/
theorem ends_all {d r : ℕ} (h : r < d) : ends a b d r = run a b 0 (128 * (r + 1)) := by
  unfold ends
  rw [Nat.sub_eq_zero_of_le (by omega), Nat.mul_zero, Nat.min_eq_right (by omega)]

/-- A chunk's own state and the state carried in. -/
theorem run_carry (r k : ℕ) :
    run a b (128 * r) k + a ^ k * run a b 0 (128 * r) = run a b 0 (128 * r + k) := by
  rw [run_append, Nat.zero_add]
  ring

end Cert.Scan
-- ==== Proof.RefValue.lean ====
module

public import proofs.«01_k».proof.Proof.RefTrip
public import proofs.«01_k».proof.Proof.Parts
public import proofs.«01_k».proof.Proof.Recur
public import Mathlib.Analysis.Complex.Basic
public import Mathlib.Algebra.BigOperators.Intervals

/-!
# What the reference computes, in closed form

From arrays that are the parts of a row `A` of multipliers, of inputs `B` and of output gradients `C` (told from the last
time back), the first loop's states are the runs of the recurrence, the second loop's are the runs of the recurrence with
the conjugate multipliers over `C`, and its two sums are those of conjugated states times adjoint states.
-/

@[expose] public section

set_option maxRecDepth 16384

noncomputable section

namespace Cert.RefScan

open Cert.ReferenceIdeal Cert.ReferenceIdeal.Gen
open Idealize.ShloMosaic Idealize.ShloMosaic.TcCoe Idealize.ShloMosaic.StableHlo
open Cert.Scan (Parts run)

variable (A : Fin 2048 → ℂ) (B C : Fin 2048 → ℕ → ℂ)

open scoped ComplexConjugate

/-! ## Single entries -/

theorem row_parts {x y : Rows Ideal} {f : Fin 2048 → ℕ → ℂ} {k : ℕ} (hk : k < 4096)
    (h : Parts (ι := S4096x2048.Idx) x y (fun i => f (i 1) (i 0).val)) :
    Parts (ι := S2048.Idx) (rowAt x ![word k, word 0]) (rowAt y ![word k, word 0]) (fun n => f (n 0) k) := fun n => by
  rw [rowAt_apply x k hk, rowAt_apply y k hk]
  exact h (at2 ⟨k, hk⟩ (n 0))

/-- The conjugate of a number times another. -/
theorem conj_parts (a g : ℂ) : (a.im : EReal) * (g.im : EReal) + (a.re : EReal) * (g.re : EReal) = ((conj a * g).re : EReal)
    ∧ (a.re : EReal) * (g.im : EReal) + (a.im : EReal) * (-(g.re : EReal)) = ((conj a * g).im : EReal) := by
  refine ⟨?_, ?_⟩
  · rw [← EReal.coe_mul, ← EReal.coe_mul, ← EReal.coe_add]
    refine congrArg _ ?_
    rw [Complex.mul_re, Complex.conj_re, Complex.conj_im]
    ring
  · rw [← EReal.coe_neg, ← EReal.coe_mul, ← EReal.coe_mul, ← EReal.coe_add]
    refine congrArg _ ?_
    rw [Complex.mul_im, Complex.conj_re, Complex.conj_im]
    ring

/-- A running sum with the conjugate of a number times another added to it. -/
theorem conj_sum (s h g : ℂ) :
    (s.re : EReal) + (g.im : EReal) * (h.im : EReal) + (g.re : EReal) * (h.re : EReal) = ((s + conj h * g).re : EReal)
    ∧ (s.im : EReal) + (g.im : EReal) * (h.re : EReal) + -(g.re : EReal) * (h.im : EReal)
      = ((s + conj h * g).im : EReal) := by
  refine ⟨?_, ?_⟩
  · rw [← EReal.coe_mul, ← EReal.coe_mul, ← EReal.coe_add, ← EReal.coe_add]
    refine congrArg _ ?_
    rw [Complex.add_re, Complex.mul_re, Complex.conj_re, Complex.conj_im]
    ring
  · rw [← EReal.coe_neg, ← EReal.coe_mul, ← EReal.coe_mul, ← EReal.coe_add, ← EReal.coe_add]
    refine congrArg _ ?_
    rw [Complex.add_im, Complex.mul_im, Complex.conj_re, Complex.conj_im]
    ring

/-! ## The first loop -/

/-- What the buffers hold before the `k`-th test of the first loop. -/
structure Inv0 (V : Valuation τ sig (Elt Ideal)) (k : ℕ) : Prop where
  count : V (Proc.devRef .tc main_v9_6) = word (F := Ideal) k
  input : Parts (ι := S4096x2048.Idx) (V (Proc.devRef .tc main_v9_0)) (V (Proc.devRef .tc main_v9_1))
    (fun i => B (i 1) (i 0).val)
  mult : Parts (ι := S2048.Idx) (V (Proc.devRef .tc main_v9_2)) (V (Proc.devRef .tc main_v9_3)) (fun n => A (n 0))
  same_re : (V (Proc.devRef .tc main_v9_4) : Row Ideal) = V (Proc.devRef .tc main_v9_2)
  same_im : (V (Proc.devRef .tc main_v9_5) : Row Ideal) = V (Proc.devRef .tc main_v9_3)
  state : Parts (ι := S2048.Idx) (V (Proc.devRef .tc main_v9_7)) (V (Proc.devRef .tc main_v9_8))
    (fun n => run (A (n 0)) (B (n 0)) 0 k)
  out : ∀ i : S4096x2048.Idx, (i 0).val < k →
    (V (Proc.devRef .tc main_v9_9) : Rows Ideal) i = ((run (A (i 1)) (B (i 1)) 0 ((i 0).val + 1)).re : EReal)
    ∧ (V (Proc.devRef .tc main_v9_10) : Rows Ideal) i = ((run (A (i 1)) (B (i 1)) 0 ((i 0).val + 1)).im : EReal)
  before : ∀ i : S4096x2048.Idx, (i 0).val < k →
    (V (Proc.devRef .tc main_v9_11) : Rows Ideal) i = ((run (A (i 1)) (B (i 1)) 0 (i 0).val).re : EReal)
    ∧ (V (Proc.devRef .tc main_v9_12) : Rows Ideal) i = ((run (A (i 1)) (B (i 1)) 0 (i 0).val).im : EReal)

variable {A B C}

/-- A pair of arrays with one more row known. -/
theorem rows_step {x y : Rows Ideal} {u v : Row Ideal} {f : S4096x2048.Idx → ℂ} {g : Fin 2048 → ℂ} {k : ℕ} (hk : k < 4096)
    {P : ℕ → Prop} (h : ∀ i : S4096x2048.Idx, P (i 0).val → x i = ((f i).re : EReal) ∧ y i = ((f i).im : EReal))
    (hu : Parts (ι := S2048.Idx) u v (fun n => g (n 0))) (e : ∀ i : S4096x2048.Idx, (i 0).val = k → f i = g (i 1))
    (i : S4096x2048.Idx) (hi : (i 0).val ≠ k → P (i 0).val) :
    updateRow x (rowOf u) ![word k, word 0] i = ((f i).re : EReal)
      ∧ updateRow y (rowOf v) ![word k, word 0] i = ((f i).im : EReal) := by
  rw [updateRow_apply x _ k hk, updateRow_apply y _ k hk]
  by_cases hik : (i 0).val = k
  · rw [if_pos hik, if_pos hik, rowOf_apply, rowOf_apply, e i hik]
    exact hu (ix1 (n0 := 2048) (i 1))
  · rw [if_neg hik, if_neg hik]
    exact h i (hi hik)

/-- One trip of the first loop. -/
theorem Inv0.step {V : Valuation τ sig (Elt Ideal)} {k : ℕ} (h : Inv0 A B V k) (hk : k < 4096)
    (hc : after bodyOps0 (after condOps0 V) (Proc.devRef .tc main_v9_6) = word (F := Ideal) (k + 1)) :
    Inv0 A B (after bodyOps0 (after condOps0 V)) (k + 1) := by
  obtain ⟨k0, k1, k2, k3, k4, k5⟩ := trip0_keep V
  have hs : Parts (ι := S2048.Idx) (after bodyOps0 (after condOps0 V) (Proc.devRef .tc main_v9_7))
      (after bodyOps0 (after condOps0 V) (Proc.devRef .tc main_v9_8)) (fun n => run (A (n 0)) (B (n 0)) 0 (k + 1)) := by
    rw [trip0_re h.count, trip0_im h.count, h.same_re, h.same_im]
    refine ((h.mult.mul h.state).add (row_parts hk h.input)).congr fun n => ?_
    rw [run, Nat.zero_add]
  refine ⟨hc, ?_, ?_, ?_, ?_, hs, fun i hi => ?_, fun i hi => ?_⟩
  · rw [k0, k1]; exact h.input
  · rw [k2, k3]; exact h.mult
  · rw [k4, k2]; exact h.same_re
  · rw [k5, k3]; exact h.same_im
  · rw [trip0_out_re h.count, trip0_out_im h.count]
    exact rows_step (g := fun n => run (A n) (B n) 0 (k + 1)) hk (P := fun t => t < k) h.out hs
      (fun i e => congrArg (fun t => run (A (i 1)) (B (i 1)) 0 (t + 1)) e) i
      fun hne => by omega
  · rw [trip0_before_re h.count, trip0_before_im h.count]
    exact rows_step (g := fun n => run (A n) (B n) 0 k) hk (P := fun t => t < k) h.before h.state
      (fun i e => congrArg (fun t => run (A (i 1)) (B (i 1)) 0 t) e) i
      fun hne => by omega

/-! ## The second loop -/

variable (A B C) in
/-- What the buffers hold before the `k`-th test of the second loop. -/
structure Inv1 (V : Valuation τ sig (Elt Ideal)) (k : ℕ) : Prop where
  count : V (Proc.devRef .tc main_v18_8) = word (F := Ideal) k
  cot : Parts (ι := S4096x2048.Idx) (V (Proc.devRef .tc main_v18_0)) (V (Proc.devRef .tc main_v18_1))
    (fun i => C (i 1) (4095 - (i 0).val))
  before : Parts (ι := S4096x2048.Idx) (V (Proc.devRef .tc main_v18_2)) (V (Proc.devRef .tc main_v18_3))
    (fun i => run (A (i 1)) (B (i 1)) 0 (i 0).val)
  mult : Parts (ι := S2048.Idx) (V (Proc.devRef .tc main_v18_4)) (V (Proc.devRef .tc main_v18_5)) (fun n => A (n 0))
  same_re : (V (Proc.devRef .tc main_v18_6) : Row Ideal) = V (Proc.devRef .tc main_v18_4)
  same_im : (V (Proc.devRef .tc main_v18_7) : Row Ideal) = V (Proc.devRef .tc main_v18_5)
  carry : Parts (ι := S2048.Idx) (V (Proc.devRef .tc main_v18_11)) (V (Proc.devRef .tc main_v18_12))
    (fun n => conj (A (n 0)) * run (conj (A (n 0))) (C (n 0)) 0 k)
  out : ∀ i : S4096x2048.Idx, 4096 - k ≤ (i 0).val →
    (V (Proc.devRef .tc main_v18_13) : Rows Ideal) i
      = ((run (conj (A (i 1))) (C (i 1)) 0 (4096 - (i 0).val)).re : EReal)
    ∧ (V (Proc.devRef .tc main_v18_14) : Rows Ideal) i
      = ((run (conj (A (i 1))) (C (i 1)) 0 (4096 - (i 0).val)).im : EReal)
  total : Parts (ι := S1x2048.Idx) (V (Proc.devRef .tc main_v18_9)) (V (Proc.devRef .tc main_v18_10))
    (fun y => ∑ j ∈ Finset.range k,
      conj (run (A (y 1)) (B (y 1)) 0 (4095 - j)) * run (conj (A (y 1))) (C (y 1)) 0 (j + 1))

/-- One trip of the second loop. -/
theorem Inv1.step {V : Valuation τ sig (Elt Ideal)} {k : ℕ} (h : Inv1 A B C V k) (hk : k < 4096)
    (hc : after bodyOps1 (after condOps1 V) (Proc.devRef .tc main_v18_8) = word (F := Ideal) (k + 1)) :
    Inv1 A B C (after bodyOps1 (after condOps1 V)) (k + 1) := by
  obtain ⟨k0, k1, k2, k3, k4, k5, k6, k7⟩ := trip1_keep V
  have hr : 4095 - k < 4096 := by omega
  have hg : Parts (ι := S2048.Idx) (adjRe V (4095 - k)) (adjIm V (4095 - k))
      (fun n => run (conj (A (n 0))) (C (n 0)) 0 (k + 1)) := by
    refine (h.carry.add (row_parts (f := fun n t => C n (4095 - t)) hr h.cot)).congr fun n => ?_
    rw [run, Nat.zero_add, show 4095 - (4095 - k) = k by omega]
  have hb : Parts (ι := S2048.Idx) (befRe V (4095 - k)) (befIm V (4095 - k))
      (fun n => run (A (n 0)) (B (n 0)) 0 (4095 - k)) :=
    row_parts (f := fun n t => run (A n) (B n) 0 t) hr h.before
  refine ⟨hc, ?_, ?_, ?_, ?_, ?_, fun n => ?_, fun i hi => ?_, fun y => ?_⟩
  · rw [k0, k1]; exact h.cot
  · rw [k2, k3]; exact h.before
  · rw [k4, k5]; exact h.mult
  · rw [k6, k4]; exact h.same_re
  · rw [k7, k5]; exact h.same_im
  · rw [trip1_re h.count hk, trip1_im h.count hk, h.same_re, h.same_im]
    have e := conj_parts (A (n 0)) (run (conj (A (n 0))) (C (n 0)) 0 (k + 1))
    rw [← (hg n).1, ← (hg n).2, ← (h.mult n).1, ← (h.mult n).2] at e
    exact e
  · rw [trip1_out_re h.count hk, trip1_out_im h.count hk]
    refine rows_step (g := fun n => run (conj (A n)) (C n) 0 (k + 1)) hr (P := fun t => 4096 - k ≤ t) h.out hg
      (fun i e => congrArg (fun t => run (conj (A (i 1))) (C (i 1)) 0 t) ?_) i fun hne => by omega
    omega
  · rw [trip1_da_re h.count hk, trip1_da_im h.count hk]
    have es (n : Fin 2048) := conj_sum (∑ j ∈ Finset.range k,
      conj (run (A n) (B n) 0 (4095 - j)) * run (conj (A n)) (C n) 0 (j + 1))
      (run (A n) (B n) 0 (4095 - k)) (run (conj (A n)) (C n) 0 (k + 1))
    have er (n : Fin 2048) := Finset.sum_range_succ
      (fun j => conj (run (A n) (B n) 0 (4095 - j)) * run (conj (A n)) (C n) 0 (j + 1)) k
    have e : ∀ n : Fin 2048, _ := fun n => (er n).symm ▸ es n
    have e := e (y 1)
    have g1 := (hg (ix1 (n0 := 2048) (y 1))).1
    have g2 := (hg (ix1 (n0 := 2048) (y 1))).2
    have b1 := (hb (ix1 (n0 := 2048) (y 1))).1
    have b2 := (hb (ix1 (n0 := 2048) (y 1))).2
    have t1 := (h.total y).1
    have t2 := (h.total y).2
    refine ⟨Eq.trans ?_ e.1, Eq.trans ?_ e.2⟩
    · refine (congrArg₂ (· + ·) (congrArg₂ (· + ·) t1 (rowOf_apply _ y)) (rowOf_apply _ y)).trans ?_
      exact congrArg₂ (· + ·) (congrArg₂ (· + ·) rfl (congrArg₂ (· * ·) g2 b2)) (congrArg₂ (· * ·) g1 b1)
    · refine (congrArg₂ (· + ·) (congrArg₂ (· + ·) t2 (rowOf_apply _ y)) (rowOf_apply _ y)).trans ?_
      exact congrArg₂ (· + ·) (congrArg₂ (· + ·) rfl (congrArg₂ (· * ·) g2 b1))
        (congrArg₂ (· * ·) (congrArg (fun t => -t) g1) b2)

/-! ## From the arguments to the results -/

section Whole
variable {m : (ℓ : Loc nD τ sig) → Buf (Elt Ideal) ℓ} {c : Dev nD}
variable (hA : Parts (ι := S1x2048.Idx) (launchContents m c (Proc.devRef .tc main_arg2))
    (launchContents m c (Proc.devRef .tc main_arg3)) (fun y => A (y 1)))
  (hB : Parts (ι := S4096x2048.Idx) (launchContents m c (Proc.devRef .tc main_arg0))
    (launchContents m c (Proc.devRef .tc main_arg1)) (fun i => B (i 1) (i 0).val))
  (hC : Parts (ι := S4096x2048.Idx) (launchContents m c (Proc.devRef .tc main_arg4))
    (launchContents m c (Proc.devRef .tc main_arg5)) (fun i => C (i 1) (4095 - (i 0).val)))

/-- A row's shape cast from an array of one row. -/
theorem flat_apply (x : Row1 Ideal) (n : S2048.Idx) :
    shapeCast S2048 x shapeCasts_S1x2048_S2048 n = x (ix2 (n0 := 1) (n1 := 2048) 0 (n 0)) := by
  idx_vars n
  pointwise

/-- Zeros are the parts of zero, as the reference spells them. -/
theorem splat_zero (s : Shape) (d : Fin S_.rank → Fin s.rank) (h : S_.BroadcastsInDim s d) (i : s.Idx) :
    broadcastInDim s d h (constant (F := Ideal) S_ .f32 0x00000000#32) i = (((0 : ℂ).re : ℝ) : EReal) := by
  exact Cert.Scan.zero_bits

include hA hB in
theorem inv0_zero : Inv0 A B (W0at m 0 c) 0 := by
  have hW : W0at m 0 c = after preOps (launchContents m c) := rfl
  rw [hW]
  have e2 : after preOps (launchContents m c) (Proc.devRef .tc main_v9_2)
      = shapeCast S2048 (launchContents m c (Proc.devRef .tc main_arg2) : Row1 Ideal) shapeCasts_S1x2048_S2048 := by
    after_reads_simp; rfl
  have e3 : after preOps (launchContents m c) (Proc.devRef .tc main_v9_3)
      = shapeCast S2048 (launchContents m c (Proc.devRef .tc main_arg3) : Row1 Ideal) shapeCasts_S1x2048_S2048 := by
    after_reads_simp; rfl
  have e0 : after preOps (launchContents m c) (Proc.devRef .tc main_v9_0)
      = launchContents m c (Proc.devRef .tc main_arg0) := by after_reads_simp; rfl
  have e1 : after preOps (launchContents m c) (Proc.devRef .tc main_v9_1)
      = launchContents m c (Proc.devRef .tc main_arg1) := by after_reads_simp; rfl
  have e7 : after preOps (launchContents m c) (Proc.devRef .tc main_v9_7)
      = splatS2048 (constant (F := Ideal) S_ .f32 0x00000000#32) := by after_reads_simp; rfl
  have e8 : after preOps (launchContents m c) (Proc.devRef .tc main_v9_8)
      = splatS2048 (constant (F := Ideal) S_ .f32 0x00000000#32) := by after_reads_simp; rfl
  refine ⟨W0at_counter m c 0, ?_, fun n => ?_, ?_, ?_, fun n => ?_, fun i hi => by omega, fun i hi => by omega⟩
  · rw [e0, e1]; exact hB
  · rw [e2, e3, flat_apply, flat_apply]; exact hA _
  · after_reads_simp; rfl
  · after_reads_simp; rfl
  · rw [e7, e8]
    exact ⟨splat_zero _ _ _ n, splat_zero _ _ _ n⟩

include hA hB in
theorem inv0_at : ∀ k ≤ 4096, Inv0 A B (W0at m k c) k
  | 0, _ => inv0_zero hA hB
  | k + 1, hk => by
    have h := (inv0_at k (by omega)).step (by omega) (by rw [← W0at_succ]; exact W0at_counter m c (k + 1))
    rw [W0at_succ]
    exact h

/-- What the first loop leaves alone, after any number of trips. -/
theorem W0at_keep : ∀ k : ℕ,
    W0at m k c (Proc.devRef .tc main_arg4) = launchContents m c (Proc.devRef .tc main_arg4)
    ∧ W0at m k c (Proc.devRef .tc main_arg5) = launchContents m c (Proc.devRef .tc main_arg5)
    ∧ W0at m k c (Proc.devRef .tc main_v1) = W0at m 0 c (Proc.devRef .tc main_v1)
    ∧ W0at m k c (Proc.devRef .tc main_v2) = W0at m 0 c (Proc.devRef .tc main_v2)
    ∧ W0at m k c (Proc.devRef .tc main_v3) = W0at m 0 c (Proc.devRef .tc main_v3)
    ∧ W0at m k c (Proc.devRef .tc main_v4) = W0at m 0 c (Proc.devRef .tc main_v4)
  | 0 => by
    refine ⟨?_, ?_, rfl, rfl, rfl, rfl⟩
    · show after preOps (launchContents m c) (Proc.devRef .tc main_arg4) = _
      after_reads_simp
    · show after preOps (launchContents m c) (Proc.devRef .tc main_arg5) = _
      after_reads_simp
  | k + 1 => by
    have h := W0at_keep k
    have e : ∀ V : Valuation τ sig (Elt Ideal),
        after bodyOps0 (after condOps0 V) (Proc.devRef .tc main_arg4) = V (Proc.devRef .tc main_arg4)
        ∧ after bodyOps0 (after condOps0 V) (Proc.devRef .tc main_arg5) = V (Proc.devRef .tc main_arg5)
        ∧ after bodyOps0 (after condOps0 V) (Proc.devRef .tc main_v1) = V (Proc.devRef .tc main_v1)
        ∧ after bodyOps0 (after condOps0 V) (Proc.devRef .tc main_v2) = V (Proc.devRef .tc main_v2)
        ∧ after bodyOps0 (after condOps0 V) (Proc.devRef .tc main_v3) = V (Proc.devRef .tc main_v3)
        ∧ after bodyOps0 (after condOps0 V) (Proc.devRef .tc main_v4) = V (Proc.devRef .tc main_v4) := fun V => by
      refine ⟨?_, ?_, ?_, ?_, ?_, ?_⟩ <;> after_reads_simp
    obtain ⟨h1, h2, h3, h4, h5, h6⟩ := e (W0at m k c)
    rw [W0at_succ, h1, h2, h3, h4, h5, h6]
    exact h

include hA hB hC in
theorem inv1_zero : Inv1 A B C (W1at m 0 c) 0 := by
  have i0 := inv0_at hA hB 4096 le_rfl
  obtain ⟨q4, q5, q1, q2, q3, q4'⟩ := W0at_keep (m := m) (c := c) 4096
  have hW : W1at m 0 c = after midOps (after condOps0 (W0at m 4096 c)) := rfl
  have w1 : W0at m 0 c (Proc.devRef .tc main_v1)
      = shapeCast S2048 (launchContents m c (Proc.devRef .tc main_arg2) : Row1 Ideal) shapeCasts_S1x2048_S2048 := by
    show after preOps (launchContents m c) _ = _
    after_reads_simp; rfl
  have w2 : W0at m 0 c (Proc.devRef .tc main_v2)
      = shapeCast S2048 (launchContents m c (Proc.devRef .tc main_arg3) : Row1 Ideal) shapeCasts_S1x2048_S2048 := by
    show after preOps (launchContents m c) _ = _
    after_reads_simp; rfl
  have w3 : W0at m 0 c (Proc.devRef .tc main_v3) = W0at m 0 c (Proc.devRef .tc main_v1) := by
    show after preOps (launchContents m c) _ = after preOps (launchContents m c) _
    after_reads_simp
  have w4 : W0at m 0 c (Proc.devRef .tc main_v4) = W0at m 0 c (Proc.devRef .tc main_v2) := by
    show after preOps (launchContents m c) _ = after preOps (launchContents m c) _
    after_reads_simp
  generalize W0at m 4096 c = V at i0 q4 q5 q1 q2 q3 q4' hW
  have e : ∀ V : Valuation τ sig (Elt Ideal),
      after midOps (after condOps0 V) (Proc.devRef .tc main_v18_0) = V (Proc.devRef .tc main_arg4)
      ∧ after midOps (after condOps0 V) (Proc.devRef .tc main_v18_1) = V (Proc.devRef .tc main_arg5)
      ∧ after midOps (after condOps0 V) (Proc.devRef .tc main_v18_2) = V (Proc.devRef .tc main_v9_11)
      ∧ after midOps (after condOps0 V) (Proc.devRef .tc main_v18_3) = V (Proc.devRef .tc main_v9_12)
      ∧ after midOps (after condOps0 V) (Proc.devRef .tc main_v18_4) = V (Proc.devRef .tc main_v1)
      ∧ after midOps (after condOps0 V) (Proc.devRef .tc main_v18_5) = V (Proc.devRef .tc main_v2)
      ∧ after midOps (after condOps0 V) (Proc.devRef .tc main_v18_6) = V (Proc.devRef .tc main_v3)
      ∧ after midOps (after condOps0 V) (Proc.devRef .tc main_v18_7) = V (Proc.devRef .tc main_v4) := fun V => by
    refine ⟨?_, ?_, ?_, ?_, ?_, ?_, ?_, ?_⟩ <;> (after_reads_simp; rfl)
  have z : ∀ V : Valuation τ sig (Elt Ideal),
      after midOps (after condOps0 V) (Proc.devRef .tc main_v18_9)
        = splatS1x2048 (constant (F := Ideal) S_ .f32 0x00000000#32)
      ∧ after midOps (after condOps0 V) (Proc.devRef .tc main_v18_10)
        = splatS1x2048 (constant (F := Ideal) S_ .f32 0x00000000#32)
      ∧ after midOps (after condOps0 V) (Proc.devRef .tc main_v18_11)
        = splatS2048 (constant (F := Ideal) S_ .f32 0x00000000#32)
      ∧ after midOps (after condOps0 V) (Proc.devRef .tc main_v18_12)
        = splatS2048 (constant (F := Ideal) S_ .f32 0x00000000#32) := fun V => by
    refine ⟨?_, ?_, ?_, ?_⟩ <;> (after_reads_simp; rfl)
  obtain ⟨e0, e1, e2, e3, e4, e5, e6, e7⟩ := e V
  obtain ⟨z9, z10, z11, z12⟩ := z V
  refine ⟨W1at_counter m c 0, ?_, fun i => ?_, fun n => ?_, ?_, ?_, fun n => ?_, fun i hi => ?_, fun y => ?_⟩
  · rw [hW, e0, e1, q4, q5]; exact hC
  · rw [hW, e2, e3]; exact i0.before i (i 0).isLt
  · rw [hW, e4, e5, q1, q2, w1, w2, flat_apply, flat_apply]; exact hA _
  · rw [hW, e6, e4, q3, q1, w3]
  · rw [hW, e7, e5, q4', q2, w4]
  · rw [hW, z11, z12]
    exact Parts.congr (f := fun _ => 0) (fun n => ⟨splat_zero _ _ _ n, splat_zero _ _ _ n⟩)
      (fun n : S2048.Idx => (mul_zero (conj (A (n 0)))).symm) n
  · have := (i 0).isLt
    have h4 : (i 0).val < 4096 := this
    omega
  · rw [hW, z9, z10]
    exact Parts.congr (f := fun _ => 0) (g := fun y : S1x2048.Idx => ∑ j ∈ Finset.range 0,
        conj (run (A (y 1)) (B (y 1)) 0 (4095 - j)) * run (conj (A (y 1))) (C (y 1)) 0 (j + 1))
      (fun y => ⟨splat_zero _ _ _ y, splat_zero _ _ _ y⟩) (fun y => (Finset.sum_range_zero _).symm) y

include hA hB hC in
theorem inv1_at : ∀ k ≤ 4096, Inv1 A B C (W1at m k c) k
  | 0, _ => inv1_zero hA hB hC
  | k + 1, hk => by
    have h := (inv1_at k (by omega)).step (by omega) (by rw [← W1at_succ]; exact W1at_counter m c (k + 1))
    rw [W1at_succ]
    exact h

/-- The second loop leaves the first loop's states alone. -/
theorem W1at_keep : ∀ k : ℕ,
    W1at m k c (Proc.devRef .tc main_v9_9) = W0at m 4096 c (Proc.devRef .tc main_v9_9)
    ∧ W1at m k c (Proc.devRef .tc main_v9_10) = W0at m 4096 c (Proc.devRef .tc main_v9_10)
  | 0 => by
    have e : ∀ V : Valuation τ sig (Elt Ideal),
        after midOps (after condOps0 V) (Proc.devRef .tc main_v9_9) = V (Proc.devRef .tc main_v9_9)
        ∧ after midOps (after condOps0 V) (Proc.devRef .tc main_v9_10) = V (Proc.devRef .tc main_v9_10) := fun V => by
      refine ⟨?_, ?_⟩ <;> after_reads_simp
    exact e (W0at m 4096 c)
  | k + 1 => by
    have h := W1at_keep k
    have e : ∀ V : Valuation τ sig (Elt Ideal),
        after bodyOps1 (after condOps1 V) (Proc.devRef .tc main_v9_9) = V (Proc.devRef .tc main_v9_9)
        ∧ after bodyOps1 (after condOps1 V) (Proc.devRef .tc main_v9_10) = V (Proc.devRef .tc main_v9_10) := fun V => by
      refine ⟨?_, ?_⟩ <;> after_reads_simp
    obtain ⟨h1, h2⟩ := e (W1at m k c)
    rw [W1at_succ, h1, h2]
    exact h

/-- What the last test leaves of the results. -/
theorem WEnd_out : WEnd m c (Proc.devRef .tc main_v9_9) = W1at m 4096 c (Proc.devRef .tc main_v9_9)
    ∧ WEnd m c (Proc.devRef .tc main_v9_10) = W1at m 4096 c (Proc.devRef .tc main_v9_10)
    ∧ WEnd m c (Proc.devRef .tc main_v18_13) = W1at m 4096 c (Proc.devRef .tc main_v18_13)
    ∧ WEnd m c (Proc.devRef .tc main_v18_14) = W1at m 4096 c (Proc.devRef .tc main_v18_14)
    ∧ WEnd m c (Proc.devRef .tc main_v18_9) = W1at m 4096 c (Proc.devRef .tc main_v18_9)
    ∧ WEnd m c (Proc.devRef .tc main_v18_10) = W1at m 4096 c (Proc.devRef .tc main_v18_10) := by
  have e : ∀ V : Valuation τ sig (Elt Ideal),
      after condOps1 V (Proc.devRef .tc main_v9_9) = V (Proc.devRef .tc main_v9_9)
      ∧ after condOps1 V (Proc.devRef .tc main_v9_10) = V (Proc.devRef .tc main_v9_10)
      ∧ after condOps1 V (Proc.devRef .tc main_v18_13) = V (Proc.devRef .tc main_v18_13)
      ∧ after condOps1 V (Proc.devRef .tc main_v18_14) = V (Proc.devRef .tc main_v18_14)
      ∧ after condOps1 V (Proc.devRef .tc main_v18_9) = V (Proc.devRef .tc main_v18_9)
      ∧ after condOps1 V (Proc.devRef .tc main_v18_10) = V (Proc.devRef .tc main_v18_10) := fun V => by
    refine ⟨?_, ?_, ?_, ?_, ?_, ?_⟩ <;> after_reads_simp
  exact e (W1at m 4096 c)

include hA hB in
/-- The states. -/
theorem ref_states : Parts (ι := S4096x2048.Idx) (WEnd m c (Proc.devRef .tc main_v9_9))
    (WEnd m c (Proc.devRef .tc main_v9_10)) (fun i => run (A (i 1)) (B (i 1)) 0 ((i 0).val + 1)) := fun i => by
  obtain ⟨h1, h2, -⟩ := WEnd_out (m := m) (c := c)
  obtain ⟨k1, k2⟩ := W1at_keep (m := m) (c := c) 4096
  rw [h1, h2, k1, k2]
  exact (inv0_at hA hB 4096 le_rfl).out i (i 0).isLt

include hA hB hC in
/-- The adjoint states. -/
theorem ref_adjoint : Parts (ι := S4096x2048.Idx) (WEnd m c (Proc.devRef .tc main_v18_13))
    (WEnd m c (Proc.devRef .tc main_v18_14)) (fun i => run (conj (A (i 1))) (C (i 1)) 0 (4096 - (i 0).val)) := fun i => by
  obtain ⟨-, -, h1, h2, -⟩ := WEnd_out (m := m) (c := c)
  rw [h1, h2]
  exact (inv1_at hA hB hC 4096 le_rfl).out i (by omega)

include hA hB hC in
/-- The multipliers' gradient. -/
theorem ref_total : Parts (ι := S1x2048.Idx) (WEnd m c (Proc.devRef .tc main_v18_9))
    (WEnd m c (Proc.devRef .tc main_v18_10)) (fun y => ∑ t ∈ Finset.range 4096,
      conj (run (A (y 1)) (B (y 1)) 0 t) * run (conj (A (y 1))) (C (y 1)) 0 (4096 - t)) := by
  obtain ⟨-, -, -, -, h1, h2⟩ := WEnd_out (m := m) (c := c)
  rw [h1, h2]
  refine (inv1_at hA hB hC 4096 le_rfl).total.congr fun y => ?_
  rw [← Finset.sum_range_reflect]
  refine Finset.sum_congr rfl fun t ht => ?_
  have := Finset.mem_range.mp ht
  rw [show 4095 - (4096 - 1 - t) = t by omega, show 4096 - 1 - t + 1 = 4096 - t by omega]

end Whole

end Cert.RefScan
-- ==== Proof.Stages.lean ====
module

public import proofs.«01_k».proof.Proof.Parts
public import proofs.«01_k».proof.Proof.Recur
public import Mathlib.Tactic.IntervalCases

/-!
# The stages both calls share, as complex numbers

Squarings of a row of transitions, the rounds over the ends of the chunks, and the table of powers.
-/

@[expose] public section

set_option maxRecDepth 16384

noncomputable section

namespace Cert.Scan

open Cert.KernelIdeal
open Idealize.ShloMosaic

variable {z : Fin 128 → ℂ} {b : Fin 128 → ℕ → ℂ}

/-- A row of `n`-th powers squared. -/
theorem parts_sq {x y : FVec Ideal S1x128 .f32} {n : ℕ} (h : Parts x y (fun i => z (i 1) ^ n)) :
    Parts (subf (mulf x x) (mulf y y)) (addf (mulf x y) (mulf y x)) (fun i => z (i 1) ^ (2 * n)) :=
  (h.mul h).congr fun i => by rw [two_mul, pow_add]

/-- A round that looks `d` chunks back. -/
theorem round_down {p q : FVec Ideal S1x128 .f32} {x y : FVec Ideal S32x128 .f32} (d : ℕ) (hd : d < 32)
    (hp : Parts p q (fun i => z (i 1) ^ (128 * d)))
    (h : Parts x y (fun i => ends (z (i 1)) (b (i 1)) d (i 0).val))
    (c : S32x128.Rotates 0 none) (hi : S32x128.Iotas .tc 32 [0]) (hb : S1x128.Broadcasts S32x128) :
    let u := select (cmpi .sge (iota .tc S32x128 32 [0] hi) (broadcast S32x128 (BitVec.ofNat 32 d)))
        (dynamicRotate 0 (BitVec.ofNat 32 d) none x c)
        (broadcast (α := Ideal .f32) S32x128 (Scalar.ofBits .f32 0x00000000#32))
    let v := select (cmpi .sge (iota .tc S32x128 32 [0] hi) (broadcast S32x128 (BitVec.ofNat 32 d)))
        (dynamicRotate 0 (BitVec.ofNat 32 d) none y c)
        (broadcast (α := Ideal .f32) S32x128 (Scalar.ofBits .f32 0x00000000#32))
    Parts (addf x (subf (mulf (broadcastTo S32x128 p hb) u) (mulf (broadcastTo S32x128 q hb) v)))
      (addf y (addf (mulf (broadcastTo S32x128 p hb) v) (mulf (broadcastTo S32x128 q hb) u)))
      (fun i => ends (z (i 1)) (b (i 1)) (2 * d) (i 0).val) :=
  (h.add ((parts_rows (n := 32) (z := fun l => z l ^ (128 * d)) hp hb).mul
    (parts_down (e := fun r l => ends (z l) (b l) d r) h d hd c hi))).congr fun i => ends_double _ _ _ _

/-- A round in reversed order: it looks `32 - u` chunks ahead. -/
theorem round_up {p q : FVec Ideal S1x128 .f32} {x y : FVec Ideal S32x128 .f32} (u : ℕ) (hu : u < 32) (hu0 : 0 < u)
    (hp : Parts p q (fun i => z (i 1) ^ (128 * (32 - u))))
    (h : Parts x y (fun i => ends (z (i 1)) (b (i 1)) (32 - u) (31 - (i 0).val)))
    (c : S32x128.Rotates 0 none) (hi : S32x128.Iotas .tc 32 [0]) (hb : S1x128.Broadcasts S32x128) :
    let v := select (cmpi .slt (iota .tc S32x128 32 [0] hi) (broadcast S32x128 (BitVec.ofNat 32 u)))
        (dynamicRotate 0 (BitVec.ofNat 32 u) none x c)
        (broadcast (α := Ideal .f32) S32x128 (Scalar.ofBits .f32 0x00000000#32))
    let w := select (cmpi .slt (iota .tc S32x128 32 [0] hi) (broadcast S32x128 (BitVec.ofNat 32 u)))
        (dynamicRotate 0 (BitVec.ofNat 32 u) none y c)
        (broadcast (α := Ideal .f32) S32x128 (Scalar.ofBits .f32 0x00000000#32))
    Parts (addf x (subf (mulf (broadcastTo S32x128 p hb) v) (mulf (broadcastTo S32x128 q hb) w)))
      (addf y (addf (mulf (broadcastTo S32x128 p hb) w) (mulf (broadcastTo S32x128 q hb) v)))
      (fun i => ends (z (i 1)) (b (i 1)) (2 * (32 - u)) (31 - (i 0).val)) :=
  (h.add ((parts_rows (n := 32) (z := fun l => z l ^ (128 * (32 - u))) hp hb).mul
    (parts_up (e := fun r l => ends (z l) (b l) (32 - u) r) h u hu hu0 c hi))).congr fun i => ends_double _ _ _ _

/-! ## The table -/

/-- One bit of the exponent: where it is set the row is multiplied. -/
theorem parts_bit {n : ℕ} {x y : FVec Ideal (⟨2, ![n, 128]⟩ : Shape) .f32} {p q : FVec Ideal S1x128 .f32}
    {f : (⟨2, ![n, 128]⟩ : Shape).Idx → ℂ} {g : Fin 128 → ℂ} (h : Parts x y f) (hp : Parts p q (fun i => g (i 1)))
    (hb : S1x128.Broadcasts (⟨2, ![n, 128]⟩ : Shape)) (m : IVec (⟨2, ![n, 128]⟩ : Shape) 1) :
    Parts (select m (subf (mulf x (broadcastTo (⟨2, ![n, 128]⟩ : Shape) p hb))
        (mulf y (broadcastTo (⟨2, ![n, 128]⟩ : Shape) q hb))) x)
      (select m (addf (mulf x (broadcastTo (⟨2, ![n, 128]⟩ : Shape) q hb))
        (mulf y (broadcastTo (⟨2, ![n, 128]⟩ : Shape) p hb))) y)
      (fun i => if m i = 1#1 then f i * g (i 1) else f i) :=
  Parts.select m (h.mul (parts_rows hp hb)) h

/-- The mask of bit `d` of the words `w`. -/
abbrev bitMask (w : IVec S8x128 32) (d : BitVec 32) : IVec S8x128 1 :=
  cmpi .ne (andi w (broadcast S8x128 d)) (broadcast S8x128 0#32)

/-- The product over the bits of a number up to eight is the power. -/
theorem bits_pow (w : IVec S8x128 32) (i : S8x128.Idx) (n : ℕ) (hn : n ≤ 8) (hw : w i = BitVec.ofNat 32 n) (a : ℂ) :
    (if bitMask w 8#32 i = 1#1 then
      (if bitMask w 4#32 i = 1#1 then
        (if bitMask w 2#32 i = 1#1 then
          (if bitMask w 1#32 i = 1#1 then 1 * a ^ 1 else 1) * a ^ 2
        else (if bitMask w 1#32 i = 1#1 then 1 * a ^ 1 else 1)) * a ^ 4
      else (if bitMask w 2#32 i = 1#1 then
          (if bitMask w 1#32 i = 1#1 then 1 * a ^ 1 else 1) * a ^ 2
        else (if bitMask w 1#32 i = 1#1 then 1 * a ^ 1 else 1))) * a ^ 8
    else (if bitMask w 4#32 i = 1#1 then
        (if bitMask w 2#32 i = 1#1 then
          (if bitMask w 1#32 i = 1#1 then 1 * a ^ 1 else 1) * a ^ 2
        else (if bitMask w 1#32 i = 1#1 then 1 * a ^ 1 else 1)) * a ^ 4
      else (if bitMask w 2#32 i = 1#1 then
          (if bitMask w 1#32 i = 1#1 then 1 * a ^ 1 else 1) * a ^ 2
        else (if bitMask w 1#32 i = 1#1 then 1 * a ^ 1 else 1)))) = a ^ n := by
  have e : ∀ d : BitVec 32, bitMask w d i = IntOp.cmpi .ne (BitVec.ofNat 32 n &&& d) 0#32 := fun d => by
    show IntOp.cmpi .ne (w i &&& d) 0#32 = _
    rw [hw]
  have k8 : ∀ t : Fin 9, IntOp.cmpi .ne (BitVec.ofNat 32 t.val &&& 8#32) 0#32 = 1#1 ↔ t.val / 8 % 2 = 1 := by decide
  have k4 : ∀ t : Fin 9, IntOp.cmpi .ne (BitVec.ofNat 32 t.val &&& 4#32) 0#32 = 1#1 ↔ t.val / 4 % 2 = 1 := by decide
  have k2 : ∀ t : Fin 9, IntOp.cmpi .ne (BitVec.ofNat 32 t.val &&& 2#32) 0#32 = 1#1 ↔ t.val / 2 % 2 = 1 := by decide
  have k1 : ∀ t : Fin 9, IntOp.cmpi .ne (BitVec.ofNat 32 t.val &&& 1#32) 0#32 = 1#1 ↔ t.val % 2 = 1 := by decide
  have h : n < 9 := by omega
  rw [e, e, e, e]
  simp only [k8 ⟨n, h⟩, k4 ⟨n, h⟩, k2 ⟨n, h⟩, k1 ⟨n, h⟩]
  clear e hw k8 k4 k2 k1
  interval_cases n <;> norm_num <;> ring

variable {n : ℕ}

/-- A table doubled: the rows of the powers `1 … n`, then the same rows times the `n`-th power. -/
theorem parts_stack {m : ℕ} (hm : m = n + n) {x y : RowsOf Ideal n} {p q : FVec Ideal S1x128 .f32}
    (h : Parts x y (fun i => z (i 1) ^ ((i 0).val + 1))) (hp : Parts p q (fun i => z (i 1) ^ n))
    (hb : S1x128.Broadcasts (⟨2, ![n, 128]⟩ : Shape)) (hc : (⟨2, ![n, 128]⟩ : Shape).ShapeCasts (⟨2, ![n, 128]⟩ : Shape)) :
    Parts (stack hm x (shapeCast (⟨2, ![n, 128]⟩ : Shape) (subf (mulf x (broadcastTo (⟨2, ![n, 128]⟩ : Shape) p hb))
        (mulf y (broadcastTo (⟨2, ![n, 128]⟩ : Shape) q hb))) hc))
      (stack hm y (shapeCast (⟨2, ![n, 128]⟩ : Shape) (addf (mulf x (broadcastTo (⟨2, ![n, 128]⟩ : Shape) q hb))
        (mulf y (broadcastTo (⟨2, ![n, 128]⟩ : Shape) p hb))) hc))
      (fun i => z (i 1) ^ ((i 0).val + 1)) := fun i => by
  have k := parts_cast (h.mul (parts_rows (z := fun l => z l ^ n) hp hb)) hc
  unfold stack
  split
  · exact h _
  · next hlt =>
    have e : z (i 1) ^ ((i 0).val + 1) = z (i 1) ^ ((i 0).val - n + 1) * z (i 1) ^ n := by
      rw [← pow_add]; congr 1; omega
    beta_reduce
    rw [e]
    exact k _

/-- The same with the powers descending: the new rows come first. -/
theorem parts_stack_desc {m : ℕ} (hm : m = n + n) {x y : RowsOf Ideal n} {p q : FVec Ideal S1x128 .f32}
    (h : Parts x y (fun i => z (i 1) ^ (n - (i 0).val))) (hp : Parts p q (fun i => z (i 1) ^ n))
    (hb : S1x128.Broadcasts (⟨2, ![n, 128]⟩ : Shape)) (hc : (⟨2, ![n, 128]⟩ : Shape).ShapeCasts (⟨2, ![n, 128]⟩ : Shape)) :
    Parts (stack hm (shapeCast (⟨2, ![n, 128]⟩ : Shape) (subf (mulf x (broadcastTo (⟨2, ![n, 128]⟩ : Shape) p hb))
        (mulf y (broadcastTo (⟨2, ![n, 128]⟩ : Shape) q hb))) hc) x)
      (stack hm (shapeCast (⟨2, ![n, 128]⟩ : Shape) (addf (mulf x (broadcastTo (⟨2, ![n, 128]⟩ : Shape) q hb))
        (mulf y (broadcastTo (⟨2, ![n, 128]⟩ : Shape) p hb))) hc) y)
      (fun i => z (i 1) ^ (m - (i 0).val)) := fun i => by
  have k := parts_cast (h.mul (parts_rows (z := fun l => z l ^ n) hp hb)) hc
  have hi : (i 0).val < m := (i 0).isLt
  unfold stack
  split
  · next hlt =>
    have e : z (i 1) ^ (m - (i 0).val) = z (i 1) ^ (n - (i 0).val) * z (i 1) ^ n := by
      rw [← pow_add]; congr 1; omega
    beta_reduce
    rw [e]
    exact k _
  · next hlt =>
    have e : m - (i 0).val = n - ((i 0).val - n) := by omega
    beta_reduce
    rw [e]
    exact h _

end Cert.Scan
-- ==== Proof.FwdValue.lean ====
module

public import proofs.«01_k».proof.Proof.FwdRun
public import proofs.«01_k».proof.Proof.Stages

/-!
# What the forward call computes

At a transition `z` and inputs `b`, lane by lane, the forward call writes at row `32 k + r` the state of the recurrence
after step `128 r + k`.
-/

@[expose] public section

set_option maxRecDepth 16384

noncomputable section

namespace Cert.Scan

open Cert.KernelIdeal Cert.KernelIdeal.Gen
open Idealize.ShloMosaic

variable {a1 a2 : Vec Ideal S1x128 .f32} {z : Fin 128 → ℂ} {b : Fin 128 → ℕ → ℂ}

/-! ## Powers of the transition -/

section Powers
variable (ha : Parts a1 a2 (fun i => z (i 1)))
include ha

theorem fwd_p1 : Parts (k0_pay3 a1) (k0_pay4 a2) (fun i => z (i 1) ^ 1) :=
  (parts_cast ha _).congr fun i => (pow_one _).symm
theorem fwd_p2 : Parts (k0_pay10 a1 a2) (k0_pay11 a1 a2) (fun i => z (i 1) ^ 2) := parts_sq (n := 1) (fwd_p1 ha)
theorem fwd_p4 : Parts (k0_pay12 a1 a2) (k0_pay13 a1 a2) (fun i => z (i 1) ^ 4) := parts_sq (n := 2) (fwd_p2 ha)
theorem fwd_p8 : Parts (k0_pay14 a1 a2) (k0_pay15 a1 a2) (fun i => z (i 1) ^ 8) := parts_sq (n := 4) (fwd_p4 ha)
theorem fwd_p16 : Parts (k0_pay16 a1 a2) (k0_pay17 a1 a2) (fun i => z (i 1) ^ 16) := parts_sq (n := 8) (fwd_p8 ha)
theorem fwd_p32 : Parts (k0_pay18 a1 a2) (k0_pay19 a1 a2) (fun i => z (i 1) ^ 32) := parts_sq (n := 16) (fwd_p16 ha)
theorem fwd_p64 : Parts (k0_pay20 a1 a2) (k0_pay21 a1 a2) (fun i => z (i 1) ^ 64) := parts_sq (n := 32) (fwd_p32 ha)
theorem fwd_p128 : Parts (k0_pay22 a1 a2) (k0_pay23 a1 a2) (fun i => z (i 1) ^ (128 * 1)) :=
  parts_sq (n := 64) (fwd_p64 ha)
theorem fwd_p256 : Parts (k0_pay25 (k0_pay23 a1 a2) (k0_pay24 a1 a2)) (k0_pay26 (k0_pay22 a1 a2) (k0_pay23 a1 a2))
    (fun i => z (i 1) ^ (128 * 2)) := parts_sq (n := 128) (fwd_p128 ha)
theorem fwd_p512 : Parts (k0_pay27 (k0_pay22 a1 a2) (k0_pay23 a1 a2) (k0_pay24 a1 a2))
    (k0_pay28 (k0_pay22 a1 a2) (k0_pay23 a1 a2) (k0_pay24 a1 a2)) (fun i => z (i 1) ^ (128 * 4)) :=
  parts_sq (n := 256) (fwd_p256 ha)
theorem fwd_p1024 : Parts (k0_pay29 (k0_pay22 a1 a2) (k0_pay23 a1 a2) (k0_pay24 a1 a2))
    (k0_pay30 (k0_pay22 a1 a2) (k0_pay23 a1 a2) (k0_pay24 a1 a2)) (fun i => z (i 1) ^ (128 * 8)) :=
  parts_sq (n := 512) (fwd_p512 ha)
theorem fwd_p2048 : Parts (k0_pay31 (k0_pay22 a1 a2) (k0_pay23 a1 a2) (k0_pay24 a1 a2))
    (k0_pay32 (k0_pay22 a1 a2) (k0_pay23 a1 a2) (k0_pay24 a1 a2)) (fun i => z (i 1) ^ (128 * 16)) :=
  parts_sq (n := 1024) (fwd_p1024 ha)

/-! ## The table: row `i` holds the power `i + 1` -/

theorem fwd_t8 : Parts (fwdPow8Re a1 a2) (fwdPow8Im a1 a2) (fun i => z (i 1) ^ ((i 0).val + 1)) := by
  have b1 := parts_bit (n := 8) (g := fun l => z l ^ 1) (parts_one S8x128) (fwd_p1 ha) broadcasts_S1x128_S8x128
    (bitMask k0_pay61 1#32)
  have b2 := parts_bit (n := 8) (g := fun l => z l ^ 2) b1 (fwd_p2 ha) broadcasts_S1x128_S8x128 (bitMask k0_pay61 2#32)
  have b4 := parts_bit (n := 8) (g := fun l => z l ^ 4) b2 (fwd_p4 ha) broadcasts_S1x128_S8x128 (bitMask k0_pay61 4#32)
  have b8 := parts_bit (n := 8) (g := fun l => z l ^ 8) b4 (fwd_p8 ha) broadcasts_S1x128_S8x128 (bitMask k0_pay61 8#32)
  refine Parts.congr (parts_cast (s := S8x128) b8 shapeCasts_S8x128_S8x128) fun i => ?_
  have hi : (i 0).val < 8 := (i 0).isLt
  exact bits_pow k0_pay61 i ((i 0).val + 1) (by omega) (by
    show BitVec.ofNat 32 (0 * 8 + (i 0).val) + 1#32 = _
    rw [Nat.zero_mul, Nat.zero_add, BitVec.ofNat_add]) (z (i 1))

theorem fwd_t16 : Parts (fwdPow16Re a1 a2) (fwdPow16Im a1 a2) (fun i => z (i 1) ^ ((i 0).val + 1)) :=
  parts_stack (n := 8) rfl (fwd_t8 ha) (fwd_p8 ha) broadcasts_S1x128_S8x128 shapeCasts_S8x128_S8x128
theorem fwd_t32 : Parts (fwdPow32Re a1 a2) (fwdPow32Im a1 a2) (fun i => z (i 1) ^ ((i 0).val + 1)) :=
  parts_stack (n := 16) rfl (fwd_t16 ha) (fwd_p16 ha) broadcasts_S1x128_S16x128 shapeCasts_S16x128_S16x128
theorem fwd_t64 : Parts (fwdPow64Re a1 a2) (fwdPow64Im a1 a2) (fun i => z (i 1) ^ ((i 0).val + 1)) :=
  parts_stack (n := 32) rfl (fwd_t32 ha) (fwd_p32 ha) broadcasts_S1x128_S32x128 shapeCasts_S32x128_S32x128
theorem fwd_t128 : Parts (fwdPowRe a1 a2) (fwdPowIm a1 a2) (fun i => z (i 1) ^ ((i 0).val + 1)) :=
  parts_stack (n := 64) rfl (fwd_t64 ha) (fwd_p64 ha) broadcasts_S1x128_S64x128 shapeCasts_S64x128_S64x128

/-! ## The rounds over the ends of the chunks -/

variable {e1 e2 : Vec Ideal S1x32x128 .f32}

theorem fwd_end4 (he : Parts e1 e2 (fun i => ends (z (i 2)) (b (i 2)) 1 (i 1).val)) :
    Parts (fwdEnd4Re a1 a2 e1 e2) (fwdEnd4Im a1 a2 e1 e2) (fun i => ends (z (i 1)) (b (i 1)) 8 (i 0).val) := by
  have h0 := parts_drop (e := fun r l => ends (z l) (b l) 1 r) he shapeCasts_S1x32x128_S32x128
  have h1 := round_down 1 (by decide) (fwd_p128 ha) h0 rotates_S32x128_d0 iota_S32x128_d0_w32 broadcasts_S1x128_S32x128
  have h2 := round_down 2 (by decide) (fwd_p256 ha) h1 rotates_S32x128_d0 iota_S32x128_d0_w32 broadcasts_S1x128_S32x128
  exact round_down 4 (by decide) (fwd_p512 ha) h2 rotates_S32x128_d0 iota_S32x128_d0_w32 broadcasts_S1x128_S32x128

theorem fwd_carry (he : Parts e1 e2 (fun i => ends (z (i 2)) (b (i 2)) 1 (i 1).val)) :
    Parts (fwdCarryRe a1 a2 e1 e2) (fwdCarryIm a1 a2 e1 e2)
      (fun i => run (z (i 1)) (b (i 1)) 0 (128 * (i 0).val)) := by
  have h3 := round_down 8 (by decide) (fwd_p1024 ha) (fwd_end4 ha he) rotates_S32x128_d0 iota_S32x128_d0_w32
    broadcasts_S1x128_S32x128
  have h4 := round_down 16 (by decide) (fwd_p2048 ha) h3 rotates_S32x128_d0 iota_S32x128_d0_w32 broadcasts_S1x128_S32x128
  have h5 := parts_down (e := fun r l => ends (z l) (b l) 32 r) h4 1 (by decide) rotates_S32x128_d0 iota_S32x128_d0_w32
  refine Parts.congr (parts_cast (s := S32x128) h5 shapeCasts_S32x128_S32x128) fun i => ?_
  have hi : (i 0).val < 32 := (i 0).isLt
  split
  · next h =>
    rw [ends_all _ _ (by omega), Nat.sub_add_cancel h]
  · next h =>
    rw [show (i 0).val = 0 by omega]
    rfl

end Powers

/-! ## Every chunk's own recurrence -/

/-- The time step that a row of a block holds. -/
abbrev time (y : S1x4096x128.Idx) : ℕ := 128 * ((y 1).val % 32) + (y 1).val / 32

/-- Step `n` of a block whose rows are a sequence. -/
theorem parts_step {x1 x2 : Block Ideal} {g : Fin 128 → ℕ → ℂ} (hx : Parts x1 x2 (fun y => g (y 2) (time y))) {n : ℕ}
    (hn : n < 128) : Parts (step32 x1 n) (step32 x2 n) (fun i => g (i 2) (128 * (i 1).val + n)) := fun i => by
  have h1 : (i 1).val < 32 := (i 1).isLt
  have e : time (at3 ⟨(32 * n + (i 1).val) % 4096, Nat.mod_lt _ (by decide)⟩ (i 2)) = 128 * (i 1).val + n := by
    show 128 * (((32 * n + (i 1).val) % 4096) % 32) + ((32 * n + (i 1).val) % 4096) / 32 = _
    omega
  exact Parts.congr (f := fun _ : Unit => g (i 2) (time (at3 ⟨(32 * n + (i 1).val) % 4096, Nat.mod_lt _ (by decide)⟩ (i 2))))
    (x := fun _ => step32 x1 n i) (y := fun _ => step32 x2 n i) (fun _ => hx _) (fun _ => congrArg (g (i 2)) e) ()

variable {x1 x2 : Block Ideal} (ha : Parts a1 a2 (fun i => z (i 1))) (hx : Parts x1 x2 (fun y => b (y 2) (time y)))
include ha hx

/-- One step of all chunks. -/
theorem fwd_step {s1 s2 : FVec Ideal S32x128 .f32} {n : ℕ} (hn : n < 128)
    (hs : Parts s1 s2 (fun i => run (z (i 1)) (b (i 1)) (128 * (i 0).val) n)) :
    Parts (k0_pay6 a1 a2 s1 s2 (step32 x1 n)) (k0_pay7 a1 a2 s1 s2 (step32 x2 n))
      (fun i => run (z (i 1)) (b (i 1)) (128 * (i 0).val) (n + 1)) :=
  ((((parts_rows (n := 32) (z := z) (parts_cast ha shapeCasts_S1x128_S1x128) broadcasts_S1x128_S32x128).mul hs)).add
    (parts_drop (e := fun r l => b l (128 * r + n)) (parts_step hx hn) shapeCasts_S1x32x128_S32x128)).congr fun _ => rfl

theorem fwd_state : ∀ n ≤ 128, Parts (fwdState a1 a2 x1 x2 n).1 (fwdState a1 a2 x1 x2 n).2
    (fun i => run (z (i 1)) (b (i 1)) (128 * (i 0).val) n)
  | 0, _ => parts_zero S32x128
  | n + 1, hn => fwd_step ha hx hn (fwd_state n (by omega))

theorem fwd_local : Parts (fwdLocalRe a1 a2 x1 x2) (fwdLocalIm a1 a2 x1 x2)
    (fun y => run (z (y 2)) (b (y 2)) (128 * ((y 1).val % 32)) ((y 1).val / 32 + 1)) := fun y => by
  have h1 : (y 1).val < 4096 := (y 1).isLt
  have hn : (y 1).val / 32 < 128 := by omega
  exact parts_lift (e := fun r l => run (z l) (b l) (128 * r) ((y 1).val / 32 + 1))
    (fwd_step ha hx hn (fwd_state ha hx _ (by omega))) shapeCasts_S32x128_S1x32x128 (inStep y)

/-- The local ends. -/
theorem fwd_ends : Parts (step32 (fwdLocalRe a1 a2 x1 x2) 127) (step32 (fwdLocalIm a1 a2 x1 x2) 127)
    (fun i => ends (z (i 2)) (b (i 2)) 1 (i 1).val) := by
  refine Parts.congr (parts_step (g := fun l t => run (z l) (b l) (128 * (t / 128)) (t % 128 + 1))
    ((fwd_local ha hx).congr fun y => ?_) (n := 127) (by decide)) fun i => ?_
  · have h1 : (y 1).val < 4096 := (y 1).isLt
    rw [show time y / 128 = (y 1).val % 32 by unfold time; omega, show time y % 128 = (y 1).val / 32 by unfold time; omega]
  · beta_reduce
    rw [ends_one, show (128 * (i 1).val + 127) / 128 = (i 1).val by omega, show (128 * (i 1).val + 127) % 128 = 127 by omega]

/-- What the forward call writes. -/
theorem fwd_parts : Parts (fwdRe a1 a2 x1 x2) (fwdIm a1 a2 x1 x2)
    (fun y => run (z (y 2)) (b (y 2)) 0 (time y + 1)) := fun y => by
  have h1 : (y 1).val < 4096 := (y 1).isLt
  have hn : (y 1).val / 32 < 128 := by omega
  have hc := fwd_carry ha (fwd_ends ha hx)
  have ht : Parts (tableRow (fwdPowRe a1 a2) ((y 1).val / 32)) (tableRow (fwdPowIm a1 a2) ((y 1).val / 32))
      (fun i => z (i 1) ^ ((y 1).val / 32 + 1)) := fun i => by
    have e : ((y 1).val / 32) % 128 = (y 1).val / 32 := Nat.mod_eq_of_lt hn
    exact Parts.congr (f := fun _ : Unit => z (i 1) ^ (((y 1).val / 32) % 128 + 1))
      (x := fun _ => tableRow (fwdPowRe a1 a2) ((y 1).val / 32) i)
      (y := fun _ => tableRow (fwdPowIm a1 a2) ((y 1).val / 32) i)
      (fun _ => fwd_t128 ha _) (fun _ => by rw [e]) ()
  have hl : Parts (step32 (fwdLocalRe a1 a2 x1 x2) ((y 1).val / 32)) (step32 (fwdLocalIm a1 a2 x1 x2) ((y 1).val / 32))
      (fun i => run (z (i 2)) (b (i 2)) (128 * (i 1).val) ((y 1).val / 32 + 1)) := by
    refine Parts.congr (parts_step (g := fun l t => run (z l) (b l) (128 * (t / 128)) (t % 128 + 1))
      ((fwd_local ha hx).congr fun y => ?_) hn) fun i => ?_
    · have h1 : (y 1).val < 4096 := (y 1).isLt
      rw [show time y / 128 = (y 1).val % 32 by unfold time; omega,
        show time y % 128 = (y 1).val / 32 by unfold time; omega]
    · beta_reduce
      rw [show (128 * (i 1).val + (y 1).val / 32) / 128 = (i 1).val by omega,
        show (128 * (i 1).val + (y 1).val / 32) % 128 = (y 1).val / 32 by omega]
  have hm := (parts_rows (n := 32) (z := fun l => z l ^ ((y 1).val / 32 + 1)) ht broadcasts_S1x128_S32x128).mul hc
  have hs := (parts_drop (e := fun r l => run (z l) (b l) (128 * r) ((y 1).val / 32 + 1)) hl
    shapeCasts_S1x32x128_S32x128).add hm
  have hf := parts_lift (e := fun r l => run (z l) (b l) 0 (128 * r + ((y 1).val / 32 + 1)))
    (hs.congr fun i => run_carry _ _ _ _) shapeCasts_S32x128_S1x32x128 (inStep y)
  exact hf

end Cert.Scan
-- ==== Proof.RevValue.lean ====
module

public import proofs.«01_k».proof.Proof.RevRun
public import proofs.«01_k».proof.Proof.FwdValue

/-!
# What the reverse call computes

The reverse call runs the same recurrence from the last time step to the first, at the transition `z` it is handed and
inputs `b` that are numbered in that order. At row `32 k + r` it writes the state after the inputs of the time steps from
`4095` down to `128 r + k`. It also sums, over all time steps, the conjugate of the forward state before the step times
the state it wrote.
-/

@[expose] public section

set_option maxRecDepth 16384

noncomputable section

namespace Cert.Scan

open Cert.KernelIdeal Cert.KernelIdeal.Gen
open Idealize.ShloMosaic

variable {a1 a2 : Vec Ideal S1x128 .f32} {z : Fin 128 → ℂ} {b : Fin 128 → ℕ → ℂ}

/-! ## Powers of the transition -/

section Powers
variable (ha : Parts a1 a2 (fun i => z (i 1)))
include ha

theorem rev_p1 : Parts (k1_pay12 a1) (k1_pay13 a2) (fun i => z (i 1) ^ 1) :=
  (parts_cast ha _).congr fun i => (pow_one _).symm
theorem rev_p2 : Parts (k1_pay19 a1 a2) (k1_pay20 a1 a2) (fun i => z (i 1) ^ 2) := parts_sq (n := 1) (rev_p1 ha)
theorem rev_p4 : Parts (k1_pay21 a1 a2) (k1_pay22 a1 a2) (fun i => z (i 1) ^ 4) := parts_sq (n := 2) (rev_p2 ha)
theorem rev_p8 : Parts (k1_pay23 a1 a2) (k1_pay24 a1 a2) (fun i => z (i 1) ^ 8) := parts_sq (n := 4) (rev_p4 ha)
theorem rev_p16 : Parts (k1_pay25 a1 a2) (k1_pay26 a1 a2) (fun i => z (i 1) ^ 16) := parts_sq (n := 8) (rev_p8 ha)
theorem rev_p32 : Parts (k1_pay27 a1 a2) (k1_pay28 a1 a2) (fun i => z (i 1) ^ 32) := parts_sq (n := 16) (rev_p16 ha)
theorem rev_p64 : Parts (k1_pay29 a1 a2) (k1_pay30 a1 a2) (fun i => z (i 1) ^ 64) := parts_sq (n := 32) (rev_p32 ha)
theorem rev_p128 : Parts (k1_pay31 a1 a2) (k1_pay32 a1 a2) (fun i => z (i 1) ^ (128 * 1)) :=
  parts_sq (n := 64) (rev_p64 ha)
theorem rev_p256 : Parts (k1_pay34 (k1_pay32 a1 a2) (k1_pay33 a1 a2)) (k1_pay35 (k1_pay31 a1 a2) (k1_pay32 a1 a2))
    (fun i => z (i 1) ^ (128 * 2)) := parts_sq (n := 128) (rev_p128 ha)
theorem rev_p512 : Parts (k1_pay36 (k1_pay31 a1 a2) (k1_pay32 a1 a2) (k1_pay33 a1 a2))
    (k1_pay37 (k1_pay31 a1 a2) (k1_pay32 a1 a2) (k1_pay33 a1 a2)) (fun i => z (i 1) ^ (128 * 4)) :=
  parts_sq (n := 256) (rev_p256 ha)
theorem rev_p1024 : Parts (k1_pay38 (k1_pay31 a1 a2) (k1_pay32 a1 a2) (k1_pay33 a1 a2))
    (k1_pay39 (k1_pay31 a1 a2) (k1_pay32 a1 a2) (k1_pay33 a1 a2)) (fun i => z (i 1) ^ (128 * 8)) :=
  parts_sq (n := 512) (rev_p512 ha)
theorem rev_p2048 : Parts (k1_pay40 (k1_pay31 a1 a2) (k1_pay32 a1 a2) (k1_pay33 a1 a2))
    (k1_pay41 (k1_pay31 a1 a2) (k1_pay32 a1 a2) (k1_pay33 a1 a2)) (fun i => z (i 1) ^ (128 * 16)) :=
  parts_sq (n := 1024) (rev_p1024 ha)

/-! ## The table: row `i` holds the power `128 - i` -/

theorem rev_t8 : Parts (revPow8Re a1 a2) (revPow8Im a1 a2) (fun i => z (i 1) ^ (8 - (i 0).val)) := by
  have b1 := parts_bit (n := 8) (g := fun l => z l ^ 1) (parts_one S8x128) (rev_p1 ha) broadcasts_S1x128_S8x128
    (bitMask k1_pay70 1#32)
  have b2 := parts_bit (n := 8) (g := fun l => z l ^ 2) b1 (rev_p2 ha) broadcasts_S1x128_S8x128 (bitMask k1_pay70 2#32)
  have b4 := parts_bit (n := 8) (g := fun l => z l ^ 4) b2 (rev_p4 ha) broadcasts_S1x128_S8x128 (bitMask k1_pay70 4#32)
  have b8 := parts_bit (n := 8) (g := fun l => z l ^ 8) b4 (rev_p8 ha) broadcasts_S1x128_S8x128 (bitMask k1_pay70 8#32)
  refine Parts.congr (parts_cast (s := S8x128) b8 shapeCasts_S8x128_S8x128) fun i => ?_
  have hi : (i 0).val < 8 := (i 0).isLt
  have hw : ∀ n : Fin 8, 8#32 - BitVec.ofNat 32 n.val = BitVec.ofNat 32 (8 - n.val) := by decide
  exact bits_pow k1_pay70 i (8 - (i 0).val) (by omega) (by
    show 8#32 - BitVec.ofNat 32 (0 * 8 + (i 0).val) = _
    rw [Nat.zero_mul, Nat.zero_add]
    exact hw ⟨_, hi⟩) (z (i 1))

theorem rev_t16 : Parts (revPow16Re a1 a2) (revPow16Im a1 a2) (fun i => z (i 1) ^ (16 - (i 0).val)) :=
  parts_stack_desc (n := 8) rfl (rev_t8 ha) (rev_p8 ha) broadcasts_S1x128_S8x128 shapeCasts_S8x128_S8x128
theorem rev_t32 : Parts (revPow32Re a1 a2) (revPow32Im a1 a2) (fun i => z (i 1) ^ (32 - (i 0).val)) :=
  parts_stack_desc (n := 16) rfl (rev_t16 ha) (rev_p16 ha) broadcasts_S1x128_S16x128 shapeCasts_S16x128_S16x128
theorem rev_t64 : Parts (revPow64Re a1 a2) (revPow64Im a1 a2) (fun i => z (i 1) ^ (64 - (i 0).val)) :=
  parts_stack_desc (n := 32) rfl (rev_t32 ha) (rev_p32 ha) broadcasts_S1x128_S32x128 shapeCasts_S32x128_S32x128
theorem rev_t128 : Parts (revPowRe a1 a2) (revPowIm a1 a2) (fun i => z (i 1) ^ (128 - (i 0).val)) :=
  parts_stack_desc (n := 64) rfl (rev_t64 ha) (rev_p64 ha) broadcasts_S1x128_S64x128 shapeCasts_S64x128_S64x128

/-! ## The rounds over the ends of the chunks -/

variable {e1 e2 : Vec Ideal S1x32x128 .f32}

theorem rev_end4 (he : Parts e1 e2 (fun i => ends (z (i 2)) (b (i 2)) 1 (31 - (i 1).val))) :
    Parts (revEnd4Re a1 a2 e1 e2) (revEnd4Im a1 a2 e1 e2) (fun i => ends (z (i 1)) (b (i 1)) 8 (31 - (i 0).val)) := by
  have h0 := parts_drop (e := fun r l => ends (z l) (b l) 1 (31 - r)) he shapeCasts_S1x32x128_S32x128
  have h1 := round_up 31 (by decide) (by decide) (rev_p128 ha) h0 rotates_S32x128_d0 iota_S32x128_d0_w32
    broadcasts_S1x128_S32x128
  have h2 := round_up 30 (by decide) (by decide) (rev_p256 ha) h1 rotates_S32x128_d0 iota_S32x128_d0_w32
    broadcasts_S1x128_S32x128
  exact round_up 28 (by decide) (by decide) (rev_p512 ha) h2 rotates_S32x128_d0 iota_S32x128_d0_w32
    broadcasts_S1x128_S32x128

theorem rev_carry (he : Parts e1 e2 (fun i => ends (z (i 2)) (b (i 2)) 1 (31 - (i 1).val))) :
    Parts (revCarryRe a1 a2 e1 e2) (revCarryIm a1 a2 e1 e2)
      (fun i => run (z (i 1)) (b (i 1)) 0 (128 * (31 - (i 0).val))) := by
  have h3 := round_up 24 (by decide) (by decide) (rev_p1024 ha) (rev_end4 ha he) rotates_S32x128_d0 iota_S32x128_d0_w32
    broadcasts_S1x128_S32x128
  have h4 := round_up 16 (by decide) (by decide) (rev_p2048 ha) h3 rotates_S32x128_d0 iota_S32x128_d0_w32
    broadcasts_S1x128_S32x128
  have h5 := parts_up (e := fun r l => ends (z l) (b l) 32 r) h4 31 (by decide) (by decide) rotates_S32x128_d0
    iota_S32x128_d0_w32
  refine Parts.congr (parts_cast (s := S32x128) h5 shapeCasts_S32x128_S32x128) fun i => ?_
  split
  · next h =>
    rw [ends_all _ _ (by omega)]
    congr 1
    omega
  · next h =>
    rw [show 31 - (i 0).val = 0 by omega]
    rfl

end Powers

/-! ## Every chunk's own recurrence -/

variable {x1 x2 : Block Ideal} (ha : Parts a1 a2 (fun i => z (i 1)))
  (hx : Parts x1 x2 (fun y => b (y 2) (4095 - time y)))

section Own
include ha hx

/-- One step of all chunks, the last time steps first. -/
theorem rev_step {s1 s2 : FVec Ideal S32x128 .f32} {n : ℕ} (hn : n < 128)
    (hs : Parts s1 s2 (fun i => run (z (i 1)) (b (i 1)) (128 * (31 - (i 0).val)) n)) :
    Parts (k1_pay15 a1 a2 s1 s2 (step32 x1 (127 - n))) (k1_pay16 a1 a2 s1 s2 (step32 x2 (127 - n)))
      (fun i => run (z (i 1)) (b (i 1)) (128 * (31 - (i 0).val)) (n + 1)) :=
  ((((parts_rows (n := 32) (z := z) (parts_cast ha shapeCasts_S1x128_S1x128) broadcasts_S1x128_S32x128).mul hs)).add
    (parts_drop (e := fun r l => b l (4095 - (128 * r + (127 - n))))
      (parts_step (g := fun l t => b l (4095 - t)) hx (show 127 - n < 128 by omega)) shapeCasts_S1x32x128_S32x128)).congr
    fun i => by
      have hi : (i 0).val < 32 := (i 0).isLt
      rw [run, show 4095 - (128 * (i 0).val + (127 - n)) = 128 * (31 - (i 0).val) + n by omega]

theorem rev_state : ∀ n ≤ 128, Parts (revState a1 a2 x1 x2 n).1 (revState a1 a2 x1 x2 n).2
    (fun i => run (z (i 1)) (b (i 1)) (128 * (31 - (i 0).val)) n)
  | 0, _ => parts_zero S32x128
  | n + 1, hn => rev_step ha hx hn (rev_state n (by omega))

theorem rev_local : Parts (revLocalRe a1 a2 x1 x2) (revLocalIm a1 a2 x1 x2)
    (fun y => run (z (y 2)) (b (y 2)) (128 * (31 - (y 1).val % 32)) (128 - (y 1).val / 32)) := fun y => by
  have h1 : (y 1).val < 4096 := (y 1).isLt
  have hn : 127 - (127 - (y 1).val / 32) = (y 1).val / 32 := by omega
  have hm : 127 - (y 1).val / 32 + 1 = 128 - (y 1).val / 32 := by omega
  have k := rev_step ha hx (show 127 - (y 1).val / 32 < 128 by omega) (rev_state ha hx _ (by omega))
  rw [hn, hm] at k
  exact parts_lift (e := fun r l => run (z l) (b l) (128 * (31 - r)) (128 - (y 1).val / 32)) k
    shapeCasts_S32x128_S1x32x128 (inStep y)

/-- Step `n` of the local states. -/
theorem rev_local_step {n : ℕ} (hn : n < 128) :
    Parts (step32 (revLocalRe a1 a2 x1 x2) n) (step32 (revLocalIm a1 a2 x1 x2) n)
      (fun i => run (z (i 2)) (b (i 2)) (128 * (31 - (i 1).val)) (128 - n)) := by
  refine Parts.congr (parts_step (g := fun l t => run (z l) (b l) (128 * (31 - t / 128)) (128 - t % 128))
    ((rev_local ha hx).congr fun y => ?_) hn) fun i => ?_
  · have h1 : (y 1).val < 4096 := (y 1).isLt
    rw [show time y / 128 = (y 1).val % 32 by unfold time; omega, show time y % 128 = (y 1).val / 32 by unfold time; omega]
  · beta_reduce
    rw [show (128 * (i 1).val + n) / 128 = (i 1).val by omega, show (128 * (i 1).val + n) % 128 = n by omega]

/-- The local ends: the states at the first steps of the chunks. -/
theorem rev_ends : Parts (step32 (revLocalRe a1 a2 x1 x2) 0) (step32 (revLocalIm a1 a2 x1 x2) 0)
    (fun i => ends (z (i 2)) (b (i 2)) 1 (31 - (i 1).val)) :=
  (rev_local_step ha hx (by decide)).congr fun i => (ends_one _ _ _).symm

/-! ## The states -/

/-- Step `n` of the states the call writes. -/
theorem rev_final {n : ℕ} (hn : n < 128) :
    Parts
      (k1_pay7 (revCarryRe a1 a2 (step32 (revLocalRe a1 a2 x1 x2) 0) (step32 (revLocalIm a1 a2 x1 x2) 0))
        (revCarryIm a1 a2 (step32 (revLocalRe a1 a2 x1 x2) 0) (step32 (revLocalIm a1 a2 x1 x2) 0))
        (tableRow (revPowRe a1 a2) n) (tableRow (revPowIm a1 a2) n) (step32 (revLocalRe a1 a2 x1 x2) n))
      (k1_pay8 (revCarryRe a1 a2 (step32 (revLocalRe a1 a2 x1 x2) 0) (step32 (revLocalIm a1 a2 x1 x2) 0))
        (revCarryIm a1 a2 (step32 (revLocalRe a1 a2 x1 x2) 0) (step32 (revLocalIm a1 a2 x1 x2) 0))
        (tableRow (revPowRe a1 a2) n) (tableRow (revPowIm a1 a2) n) (step32 (revLocalIm a1 a2 x1 x2) n))
      (fun i => run (z (i 1)) (b (i 1)) 0 (4096 - (128 * (i 0).val + n))) := by
  have hc := rev_carry ha (rev_ends ha hx)
  have ht : Parts (tableRow (revPowRe a1 a2) n) (tableRow (revPowIm a1 a2) n) (fun i => z (i 1) ^ (128 - n)) := fun i => by
    have e : n % 128 = n := Nat.mod_eq_of_lt hn
    exact Parts.congr (f := fun _ : Unit => z (i 1) ^ (128 - n % 128))
      (x := fun _ => tableRow (revPowRe a1 a2) n i) (y := fun _ => tableRow (revPowIm a1 a2) n i)
      (fun _ => rev_t128 ha _) (fun _ => by rw [e]) ()
  have hm := (parts_rows (n := 32) (z := fun l => z l ^ (128 - n)) ht broadcasts_S1x128_S32x128).mul hc
  have hs := (parts_drop (e := fun r l => run (z l) (b l) (128 * (31 - r)) (128 - n)) (rev_local_step ha hx hn)
    shapeCasts_S1x32x128_S32x128).add hm
  refine hs.congr fun i => ?_
  have hi : (i 0).val < 32 := (i 0).isLt
  rw [show 4096 - (128 * (i 0).val + n) = 128 * (31 - (i 0).val) + (128 - n) by omega]
  exact run_carry _ _ _ _

/-- What the reverse call writes. -/
theorem rev_parts : Parts (revRe a1 a2 x1 x2) (revIm a1 a2 x1 x2)
    (fun y => run (z (y 2)) (b (y 2)) 0 (4096 - time y)) := fun y => by
  have h1 : (y 1).val < 4096 := (y 1).isLt
  exact parts_lift (e := fun r l => run (z l) (b l) 0 (4096 - (128 * r + (y 1).val / 32)))
    (rev_final ha hx (by omega)) shapeCasts_S32x128_S1x32x128 (inStep y)

end Own

/-! ## The sums -/

/-- The product with a conjugate, as the call spells it, added to a sum. -/
theorem parts_conj {s : Shape} {p q x y u v : FVec Ideal s .f32} {c f g : s.Idx → ℂ} (hc : Parts p q c) (h : Parts x y f)
    (k : Parts u v g) :
    Parts (addf (addf p (mulf x u)) (mulf y v)) (subf (addf q (mulf x v)) (mulf y u))
      (fun i => c i + (starRingEnd ℂ) (f i) * g i) := fun i => by
  refine ⟨?_, ?_⟩
  · show p i + x i * u i + y i * v i = _
    rw [(hc i).1, (h i).1, (k i).1, (h i).2, (k i).2, ← EReal.coe_mul, ← EReal.coe_mul, ← EReal.coe_add, ← EReal.coe_add]
    congr 1
    simp only [Complex.add_re, Complex.mul_re, Complex.conj_re, Complex.conj_im]
    ring
  · show q i + x i * v i - y i * u i = _
    rw [(hc i).2, (h i).1, (k i).1, (h i).2, (k i).2, ← EReal.coe_mul, ← EReal.coe_mul, ← EReal.coe_add, ← EReal.coe_sub]
    congr 1
    simp only [Complex.add_im, Complex.mul_im, Complex.conj_re, Complex.conj_im]
    ring

/-- The last states of the chunks moved one chunk down: the states the chunks begin with. -/
theorem parts_first {x y : FVec Ideal S32x128 .f32} {h : Fin 128 → ℕ → ℂ} (h0 : ∀ l, h l 0 = 0)
    (k : Parts x y (fun i => h (i 1) (128 * (i 0).val + 128))) (c : S32x128.Rotates 0 none) (hi : S32x128.Iotas .tc 32 [0]) :
    Parts (select (cmpi .eq (iota .tc S32x128 32 [0] hi) (broadcast S32x128 0#32))
        (broadcast (α := Ideal .f32) S32x128 (Scalar.ofBits .f32 0x00000000#32)) (dynamicRotate 0 1#32 none x c))
      (select (cmpi .eq (iota .tc S32x128 32 [0] hi) (broadcast S32x128 0#32))
        (broadcast (α := Ideal .f32) S32x128 (Scalar.ofBits .f32 0x00000000#32)) (dynamicRotate 0 1#32 none y c))
      (fun i => h (i 1) (128 * (i 0).val)) := fun i => by
  have hl : (i 0).val < 32 := (i 0).isLt
  have hc : cmpi .eq (iota .tc S32x128 32 [0] hi) (broadcast S32x128 0#32) i = 1 ↔ (i 0).val = 0 := by
    show IntOp.cmpi .eq (BitVec.ofNat 32 (0 * 32 + (i 0).val)) 0#32 = 1#1 ↔ _
    rw [StableHlo.Predicate.cmpi_eq_iff, ← BitVec.toNat_inj, BitVec.toNat_ofNat]
    show (0 * 32 + (i 0).val) % 2 ^ 32 = 0 ↔ _
    omega
  by_cases hz : (i 0).val = 0
  · simp only [Idealize.ShloMosaic.select, Scalar.select, if_pos (hc.mpr hz)]
    have e : h (i 1) (128 * (i 0).val) = 0 := by rw [hz]; exact h0 _
    exact Parts.congr (f := fun _ : Unit => 0) (fun _ => parts_zero S32x128 i) (fun _ => e.symm) ()
  · simp only [Idealize.ShloMosaic.select, Scalar.select, if_neg (mt hc.mp hz)]
    have hr : ∀ (w : FVec Ideal S32x128 .f32), dynamicRotate 0 1#32 none w c i
        = w (ix2 (n0 := 32) (n1 := 128) ⟨(i 0).val - 1, by omega⟩ (i 1)) := fun w =>
      dynamicRotate_apply (s := S32x128) 0 _ w c i _ fun b => match b with
        | ⟨0, _⟩ => by
          show (i 0).val - 1 = ((i 0).val + 32 - 1 % 32) % 32
          omega
        | ⟨1, _⟩ => rfl
    rw [hr, hr, show 128 * (i 0).val = 128 * ((i 0).val - 1) + 128 by omega]
    exact k _

theorem select_one {α : Type} {c : BitVec 1} (h : c = 1#1) (x y : α) : Scalar.select c x y = x := if_pos h
theorem select_zero {α : Type} {c : BitVec 1} (h : ¬ c = 1#1) (x y : α) : Scalar.select c x y = y := if_neg h

variable {s1 s2 : Block Ideal} {h : Fin 128 → ℕ → ℂ} (h0 : ∀ l, h l 0 = 0)
  (hf : Parts s1 s2 (fun y => h (y 2) (time y + 1)))

include h0 hf in
/-- The forward states before step `n` of the chunks. -/
theorem rev_before {n : ℕ} (hn : n < 128) :
    Parts
      (k1_pay1 (k1_pay98 (iota .tc S32x128 32 [0] iota_S32x128_d0_w32)) (step32 s1 127)
        (Scalar.cmpi .eq (Scf.iv 0#32 1#32 n) 0#32) (k1_pay11 (step32 s1 (n - 1))))
      (k1_pay2 (iota .tc S32x128 32 [0] iota_S32x128_d0_w32) (step32 s2 127) (Scf.iv 0#32 1#32 n) (step32 s2 (n - 1)))
      (fun i => h (i 1) (128 * (i 0).val + n)) := by
  have hl := parts_drop (e := fun r l => h l (128 * r + 127 + 1))
    (parts_step (g := fun l t => h l (t + 1)) hf (n := 127) (by decide)) shapeCasts_S1x32x128_S32x128
  have hp := parts_drop (e := fun r l => h l (128 * r + (n - 1) + 1))
    (parts_step (g := fun l t => h l (t + 1)) hf (n := n - 1) (by omega)) shapeCasts_S1x32x128_S32x128
  have hq := parts_first (h := h) h0 hl rotates_S32x128_d0 iota_S32x128_d0_w32
  have hc : Scalar.cmpi .eq (Scf.iv 0#32 1#32 n) 0#32 = 1#1 ↔ n = 0 := by
    show IntOp.cmpi .eq (0#32 + BitVec.ofNat 32 n * 1#32) 0#32 = 1#1 ↔ _
    rw [StableHlo.Predicate.cmpi_eq_iff, BitVec.mul_one, BitVec.zero_add, ← BitVec.toNat_inj, BitVec.toNat_ofNat]
    show n % 2 ^ 32 = 0 ↔ _
    omega
  intro i
  by_cases hz : n = 0
  · subst hz
    have k := hq i
    refine ⟨Eq.trans ?_ k.1, Eq.trans ?_ k.2⟩
    · exact congrFun (select_one (hc.mpr rfl) _ _) i
    · exact congrFun (select_one (hc.mpr rfl) _ _) i
  · have k := hp i
    beta_reduce at k
    rw [show 128 * (i 0).val + (n - 1) + 1 = 128 * (i 0).val + n by omega] at k
    refine ⟨Eq.trans ?_ k.1, Eq.trans ?_ k.2⟩
    · exact congrFun (select_zero (mt hc.mp hz) _ _) i
    · exact congrFun (select_zero (mt hc.mp hz) _ _) i

include ha hx h0 hf in
/-- The sums of each chunk's first `n` steps. -/
theorem rev_sums : ∀ n ≤ 128, ∀ S, S = revSums (iota .tc S32x128 32 [0] iota_S32x128_d0_w32)
      (k1_pay98 (iota .tc S32x128 32 [0] iota_S32x128_d0_w32)) (step32 s1 127) (step32 s2 127)
      (revCarryRe a1 a2 (step32 (revLocalRe a1 a2 x1 x2) 0) (step32 (revLocalIm a1 a2 x1 x2) 0))
      (revCarryIm a1 a2 (step32 (revLocalRe a1 a2 x1 x2) 0) (step32 (revLocalIm a1 a2 x1 x2) 0))
      (revPowRe a1 a2) (revPowIm a1 a2) (revLocalRe a1 a2 x1 x2) (revLocalIm a1 a2 x1 x2) s1 s2 n →
    Parts S.1 S.2 (fun i => ∑ k ∈ Finset.range n, (starRingEnd ℂ) (h (i 1) (128 * (i 0).val + k))
      * run (z (i 1)) (b (i 1)) 0 (4096 - (128 * (i 0).val + k)))
  | 0, _, S, hS => by subst hS; exact parts_zero S32x128
  | n + 1, hn, S, hS => by
    subst hS
    exact (parts_conj (rev_sums n (by omega) _ rfl) (rev_before h0 hf hn) (rev_final ha hx hn)).congr fun i =>
      (Finset.sum_range_succ _ _).symm

/-- A sum of reals as a sum of extended reals. -/
theorem coe_sum {ι : Type} (s : Finset ι) (f : ι → ℝ) : ((∑ i ∈ s, f i : ℝ) : EReal) = ∑ i ∈ s, (f i : EReal) := by
  classical
  induction s using Finset.induction_on with
  | empty => rfl
  | insert a s h ih => rw [Finset.sum_insert h, Finset.sum_insert h, EReal.coe_add, ih]

/-- A sum over the chunks of sums over their steps. -/
theorem sum_chunks (f : ℕ → ℂ) : ∀ n, ∑ r ∈ Finset.range n, ∑ k ∈ Finset.range 128, f (128 * r + k)
    = ∑ t ∈ Finset.range (128 * n), f t
  | 0 => rfl
  | n + 1 => by rw [Finset.sum_range_succ, sum_chunks f n, Nat.mul_succ, Finset.sum_range_add]

include ha hx h0 hf in
/-- The two sums the call writes. -/
theorem rev_total : Parts (k1_pay5 (revTotals a1 a2 x1 x2 s1 s2).1) (k1_pay6 (revTotals a1 a2 x1 x2 s1 s2).2)
    (fun i => ∑ t ∈ Finset.range 4096, (starRingEnd ℂ) (h (i 2) t) * run (z (i 2)) (b (i 2)) 0 (4096 - t)) := fun i => by
  have k := rev_sums ha hx h0 hf 128 le_rfl _ rfl
  change Parts (revTotals a1 a2 x1 x2 s1 s2).1 (revTotals a1 a2 x1 x2 s1 s2).2 _ at k
  generalize (revTotals a1 a2 x1 x2 s1 s2).1 = T1, (revTotals a1 a2 x1 x2 s1 s2).2 = T2 at k ⊢
  idx_vars i
  have e0 : ∀ (T : FVec Ideal S32x128 .f32) hr hf ha,
      multiReduction .add [0] S128 T 0x00000000#32 hr hf ha (ix1 (n0 := 128) i2)
        = ∑ r : Fin 32, T (ix2 (n0 := 32) (n1 := 128) r i2) := fun T hr hf ha =>
    (Ideal.multiReduction_add_single T _ hr hf ha _).trans (Finset.sum_congr rfl fun r _ => congrArg T (by
      funext a
      match a with
      | ⟨0, _⟩ => rfl
      | ⟨1, _⟩ => rfl))
  have e1 : ∀ T : FVec Ideal S32x128 .f32, k1_pay5 T (ix3 (n0 := 1) (n1 := 1) (n2 := 128) i0 i1 i2)
      = ∑ r : Fin 32, T (ix2 (n0 := 32) (n1 := 128) r i2) := fun T => by
    pointwise [k1_pay5]
    exact e0 T _ _ _
  have e2 : ∀ T : FVec Ideal S32x128 .f32, k1_pay6 T (ix3 (n0 := 1) (n1 := 1) (n2 := 128) i0 i1 i2)
      = ∑ r : Fin 32, T (ix2 (n0 := 32) (n1 := 128) r i2) := fun T => by
    pointwise [k1_pay6]
    exact e0 T _ _ _
  have es : ∑ t ∈ Finset.range 4096, (starRingEnd ℂ) (h i2 t) * run (z i2) (b i2) 0 (4096 - t)
      = ∑ r : Fin 32, ∑ k ∈ Finset.range 128, (starRingEnd ℂ) (h i2 (128 * r.val + k))
        * run (z i2) (b i2) 0 (4096 - (128 * r.val + k)) := by
    rw [← sum_chunks (fun t => (starRingEnd ℂ) (h i2 t) * run (z i2) (b i2) 0 (4096 - t)) 32, Finset.sum_range]
  rw [e1, e2]
  refine Parts.congr (ι := Unit) (f := fun _ => ∑ r : Fin 32, ∑ k ∈ Finset.range 128,
    (starRingEnd ℂ) (h i2 (128 * r.val + k)) * run (z i2) (b i2) 0 (4096 - (128 * r.val + k)))
    (x := fun _ => ∑ r : Fin 32, T1 (ix2 (n0 := 32) (n1 := 128) r i2))
    (y := fun _ => ∑ r : Fin 32, T2 (ix2 (n0 := 32) (n1 := 128) r i2)) (fun _ => ⟨?_, ?_⟩) (fun _ => es.symm) ()
  · rw [Complex.re_sum, coe_sum]
    exact Finset.sum_congr rfl fun r _ => (k _).1
  · rw [Complex.im_sum, coe_sum]
    exact Finset.sum_congr rfl fun r _ => (k _).2

end Cert.Scan
-- ==== Proof.Blocks.lean ====
module

public import proofs.«01_k».proof.Proof.FwdRegion
public import proofs.«01_k».proof.Proof.RevRegion
public import proofs.«01_k».proof.Proof.FwdValue
public import proofs.«01_k».proof.Proof.RevValue
public import Idealize.ShloMosaic.Lib.Pipeline.ValueKit.Geometry

/-!
# The two calls' arrays

What each call leaves in its whole result arrays, from what it finds in its argument arrays: block `j` is the lanes
`128 j, …, 128 j + 127`, and a block's row `32 k + r` is time `128 r + k`.
-/

@[expose] public section

set_option maxRecDepth 16384

noncomputable section

namespace Cert.Scan

open Cert.KernelIdeal Cert.KernelIdeal.Gen
open Idealize.ShloMosaic Idealize.ShloMosaic.TcCoe
open Idealize.ShloMosaic.Pipeline (Dat Cfg Window)

open scoped ComplexConjugate

/-- Lane `l` of block `j`. -/
abbrev lane (j : ℕ) (l : Fin 128) : Fin 2048 := ⟨(128 * j + l.val) % 2048, Nat.mod_lt _ (by decide)⟩
/-- The time of row `r` of a block. -/
abbrev clock (r : ℕ) : ℕ := 128 * (r % 32) + r / 32

/-- An array of 32 blocks, the first sixteen the real and the last sixteen the imaginary part of `b`. -/
def Halves (x : Vec Ideal S32x4096x128 .f32) (b : Fin 2048 → ℕ → ℂ) : Prop :=
  ∀ (j : ℕ) (hj : j < 16) (r : Fin 4096) (l : Fin 128),
    x (ix3 (n0 := 32) (n1 := 4096) (n2 := 128) ⟨j, by omega⟩ r l) = ((b (lane j l) (clock r.val)).re : EReal)
    ∧ x (ix3 (n0 := 32) (n1 := 4096) (n2 := 128) ⟨j + 16, by omega⟩ r l) = ((b (lane j l) (clock r.val)).im : EReal)

/-- A row of 4096 numbers, the first half the real and the second the imaginary parts of `a`. -/
def HalfRow (x : Vec Ideal S1x4096 .f32) (a : Fin 2048 → ℂ) : Prop :=
  ∀ (j : ℕ) (hj : j < 16) (l : Fin 128),
    x (ix2 (n0 := 1) (n1 := 4096) 0 ⟨128 * j + l.val, by omega⟩) = ((a (lane j l)).re : EReal)
    ∧ x (ix2 (n0 := 1) (n1 := 4096) 0 ⟨128 * (j + 16) + l.val, by omega⟩) = ((a (lane j l)).im : EReal)

section Forward
variable {V : Contents (F := Ideal)} {c : Dev nD} {a : Fin 2048 → ℂ} {b : Fin 2048 → ℕ → ℂ}

theorem index0_0 : ∀ t : Fin cfg0.N, win0_0.index t = ![t.val, 0, 0] := (by decide +kernel : ∀ t : Fin grid0.N, _)
theorem index0_1 : ∀ t : Fin cfg0.N, win0_1.index t = ![t.val + 16, 0, 0] := (by decide +kernel : ∀ t : Fin grid0.N, _)
theorem index0_2 : ∀ t : Fin cfg0.N, win0_2.index t = ![0, t.val] := (by decide +kernel : ∀ t : Fin grid0.N, _)
theorem index0_3 : ∀ t : Fin cfg0.N, win0_3.index t = ![0, t.val + 16] := (by decide +kernel : ∀ t : Fin grid0.N, _)
theorem index0_4 : ∀ t : Fin cfg0.N, win0_4.index t = ![t.val, 0, 0] := (by decide +kernel : ∀ t : Fin grid0.N, _)
theorem index0_5 : ∀ t : Fin cfg0.N, win0_5.index t = ![t.val, 0, 0] := (by decide +kernel : ∀ t : Fin grid0.N, _)

theorem lt0 (t : Fin cfg0.N) : t.val < 16 := t.isLt

theorem fwd_mult (ha : HalfRow (V c main_v0) a) (t : Fin cfg0.N) :
    Parts (fwdIn2 V c t) (fwdIn3 V c t) (fun i => a (lane t.val (i 1))) := fun i => by
  have h := ha t.val (lt0 t) (i 1)
  have h0 : (i 0).val < 1 := (i 0).isLt
  refine ⟨Eq.trans ?_ h.1, Eq.trans ?_ h.2⟩
  · blk_simp [fwdIn2]
    refine congrArg (V c main_v0) ?_
    blk_ext [index0_2]
  · blk_simp [fwdIn3]
    refine congrArg (V c main_v0) ?_
    blk_ext [index0_3]

theorem fwd_input (hb : Halves (V c main_v6) b) (t : Fin cfg0.N) :
    Parts (fwdIn0 V c t) (fwdIn1 V c t) (fun y => b (lane t.val (y 2)) (time y)) := fun y => by
  have h := hb t.val (lt0 t) (y 1) (y 2)
  have h0 : (y 0).val < 1 := (y 0).isLt
  refine ⟨Eq.trans ?_ h.1, Eq.trans ?_ h.2⟩
  · blk_simp [fwdIn0]
    refine congrArg (V c main_v6) ?_
    blk_ext [index0_0]
  · blk_simp [fwdIn1]
    refine congrArg (V c main_v6) ?_
    blk_ext [index0_1]

/-- The states the forward call leaves. -/
theorem fwd_arrays (ha : HalfRow (V c main_v0) a) (hb : Halves (V c main_v6) b) :
    Parts (ι := S16x4096x128.Idx) ((fwdDat V c).arrAt 4 cfg0.N) ((fwdDat V c).arrAt 5 cfg0.N)
      (fun i => run (a (lane (i 0).val (i 2))) (b (lane (i 0).val (i 2))) 0 (clock (i 1).val + 1)) := fun i => by
  have h (t : Fin cfg0.N) := fwd_parts (z := fun l => a (lane t.val l)) (fwd_mult ha t) (b := fun l => b (lane t.val l)) (fwd_input hb t)
  constructor
  · refine (fwdDat V c).arrAt_forall_of_covers 4 (fun i v => v
      = ((run (a (lane (i 0).val (i 2))) (b (lane (i 0).val (i 2))) 0 (clock (i 1).val + 1)).re : EReal))
      (by decide +kernel) (fun t hf y => ?_) i
    have h0 : (y 0).val < 1 := (y 0).isLt
    refine Eq.trans (h t y).1 ?_
    have e0 : (((cfg0.win 4).blk t).view.emb y 0).val = t.val := by blk_simp [index0_4]
    have e1 : (((cfg0.win 4).blk t).view.emb y 1).val = (y 1).val := by blk_simp [index0_4]
    have e2 : (((cfg0.win 4).blk t).view.emb y 2) = y 2 := Fin.ext (by blk_simp [index0_4])
    rw [e0, e1, e2]
  · refine (fwdDat V c).arrAt_forall_of_covers 5 (fun i v => v
      = ((run (a (lane (i 0).val (i 2))) (b (lane (i 0).val (i 2))) 0 (clock (i 1).val + 1)).im : EReal))
      (by decide +kernel) (fun t hf y => ?_) i
    have h0 : (y 0).val < 1 := (y 0).isLt
    refine Eq.trans (h t y).2 ?_
    have e0 : (((cfg0.win 5).blk t).view.emb y 0).val = t.val := by blk_simp [index0_5]
    have e1 : (((cfg0.win 5).blk t).view.emb y 1).val = (y 1).val := by blk_simp [index0_5]
    have e2 : (((cfg0.win 5).blk t).view.emb y 2) = y 2 := Fin.ext (by blk_simp [index0_5])
    rw [e0, e1, e2]

end Forward

section Reverse
variable {V : Contents (F := Ideal)} {c : Dev nD} {a : Fin 2048 → ℂ} {b h : Fin 2048 → ℕ → ℂ}

theorem index1_0 : ∀ t : Fin cfg1.N, win1_0.index t = ![t.val, 0, 0] := (by decide +kernel : ∀ t : Fin grid1.N, _)
theorem index1_1 : ∀ t : Fin cfg1.N, win1_1.index t = ![t.val + 16, 0, 0] := (by decide +kernel : ∀ t : Fin grid1.N, _)
theorem index1_2 : ∀ t : Fin cfg1.N, win1_2.index t = ![0, t.val] := (by decide +kernel : ∀ t : Fin grid1.N, _)
theorem index1_3 : ∀ t : Fin cfg1.N, win1_3.index t = ![0, t.val + 16] := (by decide +kernel : ∀ t : Fin grid1.N, _)
theorem index1_4 : ∀ t : Fin cfg1.N, win1_4.index t = ![t.val, 0, 0] := (by decide +kernel : ∀ t : Fin grid1.N, _)
theorem index1_5 : ∀ t : Fin cfg1.N, win1_5.index t = ![t.val, 0, 0] := (by decide +kernel : ∀ t : Fin grid1.N, _)
theorem index1_6 : ∀ t : Fin cfg1.N, win1_6.index t = ![t.val, 0, 0] := (by decide +kernel : ∀ t : Fin grid1.N, _)
theorem index1_7 : ∀ t : Fin cfg1.N, win1_7.index t = ![t.val, 0, 0] := (by decide +kernel : ∀ t : Fin grid1.N, _)
theorem index1_8 : ∀ t : Fin cfg1.N, win1_8.index t = ![t.val, 0, 0] := (by decide +kernel : ∀ t : Fin grid1.N, _)
theorem index1_9 : ∀ t : Fin cfg1.N, win1_9.index t = ![t.val, 0, 0] := (by decide +kernel : ∀ t : Fin grid1.N, _)

theorem lt1 (t : Fin cfg1.N) : t.val < 16 := t.isLt

theorem rev_mult (ha : HalfRow (V c main_v17) a) (t : Fin cfg1.N) :
    Parts (revIn2 V c t) (revIn3 V c t) (fun i => a (lane t.val (i 1))) := fun i => by
  have h := ha t.val (lt1 t) (i 1)
  have h0 : (i 0).val < 1 := (i 0).isLt
  refine ⟨Eq.trans ?_ h.1, Eq.trans ?_ h.2⟩
  · blk_simp [revIn2]
    refine congrArg (V c main_v17) ?_
    blk_ext [index1_2]
  · blk_simp [revIn3]
    refine congrArg (V c main_v17) ?_
    blk_ext [index1_3]

theorem rev_input (hb : Halves (V c main_v13) b) (t : Fin cfg1.N) :
    Parts (revIn0 V c t) (revIn1 V c t) (fun y => b (lane t.val (y 2)) (time y)) := fun y => by
  have h := hb t.val (lt1 t) (y 1) (y 2)
  have h0 : (y 0).val < 1 := (y 0).isLt
  refine ⟨Eq.trans ?_ h.1, Eq.trans ?_ h.2⟩
  · blk_simp [revIn0]
    refine congrArg (V c main_v13) ?_
    blk_ext [index1_0]
  · blk_simp [revIn1]
    refine congrArg (V c main_v13) ?_
    blk_ext [index1_1]

theorem rev_states (hf : Parts (ι := S16x4096x128.Idx) (V c main_v7_0) (V c main_v7_1)
    (fun i => h (lane (i 0).val (i 2)) (clock (i 1).val + 1))) (t : Fin cfg1.N) :
    Parts (revIn4 V c t) (revIn5 V c t) (fun y => h (lane t.val (y 2)) (time y + 1)) := fun y => by
  have k := hf (ix3 (n0 := 16) (n1 := 4096) (n2 := 128) ⟨t.val, lt1 t⟩ (y 1) (y 2))
  have h0 : (y 0).val < 1 := (y 0).isLt
  refine ⟨Eq.trans ?_ k.1, Eq.trans ?_ k.2⟩
  · blk_simp [revIn4]
    refine congrArg (V c main_v7_0) ?_
    blk_ext [index1_4]
  · blk_simp [revIn5]
    refine congrArg (V c main_v7_1) ?_
    blk_ext [index1_5]

/-- The adjoint states the reverse call leaves. -/
theorem rev_arrays (ha : HalfRow (V c main_v17) a) (hb : Halves (V c main_v13) (fun n t => b n (4095 - t))) :
    Parts (ι := S16x4096x128.Idx) ((revDat V c).arrAt 6 cfg1.N) ((revDat V c).arrAt 7 cfg1.N)
      (fun i => run (a (lane (i 0).val (i 2))) (b (lane (i 0).val (i 2))) 0 (4096 - clock (i 1).val)) := fun i => by
  have h (t : Fin cfg1.N) := rev_parts (z := fun l => a (lane t.val l)) (rev_mult ha t)
    (b := fun l => b (lane t.val l)) (rev_input hb t)
  constructor
  · refine (revDat V c).arrAt_forall_of_covers 6 (fun i v => v
      = ((run (a (lane (i 0).val (i 2))) (b (lane (i 0).val (i 2))) 0 (4096 - clock (i 1).val)).re : EReal))
      (by decide +kernel) (fun t hf y => ?_) i
    have h0 : (y 0).val < 1 := (y 0).isLt
    refine Eq.trans (h t y).1 ?_
    have e0 : (((cfg1.win 6).blk t).view.emb y 0).val = t.val := by blk_simp [index1_6]
    have e1 : (((cfg1.win 6).blk t).view.emb y 1).val = (y 1).val := by blk_simp [index1_6]
    have e2 : (((cfg1.win 6).blk t).view.emb y 2) = y 2 := Fin.ext (by blk_simp [index1_6])
    rw [e0, e1, e2]
  · refine (revDat V c).arrAt_forall_of_covers 7 (fun i v => v
      = ((run (a (lane (i 0).val (i 2))) (b (lane (i 0).val (i 2))) 0 (4096 - clock (i 1).val)).im : EReal))
      (by decide +kernel) (fun t hf y => ?_) i
    have h0 : (y 0).val < 1 := (y 0).isLt
    refine Eq.trans (h t y).2 ?_
    have e0 : (((cfg1.win 7).blk t).view.emb y 0).val = t.val := by blk_simp [index1_7]
    have e1 : (((cfg1.win 7).blk t).view.emb y 1).val = (y 1).val := by blk_simp [index1_7]
    have e2 : (((cfg1.win 7).blk t).view.emb y 2) = y 2 := Fin.ext (by blk_simp [index1_7])
    rw [e0, e1, e2]

/-- The sums the reverse call leaves. -/
theorem rev_sums_arrays (ha : HalfRow (V c main_v17) a) (hb : Halves (V c main_v13) (fun n t => b n (4095 - t)))
    (hz : ∀ n, h n 0 = 0) (hf : Parts (ι := S16x4096x128.Idx) (V c main_v7_0) (V c main_v7_1)
      (fun i => h (lane (i 0).val (i 2)) (clock (i 1).val + 1))) :
    Parts (ι := S16x1x128.Idx) ((revDat V c).arrAt 8 cfg1.N) ((revDat V c).arrAt 9 cfg1.N)
      (fun i => ∑ t ∈ Finset.range 4096, conj (h (lane (i 0).val (i 2)) t)
        * run (a (lane (i 0).val (i 2))) (b (lane (i 0).val (i 2))) 0 (4096 - t)) := fun i => by
  have k (t : Fin cfg1.N) := rev_total (z := fun l => a (lane t.val l)) (rev_mult ha t)
    (b := fun l => b (lane t.val l)) (rev_input hb t) (h := fun l => h (lane t.val l)) (fun l => hz _) (rev_states hf t)
  constructor
  · refine (revDat V c).arrAt_forall_of_covers 8 (fun i v => v
      = ((∑ t ∈ Finset.range 4096, conj (h (lane (i 0).val (i 2)) t)
        * run (a (lane (i 0).val (i 2))) (b (lane (i 0).val (i 2))) 0 (4096 - t)).re : EReal))
      (by decide +kernel) (fun t hf y => ?_) i
    have h0 : (y 0).val < 1 := (y 0).isLt
    refine Eq.trans (k t y).1 ?_
    have e0 : (((cfg1.win 8).blk t).view.emb y 0).val = t.val := by blk_simp [index1_8]
    have e2 : (((cfg1.win 8).blk t).view.emb y 2) = y 2 := Fin.ext (by blk_simp [index1_8])
    rw [e0, e2]
  · refine (revDat V c).arrAt_forall_of_covers 9 (fun i v => v
      = ((∑ t ∈ Finset.range 4096, conj (h (lane (i 0).val (i 2)) t)
        * run (a (lane (i 0).val (i 2))) (b (lane (i 0).val (i 2))) 0 (4096 - t)).im : EReal))
      (by decide +kernel) (fun t hf y => ?_) i
    have h0 : (y 0).val < 1 := (y 0).isLt
    refine Eq.trans (k t y).2 ?_
    have e0 : (((cfg1.win 9).blk t).view.emb y 0).val = t.val := by blk_simp [index1_9]
    have e2 : (((cfg1.win 9).blk t).view.emb y 2) = y 2 := Fin.ext (by blk_simp [index1_9])
    rw [e0, e2]

end Reverse

end Cert.Scan
-- ==== Proof.Layout.lean ====
module

public import proofs.«01_k».proof.Proof.Run
public import proofs.«01_k».proof.Proof.Blocks

/-!
# The host code around the two calls, at an index

The host code joins the real and the imaginary array, sorts the times so that time `128 r + k` stands in row `32 k + r`
and cuts the lanes in blocks of 128; after the calls it undoes this.
-/

@[expose] public section

set_option maxRecDepth 16384

noncomputable section

namespace Cert.Scan

open Cert.KernelIdeal Cert.KernelIdeal.Gen
open Idealize.ShloMosaic Idealize.ShloMosaic.TcCoe Idealize.ShloMosaic.StableHlo

variable {F : FTy → Type} [FloatOps F]

/-- The real and the imaginary array side by side. -/
def join (x y : Vec F S4096x2048 .f32) : Vec F S4096x4096 .f32 :=
  concatenate S4096x4096 1 [⟨S4096x2048, x⟩, ⟨S4096x2048, y⟩] concatenates_S4096x2048_S4096x2048_S4096x4096_d1
/-- Rows `128 r + k` put at `32 k + r`. -/
def sortRows (w : Vec F S4096x4096 .f32) : Vec F S4096x4096 .f32 :=
  shapeCast S4096x4096 (transpose S128x32x4096 [1, 0, 2] (shapeCast S32x128x4096 w shapeCasts_S4096x4096_S32x128x4096)
    transposes_S32x128x4096_S128x32x4096_1_0_2) shapeCasts_S128x32x4096_S4096x4096
/-- Columns cut in blocks of 128. -/
def cutCols (w : Vec F S4096x4096 .f32) : Vec F S32x4096x128 .f32 :=
  transpose S32x4096x128 [1, 0, 2] (shapeCast S4096x32x128 w shapeCasts_S4096x4096_S4096x32x128)
    transposes_S4096x32x128_S32x4096x128_1_0_2
/-- Blocks of 128 columns put side by side. -/
def pasteCols (w : Vec F S16x4096x128 .f32) : Vec F S4096x2048 .f32 :=
  shapeCast S4096x2048 (transpose S4096x16x128 [1, 0, 2] w transposes_S16x4096x128_S4096x16x128_1_0_2)
    shapeCasts_S4096x16x128_S4096x2048
/-- Rows `32 k + r` put at `128 r + k`. -/
def unsortRows (w : Vec F S4096x2048 .f32) : Vec F S4096x2048 .f32 :=
  shapeCast S4096x2048 (transpose S32x128x2048 [1, 0, 2] (shapeCast S128x32x2048 w shapeCasts_S4096x2048_S128x32x2048)
    transposes_S128x32x2048_S32x128x2048_1_0_2) shapeCasts_S32x128x2048_S4096x2048

theorem clock_lt (r : Fin 4096) : clock r.val < 4096 := by show 128 * (r.val % 32) + r.val / 32 < 4096; omega

theorem join_re (x y : Vec F S4096x2048 .f32) (r : Fin 4096) (n : ℕ) (hn : n < 2048) :
    join x y (ix2 (n0 := 4096) (n1 := 4096) r ⟨n, by omega⟩) = x (ix2 (n0 := 4096) (n1 := 2048) r ⟨n, hn⟩) := by
  pointwise [join]
  rw [dif_pos hn]

theorem join_im (x y : Vec F S4096x2048 .f32) (r : Fin 4096) (n : ℕ) (hn : n < 2048) :
    join x y (ix2 (n0 := 4096) (n1 := 4096) r ⟨n + 2048, by omega⟩) = y (ix2 (n0 := 4096) (n1 := 2048) r ⟨n, hn⟩) := by
  pointwise [join]
  rw [dif_neg (by omega)]
  congr 2

theorem cutCols_apply (w : Vec F S4096x4096 .f32) (j : Fin 32) (r : Fin 4096) (l : Fin 128) :
    cutCols w (ix3 (n0 := 32) (n1 := 4096) (n2 := 128) j r l)
      = w (ix2 (n0 := 4096) (n1 := 4096) r ⟨j.val * 128 + l.val, by omega⟩) := by
  pointwise [cutCols]

theorem sortRows_apply (w : Vec F S4096x4096 .f32) (r n : Fin 4096) :
    sortRows w (ix2 (n0 := 4096) (n1 := 4096) r n) = w (ix2 (n0 := 4096) (n1 := 4096) ⟨clock r.val, clock_lt r⟩ n) := by
  pointwise [sortRows]
  congr 2
  exact Fin.ext (by show r.val % 32 * 128 + r.val / 32 = 128 * (r.val % 32) + r.val / 32; omega)

theorem pasteCols_apply (w : Vec F S16x4096x128 .f32) (r : Fin 4096) (n : Fin 2048) :
    pasteCols w (ix2 (n0 := 4096) (n1 := 2048) r n) = w (ix3 (n0 := 16) (n1 := 4096) (n2 := 128)
      ⟨n.val / 128, by omega⟩ r ⟨n.val % 128, Nat.mod_lt _ (by decide)⟩) := by
  pointwise [pasteCols]

theorem unsortRows_apply (w : Vec F S4096x2048 .f32) (t : Fin 4096) (n : Fin 2048) :
    unsortRows w (ix2 (n0 := 4096) (n1 := 2048) t n)
      = w (ix2 (n0 := 4096) (n1 := 2048) ⟨t.val % 128 * 32 + t.val / 128, by omega⟩ n) := by
  pointwise [unsortRows]

/-! ## Rows of the multiplier -/

/-- Two rows side by side. -/
def joinRow (x y : Vec F S1x2048 .f32) : Vec F S1x4096 .f32 :=
  concatenate S1x4096 1 [⟨S1x2048, x⟩, ⟨S1x2048, y⟩] concatenates_S1x2048_S1x2048_S1x4096_d1
/-- The first half of a row. -/
def firstHalf (w : Vec F S1x4096 .f32) : Vec F S1x2048 .f32 := extractStridedSlice S1x2048 ![0, 0] w slices_S1x4096_S1x2048_0_0
/-- The second half of a row. -/
def secondHalf (w : Vec F S1x4096 .f32) : Vec F S1x2048 .f32 :=
  extractStridedSlice S1x2048 ![0, 2048] w slices_S1x4096_S1x2048_0_2048
/-- Sixteen rows of 128 put side by side. -/
def pasteRow (w : Vec F S16x1x128 .f32) : Vec F S1x2048 .f32 := shapeCast S1x2048 w shapeCasts_S16x1x128_S1x2048

theorem joinRow_re (x y : Vec F S1x2048 .f32) (n : ℕ) (hn : n < 2048) :
    joinRow x y (ix2 (n0 := 1) (n1 := 4096) 0 ⟨n, by omega⟩) = x (ix2 (n0 := 1) (n1 := 2048) 0 ⟨n, hn⟩) := by
  pointwise [joinRow]
  rw [dif_pos hn]

theorem joinRow_im (x y : Vec F S1x2048 .f32) (n : ℕ) (hn : n < 2048) :
    joinRow x y (ix2 (n0 := 1) (n1 := 4096) 0 ⟨n + 2048, by omega⟩) = y (ix2 (n0 := 1) (n1 := 2048) 0 ⟨n, hn⟩) := by
  pointwise [joinRow]
  rw [dif_neg (by omega)]
  congr 2

theorem firstHalf_apply (w : Vec F S1x4096 .f32) (i : S1x2048.Idx) :
    firstHalf w i = w (ix2 (n0 := 1) (n1 := 4096) 0 ⟨(i 1).val, Nat.lt_of_lt_of_le (i 1).isLt (by decide)⟩) := by
  idx_vars i
  pointwise [firstHalf]

theorem secondHalf_apply (w : Vec F S1x4096 .f32) (i : S1x2048.Idx) :
    secondHalf w i = w (ix2 (n0 := 1) (n1 := 4096) 0 ⟨(i 1).val + 2048, Nat.add_lt_add_right (i 1).isLt 2048⟩) := by
  idx_vars i
  pointwise [secondHalf]
  exact congrArg w (congrArg (ix2 (n0 := 1) (n1 := 4096) 0) (Fin.ext (Nat.add_comm _ _)))

theorem pasteRow_apply (w : Vec F S16x1x128 .f32) (n : Fin 2048) :
    pasteRow w (ix2 (n0 := 1) (n1 := 2048) 0 n) = w (ix3 (n0 := 16) (n1 := 1) (n2 := 128)
      ⟨n.val / 128, by omega⟩ 0 ⟨n.val % 128, Nat.mod_lt _ (by decide)⟩) := by
  pointwise [pasteRow]

/-! ## In complex numbers -/

section Complex
variable {a : Fin 2048 → ℂ} {b : Fin 2048 → ℕ → ℂ}

open scoped ComplexConjugate

theorem lane_eq (j : ℕ) (hj : j < 16) (l : Fin 128) (h : j * 128 + l.val < 2048) : lane j l = ⟨j * 128 + l.val, h⟩ :=
  Fin.ext (by show (128 * j + l.val) % 2048 = j * 128 + l.val; omega)

theorem lane_split (n : Fin 2048) (h : n.val % 128 < 128) : lane (n.val / 128) ⟨n.val % 128, h⟩ = n :=
  Fin.ext (by show (128 * (n.val / 128) + n.val % 128) % 2048 = n.val; omega)

theorem clock_split (t : Fin 4096) : clock (t.val % 128 * 32 + t.val / 128) = t.val := by
  show 128 * ((t.val % 128 * 32 + t.val / 128) % 32) + (t.val % 128 * 32 + t.val / 128) / 32 = t.val
  omega

/-- The calls' input array from the two parts. -/
theorem halves_of {x y : Vec Ideal S4096x2048 .f32}
    (h : Parts (ι := S4096x2048.Idx) x y (fun i => b (i 1) (i 0).val)) : Halves (cutCols (sortRows (join x y))) b :=
  fun j hj r l => by
    have hn : j * 128 + l.val < 2048 := by omega
    have k := h (ix2 (n0 := 4096) (n1 := 2048) ⟨clock r.val, clock_lt r⟩ ⟨j * 128 + l.val, hn⟩)
    rw [lane_eq j hj l hn]
    refine ⟨Eq.trans ?_ k.1, Eq.trans ?_ k.2⟩
    · exact (cutCols_apply _ _ _ _).trans ((sortRows_apply _ _ _).trans (join_re x y _ _ hn))
    · refine (cutCols_apply _ _ _ _).trans ((sortRows_apply _ _ _).trans (Eq.trans ?_ (join_im x y _ _ hn)))
      refine congrArg (join x y) (congrArg (ix2 (n0 := 4096) (n1 := 4096) _) (Fin.ext ?_))
      show (j + 16) * 128 + l.val = j * 128 + l.val + 2048
      omega

/-- The multiplier's row from its two parts. -/
theorem halfRow_of {x y : Vec Ideal S1x2048 .f32} (h : Parts (ι := S1x2048.Idx) x y (fun i => a (i 1))) :
    HalfRow (joinRow x y) a := fun j hj l => by
  have hn : j * 128 + l.val < 2048 := by omega
  have k := h (ix2 (n0 := 1) (n1 := 2048) 0 ⟨j * 128 + l.val, hn⟩)
  rw [lane_eq j hj l hn]
  refine ⟨Eq.trans ?_ k.1, Eq.trans ?_ k.2⟩
  · refine Eq.trans (congrArg (joinRow x y) (congrArg (ix2 (n0 := 1) (n1 := 4096) _) (Fin.ext ?_)))
      (joinRow_re x y _ hn)
    show 128 * j + l.val = j * 128 + l.val
    omega
  · refine Eq.trans (congrArg (joinRow x y) (congrArg (ix2 (n0 := 1) (n1 := 4096) _) (Fin.ext ?_)))
      (joinRow_im x y _ hn)
    show 128 * (j + 16) + l.val = j * 128 + l.val + 2048
    omega

/-- The conjugate multiplier's row, as the host code makes it of the multiplier's. -/
theorem halfRow_conj {x y : Vec Ideal S1x2048 .f32} (h : Parts (ι := S1x2048.Idx) x y (fun i => a (i 1))) :
    HalfRow (joinRow (firstHalf (joinRow x y)) (Host.negf (secondHalf (joinRow x y)))) (fun n => conj (a n)) :=
  halfRow_of fun i => by
    have k := h (ix2 (n0 := 1) (n1 := 2048) 0 (i 1))
    refine ⟨?_, ?_⟩
    · rw [firstHalf_apply, Complex.conj_re]
      exact (joinRow_re x y _ (i 1).isLt).trans k.1
    · rw [Complex.conj_im, EReal.coe_neg]
      refine congrArg (fun t : EReal => -t) ?_
      rw [secondHalf_apply]
      exact (joinRow_im x y _ (i 1).isLt).trans k.2

/-- A pair of the calls' state arrays, put back in the order of times. -/
theorem parts_back {x y : Vec Ideal S16x4096x128 .f32} {f : Fin 2048 → ℕ → ℂ}
    (h : Parts (ι := S16x4096x128.Idx) x y (fun i => f (lane (i 0).val (i 2)) (clock (i 1).val))) :
    Parts (ι := S4096x2048.Idx) (unsortRows (pasteCols x)) (unsortRows (pasteCols y)) (fun i => f (i 1) (i 0).val) :=
  fun i => by
    idx_vars i
    have hr : i0.val % 128 * 32 + i0.val / 128 < 4096 := by omega
    have k := h (ix3 (n0 := 16) (n1 := 4096) (n2 := 128) ⟨i1.val / 128, by omega⟩ ⟨i0.val % 128 * 32 + i0.val / 128, hr⟩
      ⟨i1.val % 128, Nat.mod_lt _ (by decide)⟩)
    have e : f (lane (i1.val / 128) ⟨i1.val % 128, Nat.mod_lt _ (by decide)⟩) (clock (i0.val % 128 * 32 + i0.val / 128))
        = f i1 i0.val := by rw [lane_split, clock_split]
    refine ⟨Eq.trans ?_ (k.1.trans (congrArg (fun z : ℂ => (z.re : EReal)) e)),
      Eq.trans ?_ (k.2.trans (congrArg (fun z : ℂ => (z.im : EReal)) e))⟩
    · exact (unsortRows_apply _ _ _).trans (pasteCols_apply _ _ _)
    · exact (unsortRows_apply _ _ _).trans (pasteCols_apply _ _ _)

/-- The pair of the sums, put side by side. -/
theorem parts_row_back {x y : Vec Ideal S16x1x128 .f32} {f : Fin 2048 → ℂ}
    (h : Parts (ι := S16x1x128.Idx) x y (fun i => f (lane (i 0).val (i 2)))) :
    Parts (ι := S1x2048.Idx) (pasteRow x) (pasteRow y) (fun i => f (i 1)) := fun i => by
  have e0 : i = ix2 (n0 := 1) (n1 := 2048) 0 (i 1) := by
    have h0 : (i 0).val < 1 := (i 0).isLt
    funext b
    match b with
    | ⟨0, _⟩ => exact Fin.ext (by show (i 0).val = 0; omega)
    | ⟨1, _⟩ => rfl
  have hi : (i 1).val < 2048 := (i 1).isLt
  have k := h (ix3 (n0 := 16) (n1 := 1) (n2 := 128) ⟨(i 1).val / 128, by omega⟩ 0
      ⟨(i 1).val % 128, Nat.mod_lt _ (by decide)⟩)
  have e : f (lane ((i 1).val / 128) ⟨(i 1).val % 128, Nat.mod_lt _ (by decide)⟩) = f (i 1) :=
    congrArg f (lane_split (i 1) _)
  refine ⟨Eq.trans ?_ (k.1.trans (congrArg (fun z : ℂ => (z.re : EReal)) e)),
    Eq.trans ?_ (k.2.trans (congrArg (fun z : ℂ => (z.im : EReal)) e))⟩
  · exact (congrArg (pasteRow x) e0).trans (pasteRow_apply x (i 1))
  · exact (congrArg (pasteRow y) e0).trans (pasteRow_apply y (i 1))

end Complex

end Cert.Scan
-- ==== Proof.KernelValue.lean ====
module

public import proofs.«01_k».proof.Proof.Layout
public import Idealize.ShloMosaic.Lib.StableHlo.RunRead

/-!
# What the program computes, in closed form

From arrays that are the parts of a row `A` of multipliers, of inputs `B` and of output gradients `C` (told from the last
time back), the six results are the parts of the states, of the adjoint states and of the multipliers' gradient.
-/

@[expose] public section

set_option maxRecDepth 16384

noncomputable section

namespace Cert.Scan

open Cert.KernelIdeal Cert.KernelIdeal.Gen
open Idealize.ShloMosaic Idealize.ShloMosaic.TcCoe Idealize.ShloMosaic.StableHlo

open scoped ComplexConjugate

variable {A : Fin 2048 → ℂ} {B C : Fin 2048 → ℕ → ℂ}
variable {m : (ℓ : Loc nD τ sig) → Buf (Elt Ideal) ℓ} {c : Dev nD}

/-! ## The host code's lines -/

theorem first_v0 : V1 m c main_v0 = joinRow (F := Ideal) (m ((c : Thread nD τ).loc main_arg2)) (m ((c : Thread nD τ).loc main_arg3)) := by
  unfold V1
  after_reads_simp
  rfl

theorem first_v6 : V1 m c main_v6 = cutCols (sortRows (join (F := Ideal) (m ((c : Thread nD τ).loc main_arg0))
    (m ((c : Thread nD τ).loc main_arg1)))) := by
  unfold V1
  after_reads_simp
  rfl

theorem second_v13 (V : Valuation τ sig (Elt Ideal)) : after hostOps1 V (Proc.devRef .tc main_v13)
    = cutCols (sortRows (join (F := Ideal) (V (Proc.devRef .tc main_arg4)) (V (Proc.devRef .tc main_arg5)))) := by
  after_reads_simp
  rfl

theorem second_v17 (V : Valuation τ sig (Elt Ideal)) : after hostOps1 V (Proc.devRef .tc main_v17)
    = joinRow (F := Ideal) (firstHalf (V (Proc.devRef .tc main_v0)))
      (Host.negf (F := Ideal) (s := S1x2048) (φ := .f32) (secondHalf (V (Proc.devRef .tc main_v0)))) := by
  after_reads_simp
  rfl

theorem last_v23 (V : Valuation τ sig (Elt Ideal)) : after hostOps2 V (Proc.devRef .tc main_v23)
    = unsortRows (pasteCols (F := Ideal) (V (Proc.devRef .tc main_v7_0))) := by
  after_reads_simp
  rfl

theorem last_v28 (V : Valuation τ sig (Elt Ideal)) : after hostOps2 V (Proc.devRef .tc main_v28)
    = unsortRows (pasteCols (F := Ideal) (V (Proc.devRef .tc main_v7_1))) := by
  after_reads_simp
  rfl

theorem last_v33 (V : Valuation τ sig (Elt Ideal)) : after hostOps2 V (Proc.devRef .tc main_v33)
    = unsortRows (pasteCols (F := Ideal) (V (Proc.devRef .tc main_v18_0))) := by
  after_reads_simp
  rfl

theorem last_v38 (V : Valuation τ sig (Elt Ideal)) : after hostOps2 V (Proc.devRef .tc main_v38)
    = unsortRows (pasteCols (F := Ideal) (V (Proc.devRef .tc main_v18_1))) := by
  after_reads_simp
  rfl

theorem last_v39 (V : Valuation τ sig (Elt Ideal)) : after hostOps2 V (Proc.devRef .tc main_v39)
    = pasteRow (F := Ideal) (V (Proc.devRef .tc main_v18_2)) := by
  after_reads_simp
  rfl

theorem last_v40 (V : Valuation τ sig (Elt Ideal)) : after hostOps2 V (Proc.devRef .tc main_v40)
    = pasteRow (F := Ideal) (V (Proc.devRef .tc main_v18_3)) := by
  after_reads_simp
  rfl

/-! ## The results -/

variable (hA : Parts (ι := S1x2048.Idx) (m ((c : Thread nD τ).loc main_arg2)) (m ((c : Thread nD τ).loc main_arg3))
    (fun y => A (y 1)))
  (hB : Parts (ι := S4096x2048.Idx) (m ((c : Thread nD τ).loc main_arg0)) (m ((c : Thread nD τ).loc main_arg1))
    (fun i => B (i 1) (i 0).val))
  (hC : Parts (ι := S4096x2048.Idx) (m ((c : Thread nD τ).loc main_arg4)) (m ((c : Thread nD τ).loc main_arg5))
    (fun i => C (i 1) (4095 - (i 0).val)))

include hA hB in
/-- What the forward call leaves. -/
theorem states_at : Parts (ι := S16x4096x128.Idx) ((fwdDat (atFwd m) c).arrAt 4 cfg0.N) ((fwdDat (atFwd m) c).arrAt 5 cfg0.N)
    (fun i => run (A (lane (i 0).val (i 2))) (B (lane (i 0).val (i 2))) 0 (clock (i 1).val + 1)) := by
  have a0 : HalfRow (atFwd m c main_v0) A := by
    show HalfRow (V1 m c main_v0) A
    rw [first_v0]
    exact halfRow_of hA
  have b0 : Halves (atFwd m c main_v6) B := by
    show Halves (V1 m c main_v6) B
    rw [first_v6]
    exact halves_of hB
  exact fwd_arrays a0 b0

/-- What the reverse call is entered with. -/
theorem rev_entry (r : Ref sig .tc) : atRev m c r = after hostOps1 (V2 m (leaves m) c) r := by
  show V3 m (fun _ r c => fwdLeaves m c r) c r = V3 m (leaves m) c r
  rw [V3_leaves]

theorem V2_v7_0 : V2 m (leaves m) c main_v7_0 = (fwdDat (atFwd m) c).arrAt 4 cfg0.N := (fwd_exit m c 4).symm
theorem V2_v7_1 : V2 m (leaves m) c main_v7_1 = (fwdDat (atFwd m) c).arrAt 5 cfg0.N := (fwd_exit m c 5).symm

include hA in
theorem conj_at : HalfRow (atRev m c main_v17) (fun n => conj (A n)) := by
  rw [rev_entry, second_v17, V2_of m (leaves m) c main_v0 (by decide), first_v0]
  exact halfRow_conj hA

include hC in
theorem cot_at : Halves (atRev m c main_v13) (fun n t => C n (4095 - t)) := by
  rw [rev_entry, second_v13, V2_of m (leaves m) c main_arg4 (by decide), V2_of m (leaves m) c main_arg5 (by decide),
    V1_of m c main_arg4 (by decide), V1_of m c main_arg5 (by decide)]
  exact halves_of (b := fun n t => C n (4095 - t)) hC

include hA hB in
theorem before_at : Parts (ι := S16x4096x128.Idx) (atRev m c main_v7_0) (atRev m c main_v7_1)
    (fun i => run (A (lane (i 0).val (i 2))) (B (lane (i 0).val (i 2))) 0 (clock (i 1).val + 1)) := by
  have e0 : atRev m c main_v7_0 = (fwdDat (atFwd m) c).arrAt 4 cfg0.N := by
    rw [rev_entry]
    exact (V3_of m (leaves m) c main_v7_0 (by decide)).trans V2_v7_0
  have e1 : atRev m c main_v7_1 = (fwdDat (atFwd m) c).arrAt 5 cfg0.N := by
    rw [rev_entry]
    exact (V3_of m (leaves m) c main_v7_1 (by decide)).trans V2_v7_1
  rw [e0, e1]
  exact states_at hA hB

theorem V4_v7_0 : V4 m (leaves m) c main_v7_0 = (fwdDat (atFwd m) c).arrAt 4 cfg0.N :=
  (V4_of m (leaves m) c main_v7_0 (by decide)).trans ((V3_of m (leaves m) c main_v7_0 (by decide)).trans V2_v7_0)
theorem V4_v7_1 : V4 m (leaves m) c main_v7_1 = (fwdDat (atFwd m) c).arrAt 5 cfg0.N :=
  (V4_of m (leaves m) c main_v7_1 (by decide)).trans ((V3_of m (leaves m) c main_v7_1 (by decide)).trans V2_v7_1)

include hA hB in
/-- The states. -/
theorem kernel_states : Parts (ι := S4096x2048.Idx) (V5 m (leaves m) c main_v23) (V5 m (leaves m) c main_v28)
    (fun i => run (A (i 1)) (B (i 1)) 0 ((i 0).val + 1)) := by
  have e0 : V5 m (leaves m) c main_v23 = _ := last_v23 (V4 m (leaves m) c)
  have e1 : V5 m (leaves m) c main_v28 = _ := last_v28 (V4 m (leaves m) c)
  rw [e0, e1, V4_v7_0, V4_v7_1]
  exact parts_back (f := fun n t => run (A n) (B n) 0 (t + 1)) (states_at hA hB)

include hA hC in
/-- The adjoint states. -/
theorem kernel_adjoint : Parts (ι := S4096x2048.Idx) (V5 m (leaves m) c main_v33) (V5 m (leaves m) c main_v38)
    (fun i => run (conj (A (i 1))) (C (i 1)) 0 (4096 - (i 0).val)) := by
  have e0 : V5 m (leaves m) c main_v33 = _ := last_v33 (V4 m (leaves m) c)
  have e1 : V5 m (leaves m) c main_v38 = _ := last_v38 (V4 m (leaves m) c)
  rw [e0, e1, V4_v18_0, V4_v18_1, leaves_v18_0, leaves_v18_1]
  exact parts_back (f := fun n t => run (conj (A n)) (C n) 0 (4096 - t)) (rev_arrays (conj_at hA) (cot_at hC))

include hA hB hC in
/-- The multipliers' gradient. -/
theorem kernel_total : Parts (ι := S1x2048.Idx) (V5 m (leaves m) c main_v39) (V5 m (leaves m) c main_v40)
    (fun y => ∑ t ∈ Finset.range 4096,
      conj (run (A (y 1)) (B (y 1)) 0 t) * run (conj (A (y 1))) (C (y 1)) 0 (4096 - t)) := by
  have e0 : V5 m (leaves m) c main_v39 = _ := last_v39 (V4 m (leaves m) c)
  have e1 : V5 m (leaves m) c main_v40 = _ := last_v40 (V4 m (leaves m) c)
  rw [e0, e1, V4_v18_2, V4_v18_3, leaves_v18_2, leaves_v18_3]
  exact parts_row_back (f := fun n => ∑ t ∈ Finset.range 4096,
      conj (run (A n) (B n) 0 t) * run (conj (A n)) (C n) 0 (4096 - t))
    (rev_sums_arrays (h := fun n t => run (A n) (B n) 0 t) (conj_at hA) (cot_at hC) (fun _ => rfl) (before_at hA hB))

end Cert.Scan
-- ==== Proof.Algebraic.lean ====
module

public import proofs.«01_k».proof.Proof.Frames
public import proofs.«01_k».proof.Proof.RefValue
public import proofs.«01_k».proof.Proof.KernelValue
public import Idealize.ShloMosaic.Lib.KernelVsHost

/-!
# The two programs compute the same

Where the arguments are finite they are the parts of complex multipliers, inputs and output gradients. Both programs' six
results then have the same closed forms in these, so they are equal.
-/

@[expose] public section

set_option maxRecDepth 16384

noncomputable section

namespace Cert.Proof

open Idealize.ShloMosaic Idealize.ShloMosaic.TcCoe Idealize.SL.Sem
open Cert.Scan (Parts run)

open scoped ComplexConjugate

/-- The side conditions of the precondition's operations. -/
theorem finite_facts : Cert.Pre_finite.Facts where
  bcast_S_S4096x2048 := by decide
  bcast_S_S1x2048 := by decide

/-! ## Finite arrays -/

/-- A number below infinity in absolute value is a real one. -/
theorem real_of_below (x : Ideal .f32)
    (h : FloatOps.cmpf .olt (FloatOps.hostAbsf x) (FloatOps.ofBits (F := Ideal) .f32 0x7F800000#32) = 1#1) :
    (((x : EReal).toReal : ℝ) : EReal) = x := by
  rw [← Ideal.xori_weird_eq_hostAbsf_olt_inf] at h
  have hx : ¬((x : EReal) = ⊤ ∨ (x : EReal) = ⊥) := fun k => by
    have hw : FloatOps.weird x = 1#1 := by
      show BitVec.ofBool (decide ((x : EReal) = ⊤ ∨ (x : EReal) = ⊥)) = 1#1
      rw [decide_eq_true k]
      rfl
    rw [hw] at h
    exact absurd h (by decide)
  exact EReal.coe_toReal (fun k => hx (.inl k)) (fun k => hx (.inr k))

/-- The complex number whose parts are the real numbers of two entries. -/
def both (x y : Ideal .f32) : ℂ := ⟨(x : EReal).toReal, (y : EReal).toReal⟩

/-- A row's column number reads the row. -/
theorem row_at (i : Cert.KernelIdeal.S1x2048.Idx) : ix2 (n0 := 1) (n1 := 2048) 0 (i 1) = i := by
  have h0 : (i 0).val < 1 := (i 0).isLt
  funext b
  match b with
  | ⟨0, _⟩ => exact Fin.ext (by show 0 = (i 0).val; omega)
  | ⟨1, _⟩ => rfl

/-- A time and a column read the array. -/
theorem entry_at (i : Cert.KernelIdeal.S4096x2048.Idx) (t : ℕ) (h : t < 4096) (e : t = (i 0).val) :
    ix2 (n0 := 4096) (n1 := 2048) ⟨t, h⟩ (i 1) = i := by
  funext b
  match b with
  | ⟨0, _⟩ => exact Fin.ext e
  | ⟨1, _⟩ => rfl

/-- A row of multipliers. -/
def rowOf (x y : Vec Ideal Cert.KernelIdeal.S1x2048 .f32) (n : Fin 2048) : ℂ :=
  both (x (ix2 (n0 := 1) (n1 := 2048) 0 n)) (y (ix2 (n0 := 1) (n1 := 2048) 0 n))

/-- A column's entries from the first time on. -/
def fromFirst (x y : Vec Ideal Cert.KernelIdeal.S4096x2048 .f32) (n : Fin 2048) (t : ℕ) : ℂ :=
  both (x (ix2 (n0 := 4096) (n1 := 2048) ⟨t % 4096, Nat.mod_lt _ (by decide)⟩ n))
    (y (ix2 (n0 := 4096) (n1 := 2048) ⟨t % 4096, Nat.mod_lt _ (by decide)⟩ n))

/-- A column's entries from the last time back. -/
def fromLast (x y : Vec Ideal Cert.KernelIdeal.S4096x2048 .f32) (n : Fin 2048) (t : ℕ) : ℂ :=
  fromFirst x y n (4095 - t)

theorem rowOf_parts {x y : Vec Ideal Cert.KernelIdeal.S1x2048 .f32} (hx : ∀ i, (((x i : EReal).toReal : ℝ) : EReal) = x i)
    (hy : ∀ i, (((y i : EReal).toReal : ℝ) : EReal) = y i) :
    Parts (ι := Cert.KernelIdeal.S1x2048.Idx) x y (fun i => rowOf x y (i 1)) := fun i => by
  have e : rowOf x y (i 1) = both (x i) (y i) := congrArg (fun k => both (x k) (y k)) (row_at i)
  exact ⟨(hx i).symm.trans (congrArg (fun z : ℂ => (z.re : EReal)) e.symm),
    (hy i).symm.trans (congrArg (fun z : ℂ => (z.im : EReal)) e.symm)⟩

theorem fromFirst_parts {x y : Vec Ideal Cert.KernelIdeal.S4096x2048 .f32}
    (hx : ∀ i, (((x i : EReal).toReal : ℝ) : EReal) = x i) (hy : ∀ i, (((y i : EReal).toReal : ℝ) : EReal) = y i) :
    Parts (ι := Cert.KernelIdeal.S4096x2048.Idx) x y (fun i => fromFirst x y (i 1) (i 0).val) := fun i => by
  have e : fromFirst x y (i 1) (i 0).val = both (x i) (y i) :=
    congrArg (fun k => both (x k) (y k)) (entry_at i _ _ (Nat.mod_eq_of_lt (i 0).isLt))
  exact ⟨(hx i).symm.trans (congrArg (fun z : ℂ => (z.re : EReal)) e.symm),
    (hy i).symm.trans (congrArg (fun z : ℂ => (z.im : EReal)) e.symm)⟩

theorem fromLast_parts {x y : Vec Ideal Cert.KernelIdeal.S4096x2048 .f32}
    (hx : ∀ i, (((x i : EReal).toReal : ℝ) : EReal) = x i) (hy : ∀ i, (((y i : EReal).toReal : ℝ) : EReal) = y i) :
    Parts (ι := Cert.KernelIdeal.S4096x2048.Idx) x y (fun i => fromLast x y (i 1) (4095 - (i 0).val)) := fun i => by
  have hi : (i 0).val < 4096 := (i 0).isLt
  have e : fromLast x y (i 1) (4095 - (i 0).val) = fromFirst x y (i 1) (i 0).val :=
    congrArg (fromFirst x y (i 1)) (by omega)
  have k := fromFirst_parts hx hy i
  exact ⟨k.1.trans (congrArg (fun z : ℂ => (z.re : EReal)) e.symm),
    k.2.trans (congrArg (fun z : ℂ => (z.im : EReal)) e.symm)⟩

/-- Arrays that are the parts of the same numbers are equal. -/
theorem same {ι : Type} {x y x' y' : ι → EReal} {f : ι → ℂ} (h : Parts x y f) (h' : Parts x' y' f) : x' = x ∧ y' = y :=
  ⟨funext fun i => (h' i).1.trans (h i).1.symm, funext fun i => (h' i).2.trans (h i).2.symm⟩

/-- Equal arrays are the parts of the same numbers. -/
theorem _root_.Cert.Scan.Parts.moved {ι : Type} {x y x' y' : ι → EReal} {f : ι → ℂ} (h : Parts x y f) (hx : x' = x)
    (hy : y' = y) : Parts x' y' f := by
  rw [hx, hy]
  exact h

/-! ## The claim -/

open Cert.KernelIdeal Cert.KernelIdeal.Gen Cert.Scan in
theorem algebraic : Cert.algebraic_KernelIdeal_ReferenceIdeal_pre_finite (hPre_finite := finite_facts) :=
  fun m g m' g' hpre hargs => by
    have f0 := fun c i => real_of_below _ (congrFun (hpre c).1 i)
    have f1 := fun c i => real_of_below _ (congrFun (hpre c).2.1 i)
    have f2 := fun c i => real_of_below _ (congrFun (hpre c).2.2.1 i)
    have f3 := fun c i => real_of_below _ (congrFun (hpre c).2.2.2.1 i)
    have f4 := fun c i => real_of_below _ (congrFun (hpre c).2.2.2.2.1 i)
    have f5 := fun c i => real_of_below _ (congrFun (hpre c).2.2.2.2.2 i)
    have pA := fun c => rowOf_parts (f2 c) (f3 c)
    have pB := fun c => fromFirst_parts (f0 c) (f1 c)
    have pC := fun c => fromLast_parts (f4 c) (f5 c)
    refine ⟨fun c => V5 m (leaves m) c main_v23, fun c => V5 m (leaves m) c main_v28, fun c => V5 m (leaves m) c main_v33,
      fun c => V5 m (leaves m) c main_v38, fun c => V5 m (leaves m) c main_v39, fun c => V5 m (leaves m) c main_v40,
      (θ_run Cert.KernelIdeal.defs _ _).mono (fun r h c => ?_) (run_main (F := Ideal) m g),
      (θ_run Cert.ReferenceIdeal.defs _ _).mono (fun r h c => ?_) (Cert.RefScan.run_ends (F := Ideal) m' g')⟩
    · have k := h.1 c
      exact ⟨k.1.1, k.1.2.1, k.1.2.2.1, k.1.2.2.2.1, k.1.2.2.2.2.1, k.1.2.2.2.2.2, k.2⟩
    · have qA := pA c
      have qB := pB c
      have qC := pC c
      obtain ⟨e0, e1, e2, e3, e4, e5⟩ := hargs c
      have rA := qA.moved e2 e3
      have rB := qB.moved e0 e1
      have rC := qC.moved e4 e5
      have s1 := same (kernel_states qA qB) (Cert.RefScan.ref_states (m := m') (c := c) rA rB)
      have s2 := same (kernel_adjoint qA qC) (Cert.RefScan.ref_adjoint (m := m') (c := c) rA rB rC)
      have s3 := same (kernel_total qA qB qC) (Cert.RefScan.ref_total (m := m') (c := c) rA rB rC)
      have k := fun b hb => h.1 c b hb
      exact ⟨(k Cert.ReferenceIdeal.main_v9_9 rfl).trans s1.1, (k Cert.ReferenceIdeal.main_v9_10 rfl).trans s1.2,
        (k Cert.ReferenceIdeal.main_v18_13 rfl).trans s2.1, (k Cert.ReferenceIdeal.main_v18_14 rfl).trans s2.2,
        (k Cert.ReferenceIdeal.main_v18_9 rfl).trans s3.1, (k Cert.ReferenceIdeal.main_v18_10 rfl).trans s3.2,
        (k Cert.ReferenceIdeal.main_arg0 rfl).trans (Cert.RefScan.WEnd_arg0 m' c),
        (k Cert.ReferenceIdeal.main_arg1 rfl).trans (Cert.RefScan.WEnd_arg1 m' c),
        (k Cert.ReferenceIdeal.main_arg2 rfl).trans (Cert.RefScan.WEnd_arg2 m' c),
        (k Cert.ReferenceIdeal.main_arg3 rfl).trans (Cert.RefScan.WEnd_arg3 m' c),
        (k Cert.ReferenceIdeal.main_arg4 rfl).trans (Cert.RefScan.WEnd_arg4 m' c),
        (k Cert.ReferenceIdeal.main_arg5 rfl).trans (Cert.RefScan.WEnd_arg5 m' c)⟩

end Cert.Proof
-- ==== Proof.GateValue.lean ====
module

public import proofs.«01_k».proof.Proof.Gen.Kernel2Ideal.Value
public import Idealize.ShloMosaic.Lib.KernelVsHost
public import Idealize.ShloMosaic.Lib.Pipeline.ValueKit.Geometry
public import Idealize.ShloMosaic.Lib.StableHlo.RunRead
public import Idealize.ShloMosaic.Lib.Pointwise

/-!
# The gate's gradient: what the call leaves

The result's first 2816 columns are the gradient of the gate, the others the gradient of `up`. Both begin with a product of
the output gradient's row and the weight's row.
-/

@[expose] public section

set_option maxRecDepth 16384

noncomputable section

namespace Cert.Gate

open Idealize.ShloMosaic Idealize.ShloMosaic.TcCoe
open Idealize.ShloMosaic.Pipeline (Dat Cfg Window)

/-! ## The gradient of one entry -/

/-- The logistic function as both programs compute it. -/
def sigma (g : EReal) : EReal := Ideal.div 1 (1 + Ideal.exp (0 - g))

/-- The derivative of `gate` times its logistic value: the kernel's product is the reference's sum where the factor `z` is a
    real number. -/
theorem dgate_eq (z : ℝ) (g : EReal) :
    (z : EReal) * sigma g * (1 + g * (1 - sigma g))
      = (z : EReal) * sigma g + g * (z : EReal) * (sigma g * (1 - sigma g)) := by
  induction g using EReal.rec with
  | bot =>
    have e : sigma ⊥ = 0 := by
      have h : (0 : EReal) - ⊥ = ⊤ := rfl
      unfold sigma
      rw [h]
      show Ideal.div 1 (1 + ⊤) = 0
      rw [show (1 : EReal) + ⊤ = ⊤ from rfl, Ideal.div, if_neg (by decide), EReal.inv_top, mul_zero]
    rw [e]; simp
  | top =>
    have e : sigma ⊤ = 1 := by
      unfold sigma
      rw [show (0 : EReal) - ⊤ = ⊥ from rfl]
      show Ideal.div 1 (1 + 0) = 1
      rw [add_zero, show (1 : EReal) = ((1 : ℝ) : EReal) from rfl, Ideal.div_coe one_ne_zero]
      norm_num
    have e1 : (1 : EReal) - 1 = 0 := by
      rw [show (1 : EReal) = ((1 : ℝ) : EReal) from rfl, ← EReal.coe_sub]; norm_num
    rw [e, e1]; simp
  | coe g =>
    have e : sigma (g : EReal) = ((1 / (1 + Real.exp (0 - g)) : ℝ) : EReal) := by
      have h0 : (0 : EReal) - (g : EReal) = ((0 - g : ℝ) : EReal) := by rw [EReal.coe_sub]; rfl
      have h1 : (1 : EReal) + Ideal.exp (((0 - g : ℝ)) : EReal) = ((1 + Real.exp (0 - g) : ℝ) : EReal) := by
        rw [Ideal.exp_coe, EReal.coe_add]; rfl
      have hp : 1 + Real.exp (0 - g) ≠ 0 := (add_pos one_pos (Real.exp_pos _)).ne'
      unfold sigma
      rw [h0, h1, Ideal.div_coe hp, one_mul]
    rw [e, show (1 : EReal) = ((1 : ℝ) : EReal) from rfl]
    simp only [← EReal.coe_sub, ← EReal.coe_mul, ← EReal.coe_add]
    congr 1
    ring

open Cert.Kernel2Ideal Cert.Kernel2Ideal.Gen

/-- The product of row `r` of the output gradient and row `n` of the weight. -/
def prod (df : Vec Ideal S4096x1024 .bf16) (w : Vec Ideal S2816x1024 .bf16) (r : Fin 4096) (n : Fin 2816) : EReal :=
  ∑ k : Fin 1024, (df (ix2 (n0 := 4096) (n1 := 1024) r k) : EReal) * w (ix2 (n0 := 2816) (n1 := 1024) n k)

/-- Both gradients side by side. -/
def grads (gate up : Vec Ideal S4096x2816 .bf16) (w : Vec Ideal S2816x1024 .bf16) (df : Vec Ideal S4096x1024 .bf16) :
    Vec Ideal S4096x5632 .bf16 := fun i =>
  if h : (i 1).val < 2816 then
    prod df w (i 0) ⟨(i 1).val, h⟩ * up (ix2 (n0 := 4096) (n1 := 2816) (i 0) ⟨(i 1).val, h⟩)
        * sigma (gate (ix2 (n0 := 4096) (n1 := 2816) (i 0) ⟨(i 1).val, h⟩))
      * (1 + gate (ix2 (n0 := 4096) (n1 := 2816) (i 0) ⟨(i 1).val, h⟩)
        * (1 - sigma (gate (ix2 (n0 := 4096) (n1 := 2816) (i 0) ⟨(i 1).val, h⟩))))
  else
    have h1 : (i 1).val - 2816 < 2816 := by have h1 : (i 1).val < 5632 := (i 1).isLt; omega
    prod df w (i 0) ⟨(i 1).val - 2816, h1⟩ * gate (ix2 (n0 := 4096) (n1 := 2816) (i 0) ⟨(i 1).val - 2816, h1⟩)
      * sigma (gate (ix2 (n0 := 4096) (n1 := 2816) (i 0) ⟨(i 1).val - 2816, h1⟩))

/-! ## One block -/

theorem hz : (![0, 0] : Fin 2 → Nat) = fun _ => 0 := funext fun a => by fin_cases a <;> rfl

theorem out_eq (x0 : Vec Ideal S256x1024 .bf16) (x1 : Vec Ideal S2816x1024 .bf16) (x2 : Vec Ideal S256x5632 .bf16) :
    out0_3 x0 x1 x2 = k0_pay1 x0 x1 x2 := by
  unfold out0_3
  rw [View.canon_unit_zero hz, View.ld_unit_zero hz, View.ld_unit_zero hz, View.ld_unit_zero hz]

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

/-- Row `y` of block `t`. -/
abbrev row (t : Fin cfg0.N) (y : Fin 256) : Fin 4096 := ⟨256 * t.val + y.val, by have h : t.val < 16 := t.isLt; omega⟩

variable (m : (ℓ : Loc nD τ sig) → Buf (Elt Ideal) ℓ) (c : Dev nD)

theorem blk0 (t : Fin cfg0.N) (y : S256x1024.Idx) :
    (iblk m c 0 t : Vec Ideal S256x1024 .bf16) y = m ((c : Thread nD τ).loc main_arg3) (ix2 (n0 := 4096) (n1 := 1024) (row t (y 0)) (y 1)) := by
  blk_simp [iblk]
  show V m c main_arg3 _ = _
  rw [V_main_arg3]
  refine congrArg (m ((c : Thread nD τ).loc main_arg3)) ?_
  blk_ext [index0]

theorem blk1 (t : Fin cfg0.N) (y : S2816x1024.Idx) :
    (iblk m c 1 t : Vec Ideal S2816x1024 .bf16) y = m ((c : Thread nD τ).loc main_arg2) y := by
  blk_simp [iblk]
  show V m c main_arg2 _ = _
  rw [V_main_arg2]
  refine congrArg (m ((c : Thread nD τ).loc main_arg2)) ?_
  blk_ext [index1]

/-- The array the host puts gate and `up` side by side in. -/
theorem both_read (i : S4096x5632.Idx) : V m c main_v0 i
    = if h : (i 1).val < 2816 then m ((c : Thread nD τ).loc main_arg0) (ix2 (n0 := 4096) (n1 := 2816) (i 0) ⟨(i 1).val, h⟩)
      else m ((c : Thread nD τ).loc main_arg1) (ix2 (n0 := 4096) (n1 := 2816) (i 0)
        ⟨(i 1).val - 2816, by have h1 : (i 1).val < 5632 := (i 1).isLt; omega⟩) := by
  after_reads_simp
  pointwise

theorem both_gate (r : Fin 4096) (k : Fin 2816) (k' : Fin 5632) (e : k'.val = k.val) :
    V m c main_v0 (ix2 (n0 := 4096) (n1 := 5632) r k') = m ((c : Thread nD τ).loc main_arg0) (ix2 (n0 := 4096) (n1 := 2816) r k) := by
  have h : k'.val < 2816 := by omega
  exact ((both_read m c _).trans (dif_pos h)).trans
    (congrArg (fun q : Fin 2816 => m ((c : Thread nD τ).loc main_arg0) (ix2 (n0 := 4096) (n1 := 2816) r q)) (Fin.ext e))

theorem both_up (r : Fin 4096) (k : Fin 2816) (k' : Fin 5632) (e : k'.val = 2816 + k.val) :
    V m c main_v0 (ix2 (n0 := 4096) (n1 := 5632) r k') = m ((c : Thread nD τ).loc main_arg1) (ix2 (n0 := 4096) (n1 := 2816) r k) := by
  have h : ¬ k'.val < 2816 := by omega
  exact ((both_read m c _).trans (dif_neg h)).trans
    (congrArg (fun q : Fin 2816 => m ((c : Thread nD τ).loc main_arg1) (ix2 (n0 := 4096) (n1 := 2816) r q))
      (Fin.ext (by show k'.val - 2816 = k.val; omega)))

theorem blk2 (t : Fin cfg0.N) (y : S256x5632.Idx) :
    (iblk m c 2 t : Vec Ideal S256x5632 .bf16) y = V m c main_v0 (ix2 (n0 := 4096) (n1 := 5632) (row t (y 0)) (y 1)) := by
  blk_simp [iblk]
  show V m c main_v0 _ = _
  refine congrArg (V m c main_v0) ?_
  blk_ext [index2]

/-! ## The whole array -/

theorem kernel_grads : (dats m 0 c).arrAt 3 cfg0.N = grads (m ((c : Thread nD τ).loc main_arg0)) (m ((c : Thread nD τ).loc main_arg1))
    (m ((c : Thread nD τ).loc main_arg2)) (m ((c : Thread nD τ).loc main_arg3)) := by
  funext i
  refine (dats m 0 c).arrAt_forall_of_covers 3 (fun i v => v = grads (m ((c : Thread nD τ).loc main_arg0))
    (m ((c : Thread nD τ).loc main_arg1)) (m ((c : Thread nD τ).loc main_arg2)) (m ((c : Thread nD τ).loc main_arg3)) i)
    (by decide +kernel) (fun t hf y => ?_) i
  have e : ((cfg0.win 3).blk t).view.emb y = ix2 (n0 := 4096) (n1 := 5632) (row t (y 0)) (y 1) := by
    blk_ext [index3]
  rw [e]
  show ((dats m 0 c).after 3 t : Vec Ideal S256x5632 .bf16) y = _
  rw [after0_3, out_eq]
  generalize (show S256x5632.Idx from y) = y
  pointwise [k0_pay1]
  simp only [blk0, blk1, blk2]
  have hy : (y 1).val < 5632 := (y 1).isLt
  by_cases h : (y 1).val < 2816
  · refine (dif_pos h).trans (Eq.trans ?_ (dif_pos h).symm)
    exact congrArg₂ (fun u g : EReal => prod (m ((c : Thread nD τ).loc main_arg3)) (m ((c : Thread nD τ).loc main_arg2)) (row t (y 0))
        ⟨(y 1).val, h⟩ * u * sigma g * (1 + g * (1 - sigma g)))
      (both_up m c (row t (y 0)) ⟨(y 1).val, h⟩ ⟨2816 + (y 1).val, by omega⟩ rfl)
      (both_gate m c (row t (y 0)) ⟨(y 1).val, h⟩ (y 1) rfl)
  · refine (dif_neg h).trans (Eq.trans ?_ (dif_neg h).symm)
    exact congrArg (fun g : EReal => prod (m ((c : Thread nD τ).loc main_arg3)) (m ((c : Thread nD τ).loc main_arg2)) (row t (y 0))
        ⟨(y 1).val - 2816, by omega⟩ * g * sigma g)
      (both_gate m c (row t (y 0)) ⟨(y 1).val - 2816, by omega⟩ ⟨(y 1).val - 2816, by omega⟩ rfl)

end Cert.Gate
-- ==== Proof.GateClaim.lean ====
module

public import proofs.«01_k».proof.Defs
public import proofs.«01_k».proof.Proof.Algebraic
public import proofs.«01_k».proof.Proof.GateValue
public import proofs.«01_k».proof.Proof.Gen.Kernel2
public import proofs.«01_k».proof.Proof.Gen.Reference2Ideal.Run

/-!
# The gate's gradient: the claims

Where `up`, the weight and the output gradient are finite, the reference's gradients are the kernel's.
-/

@[expose] public section

set_option maxRecDepth 16384

noncomputable section

namespace Cert.Gate

open Idealize.ShloMosaic Idealize.ShloMosaic.TcCoe Idealize.SL.Sem

/-- The side conditions of the precondition's operations. -/
theorem finite_facts : Cert.Pre_finite2.Facts where
  bitsLt_bf16_f32 := by decide
  bcast_S_S4096x2816 := by decide
  bcast_S_S2816x1024 := by decide
  bcast_S_S4096x1024 := by decide

/-- The product of two rows of real numbers is a real number. -/
theorem prod_real (df : Vec Ideal Cert.Kernel2Ideal.S4096x1024 .bf16) (w : Vec Ideal Cert.Kernel2Ideal.S2816x1024 .bf16)
    (hd : ∀ i, (((df i : EReal).toReal : ℝ) : EReal) = df i) (hw : ∀ i, (((w i : EReal).toReal : ℝ) : EReal) = w i)
    (r : Fin 4096) (n : Fin 2816) : ∃ z : ℝ, prod df w r n = (z : EReal) :=
  ⟨∑ k : Fin 1024, (df (ix2 (n0 := 4096) (n1 := 1024) r k) : EReal).toReal * (w (ix2 (n0 := 2816) (n1 := 1024) n k) : EReal).toReal, by
    rw [Cert.Scan.coe_sum]
    exact Finset.sum_congr rfl fun k _ => by rw [EReal.coe_mul, hd, hw]⟩

/-- The logistic function as the reference spells it. -/
theorem sigma_neg (g : EReal) : Ideal.div 1 (1 + Ideal.exp (-g)) = sigma g := by
  unfold sigma
  rw [zero_sub]

/-- The reference's gradient of one gate is the kernel's. -/
theorem gate_entry (p u g : EReal) (hp : ∃ z : ℝ, p = (z : EReal)) (hu : ((u.toReal : ℝ) : EReal) = u) :
    p * u * Ideal.div 1 (1 + Ideal.exp (-g)) + g * (p * u) * (Ideal.div 1 (1 + Ideal.exp (-g)) * (1 - Ideal.div 1 (1 + Ideal.exp (-g))))
      = p * u * sigma g * (1 + g * (1 - sigma g)) := by
  obtain ⟨z, rfl⟩ := hp
  rw [sigma_neg, ← hu, ← EReal.coe_mul]
  exact (dgate_eq _ g).symm

/-- The reference's gradient of one entry of `up` is the kernel's. -/
theorem up_entry (p g : EReal) : g * Ideal.div 1 (1 + Ideal.exp (-g)) * p = p * g * sigma g := by
  rw [sigma_neg, mul_comm, mul_assoc]

attribute [local instance] Cert.Kernel2.Gen.facts

/-- The two programs have one text: their runs are the same. -/
theorem same_run (m : (ℓ : Loc Cert.Kernel2.nD Cert.Kernel2.τ Cert.Kernel2.sig) → Buf (Elt Bits) ℓ)
    (ρ : Dev Cert.Kernel2.nD → PrngReg) :
    θ_run (Cert.Kernel2.defs (F := Bits)) (onTc (τ := Cert.Kernel2.τ) (Cert.Kernel2.main (F := Bits))) ⟨m, fun _ => 0, ρ⟩
      = θ_run (Cert.Kernel2Ideal.defs (F := Bits)) (onTc (τ := Cert.Kernel2Ideal.τ) (Cert.Kernel2Ideal.main (F := Bits)))
        ⟨m, fun _ => 0, ρ⟩ := by
  chain_rfl

theorem frame_kernel : Cert.quiescent_Kernel2 := fun m ρ _ => by
  rw [same_run]
  exact Cert.Kernel2Ideal.Gen.frame (F := Bits) m ρ

theorem frame_kernelIdeal : Cert.quiescent_Kernel2Ideal := fun m ρ _ => Cert.Kernel2Ideal.Gen.frame (F := Ideal) m ρ

theorem frame_reference : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

open Cert.Reference2Ideal in
theorem algebraic : Cert.algebraic_Kernel2Ideal_Reference2Ideal_pre_finite2 (hPre_finite2 := finite_facts) :=
  fun m g m' g' hpre hargs => by
    have fu := fun c i => Cert.Proof.real_of_below _ (congrFun (hpre c).1 i)
    have fw := fun c i => Cert.Proof.real_of_below _ (congrFun (hpre c).2.1 i)
    have fd := fun c i => Cert.Proof.real_of_below _ (congrFun (hpre c).2.2 i)
    refine ⟨fun c => grads (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1))
        (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)),
      (θ_run Cert.Kernel2Ideal.defs _ _).mono (fun r h c => ⟨(h c).1.trans (kernel_grads m c), (h c).2⟩)
        (Cert.Kernel2Ideal.Value.run_blocks (F := Ideal) m g),
      (θ_run Cert.Reference2Ideal.defs _ _).mono (fun r h c => ⟨(h c).1.trans ?_, (h c).2⟩)
        (Cert.Reference2Ideal.Value.run (F := Ideal) m' g')⟩
    obtain ⟨e0, e1, e2, e3⟩ := hargs c
    rw [e0, e1, e2, e3]
    funext i
    have hi : (i 1).val < 5632 := (i 1).isLt
    pointwise
    by_cases h : (i 1).val < 2816
    · refine (dif_pos h).trans (Eq.trans ?_ (dif_pos h).symm)
      exact gate_entry _ _ _ (prod_real _ _ (fd c) (fw c) (i 0) ⟨(i 1).val, h⟩) (fu c _)
    · refine (dif_neg h).trans (Eq.trans ?_ (dif_neg h).symm)
      exact up_entry _ _

end Cert.Gate
-- ==== Proof.Sums.lean ====
module

public import Mathlib.Algebra.BigOperators.Fin
public import Mathlib.Data.EReal.Basic
public import Mathlib.Data.EReal.Operations

/-!
# Sums taken block by block

A product over 4096 rows, accumulated over eight blocks of 512 rows or sixteen of 256.
-/

@[expose] public section

namespace Cert.Sums

/-- A sum over `n` blocks of `b` is the sum over all of them. -/
theorem range_blocks (b : ℕ) (f : ℕ → EReal) : ∀ n : ℕ, ∑ s ∈ Finset.range n, ∑ k ∈ Finset.range b, f (b * s + k)
    = ∑ k ∈ Finset.range (b * n), f k
  | 0 => rfl
  | n + 1 => by
    rw [Finset.sum_range_succ, range_blocks b f n, Nat.mul_succ, Finset.sum_range_add]

/-- `n` blocks of `b` rows that are 4096 rows together. -/
theorem all_blocks (b n : ℕ) (hbn : b * n = 4096) (f : Fin 4096 → EReal) :
    ∑ s ∈ Finset.range n, ∑ k : Fin b, f ⟨(b * s + k.val) % 4096, Nat.mod_lt _ (by decide)⟩ = ∑ k : Fin 4096, f k := by
  have h := range_blocks b (fun k => f ⟨k % 4096, Nat.mod_lt _ (by decide)⟩) n
  have e : ∑ k : Fin 4096, f k = ∑ k ∈ Finset.range (b * n), f ⟨k % 4096, Nat.mod_lt _ (by decide)⟩ := by
    rw [hbn, Finset.sum_range]
    exact Finset.sum_congr rfl fun k _ => congrArg f (Fin.ext (Nat.mod_eq_of_lt k.isLt).symm)
  rw [e, ← h]
  exact Finset.sum_congr rfl fun s _ =>
    (Finset.sum_range fun k => f ⟨(b * s + k) % 4096, Nat.mod_lt _ (by decide)⟩).symm

/-- Eight blocks of 512 rows are the 4096 rows. -/
theorem eight_blocks (f : Fin 4096 → EReal) :
    ∑ s ∈ Finset.range 8, ∑ k : Fin 512, f ⟨(512 * s + k.val) % 4096, Nat.mod_lt _ (by decide)⟩ = ∑ k : Fin 4096, f k :=
  all_blocks 512 8 rfl f

/-- A sum over two halves side by side. -/
theorem two_halves (f : Fin 5632 → EReal) : ∑ k, f k
    = ∑ k : Fin 2816, f ⟨k.val, by omega⟩ + ∑ k : Fin 2816, f ⟨2816 + k.val, by omega⟩ :=
  Fin.sum_univ_add (a := 2816) (b := 2816) f

/-- An accumulator that is set at the first point and added to at the others. -/
theorem accumulated_once {ι : Type} {N : ℕ} (acc : (n : ℕ) → n < N → ι → EReal) (M : ℕ → ι → EReal)
    (hset : ∀ h i, acc 0 h i = M 0 i) (hadd : ∀ n h i, acc (n + 1) h i = acc n (Nat.lt_of_succ_lt h) i + M (n + 1) i) :
    ∀ n h i, acc n h i = ∑ s ∈ Finset.range (n + 1), M s i
  | 0, h, i => by rw [hset h i, Finset.sum_range_one]
  | n + 1, h, i => by rw [hadd n h, accumulated_once acc M hset hadd n, Finset.sum_range_succ _ (n + 1)]

/-- An accumulator that is set at every eighth point and added to at the others. -/
theorem accumulated {ι : Type} {N : ℕ} (acc : (n : ℕ) → n < N → ι → EReal) (M : ℕ → ι → EReal)
    (hset : ∀ n h, n % 8 = 0 → ∀ i, acc n h i = M n i)
    (hadd : ∀ n h, (n + 1) % 8 ≠ 0 → ∀ i, acc (n + 1) h i = acc n (Nat.lt_of_succ_lt h) i + M (n + 1) i) :
    ∀ n h i, acc n h i = ∑ s ∈ Finset.range (n % 8 + 1), M (8 * (n / 8) + s) i
  | 0, h, i => by rw [hset 0 h rfl]; simp
  | n + 1, h, i => by
    by_cases h0 : (n + 1) % 8 = 0
    · rw [hset _ h h0, h0, Finset.sum_range_one, show 8 * ((n + 1) / 8) + 0 = n + 1 by omega]
    · rw [hadd n h h0, accumulated acc M hset hadd n, show (n + 1) % 8 = n % 8 + 1 by omega,
        show (n + 1) / 8 = n / 8 by omega, Finset.sum_range_succ _ (n % 8 + 1),
        show 8 * (n / 8) + (n % 8 + 1) = n + 1 by omega]

end Cert.Sums
-- ==== Proof.DownValue.lean ====
module

public import proofs.«01_k».proof.Proof.Sums
public import proofs.«01_k».proof.Proof.Gen.Kernel4Ideal.Value
public import Idealize.ShloMosaic.Lib.Pipeline.ValueKit.Geometry
public import Idealize.ShloMosaic.Lib.StableHlo.RunRead
public import Idealize.ShloMosaic.Lib.Pointwise

/-!
# The down weight's gradient: what the call leaves

Every entry is the product of a column of the activation and a column of the output gradient, over all 4096 tokens.
-/

@[expose] public section

set_option maxRecDepth 16384

noncomputable section

namespace Cert.Down

open Cert.Kernel4Ideal Cert.Kernel4Ideal.Gen
open Idealize.ShloMosaic Idealize.ShloMosaic.TcCoe
open Idealize.ShloMosaic.Pipeline (Dat Cfg Window)

theorem hz : (![0, 0] : Fin 2 → Nat) = fun _ => 0 := funext fun a => by fin_cases a <;> rfl

section Cases
variable {F : FTy → Type} [FloatOps F]
variable (c : Dev nD) (i : grid0.Coords)
  (a3 : Memref sig .tc .vmem S512x1408 .bf16) (h3 : a3.IsWhole) (a4 : Memref sig .tc .vmem S512x1024 .bf16) (h4 : a4.IsWhole)
  (a5 : Memref sig .tc .vmem S1408x1024 .bf16) (h5 : a5.IsWhole) (a6 : Memref sig .tc .vmem S1408x1024 .f32) (h6 : a6.IsWhole)
  (x0 : Vec F S512x1408 .bf16) (x1 : Vec F S512x1024 .bf16) (xs : Vec F S1408x1024 .f32)

theorem first_scratch (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S512x1408) hz,
    View.ld_unit_zero (S := S512x1024) hz, shapeCast_self]

theorem later_scratch (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S512x1408) hz,
    View.ld_unit_zero (S := S512x1024) hz, View.ld_unit_zero (S := S1408x1024) hz, shapeCast_self]

theorem last_scratch (hc0 : ¬cond0_0 i) (hc1 : cond0_1 i) (hc2 : cond0_2 i) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S512x1408) hz,
    View.ld_unit_zero (S := S512x1024) hz, View.ld_unit_zero (S := S1408x1024) hz, shapeCast_self]

theorem last_out (hc0 : ¬cond0_0 i) (hc1 : cond0_1 i) (hc2 : cond0_2 i) :
    out0_C_2 c i a3 h3 a4 h4 a5 h5 a6 h6 hc0 hc1 hc2 x0 x1 xs = k0_pay4 (addf xs (k0_pay1 x0 x1)) := by
  unfold out0_C_2
  rw [View.read_writes_eq_canon _ _ _ (cover0_C_2 c i a3 h3 a4 h4 a5 h5 a6 h6 hc0 hc1 hc2 x0 x1 xs)]
  unfold kernelRun0_C
  dsimp only
  sl_unfold_words
  rw [View.canon_unit_zero hz, View.readCov_unit_zero (S := S1408x1024) _ hz]
  unfold k0_pay3
  simp only [View.readAt_eq_ld, h3.read_unread, h4.read_unread, h6.read_unread, View.ld_unit_zero (S := S512x1408) hz,
    View.ld_unit_zero (S := S512x1024) hz, View.ld_unit_zero (S := S1408x1024) hz, shapeCast_self]

end Cases

/-! ## The accumulator -/

variable (m : (ℓ : Loc nD τ sig) → Buf (Elt Ideal) ℓ) (c : Dev nD)

theorem index0 : ∀ t : Fin cfg0.N, win0_0.index t = ![t.val % 8, t.val / 8] := (by decide +kernel : ∀ t : Fin grid0.N, _)
theorem index1 : ∀ t : Fin cfg0.N, win0_1.index t = ![t.val % 8, 0] := (by decide +kernel : ∀ t : Fin grid0.N, _)
theorem index2 : ∀ t : Fin cfg0.N, win0_2.index t = ![t.val / 8, 0] := (by decide +kernel : ∀ t : Fin grid0.N, _)

/-- Token `k` of the tokens of point `n`. -/
abbrev token (n : ℕ) (k : Fin 512) : Fin 4096 := ⟨(512 * (n % 8) + k.val) % 4096, Nat.mod_lt _ (by decide)⟩
/-- Column `j` of the columns of point `n`. -/
abbrev column (n : ℕ) (j : Fin 1408) : Fin 2816 := ⟨(1408 * (n / 8) + j.val) % 2816, Nat.mod_lt _ (by decide)⟩

/-- One token's product for one entry. -/
def term (act : Vec Ideal S4096x2816 .bf16) (df : Vec Ideal S4096x1024 .bf16) (j : Fin 2816) (l : Fin 1024) (k : Fin 4096) : EReal :=
  (act (ix2 (n0 := 4096) (n1 := 2816) k j) : EReal) * df (ix2 (n0 := 4096) (n1 := 1024) k l)

theorem blk0 (t : Fin cfg0.N) (y : S512x1408.Idx) : (iblk m c 0 t : Vec Ideal S512x1408 .bf16) y
    = m ((c : Thread nD τ).loc main_arg0) (ix2 (n0 := 4096) (n1 := 2816) (token t.val (y 0)) (column t.val (y 1))) := by
  have h : t.val < 16 := t.isLt
  have h0 : (y 0).val < 512 := (y 0).isLt
  have h1 : (y 1).val < 1408 := (y 1).isLt
  blk_simp [iblk]
  show V m c main_arg0 _ = _
  rw [V_main_arg0]
  refine congrArg (m ((c : Thread nD τ).loc main_arg0)) ?_
  blk_ext [index0]

theorem blk1 (t : Fin cfg0.N) (y : S512x1024.Idx) : (iblk m c 1 t : Vec Ideal S512x1024 .bf16) y
    = m ((c : Thread nD τ).loc main_arg1) (ix2 (n0 := 4096) (n1 := 1024) (token t.val (y 0)) (y 1)) := by
  have h : t.val < 16 := t.isLt
  have h0 : (y 0).val < 512 := (y 0).isLt
  blk_simp [iblk]
  show V m c main_arg1 _ = _
  rw [V_main_arg1]
  refine congrArg (m ((c : Thread nD τ).loc main_arg1)) ?_
  blk_ext [index1]

/-- What one point adds to an entry. -/
def part (n : ℕ) (i : S1408x1024.Idx) : EReal := ∑ k : Fin 512, term (m ((c : Thread nD τ).loc main_arg0)) (m ((c : Thread nD τ).loc main_arg1)) (column n (i 0)) (i 1) (token n k)

theorem part_eq (t : Fin cfg0.N) (i : S1408x1024.Idx) :
    (k0_pay1 (iblk m c 0 t : Vec Ideal S512x1408 .bf16) (iblk m c 1 t : Vec Ideal S512x1024 .bf16) i : EReal) = part m c t.val i := by
  pointwise [k0_pay1]
  simp only [blk0, blk1]
  rfl

/-- The accumulator after every point. -/
theorem accumulator : ∀ n h i, ((outsAt0 m c n h).2 i : EReal) = ∑ s ∈ Finset.range (n % 8 + 1), part m c (8 * (n / 8) + s) i :=
  Cert.Sums.accumulated (fun n h i => (outsAt0 m c n h).2 i) (part m c)
    (fun n h h0 i => by
      show (outsAt0 m c n h).2 i = _
      rw [outsAt0_A m c ⟨n, h⟩ h0 (by dsimp only; omega) (by dsimp only; omega)]
      dsimp only
      rw [first_scratch]
      exact part_eq m c ⟨n, h⟩ i)
    (fun n h h0 i => by
      show (outsAt0 m c (n + 1) h).2 i = (outsAt0 m c n _).2 i + _
      by_cases h7 : (n + 1) % 8 = 7
      · rw [outsAt0_C m c ⟨n + 1, h⟩ h0 (by dsimp only; omega) h7]
        dsimp only
        rw [last_scratch]
        exact congrArg ((outsAt0 m c n _).2 i + ·) (part_eq m c ⟨n + 1, h⟩ i)
      · rw [outsAt0_B m c ⟨n + 1, h⟩ h0 (by dsimp only; omega) h7]
        dsimp only
        rw [later_scratch]
        exact congrArg ((outsAt0 m c n _).2 i + ·) (part_eq m c ⟨n + 1, h⟩ i))

/-- The block a last point writes back. -/
theorem written (t : Fin cfg0.N) (h7 : t.val % 8 = 7) (i : S1408x1024.Idx) :
    ((outsAt0 m c t.val t.isLt).1 i : EReal) = ∑ k : Fin 4096, term (m ((c : Thread nD τ).loc main_arg0)) (m ((c : Thread nD τ).loc main_arg1)) (column t.val (i 0)) (i 1) k := by
  have h0 : ¬ t.val % 8 = 0 := by omega
  have e : (outsAt0 m c t.val t.isLt).1 i = (outsAt0 m c t.val t.isLt).2 i := by
    rw [outsAt0_C m c t h0 (by omega) h7]
    dsimp only
    rw [last_out, last_scratch]
    rfl
  rw [e, accumulator m c t.val t.isLt i, h7, ← Cert.Sums.eight_blocks]
  refine Finset.sum_congr rfl fun s hs => Finset.sum_congr rfl fun k _ => ?_
  have hs := Finset.mem_range.mp hs
  have e1 : token (8 * (t.val / 8) + s) k = ⟨(512 * s + k.val) % 4096, Nat.mod_lt _ (by decide)⟩ :=
    Fin.ext (by show (512 * ((8 * (t.val / 8) + s) % 8) + k.val) % 4096 = _; congr 2; omega)
  have e2 : column (8 * (t.val / 8) + s) (i 0) = column t.val (i 0) :=
    Fin.ext (by show (1408 * ((8 * (t.val / 8) + s) / 8) + (i 0).val) % 2816 = _; congr 2; omega)
  rw [e1, e2]

/-! ## The whole array -/

/-- Every entry the product of two columns. -/
def product (act : Vec Ideal S4096x2816 .bf16) (df : Vec Ideal S4096x1024 .bf16) : Vec Ideal S2816x1024 .bf16 := fun i =>
  ∑ k : Fin 4096, term act df (i 0) (i 1) k

theorem kernel_product : (dats m 0 c).arrAt 2 cfg0.N
    = product (m ((c : Thread nD τ).loc main_arg0)) (m ((c : Thread nD τ).loc main_arg1)) := by
  funext i
  refine (dats m 0 c).arrAt_forall_of_covers 2 (fun i v => v
    = product (m ((c : Thread nD τ).loc main_arg0)) (m ((c : Thread nD τ).loc main_arg1)) i)
    (by decide +kernel) (fun t hf y => ?_) i
  have ht : t.val < 16 := t.isLt
  have h0 : (y 0).val < 1408 := (y 0).isLt
  have e : ((cfg0.win 2).blk t).view.emb y = ix2 (n0 := 2816) (n1 := 1024) (column t.val (y 0)) (y 1) := by
    blk_ext [index2]
  rw [e]
  show ((dats m 0 c).after 2 t : Vec Ideal S1408x1024 .bf16) y = _
  rw [after0_2]
  exact written m c t ((flush0_2 t).mp hf) y

end Cert.Down
-- ==== Proof.DownClaim.lean ====
module

public import proofs.«01_k».proof.Defs
public import proofs.«01_k».proof.Proof.DownValue
public import proofs.«01_k».proof.Proof.Gen.Kernel4
public import proofs.«01_k».proof.Proof.Gen.Reference4Ideal.Run
public import Idealize.ShloMosaic.Lib.Quiescent

/-!
# The down weight's gradient: the claims
-/

@[expose] public section

set_option maxRecDepth 16384

noncomputable section

namespace Cert.Down

open Idealize.ShloMosaic Idealize.ShloMosaic.TcCoe Idealize.SL.Sem

attribute [local instance] Cert.Kernel4.Gen.facts

/-- The two programs have one text: their runs are the same. -/
theorem same_run (m : (ℓ : Loc Cert.Kernel4.nD Cert.Kernel4.τ Cert.Kernel4.sig) → Buf (Elt Bits) ℓ)
    (ρ : Dev Cert.Kernel4.nD → PrngReg) :
    θ_run (Cert.Kernel4.defs (F := Bits)) (onTc (τ := Cert.Kernel4.τ) (Cert.Kernel4.main (F := Bits))) ⟨m, fun _ => 0, ρ⟩
      = θ_run (Cert.Kernel4Ideal.defs (F := Bits)) (onTc (τ := Cert.Kernel4Ideal.τ) (Cert.Kernel4Ideal.main (F := Bits)))
        ⟨m, fun _ => 0, ρ⟩ := by
  chain_rfl

theorem frame_kernel : Cert.quiescent_Kernel4 := fun m ρ _ => by
  rw [same_run]
  exact Cert.Kernel4Ideal.Gen.frame (F := Bits) m ρ

theorem frame_kernelIdeal : Cert.quiescent_Kernel4Ideal := fun m ρ _ => Cert.Kernel4Ideal.Gen.frame (F := Ideal) m ρ

theorem frame_reference : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

open Cert.Reference4Ideal in
theorem algebraic : Cert.algebraic_Kernel4Ideal_Reference4Ideal :=
  fun m g m' g' _ hargs => by
    refine ⟨fun c => product (m ((c.tc : Thread Cert.Kernel4Ideal.nD Cert.Kernel4Ideal.τ).loc Cert.Kernel4Ideal.main_arg0))
        (m ((c.tc : Thread Cert.Kernel4Ideal.nD Cert.Kernel4Ideal.τ).loc Cert.Kernel4Ideal.main_arg1)),
      (θ_run Cert.Kernel4Ideal.defs _ _).mono (fun r h c => ⟨(h c).1.trans (kernel_product m c), (h c).2⟩)
        (Cert.Kernel4Ideal.Value.run_blocks (F := Ideal) m g),
      (θ_run Cert.Reference4Ideal.defs _ _).mono (fun r h c => ⟨(h c).1.trans ?_, (h c).2⟩)
        (Cert.Reference4Ideal.Value.run (F := Ideal) m' g')⟩
    obtain ⟨e0, e1⟩ := hargs c
    rw [e0, e1]
    funext i
    pointwise
    exact Finset.sum_congr rfl fun k _ => mul_comm _ _

end Cert.Down
-- ==== Proof.GateWeightValue.lean ====
module

public import proofs.«01_k».proof.Proof.Sums
public import proofs.«01_k».proof.Proof.Gen.Kernel5Ideal.Value
public import Idealize.ShloMosaic.Lib.Pipeline.ValueKit.Geometry
public import Idealize.ShloMosaic.Lib.StableHlo.RunRead
public import Idealize.ShloMosaic.Lib.Pointwise

/-!
# The gate weight's gradient: what the call leaves

Every entry is the product of a column of the normed input and a column of the gate's gradient, over all 4096 tokens.
-/

@[expose] public section

set_option maxRecDepth 16384

noncomputable section

namespace Cert.GateWeight

open Cert.Kernel5Ideal Cert.Kernel5Ideal.Gen
open Idealize.ShloMosaic Idealize.ShloMosaic.TcCoe
open Idealize.ShloMosaic.Pipeline (Dat Cfg Window)

theorem hz : (![0, 0] : Fin 2 → Nat) = fun _ => 0 := funext fun a => by fin_cases a <;> rfl

/-- The block a last point stores: four slabs, each a quarter of the accumulator's columns. -/
def slabs (acc : Vec Ideal S1024x1408 .f32) : Vec Ideal S4x1024x352 .bf16 := fun y =>
  (acc (ix2 (n0 := 1024) (n1 := 1408) (y 1) ⟨(352 * (y 0).val + (y 2).val) % 1408, Nat.mod_lt _ (by decide)⟩) : EReal)

section Cases
variable {F : FTy → Type} [FloatOps F]
variable (c : Dev nD) (i : grid0.Coords)
  (a3 : Memref sig .tc .vmem S512x1024 .bf16) (h3 : a3.IsWhole) (a4 : Memref sig .tc .vmem S512x1408 .bf16) (h4 : a4.IsWhole)
  (a5 : Memref sig .tc .vmem S4x1024x352 .bf16) (h5 : a5.IsWhole) (a6 : Memref sig .tc .vmem S1024x1408 .f32) (h6 : a6.IsWhole)
  (x0 : Vec F S512x1024 .bf16) (x1 : Vec F S512x1408 .bf16) (xs : Vec F S1024x1408 .f32)

theorem first_scratch (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S512x1408) hz,
    View.ld_unit_zero (S := S512x1024) hz, shapeCast_self]

theorem later_scratch (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S512x1408) hz,
    View.ld_unit_zero (S := S512x1024) hz, View.ld_unit_zero (S := S1024x1408) hz, shapeCast_self]

theorem last_scratch (hc0 : ¬cond0_0 i) (hc1 : cond0_1 i) (hc2 : cond0_2 i) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S512x1408) hz,
    View.ld_unit_zero (S := S512x1024) hz, View.ld_unit_zero (S := S1024x1408) hz, shapeCast_self]

end Cases

/-- Where four slabs are stored, each stored slab is one of `slabs`. -/
theorem last_out (c : Dev nD) (i : grid0.Coords)
    (a3 : Memref sig .tc .vmem S512x1024 .bf16) (h3 : a3.IsWhole) (a4 : Memref sig .tc .vmem S512x1408 .bf16) (h4 : a4.IsWhole)
    (a5 : Memref sig .tc .vmem S4x1024x352 .bf16) (h5 : a5.IsWhole) (a6 : Memref sig .tc .vmem S1024x1408 .f32) (h6 : a6.IsWhole)
    (x0 : Vec Ideal S512x1024 .bf16) (x1 : Vec Ideal S512x1408 .bf16) (xs : Vec Ideal S1024x1408 .f32)
    (hc0 : ¬cond0_0 i) (hc1 : cond0_1 i) (hc2 : cond0_2 i) (y : S4x1024x352.Idx) :
    out0_C_2 c i a3 h3 a4 h4 a5 h5 a6 h6 hc0 hc1 hc2 x0 x1 xs y = slabs (addf xs (k0_pay1 x0 x1)) y := by
  unfold out0_C_2
  rw [View.read_writes_eq_canon _ _ _ (cover0_C_2 c i a3 h3 a4 h4 a5 h5 a6 h6 hc0 hc1 hc2 x0 x1 xs)]
  refine View.canon_apply_of_pieces (slabs (addf xs (k0_pay1 x0 x1))) _ (fun p hp x => ?_) y
    (cover0_C_2 c i a3 h3 a4 h4 a5 h5 a6 h6 hc0 hc1 hc2 x0 x1 xs y)
  have hL : (kernelRun0_C c i a3 h3 a4 h4 a5 h5 a6 h6 hc0 hc1 hc2 x0 x1 xs).1
      = [⟨Rect.unit ![3, 0, 0] S1x1024x352.size inb_S4x1024x352_S1x1024x352_3_0_0, k0_pay7 (addf xs (k0_pay1 x0 x1))⟩,
        ⟨Rect.unit ![2, 0, 0] S1x1024x352.size inb_S4x1024x352_S1x1024x352_2_0_0, k0_pay6 (addf xs (k0_pay1 x0 x1))⟩,
        ⟨Rect.unit ![1, 0, 0] S1x1024x352.size inb_S4x1024x352_S1x1024x352_1_0_0, k0_pay5 (addf xs (k0_pay1 x0 x1))⟩,
        ⟨Rect.unit ![0, 0, 0] S1x1024x352.size inb_S4x1024x352_S1x1024x352_0_0_0, k0_pay4 (addf xs (k0_pay1 x0 x1))⟩] := by
    unfold kernelRun0_C
    dsimp only
    sl_unfold_words
    rw [View.readCov_unit_zero (S := S1024x1408) _ hz]
    unfold k0_pay3
    simp only [View.readAt_eq_ld, h3.read_unread, h4.read_unread, h6.read_unread, View.ld_unit_zero (S := S512x1408) hz,
      View.ld_unit_zero (S := S512x1024) hz, View.ld_unit_zero (S := S1024x1408) hz, shapeCast_self]
  rw [hL] at hp
  simp only [List.mem_cons, List.not_mem_nil, or_false] at hp
  generalize addf xs (k0_pay1 x0 x1) = acc at hp ⊢
  rcases hp with rfl | rfl | rfl | rfl
  all_goals
    have q0 : (x 0).val < 1 := (x 0).isLt
    have q2 : (x 2).val < 352 := (x 2).isLt
    dsimp only
    pointwise [k0_pay4, k0_pay5, k0_pay6, k0_pay7, slabs]
    refine congrArg acc ?_
    blk_ext

/-! ## The accumulator -/

/-- Token `k` of the tokens of point `n`. -/
abbrev token (n : ℕ) (k : Fin 512) : Fin 4096 := ⟨(512 * (n % 8) + k.val) % 4096, Nat.mod_lt _ (by decide)⟩
/-- Column `j` of the columns of point `n`. -/
abbrev column (n : ℕ) (j : Fin 1408) : Fin 2816 := ⟨(1408 * (n / 8) + j.val) % 2816, Nat.mod_lt _ (by decide)⟩

/-- One token's product for one entry. -/
def term (x : Vec Ideal S4096x1024 .bf16) (d : Vec Ideal S4096x2816 .bf16) (l : Fin 1024) (j : Fin 2816) (k : Fin 4096) : EReal :=
  (x (ix2 (n0 := 4096) (n1 := 1024) k l) : EReal) * d (ix2 (n0 := 4096) (n1 := 2816) k j)

/-- What one point adds to an entry. -/
def part (x : Vec Ideal S4096x1024 .bf16) (d : Vec Ideal S4096x2816 .bf16) (n : ℕ) (i : S1024x1408.Idx) : EReal :=
  ∑ k : Fin 512, term x d (i 0) (column n (i 1)) (token n k)

/-- The parts of eight points together are the whole sum. -/
theorem eight_parts (x : Vec Ideal S4096x1024 .bf16) (d : Vec Ideal S4096x2816 .bf16) (n : ℕ) (i : S1024x1408.Idx) :
    ∑ s ∈ Finset.range 8, part x d (8 * (n / 8) + s) i = ∑ k : Fin 4096, term x d (i 0) (column n (i 1)) k := by
  rw [← Cert.Sums.eight_blocks]
  refine Finset.sum_congr rfl fun s hs => Finset.sum_congr rfl fun k _ => ?_
  have hs := Finset.mem_range.mp hs
  have e1 : token (8 * (n / 8) + s) k = ⟨(512 * s + k.val) % 4096, Nat.mod_lt _ (by decide)⟩ :=
    Fin.ext (by show (512 * ((8 * (n / 8) + s) % 8) + k.val) % 4096 = _; congr 2; omega)
  have e2 : column (8 * (n / 8) + s) (i 1) = column n (i 1) :=
    Fin.ext (by show (1408 * ((8 * (n / 8) + s) / 8) + (i 1).val) % 2816 = _; congr 2; omega)
  rw [e1, e2]

/-- Every entry the product of two columns; the columns of the second factor in slabs of 352. -/
def product (x : Vec Ideal S4096x1024 .bf16) (d : Vec Ideal S4096x2816 .bf16) : Vec Ideal S8x1024x352 .bf16 := fun i =>
  ∑ k : Fin 4096, term x d (i 1) ⟨(352 * (i 0).val + (i 2).val) % 2816, Nat.mod_lt _ (by decide)⟩ k

/-- An entry of the product, its factors the other way round. -/
theorem product_swapped (x : Vec Ideal S4096x1024 .bf16) (d : Vec Ideal S4096x2816 .bf16) (i : S8x1024x352.Idx) (j : Fin 2816)
    (h : j.val = (i 0).val * 352 + (i 2).val) :
    ∑ k : Fin 4096, (d (ix2 (n0 := 4096) (n1 := 2816) k j) : EReal) * x (ix2 (n0 := 4096) (n1 := 1024) k (i 1)) = product x d i := by
  have h0 : (i 0).val < 8 := (i 0).isLt
  have h2 : (i 2).val < 352 := (i 2).isLt
  have e : j = ⟨(352 * (i 0).val + (i 2).val) % 2816, Nat.mod_lt _ (by decide)⟩ := Fin.ext (by dsimp only; omega)
  rw [e]
  exact Finset.sum_congr rfl fun k _ => mul_comm _ _

/-- A point's product of its blocks is its part. -/
theorem part_of_blocks (x : Vec Ideal S4096x1024 .bf16) (d : Vec Ideal S4096x2816 .bf16) (n : ℕ)
    (b0 : Vec Ideal S512x1024 .bf16) (b1 : Vec Ideal S512x1408 .bf16)
    (e0 : ∀ y, b0 y = x (ix2 (n0 := 4096) (n1 := 1024) (token n (y 0)) (y 1)))
    (e1 : ∀ y, b1 y = d (ix2 (n0 := 4096) (n1 := 2816) (token n (y 0)) (column n (y 1)))) (i : S1024x1408.Idx) :
    (k0_pay1 b0 b1 i : EReal) = part x d n i := by
  pointwise [k0_pay1]
  simp only [e0, e1]
  rfl

variable (m : (ℓ : Loc nD τ sig) → Buf (Elt Ideal) ℓ) (c : Dev nD)

theorem index0 : ∀ t : Fin cfg0.N, win0_0.index t = ![t.val % 8, 0] := (by decide +kernel : ∀ t : Fin grid0.N, _)
theorem index1 : ∀ t : Fin cfg0.N, win0_1.index t = ![t.val % 8, t.val / 8] := (by decide +kernel : ∀ t : Fin grid0.N, _)
theorem index2 : ∀ t : Fin cfg0.N, win0_2.index t = ![t.val / 8, 0, 0] := (by decide +kernel : ∀ t : Fin grid0.N, _)

theorem blk0 (t : Fin cfg0.N) (y : S512x1024.Idx) : (iblk m c 0 t : Vec Ideal S512x1024 .bf16) y
    = m ((c : Thread nD τ).loc main_arg0) (ix2 (n0 := 4096) (n1 := 1024) (token t.val (y 0)) (y 1)) := by
  have h : t.val < 16 := t.isLt
  have h0 : (y 0).val < 512 := (y 0).isLt
  blk_simp [iblk]
  show V m c main_arg0 _ = _
  rw [V_main_arg0]
  refine congrArg (m ((c : Thread nD τ).loc main_arg0)) ?_
  blk_ext [index0]

/-- The left half of the joined gradients is the gate's. -/
theorem joined (i : S4096x5632.Idx) (j : Fin 2816) (h : (i 1).val = j.val) :
    V m c main_v0 i = m ((c : Thread nD τ).loc main_arg1) (ix2 (n0 := 4096) (n1 := 2816) (i 0) j) := by
  after_reads_simp
  pointwise
  have hj : j.val < 2816 := j.isLt
  refine (dif_pos (by omega)).trans ?_
  refine congrArg (m ((c : Thread nD τ).loc main_arg1)) ?_
  blk_ext

theorem blk1 (t : Fin cfg0.N) (y : S512x1408.Idx) : (iblk m c 1 t : Vec Ideal S512x1408 .bf16) y
    = m ((c : Thread nD τ).loc main_arg1) (ix2 (n0 := 4096) (n1 := 2816) (token t.val (y 0)) (column t.val (y 1))) := by
  have h : t.val < 16 := t.isLt
  have h0 : (y 0).val < 512 := (y 0).isLt
  have h1 : (y 1).val < 1408 := (y 1).isLt
  blk_simp [iblk]
  show V m c main_v0 _ = _
  refine (joined m c _ (column t.val (y 1)) ?_).trans (congrArg (m ((c : Thread nD τ).loc main_arg1)) ?_)
  · simp [index1]; omega
  · blk_ext [index1]

theorem part_eq (t : Fin cfg0.N) (i : S1024x1408.Idx) :
    (k0_pay1 (iblk m c 0 t : Vec Ideal S512x1024 .bf16) (iblk m c 1 t : Vec Ideal S512x1408 .bf16) i : EReal)
      = part (m ((c : Thread nD τ).loc main_arg0)) (m ((c : Thread nD τ).loc main_arg1)) t.val i :=
  part_of_blocks _ _ _ _ _ (blk0 m c t) (blk1 m c t) i

/-- The accumulator after every point. -/
theorem accumulator : ∀ n h i, ((outsAt0 m c n h).2 i : EReal)
    = ∑ s ∈ Finset.range (n % 8 + 1), part (m ((c : Thread nD τ).loc main_arg0)) (m ((c : Thread nD τ).loc main_arg1)) (8 * (n / 8) + s) i :=
  Cert.Sums.accumulated (fun n h i => (outsAt0 m c n h).2 i)
    (part (m ((c : Thread nD τ).loc main_arg0)) (m ((c : Thread nD τ).loc main_arg1)))
    (fun n h h0 i => by
      show (outsAt0 m c n h).2 i = _
      rw [outsAt0_A m c ⟨n, h⟩ h0 (by dsimp only; omega) (by dsimp only; omega)]
      dsimp only
      rw [first_scratch]
      exact part_eq m c ⟨n, h⟩ i)
    (fun n h h0 i => by
      show (outsAt0 m c (n + 1) h).2 i = (outsAt0 m c n _).2 i + _
      by_cases h7 : (n + 1) % 8 = 7
      · rw [outsAt0_C m c ⟨n + 1, h⟩ h0 (by dsimp only; omega) h7]
        dsimp only
        rw [last_scratch]
        exact congrArg ((outsAt0 m c n _).2 i + ·) (part_eq m c ⟨n + 1, h⟩ i)
      · rw [outsAt0_B m c ⟨n + 1, h⟩ h0 (by dsimp only; omega) h7]
        dsimp only
        rw [later_scratch]
        exact congrArg ((outsAt0 m c n _).2 i + ·) (part_eq m c ⟨n + 1, h⟩ i))

/-- The block a last point writes back: the slabs of the accumulator. -/
theorem written (t : Fin cfg0.N) (h7 : t.val % 8 = 7) (y : S4x1024x352.Idx) :
    (outsAt0 m c t.val t.isLt).1 y = slabs (outsAt0 m c t.val t.isLt).2 y := by
  rw [outsAt0_C m c t (by omega) (by omega) h7]
  dsimp only
  rw [last_out, last_scratch]

/-! ## The whole array -/

theorem kernel_product : (dats m 0 c).arrAt 2 cfg0.N
    = product (m ((c : Thread nD τ).loc main_arg0)) (m ((c : Thread nD τ).loc main_arg1)) := by
  funext i
  refine (dats m 0 c).arrAt_forall_of_covers 2 (fun i v => v
    = product (m ((c : Thread nD τ).loc main_arg0)) (m ((c : Thread nD τ).loc main_arg1)) i)
    (by decide +kernel) (fun t hf y => ?_) i
  have ht : t.val < 16 := t.isLt
  have h0 : (y 0).val < 4 := (y 0).isLt
  have h2 : (y 2).val < 352 := (y 2).isLt
  have h7 := (flush0_2 t).mp hf
  have e : ((cfg0.win 2).blk t).view.emb y
      = ix3 (n0 := 8) (n1 := 1024) (n2 := 352) ⟨(4 * (t.val / 8) + (y 0).val) % 8, Nat.mod_lt _ (by decide)⟩ (y 1) (y 2) := by
    blk_ext [index2]
  rw [e]
  show ((dats m 0 c).after 2 t : Vec Ideal S4x1024x352 .bf16) y = _
  rw [after0_2, written m c t h7]
  unfold slabs
  refine (accumulator m c t.val t.isLt _).trans ?_
  rw [h7]
  refine (eight_parts _ _ t.val _).trans ?_
  refine Finset.sum_congr rfl fun k _ => congrArg (fun j => term _ _ (y 1) j k) (Fin.ext ?_)
  show (1408 * (t.val / 8) + (352 * (y 0).val + (y 2).val) % 1408) % 2816 = (352 * ((4 * (t.val / 8) + (y 0).val) % 8) + (y 2).val) % 2816
  omega

end Cert.GateWeight
-- ==== Proof.GateWeightClaim.lean ====
module

public import proofs.«01_k».proof.Defs
public import proofs.«01_k».proof.Proof.GateWeightValue
public import proofs.«01_k».proof.Proof.Gen.Kernel5
public import proofs.«01_k».proof.Proof.Gen.Reference5Ideal.Run
public import Idealize.ShloMosaic.Lib.Quiescent

/-!
# The gate weight's gradient: the claims
-/

@[expose] public section

set_option maxRecDepth 16384

noncomputable section

namespace Cert.GateWeight

open Idealize.ShloMosaic Idealize.ShloMosaic.TcCoe Idealize.SL.Sem

attribute [local instance] Cert.Kernel5.Gen.facts

/-- The two programs have one text: their runs are the same. -/
theorem same_run (m : (ℓ : Loc Cert.Kernel5.nD Cert.Kernel5.τ Cert.Kernel5.sig) → Buf (Elt Bits) ℓ)
    (ρ : Dev Cert.Kernel5.nD → PrngReg) :
    θ_run (Cert.Kernel5.defs (F := Bits)) (onTc (τ := Cert.Kernel5.τ) (Cert.Kernel5.main (F := Bits))) ⟨m, fun _ => 0, ρ⟩
      = θ_run (Cert.Kernel5Ideal.defs (F := Bits)) (onTc (τ := Cert.Kernel5Ideal.τ) (Cert.Kernel5Ideal.main (F := Bits)))
        ⟨m, fun _ => 0, ρ⟩ := by
  chain_rfl

theorem frame_kernel : Cert.quiescent_Kernel5 := fun m ρ _ => by
  rw [same_run]
  exact Cert.Kernel5Ideal.Gen.frame (F := Bits) m ρ

theorem frame_kernelIdeal : Cert.quiescent_Kernel5Ideal := fun m ρ _ => Cert.Kernel5Ideal.Gen.frame (F := Ideal) m ρ

theorem frame_reference : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

open Cert.Reference5Ideal in
theorem algebraic : Cert.algebraic_Kernel5Ideal_Reference5Ideal :=
  fun m g m' g' _ hargs => by
    refine ⟨fun c => product (m ((c.tc : Thread Cert.Kernel5Ideal.nD Cert.Kernel5Ideal.τ).loc Cert.Kernel5Ideal.main_arg0))
        (m ((c.tc : Thread Cert.Kernel5Ideal.nD Cert.Kernel5Ideal.τ).loc Cert.Kernel5Ideal.main_arg1)),
      (θ_run Cert.Kernel5Ideal.defs _ _).mono (fun r h c => ⟨(h c).1.trans (kernel_product m c), (h c).2⟩)
        (Cert.Kernel5Ideal.Value.run_blocks (F := Ideal) m g),
      (θ_run Cert.Reference5Ideal.defs _ _).mono (fun r h c => ⟨(h c).1.trans ?_, (h c).2⟩)
        (Cert.Reference5Ideal.Value.run (F := Ideal) m' g')⟩
    obtain ⟨e0, e1, e2⟩ := hargs c
    rw [e0, e1]
    funext i
    pointwise
    exact Cert.GateWeight.product_swapped _ _ i _ rfl

end Cert.GateWeight
-- ==== Proof.UpWeightValue.lean ====
module

public import proofs.«01_k».proof.Proof.GateWeightValue
public import proofs.«01_k».proof.Proof.Gen.Kernel6Ideal.Value
public import Idealize.ShloMosaic.Lib.Pipeline.ValueKit.Geometry
public import Idealize.ShloMosaic.Lib.StableHlo.RunRead
public import Idealize.ShloMosaic.Lib.Pointwise

/-!
# The up weight's gradient: what the call leaves

The same sums as for the gate weight, with the columns of the second half of the joined gradients.
-/

@[expose] public section

set_option maxRecDepth 16384

noncomputable section

namespace Cert.UpWeight

open Cert.Kernel6Ideal Cert.Kernel6Ideal.Gen
open Idealize.ShloMosaic Idealize.ShloMosaic.TcCoe
open Idealize.ShloMosaic.Pipeline (Dat Cfg Window)
open Cert.GateWeight (hz slabs token column term part eight_parts product part_of_blocks)

section Cases
variable {F : FTy → Type} [FloatOps F]
variable (c : Dev nD) (i : grid0.Coords)
  (a3 : Memref sig .tc .vmem S512x1024 .bf16) (h3 : a3.IsWhole) (a4 : Memref sig .tc .vmem S512x1408 .bf16) (h4 : a4.IsWhole)
  (a5 : Memref sig .tc .vmem S4x1024x352 .bf16) (h5 : a5.IsWhole) (a6 : Memref sig .tc .vmem S1024x1408 .f32) (h6 : a6.IsWhole)
  (x0 : Vec F S512x1024 .bf16) (x1 : Vec F S512x1408 .bf16) (xs : Vec F S1024x1408 .f32)

theorem first_scratch (hc0 : cond0_0 i) (hc1 : ¬cond0_1 i) (hc2 : ¬cond0_2 i) :
    sout0_A_0 c i a3 h3 a4 h4 a5 h5 a6 h6 hc0 hc1 hc2 x0 x1 = k0_pay1 x0 x1 := by
  unfold sout0_A_0
  rw [View.read_writes_eq_canon _ _ _ (scover0_A_0 c i a3 h3 a4 h4 a5 h5 a6 h6 hc0 hc1 hc2 x0 x1)]
  unfold kernelRun0_A
  dsimp only
  rw [View.canon_unit_zero hz]
  unfold k0_pay2
  simp only [View.readAt_eq_ld, h3.read_unread, h4.read_unread, View.ld_unit_zero (S := S512x1408) hz,
    View.ld_unit_zero (S := S512x1024) hz, shapeCast_self]

theorem later_scratch (hc0 : ¬cond0_0 i) (hc1 : cond0_1 i) (hc2 : ¬cond0_2 i) :
    sout0_B_0 c i a3 h3 a4 h4 a5 h5 a6 h6 hc0 hc1 hc2 x0 x1 xs = addf xs (k0_pay1 x0 x1) := by
  unfold sout0_B_0
  rw [View.read_writes_eq_canon _ _ _ (scover0_B_0 c i a3 h3 a4 h4 a5 h5 a6 h6 hc0 hc1 hc2 x0 x1 xs)]
  unfold kernelRun0_B
  dsimp only
  rw [View.canon_unit_zero hz]
  unfold k0_pay3
  simp only [View.readAt_eq_ld, h3.read_unread, h4.read_unread, h6.read_unread, View.ld_unit_zero (S := S512x1408) hz,
    View.ld_unit_zero (S := S512x1024) hz, View.ld_unit_zero (S := S1024x1408) hz, shapeCast_self]

theorem last_scratch (hc0 : ¬cond0_0 i) (hc1 : cond0_1 i) (hc2 : cond0_2 i) :
    sout0_C_0 c i a3 h3 a4 h4 a5 h5 a6 h6 hc0 hc1 hc2 x0 x1 xs = addf xs (k0_pay1 x0 x1) := by
  unfold sout0_C_0
  rw [View.read_writes_eq_canon _ _ _ (scover0_C_0 c i a3 h3 a4 h4 a5 h5 a6 h6 hc0 hc1 hc2 x0 x1 xs)]
  unfold kernelRun0_C
  dsimp only
  sl_unfold_words
  rw [View.canon_unit_zero hz]
  unfold k0_pay3
  simp only [View.readAt_eq_ld, h3.read_unread, h4.read_unread, h6.read_unread, View.ld_unit_zero (S := S512x1408) hz,
    View.ld_unit_zero (S := S512x1024) hz, View.ld_unit_zero (S := S1024x1408) hz, shapeCast_self]

end Cases

/-- Where four slabs are stored, each stored slab is one of `slabs`. -/
theorem last_out (c : Dev nD) (i : grid0.Coords)
    (a3 : Memref sig .tc .vmem S512x1024 .bf16) (h3 : a3.IsWhole) (a4 : Memref sig .tc .vmem S512x1408 .bf16) (h4 : a4.IsWhole)
    (a5 : Memref sig .tc .vmem S4x1024x352 .bf16) (h5 : a5.IsWhole) (a6 : Memref sig .tc .vmem S1024x1408 .f32) (h6 : a6.IsWhole)
    (x0 : Vec Ideal S512x1024 .bf16) (x1 : Vec Ideal S512x1408 .bf16) (xs : Vec Ideal S1024x1408 .f32)
    (hc0 : ¬cond0_0 i) (hc1 : cond0_1 i) (hc2 : cond0_2 i) (y : S4x1024x352.Idx) :
    out0_C_2 c i a3 h3 a4 h4 a5 h5 a6 h6 hc0 hc1 hc2 x0 x1 xs y = slabs (addf xs (k0_pay1 x0 x1)) y := by
  unfold out0_C_2
  rw [View.read_writes_eq_canon _ _ _ (cover0_C_2 c i a3 h3 a4 h4 a5 h5 a6 h6 hc0 hc1 hc2 x0 x1 xs)]
  refine View.canon_apply_of_pieces (slabs (addf xs (k0_pay1 x0 x1))) _ (fun p hp x => ?_) y
    (cover0_C_2 c i a3 h3 a4 h4 a5 h5 a6 h6 hc0 hc1 hc2 x0 x1 xs y)
  have hL : (kernelRun0_C c i a3 h3 a4 h4 a5 h5 a6 h6 hc0 hc1 hc2 x0 x1 xs).1
      = [⟨Rect.unit ![3, 0, 0] S1x1024x352.size inb_S4x1024x352_S1x1024x352_3_0_0, k0_pay7 (addf xs (k0_pay1 x0 x1))⟩,
        ⟨Rect.unit ![2, 0, 0] S1x1024x352.size inb_S4x1024x352_S1x1024x352_2_0_0, k0_pay6 (addf xs (k0_pay1 x0 x1))⟩,
        ⟨Rect.unit ![1, 0, 0] S1x1024x352.size inb_S4x1024x352_S1x1024x352_1_0_0, k0_pay5 (addf xs (k0_pay1 x0 x1))⟩,
        ⟨Rect.unit ![0, 0, 0] S1x1024x352.size inb_S4x1024x352_S1x1024x352_0_0_0, k0_pay4 (addf xs (k0_pay1 x0 x1))⟩] := by
    unfold kernelRun0_C
    dsimp only
    sl_unfold_words
    rw [View.readCov_unit_zero (S := S1024x1408) _ hz]
    unfold k0_pay3
    simp only [View.readAt_eq_ld, h3.read_unread, h4.read_unread, h6.read_unread, View.ld_unit_zero (S := S512x1408) hz,
      View.ld_unit_zero (S := S512x1024) hz, View.ld_unit_zero (S := S1024x1408) hz, shapeCast_self]
  rw [hL] at hp
  simp only [List.mem_cons, List.not_mem_nil, or_false] at hp
  generalize addf xs (k0_pay1 x0 x1) = acc at hp ⊢
  rcases hp with rfl | rfl | rfl | rfl
  all_goals
    have q0 : (x 0).val < 1 := (x 0).isLt
    have q2 : (x 2).val < 352 := (x 2).isLt
    dsimp only
    pointwise [k0_pay4, k0_pay5, k0_pay6, k0_pay7, slabs]
    refine congrArg acc ?_
    blk_ext

/-! ## The accumulator -/

variable (m : (ℓ : Loc nD τ sig) → Buf (Elt Ideal) ℓ) (c : Dev nD)

theorem index0 : ∀ t : Fin cfg0.N, win0_0.index t = ![t.val % 8, 0] := (by decide +kernel : ∀ t : Fin grid0.N, _)
theorem index1 : ∀ t : Fin cfg0.N, win0_1.index t = ![t.val % 8, 2 + t.val / 8] := (by decide +kernel : ∀ t : Fin grid0.N, _)
theorem index2 : ∀ t : Fin cfg0.N, win0_2.index t = ![t.val / 8, 0, 0] := (by decide +kernel : ∀ t : Fin grid0.N, _)

theorem blk0 (t : Fin cfg0.N) (y : S512x1024.Idx) : (iblk m c 0 t : Vec Ideal S512x1024 .bf16) y
    = m ((c : Thread nD τ).loc main_arg0) (ix2 (n0 := 4096) (n1 := 1024) (token t.val (y 0)) (y 1)) := by
  have h : t.val < 16 := t.isLt
  have h0 : (y 0).val < 512 := (y 0).isLt
  blk_simp [iblk]
  show V m c main_arg0 _ = _
  rw [V_main_arg0]
  refine congrArg (m ((c : Thread nD τ).loc main_arg0)) ?_
  blk_ext [index0]

/-- The right half of the joined gradients is that of `up`. -/
theorem joined (i : S4096x5632.Idx) (j : Fin 2816) (h : (i 1).val = 2816 + j.val) :
    V m c main_v0 i = m ((c : Thread nD τ).loc main_arg2) (ix2 (n0 := 4096) (n1 := 2816) (i 0) j) := by
  after_reads_simp
  pointwise
  have hj : j.val < 2816 := j.isLt
  refine (dif_neg (by omega)).trans ?_
  refine congrArg (m ((c : Thread nD τ).loc main_arg2)) ?_
  blk_ext

theorem blk1 (t : Fin cfg0.N) (y : S512x1408.Idx) : (iblk m c 1 t : Vec Ideal S512x1408 .bf16) y
    = m ((c : Thread nD τ).loc main_arg2) (ix2 (n0 := 4096) (n1 := 2816) (token t.val (y 0)) (column t.val (y 1))) := by
  have h : t.val < 16 := t.isLt
  have h0 : (y 0).val < 512 := (y 0).isLt
  have h1 : (y 1).val < 1408 := (y 1).isLt
  blk_simp [iblk]
  show V m c main_v0 _ = _
  refine (joined m c _ (column t.val (y 1)) ?_).trans (congrArg (m ((c : Thread nD τ).loc main_arg2)) ?_)
  · simp [index1]; omega
  · blk_ext [index1]

theorem part_eq (t : Fin cfg0.N) (i : S1024x1408.Idx) :
    (k0_pay1 (iblk m c 0 t : Vec Ideal S512x1024 .bf16) (iblk m c 1 t : Vec Ideal S512x1408 .bf16) i : EReal)
      = part (m ((c : Thread nD τ).loc main_arg0)) (m ((c : Thread nD τ).loc main_arg2)) t.val i :=
  part_of_blocks _ _ _ _ _ (blk0 m c t) (blk1 m c t) i

/-- The accumulator after every point. -/
theorem accumulator : ∀ n h i, ((outsAt0 m c n h).2 i : EReal)
    = ∑ s ∈ Finset.range (n % 8 + 1), part (m ((c : Thread nD τ).loc main_arg0)) (m ((c : Thread nD τ).loc main_arg2)) (8 * (n / 8) + s) i :=
  Cert.Sums.accumulated (fun n h i => (outsAt0 m c n h).2 i)
    (part (m ((c : Thread nD τ).loc main_arg0)) (m ((c : Thread nD τ).loc main_arg2)))
    (fun n h h0 i => by
      show (outsAt0 m c n h).2 i = _
      rw [outsAt0_A m c ⟨n, h⟩ h0 (by dsimp only; omega) (by dsimp only; omega)]
      dsimp only
      rw [first_scratch]
      exact part_eq m c ⟨n, h⟩ i)
    (fun n h h0 i => by
      show (outsAt0 m c (n + 1) h).2 i = (outsAt0 m c n _).2 i + _
      by_cases h7 : (n + 1) % 8 = 7
      · rw [outsAt0_C m c ⟨n + 1, h⟩ h0 (by dsimp only; omega) h7]
        dsimp only
        rw [last_scratch]
        exact congrArg ((outsAt0 m c n _).2 i + ·) (part_eq m c ⟨n + 1, h⟩ i)
      · rw [outsAt0_B m c ⟨n + 1, h⟩ h0 (by dsimp only; omega) h7]
        dsimp only
        rw [later_scratch]
        exact congrArg ((outsAt0 m c n _).2 i + ·) (part_eq m c ⟨n + 1, h⟩ i))

/-- The block a last point writes back: the slabs of the accumulator. -/
theorem written (t : Fin cfg0.N) (h7 : t.val % 8 = 7) (y : S4x1024x352.Idx) :
    (outsAt0 m c t.val t.isLt).1 y = slabs (outsAt0 m c t.val t.isLt).2 y := by
  rw [outsAt0_C m c t (by omega) (by omega) h7]
  dsimp only
  rw [last_out, last_scratch]

/-! ## The whole array -/

theorem kernel_product : (dats m 0 c).arrAt 2 cfg0.N
    = product (m ((c : Thread nD τ).loc main_arg0)) (m ((c : Thread nD τ).loc main_arg2)) := by
  funext i
  refine (dats m 0 c).arrAt_forall_of_covers 2 (fun i v => v
    = product (m ((c : Thread nD τ).loc main_arg0)) (m ((c : Thread nD τ).loc main_arg2)) i)
    (by decide +kernel) (fun t hf y => ?_) i
  have ht : t.val < 16 := t.isLt
  have h0 : (y 0).val < 4 := (y 0).isLt
  have h2 : (y 2).val < 352 := (y 2).isLt
  have h7 := (flush0_2 t).mp hf
  have e : ((cfg0.win 2).blk t).view.emb y
      = ix3 (n0 := 8) (n1 := 1024) (n2 := 352) ⟨(4 * (t.val / 8) + (y 0).val) % 8, Nat.mod_lt _ (by decide)⟩ (y 1) (y 2) := by
    blk_ext [index2]
  rw [e]
  show ((dats m 0 c).after 2 t : Vec Ideal S4x1024x352 .bf16) y = _
  rw [after0_2, written m c t h7]
  unfold slabs
  refine (accumulator m c t.val t.isLt _).trans ?_
  rw [h7]
  refine (eight_parts _ _ t.val _).trans ?_
  refine Finset.sum_congr rfl fun k _ => congrArg (fun j => term _ _ (y 1) j k) (Fin.ext ?_)
  show (1408 * (t.val / 8) + (352 * (y 0).val + (y 2).val) % 1408) % 2816 = (352 * ((4 * (t.val / 8) + (y 0).val) % 8) + (y 2).val) % 2816
  omega

end Cert.UpWeight
-- ==== Proof.UpWeightClaim.lean ====
module

public import proofs.«01_k».proof.Defs
public import proofs.«01_k».proof.Proof.UpWeightValue
public import proofs.«01_k».proof.Proof.Gen.Kernel6
public import proofs.«01_k».proof.Proof.Gen.Reference6Ideal.Run
public import Idealize.ShloMosaic.Lib.Quiescent

/-!
# The up weight's gradient: the claims
-/

@[expose] public section

set_option maxRecDepth 16384

noncomputable section

namespace Cert.UpWeight

open Idealize.ShloMosaic Idealize.ShloMosaic.TcCoe Idealize.SL.Sem

attribute [local instance] Cert.Kernel6.Gen.facts

/-- The two programs have one text: their runs are the same. -/
theorem same_run (m : (ℓ : Loc Cert.Kernel6.nD Cert.Kernel6.τ Cert.Kernel6.sig) → Buf (Elt Bits) ℓ)
    (ρ : Dev Cert.Kernel6.nD → PrngReg) :
    θ_run (Cert.Kernel6.defs (F := Bits)) (onTc (τ := Cert.Kernel6.τ) (Cert.Kernel6.main (F := Bits))) ⟨m, fun _ => 0, ρ⟩
      = θ_run (Cert.Kernel6Ideal.defs (F := Bits)) (onTc (τ := Cert.Kernel6Ideal.τ) (Cert.Kernel6Ideal.main (F := Bits)))
        ⟨m, fun _ => 0, ρ⟩ := by
  chain_rfl

theorem frame_kernel : Cert.quiescent_Kernel6 := fun m ρ _ => by
  rw [same_run]
  exact Cert.Kernel6Ideal.Gen.frame (F := Bits) m ρ

theorem frame_kernelIdeal : Cert.quiescent_Kernel6Ideal := fun m ρ _ => Cert.Kernel6Ideal.Gen.frame (F := Ideal) m ρ

theorem frame_reference : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

open Cert.Reference6Ideal in
theorem algebraic : Cert.algebraic_Kernel6Ideal_Reference6Ideal :=
  fun m g m' g' _ hargs => by
    refine ⟨fun c => Cert.GateWeight.product (m ((c.tc : Thread Cert.Kernel6Ideal.nD Cert.Kernel6Ideal.τ).loc Cert.Kernel6Ideal.main_arg0))
        (m ((c.tc : Thread Cert.Kernel6Ideal.nD Cert.Kernel6Ideal.τ).loc Cert.Kernel6Ideal.main_arg2)),
      (θ_run Cert.Kernel6Ideal.defs _ _).mono (fun r h c => ⟨(h c).1.trans (kernel_product m c), (h c).2⟩)
        (Cert.Kernel6Ideal.Value.run_blocks (F := Ideal) m g),
      (θ_run Cert.Reference6Ideal.defs _ _).mono (fun r h c => ⟨(h c).1.trans ?_, (h c).2⟩)
        (Cert.Reference6Ideal.Value.run (F := Ideal) m' g')⟩
    obtain ⟨e0, e1, e2⟩ := hargs c
    rw [e0, e2]
    funext i
    pointwise
    exact Cert.GateWeight.product_swapped _ _ i _ rfl

end Cert.UpWeight
-- ==== Proof.GateUpValue.lean ====
module

public import proofs.«01_k».proof.Proof.GateValue
public import proofs.«01_k».proof.Proof.Gen.Kernel7Ideal.Value

/-!
# Gate and `up`: what the call leaves

The first result is the product of the normed input with the gate weight and, to its right, with the up weight; the second
is silu(gate) * up.
-/

@[expose] public section

set_option maxRecDepth 16384

noncomputable section

namespace Cert.GateUp

open Idealize.ShloMosaic Idealize.ShloMosaic.TcCoe
open Idealize.ShloMosaic.Pipeline (Dat Cfg Window)
open Cert.Gate (sigma hz)
open Cert.Kernel7Ideal Cert.Kernel7Ideal.Gen

/-- The product of row `r` of the input and column `j` of a weight. -/
def prod (x : Vec Ideal S4096x1024 .bf16) (w : Vec Ideal S1024x2816 .bf16) (r : Fin 4096) (j : Fin 2816) : EReal :=
  ∑ k : Fin 1024, (x (ix2 (n0 := 4096) (n1 := 1024) r k) : EReal) * w (ix2 (n0 := 1024) (n1 := 2816) k j)

/-- Both products side by side. -/
def both (x : Vec Ideal S4096x1024 .bf16) (wg wu : Vec Ideal S1024x2816 .bf16) : Vec Ideal S4096x5632 .bf16 := fun i =>
  if h : (i 1).val < 2816 then prod x wg (i 0) ⟨(i 1).val, h⟩
  else prod x wu (i 0) ⟨(i 1).val - 2816, by have h1 : (i 1).val < 5632 := (i 1).isLt; omega⟩

/-- silu of one product, times the other. -/
def activation (x : Vec Ideal S4096x1024 .bf16) (wg wu : Vec Ideal S1024x2816 .bf16) : Vec Ideal S4096x2816 .bf16 := fun i =>
  prod x wg (i 0) (i 1) * sigma (prod x wg (i 0) (i 1)) * prod x wu (i 0) (i 1)

/-! ## One block -/

section Outs
variable (x0 : Vec Ideal S256x1024 .bf16) (x1 : Vec Ideal S1024x5632 .bf16)

theorem out_both : out0_2 x0 x1 = k0_pay2 x0 x1 := by
  unfold out0_2
  rw [View.canon_unit_zero hz, View.ld_unit_zero hz, View.ld_unit_zero hz]

theorem out_activation : out0_3 x0 x1 = k0_pay3 x0 x1 := by
  unfold out0_3
  rw [View.canon_unit_zero hz, View.ld_unit_zero hz, View.ld_unit_zero hz]

end Outs

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)

/-- Row `y` of block `t`. -/
abbrev row (t : Fin cfg0.N) (y : Fin 256) : Fin 4096 := ⟨256 * t.val + y.val, by have h : t.val < 16 := t.isLt; omega⟩

variable (m : (ℓ : Loc nD τ sig) → Buf (Elt Ideal) ℓ) (c : Dev nD)

theorem blk0 (t : Fin cfg0.N) (y : S256x1024.Idx) :
    (iblk m c 0 t : Vec Ideal S256x1024 .bf16) y = m ((c : Thread nD τ).loc main_arg0) (ix2 (n0 := 4096) (n1 := 1024) (row t (y 0)) (y 1)) := by
  blk_simp [iblk]
  show V m c main_arg0 _ = _
  rw [V_main_arg0]
  refine congrArg (m ((c : Thread nD τ).loc main_arg0)) ?_
  blk_ext [index0]

theorem blk1 (t : Fin cfg0.N) (y : S1024x5632.Idx) : (iblk m c 1 t : Vec Ideal S1024x5632 .bf16) y = V m c main_v0 y := by
  blk_simp [iblk]
  show V m c main_v0 _ = _
  refine congrArg (V m c main_v0) ?_
  blk_ext [index1]

/-- The left half of the joined weights is the gate's. -/
theorem joined_gate (k : Fin 1024) (j : Fin 2816) (j' : Fin 5632) (e : j'.val = j.val) :
    V m c main_v0 (ix2 (n0 := 1024) (n1 := 5632) k j') = m ((c : Thread nD τ).loc main_arg1) (ix2 (n0 := 1024) (n1 := 2816) k j) := by
  after_reads_simp
  pointwise
  have hj : j.val < 2816 := j.isLt
  refine (dif_pos (by omega)).trans (congrArg (m ((c : Thread nD τ).loc main_arg1)) ?_)
  blk_ext

/-- The right half of the joined weights is that of `up`. -/
theorem joined_up (k : Fin 1024) (j : Fin 2816) (j' : Fin 5632) (e : j'.val = 2816 + j.val) :
    V m c main_v0 (ix2 (n0 := 1024) (n1 := 5632) k j') = m ((c : Thread nD τ).loc main_arg2) (ix2 (n0 := 1024) (n1 := 2816) k j) := by
  after_reads_simp
  pointwise
  refine (dif_neg (by omega)).trans (congrArg (m ((c : Thread nD τ).loc main_arg2)) ?_)
  blk_ext

/-- A block's product in the gate's columns. -/
theorem pay_gate (t : Fin cfg0.N) (i : S256x5632.Idx) (j : Fin 2816) (e : (i 1).val = j.val) :
    (k0_pay1 (iblk m c 0 t : Vec Ideal S256x1024 .bf16) (iblk m c 1 t : Vec Ideal S1024x5632 .bf16) i : EReal)
      = prod (m ((c : Thread nD τ).loc main_arg0)) (m ((c : Thread nD τ).loc main_arg1)) (row t (i 0)) j := by
  pointwise [k0_pay1]
  simp only [blk0, blk1]
  exact Finset.sum_congr rfl fun k _ => congrArg (fun z : EReal => (show EReal from m ((c : Thread nD τ).loc main_arg0) (ix2 (n0 := 4096) (n1 := 1024) (row t (i 0)) k)) * z)
    (joined_gate m c k j (i 1) e)

/-- A block's product in the columns of `up`. -/
theorem pay_up (t : Fin cfg0.N) (i : S256x5632.Idx) (j : Fin 2816) (e : (i 1).val = 2816 + j.val) :
    (k0_pay1 (iblk m c 0 t : Vec Ideal S256x1024 .bf16) (iblk m c 1 t : Vec Ideal S1024x5632 .bf16) i : EReal)
      = prod (m ((c : Thread nD τ).loc main_arg0)) (m ((c : Thread nD τ).loc main_arg2)) (row t (i 0)) j := by
  pointwise [k0_pay1]
  simp only [blk0, blk1]
  exact Finset.sum_congr rfl fun k _ => congrArg (fun z : EReal => (show EReal from m ((c : Thread nD τ).loc main_arg0) (ix2 (n0 := 4096) (n1 := 1024) (row t (i 0)) k)) * z)
    (joined_up m c k j (i 1) e)

/-! ## The whole arrays -/

/-- A left column of the two products is the first's. -/
theorem both_gate (x : Vec Ideal S4096x1024 .bf16) (wg wu : Vec Ideal S1024x2816 .bf16) (r : Fin 4096) (j : Fin 5632)
    (h : j.val < 2816) : both x wg wu (ix2 (n0 := 4096) (n1 := 5632) r j) = prod x wg r ⟨j.val, h⟩ := dif_pos h

/-- A right column of the two products is the second's. -/
theorem both_up (x : Vec Ideal S4096x1024 .bf16) (wg wu : Vec Ideal S1024x2816 .bf16) (r : Fin 4096) (j : Fin 5632)
    (h : ¬ j.val < 2816) : both x wg wu (ix2 (n0 := 4096) (n1 := 5632) r j)
      = prod x wu r ⟨j.val - 2816, by have := j.isLt; omega⟩ := dif_neg h

theorem kernel_both : (dats m 0 c).arrAt 2 cfg0.N = both (m ((c : Thread nD τ).loc main_arg0))
    (m ((c : Thread nD τ).loc main_arg1)) (m ((c : Thread nD τ).loc main_arg2)) := by
  funext i
  refine (dats m 0 c).arrAt_forall_of_covers 2 (fun i v => v = both (m ((c : Thread nD τ).loc main_arg0))
    (m ((c : Thread nD τ).loc main_arg1)) (m ((c : Thread nD τ).loc main_arg2)) i)
    (by decide +kernel) (fun t hf y => ?_) i
  have e : ((cfg0.win 2).blk t).view.emb y = ix2 (n0 := 4096) (n1 := 5632) (row t (y 0)) (y 1) := by
    blk_ext [index2]
  rw [e]
  show ((dats m 0 c).after 2 t : Vec Ideal S256x5632 .bf16) y = _
  rw [after0_2, out_both]
  generalize (show S256x5632.Idx from y) = y
  have hy : (y 1).val < 5632 := (y 1).isLt
  show (k0_pay1 (iblk m c 0 t : Vec Ideal S256x1024 .bf16) (iblk m c 1 t : Vec Ideal S1024x5632 .bf16) y : EReal) = _
  by_cases h : (y 1).val < 2816
  · exact (pay_gate m c t y ⟨(y 1).val, h⟩ rfl).trans (both_gate _ _ _ _ _ h).symm
  · exact (pay_up m c t y ⟨(y 1).val - 2816, by omega⟩ (by dsimp only; omega)).trans (both_up _ _ _ _ _ h).symm

theorem kernel_activation : (dats m 0 c).arrAt 3 cfg0.N = activation (m ((c : Thread nD τ).loc main_arg0))
    (m ((c : Thread nD τ).loc main_arg1)) (m ((c : Thread nD τ).loc main_arg2)) := by
  funext i
  refine (dats m 0 c).arrAt_forall_of_covers 3 (fun i v => v = activation (m ((c : Thread nD τ).loc main_arg0))
    (m ((c : Thread nD τ).loc main_arg1)) (m ((c : Thread nD τ).loc main_arg2)) i)
    (by decide +kernel) (fun t hf y => ?_) i
  have e : ((cfg0.win 3).blk t).view.emb y = ix2 (n0 := 4096) (n1 := 2816) (row t (y 0)) (y 1) := by
    blk_ext [index3]
  rw [e]
  show ((dats m 0 c).after 3 t : Vec Ideal S256x2816 .bf16) y = _
  rw [after0_3, out_activation]
  generalize (show S256x2816.Idx from y) = y
  have hy : (y 1).val < 2816 := (y 1).isLt
  pointwise [k0_pay3]
  exact congrArg₂ (fun g u : EReal => g * sigma g * u)
    (pay_gate m c t _ (y 1) rfl) (pay_up m c t _ (y 1) rfl)

end Cert.GateUp
-- ==== Proof.GateUpClaim.lean ====
module

public import proofs.«01_k».proof.Defs
public import proofs.«01_k».proof.Proof.GateUpValue
public import proofs.«01_k».proof.Proof.GateClaim
public import proofs.«01_k».proof.Proof.Gen.Kernel7
public import proofs.«01_k».proof.Proof.Gen.Reference7Ideal.Run
public import Idealize.ShloMosaic.Lib.Quiescent

/-!
# Gate and `up`: the claims
-/

@[expose] public section

set_option maxRecDepth 16384

noncomputable section

namespace Cert.GateUp

open Idealize.ShloMosaic Idealize.ShloMosaic.TcCoe Idealize.SL.Sem

attribute [local instance] Cert.Kernel7.Gen.facts

/-- The two programs have one text: their runs are the same. -/
theorem same_run (m : (ℓ : Loc Cert.Kernel7.nD Cert.Kernel7.τ Cert.Kernel7.sig) → Buf (Elt Bits) ℓ)
    (ρ : Dev Cert.Kernel7.nD → PrngReg) :
    θ_run (Cert.Kernel7.defs (F := Bits)) (onTc (τ := Cert.Kernel7.τ) (Cert.Kernel7.main (F := Bits))) ⟨m, fun _ => 0, ρ⟩
      = θ_run (Cert.Kernel7Ideal.defs (F := Bits)) (onTc (τ := Cert.Kernel7Ideal.τ) (Cert.Kernel7Ideal.main (F := Bits)))
        ⟨m, fun _ => 0, ρ⟩ := by
  chain_rfl

theorem frame_kernel : Cert.quiescent_Kernel7 := fun m ρ _ => by
  rw [same_run]
  exact Cert.Kernel7Ideal.Gen.frame (F := Bits) m ρ

theorem frame_kernelIdeal : Cert.quiescent_Kernel7Ideal := fun m ρ _ => Cert.Kernel7Ideal.Gen.frame (F := Ideal) m ρ

theorem frame_reference : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- silu and the product as the reference spells them. -/
theorem silu_entry (g u : EReal) : g * Ideal.div 1 (1 + Ideal.exp (-g)) * u = g * Cert.Gate.sigma g * u := by
  rw [Cert.Gate.sigma_neg]

open Cert.Reference7Ideal in
theorem algebraic : Cert.algebraic_Kernel7Ideal_Reference7Ideal :=
  fun m g m' g' _ hargs => by
    refine ⟨fun c => both (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg1))
        (m ((c.tc : Thread Cert.Kernel7Ideal.nD Cert.Kernel7Ideal.τ).loc Cert.Kernel7Ideal.main_arg2)),
      fun c => activation (m ((c.tc : Thread Cert.Kernel7Ideal.nD Cert.Kernel7Ideal.τ).loc Cert.Kernel7Ideal.main_arg0))
        (m ((c.tc : Thread Cert.Kernel7Ideal.nD Cert.Kernel7Ideal.τ).loc Cert.Kernel7Ideal.main_arg1))
        (m ((c.tc : Thread Cert.Kernel7Ideal.nD Cert.Kernel7Ideal.τ).loc Cert.Kernel7Ideal.main_arg2)),
      (θ_run Cert.Kernel7Ideal.defs _ _).mono (fun r h c => ⟨(h c).1.trans (kernel_both m c),
        (h c).2.1.trans (kernel_activation m c), (h c).2.2⟩) (Cert.Kernel7Ideal.Value.run_blocks (F := Ideal) m g),
      (θ_run Cert.Reference7Ideal.defs _ _).mono (fun r h c => ⟨(h c).1.trans ?_, (h c).2.1.trans ?_, (h c).2.2⟩)
        (Cert.Reference7Ideal.Value.run (F := Ideal) m' g')⟩
    all_goals
      obtain ⟨e0, e1, e2⟩ := hargs c
      rw [e0, e1, e2]
      funext i
    · pointwise
      rfl
    · pointwise
      exact silu_entry _ _

end Cert.GateUp
-- ==== Proof.FfnDownValue.lean ====
module

public import proofs.«01_k».proof.Proof.GateValue
public import proofs.«01_k».proof.Proof.Gen.Kernel8Ideal.Value

/-!
# The feed-forward layer's output: what the call leaves

The product of the activation with the down weight; the residual plus half its norm; and that sum's norm.
-/

@[expose] public section

set_option maxRecDepth 16384

noncomputable section

namespace Cert.FfnDown

open Idealize.ShloMosaic Idealize.ShloMosaic.TcCoe
open Idealize.ShloMosaic.Pipeline (Dat Cfg Window)
open Cert.Gate (hz)
open Cert.Kernel8Ideal Cert.Kernel8Ideal.Gen

/-! ## The three results -/

/-- An entry of a row over the root of the row's mean square. -/
def unit (f : Fin 1024 → EReal) (j : Fin 1024) : EReal :=
  f j * Ideal.rsqrt (Ideal.div (∑ k, f k * f k) (Ideal.ofBits .f32 0x44800000#32) + Ideal.ofBits .f32 0x358637BD#32)

/-- The product with the down weight. -/
def prod (a : Vec Ideal S4096x2816 .bf16) (w : Vec Ideal S2816x1024 .bf16) : Vec Ideal S4096x1024 .f32 := fun i =>
  ∑ k : Fin 2816, (a (ix2 (n0 := 4096) (n1 := 2816) (i 0) k) : EReal) * w (ix2 (n0 := 2816) (n1 := 1024) k (i 1))

/-- A norm of rows, with gains. -/
def normed (f : Vec Ideal S4096x1024 .f32) (g : Vec Ideal S1x1024 .f32) : Vec Ideal S4096x1024 .f32 := fun i =>
  unit (fun k => f (ix2 (n0 := 4096) (n1 := 1024) (i 0) k)) (i 1) * g (ix2 (n0 := 1) (n1 := 1024) 0 (i 1))

/-- The residual and half the normed product. -/
def residual (a : Vec Ideal S4096x2816 .bf16) (w : Vec Ideal S2816x1024 .bf16) (h : Vec Ideal S4096x1024 .f32)
    (g : Vec Ideal S1x1024 .f32) : Vec Ideal S4096x1024 .f32 := fun i =>
  (h i : EReal) + Ideal.ofBits .f32 0x3F000000#32 * normed (prod a w) g i

/-! ## One block -/

section Outs
variable (x0 : Vec Ideal S512x2816 .bf16) (x1 : Vec Ideal S2816x1024 .bf16) (x2 : Vec Ideal S512x1024 .f32)
  (x3 x4 : Vec Ideal S1x1024 .f32)

theorem out_prod : out0_5 x0 x1 x2 x3 x4 = k0_pay2 x0 x1 := by
  unfold out0_5
  rw [View.canon_unit_zero hz]
  repeat rw [View.ld_unit_zero hz]

theorem out_residual : out0_6 x0 x1 x2 x3 x4 = k0_pay3 x0 x1 x2 x3 := by
  unfold out0_6
  rw [View.canon_unit_zero hz]
  repeat rw [View.ld_unit_zero hz]

theorem out_next : out0_7 x0 x1 x2 x3 x4 = k0_pay1 (k0_pay4 x0 x1 x2 x3 x4) := by
  unfold out0_7
  rw [View.canon_unit_zero hz]
  repeat rw [View.ld_unit_zero hz]

/-- The residual's block, read off the product's. -/
theorem residual_of_block (y : S512x1024.Idx) : (k0_pay3 x0 x1 x2 x3 y : EReal) = x2 y + Ideal.ofBits .f32 0x3F000000#32
    * (unit (fun k => k0_pay2 x0 x1 (ix2 (n0 := 512) (n1 := 1024) (y 0) k)) (y 1) * x3 (ix2 (n0 := 1) (n1 := 1024) 0 (y 1))) := by
  unfold k0_pay3
  generalize k0_pay2 x0 x1 = f
  pointwise
  have e : ix2 (n0 := 512) (n1 := 1024) (y 0) (y 1) = y := by blk_ext
  simp only [unit, e]

/-- The norm's block, read off the residual's. -/
theorem next_of_block (y : S512x1024.Idx) : (k0_pay1 (k0_pay4 x0 x1 x2 x3 x4) y : EReal)
    = unit (fun k => k0_pay3 x0 x1 x2 x3 (ix2 (n0 := 512) (n1 := 1024) (y 0) k)) (y 1) * x4 (ix2 (n0 := 1) (n1 := 1024) 0 (y 1)) := by
  unfold k0_pay1 k0_pay4
  generalize k0_pay3 x0 x1 x2 x3 = f
  pointwise
  have e : ix2 (n0 := 512) (n1 := 1024) (y 0) (y 1) = y := by blk_ext
  simp only [unit, e]

end Outs

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![t.val, 0] := (by decide +kernel : ∀ t : Fin grid0.N, _)
theorem index7 : ∀ t : Fin cfg0.N, win0_7.index t = ![t.val, 0] := (by decide +kernel : ∀ t : Fin grid0.N, _)

/-- Row `y` of block `t`. -/
abbrev row (t : Fin cfg0.N) (y : Fin 512) : Fin 4096 := ⟨512 * t.val + y.val, by have h : t.val < 8 := t.isLt; omega⟩

variable (m : (ℓ : Loc nD τ sig) → Buf (Elt Ideal) ℓ) (c : Dev nD)

theorem blk0 (t : Fin cfg0.N) (y : S512x2816.Idx) : (iblk m c 0 t : Vec Ideal S512x2816 .bf16) y
    = m ((c : Thread nD τ).loc main_arg0) (ix2 (n0 := 4096) (n1 := 2816) (row t (y 0)) (y 1)) := by
  blk_simp [iblk]
  refine congrArg (m ((c : Thread nD τ).loc main_arg0)) ?_
  blk_ext [index0]

theorem blk2 (t : Fin cfg0.N) (y : S512x1024.Idx) : (iblk m c 2 t : Vec Ideal S512x1024 .f32) y
    = m ((c : Thread nD τ).loc main_arg2) (ix2 (n0 := 4096) (n1 := 1024) (row t (y 0)) (y 1)) := by
  blk_simp [iblk]
  refine congrArg (m ((c : Thread nD τ).loc main_arg2)) ?_
  blk_ext [index2]

theorem blk1 (t : Fin cfg0.N) : (iblk m c 1 t : Vec Ideal S2816x1024 .bf16) = m ((c : Thread nD τ).loc main_arg1) := by
  funext y
  blk_simp [iblk]
  refine congrArg (m ((c : Thread nD τ).loc main_arg1)) ?_
  blk_ext [index1]

theorem blk3 (t : Fin cfg0.N) : (iblk m c 3 t : Vec Ideal S1x1024 .f32) = m ((c : Thread nD τ).loc main_arg3) := by
  funext y
  blk_simp [iblk]
  refine congrArg (m ((c : Thread nD τ).loc main_arg3)) ?_
  blk_ext [index3]

theorem blk4 (t : Fin cfg0.N) : (iblk m c 4 t : Vec Ideal S1x1024 .f32) = m ((c : Thread nD τ).loc main_arg4) := by
  funext y
  blk_simp [iblk]
  refine congrArg (m ((c : Thread nD τ).loc main_arg4)) ?_
  blk_ext [index4]

/-- A block's product is the product's rows. -/
theorem pay_prod (t : Fin cfg0.N) (y : S512x1024.Idx) :
    (k0_pay2 (iblk m c 0 t : Vec Ideal S512x2816 .bf16) (iblk m c 1 t : Vec Ideal S2816x1024 .bf16) y : EReal)
      = prod (m ((c : Thread nD τ).loc main_arg0)) (m ((c : Thread nD τ).loc main_arg1)) (ix2 (n0 := 4096) (n1 := 1024) (row t (y 0)) (y 1)) := by
  rw [blk1]
  pointwise [k0_pay2]
  simp only [blk0]
  rfl

/-- A block's residual is the residual's rows. -/
theorem pay_residual (t : Fin cfg0.N) (y : S512x1024.Idx) :
    (k0_pay3 (iblk m c 0 t : Vec Ideal S512x2816 .bf16) (iblk m c 1 t : Vec Ideal S2816x1024 .bf16)
        (iblk m c 2 t : Vec Ideal S512x1024 .f32) (iblk m c 3 t : Vec Ideal S1x1024 .f32) y : EReal)
      = residual (m ((c : Thread nD τ).loc main_arg0)) (m ((c : Thread nD τ).loc main_arg1)) (m ((c : Thread nD τ).loc main_arg2))
        (m ((c : Thread nD τ).loc main_arg3)) (ix2 (n0 := 4096) (n1 := 1024) (row t (y 0)) (y 1)) := by
  rw [residual_of_block, blk2, blk3]
  simp only [pay_prod]
  rfl

/-- A block's norm is the norm's rows. -/
theorem pay_next (t : Fin cfg0.N) (y : S512x1024.Idx) :
    (k0_pay1 (k0_pay4 (iblk m c 0 t : Vec Ideal S512x2816 .bf16) (iblk m c 1 t : Vec Ideal S2816x1024 .bf16)
        (iblk m c 2 t : Vec Ideal S512x1024 .f32) (iblk m c 3 t : Vec Ideal S1x1024 .f32) (iblk m c 4 t : Vec Ideal S1x1024 .f32)) y : EReal)
      = normed (residual (m ((c : Thread nD τ).loc main_arg0)) (m ((c : Thread nD τ).loc main_arg1)) (m ((c : Thread nD τ).loc main_arg2))
        (m ((c : Thread nD τ).loc main_arg3))) (m ((c : Thread nD τ).loc main_arg4)) (ix2 (n0 := 4096) (n1 := 1024) (row t (y 0)) (y 1)) := by
  rw [next_of_block, blk4]
  simp only [pay_residual]
  rfl

/-! ## The whole arrays -/

theorem kernel_prod : (dats m 0 c).arrAt 5 cfg0.N = prod (m ((c : Thread nD τ).loc main_arg0)) (m ((c : Thread nD τ).loc main_arg1)) := by
  funext i
  refine (dats m 0 c).arrAt_forall_of_covers 5 (fun i v => v = (prod (m ((c : Thread nD τ).loc main_arg0)) (m ((c : Thread nD τ).loc main_arg1))) i) (by decide +kernel) (fun t hf y => ?_) i
  have e : ((cfg0.win 5).blk t).view.emb y = ix2 (n0 := 4096) (n1 := 1024) (row t (y 0)) (y 1) := by
    blk_ext [index5]
  rw [e]
  show ((dats m 0 c).after 5 t : Vec Ideal S512x1024 .f32) y = _
  rw [after0_5, out_prod]
  exact pay_prod m c t y

theorem kernel_residual : (dats m 0 c).arrAt 6 cfg0.N = residual (m ((c : Thread nD τ).loc main_arg0)) (m ((c : Thread nD τ).loc main_arg1))
    (m ((c : Thread nD τ).loc main_arg2)) (m ((c : Thread nD τ).loc main_arg3)) := by
  funext i
  refine (dats m 0 c).arrAt_forall_of_covers 6 (fun i v => v = (residual (m ((c : Thread nD τ).loc main_arg0)) (m ((c : Thread nD τ).loc main_arg1))
    (m ((c : Thread nD τ).loc main_arg2)) (m ((c : Thread nD τ).loc main_arg3))) i) (by decide +kernel) (fun t hf y => ?_) i
  have e : ((cfg0.win 6).blk t).view.emb y = ix2 (n0 := 4096) (n1 := 1024) (row t (y 0)) (y 1) := by
    blk_ext [index6]
  rw [e]
  show ((dats m 0 c).after 6 t : Vec Ideal S512x1024 .f32) y = _
  rw [after0_6, out_residual]
  exact pay_residual m c t y

theorem kernel_next : (dats m 0 c).arrAt 7 cfg0.N = (normed (residual (m ((c : Thread nD τ).loc main_arg0)) (m ((c : Thread nD τ).loc main_arg1))
    (m ((c : Thread nD τ).loc main_arg2)) (m ((c : Thread nD τ).loc main_arg3))) (m ((c : Thread nD τ).loc main_arg4)) : Vec Ideal S4096x1024 .f32) := by
  funext i
  refine (dats m 0 c).arrAt_forall_of_covers 7 (fun i v => v = ((normed (residual (m ((c : Thread nD τ).loc main_arg0)) (m ((c : Thread nD τ).loc main_arg1))
    (m ((c : Thread nD τ).loc main_arg2)) (m ((c : Thread nD τ).loc main_arg3))) (m ((c : Thread nD τ).loc main_arg4)) : Vec Ideal S4096x1024 .f32)) i) (by decide +kernel) (fun t hf y => ?_) i
  have e : ((cfg0.win 7).blk t).view.emb y = ix2 (n0 := 4096) (n1 := 1024) (row t (y 0)) (y 1) := by
    blk_ext [index7]
  rw [e]
  show ((dats m 0 c).after 7 t : Vec Ideal S512x1024 .bf16) y = _
  rw [after0_7, out_next]
  exact pay_next m c t y

end Cert.FfnDown
-- ==== Proof.FfnDownClaim.lean ====
module

public import proofs.«01_k».proof.Defs
public import proofs.«01_k».proof.Proof.FfnDownValue
public import proofs.«01_k».proof.Proof.Gen.Kernel8
public import proofs.«01_k».proof.Proof.Gen.Reference8Ideal.Run
public import Idealize.ShloMosaic.Lib.Quiescent

/-!
# The feed-forward layer's output: the claims
-/

@[expose] public section

set_option maxRecDepth 16384

noncomputable section

namespace Cert.FfnDown

open Idealize.ShloMosaic Idealize.ShloMosaic.TcCoe Idealize.SL.Sem

attribute [local instance] Cert.Kernel8.Gen.facts

/-- The two programs have one text: their runs are the same. -/
theorem same_run (m : (ℓ : Loc Cert.Kernel8.nD Cert.Kernel8.τ Cert.Kernel8.sig) → Buf (Elt Bits) ℓ)
    (ρ : Dev Cert.Kernel8.nD → PrngReg) :
    θ_run (Cert.Kernel8.defs (F := Bits)) (onTc (τ := Cert.Kernel8.τ) (Cert.Kernel8.main (F := Bits))) ⟨m, fun _ => 0, ρ⟩
      = θ_run (Cert.Kernel8Ideal.defs (F := Bits)) (onTc (τ := Cert.Kernel8Ideal.τ) (Cert.Kernel8Ideal.main (F := Bits)))
        ⟨m, fun _ => 0, ρ⟩ := by
  chain_rfl

theorem frame_kernel : Cert.quiescent_Kernel8 := fun m ρ _ => by
  rw [same_run]
  exact Cert.Kernel8Ideal.Gen.frame (F := Bits) m ρ

theorem frame_kernelIdeal : Cert.quiescent_Kernel8Ideal := fun m ρ _ => Cert.Kernel8Ideal.Gen.frame (F := Ideal) m ρ

theorem frame_reference : Cert.quiescent_Reference8Ideal := fun m ρ _ =>
  (θ_run Cert.Reference8Ideal.defs _ _).mono (fun r h => ⟨fun c => (h c).2.2.2, sem_eq_zero_of_no_sems (by decide) r.2⟩)
    (Cert.Reference8Ideal.Value.run (F := Ideal) m ρ)

open Cert.Reference8Ideal in
theorem algebraic : Cert.algebraic_Kernel8Ideal_Reference8Ideal :=
  fun m g m' g' _ hargs => by
    refine ⟨_, _, _,
      (θ_run Cert.Kernel8Ideal.defs _ _).mono (fun r h c => ⟨(h c).1.trans (kernel_prod m c),
        (h c).2.1.trans (kernel_residual m c), (h c).2.2.1.trans (kernel_next m c), (h c).2.2.2⟩)
        (Cert.Kernel8Ideal.Value.run_blocks (F := Ideal) m g),
      (θ_run Cert.Reference8Ideal.defs _ _).mono (fun r h c => ⟨(h c).1.trans ?_, (h c).2.1.trans ?_, (h c).2.2.1.trans ?_, (h c).2.2.2⟩)
        (Cert.Reference8Ideal.Value.run (F := Ideal) m' g')⟩
    all_goals
      obtain ⟨e0, e1, e2, e3, e4⟩ := hargs c
    · rw [e0, e1]
      funext i
      pointwise
      rfl
    · rw [e0, e1, e2, e3]
      funext i
      pointwise
      rfl
    · unfold Cert.Reference8Ideal.Value.res_main_v30
      rw [e0, e1, e2, e3, e4]
      funext i
      obtain ⟨y, j, rfl⟩ : ∃ (y : Fin 4096) (j : Fin 1024), i = ix2 (n0 := 4096) (n1 := 1024) y j := ⟨i 0, i 1, by blk_ext⟩
      pointwise
      rfl

end Cert.FfnDown
-- ==== Proof.FfnDnValue.lean ====
module

public import proofs.«01_k».proof.Proof.Sums
public import proofs.«01_k».proof.Proof.GateValue
public import proofs.«01_k».proof.Proof.Gen.Kernel3Ideal.Value

/-!
# The gradient of the feed-forward layer's input: what the call leaves

The product of the gate's and up's gradients with their weights is the gradient of the normed input; from it, the gradient
of the input through the norm, and of the norm's gains: a sum over all 4096 tokens, accumulated over sixteen blocks.
-/

@[expose] public section

set_option maxRecDepth 16384

noncomputable section

namespace Cert.FfnDn

open Idealize.ShloMosaic Idealize.ShloMosaic.TcCoe
open Idealize.ShloMosaic.Pipeline (Dat Cfg Window)
open Cert.Gate (hz)
open Cert.Kernel3Ideal Cert.Kernel3Ideal.Gen

/-! ## The two results -/

/-- A row's mean square, and the norm's small number. -/
def square (f : Fin 1024 → EReal) : EReal :=
  Ideal.div (∑ k, f k * f k) (Ideal.ofBits .f32 0x44800000#32) + Ideal.ofBits .f32 0x358637BD#32

/-- What a row's entries have in common in the gradient through its mean square. -/
def slope (f d g : Fin 1024 → EReal) : EReal :=
  Ideal.div ((∑ k, f k * (d k * g k)) * (Ideal.ofBits .f32 0xBF000000#32 * Ideal.div (Ideal.rsqrt (square f)) (square f)))
    (Ideal.ofBits .f32 0x44800000#32)

/-- The gradient of one entry of a row, on top of `a`. -/
def through (a : EReal) (f d g : Fin 1024 → EReal) (j : Fin 1024) : EReal :=
  a + d j * g j * Ideal.rsqrt (square f) + f j * slope f d g + slope f d g * f j

/-- The normed input's gradient: the products with the two weights. -/
def prod (dgate dup : Vec Ideal S4096x2816 .bf16) (wg wu : Vec Ideal S1024x2816 .bf16) (r : Fin 4096) (j : Fin 1024) : EReal :=
  (∑ k : Fin 2816, (dup (ix2 (n0 := 4096) (n1 := 2816) r k) : EReal) * wu (ix2 (n0 := 1024) (n1 := 2816) j k))
    + ∑ k : Fin 2816, (dgate (ix2 (n0 := 4096) (n1 := 2816) r k) : EReal) * wg (ix2 (n0 := 1024) (n1 := 2816) j k)

/-- The input's gradient. -/
def input (d : Fin 4096 → Fin 1024 → EReal) (dh h : Vec Ideal S4096x1024 .f32) (g : Vec Ideal S1x1024 .f32) :
    Vec Ideal S4096x1024 .f32 := fun i =>
  through (dh i) (fun k => h (ix2 (n0 := 4096) (n1 := 1024) (i 0) k)) (d (i 0)) (fun k => g (ix2 (n0 := 1) (n1 := 1024) 0 k)) (i 1)

/-- What one token adds to a gain's gradient. -/
def term (d : Fin 4096 → Fin 1024 → EReal) (h : Vec Ideal S4096x1024 .f32) (j : Fin 1024) (r : Fin 4096) : EReal :=
  (h (ix2 (n0 := 4096) (n1 := 1024) r j) : EReal)
    * Ideal.rsqrt (square fun k => h (ix2 (n0 := 4096) (n1 := 1024) r k)) * d r j

/-- The gains' gradient. -/
def gains (d : Fin 4096 → Fin 1024 → EReal) (h : Vec Ideal S4096x1024 .f32) : Vec Ideal S1x1024 .f32 := fun i =>
  ∑ r, term d h (i 1) r

/-! ## One block -/

section Cases
variable {F : FTy → Type} [FloatOps F]
variable (c : Dev nD) (i : grid0.Coords)
  (a3 : Memref sig .tc .vmem S256x5632 .bf16) (h3 : a3.IsWhole) (a4 : Memref sig .tc .vmem S1024x5632 .bf16) (h4 : a4.IsWhole)
  (a5 : Memref sig .tc .vmem S256x1024 .f32) (h5 : a5.IsWhole) (a6 : Memref sig .tc .vmem S256x1024 .f32) (h6 : a6.IsWhole)
  (a7 : Memref sig .tc .vmem S1x1024 .f32) (h7 : a7.IsWhole) (a8 : Memref sig .tc .vmem S256x1024 .f32) (h8 : a8.IsWhole)
  (a9 : Memref sig .tc .vmem S1x1024 .f32) (h9 : a9.IsWhole)
  (x0 : Vec F S256x5632 .bf16) (x1 : Vec F S1024x5632 .bf16) (x2 x3 : Vec F S256x1024 .f32) (x4 xo : Vec F S1x1024 .f32)

/-- The input's gradient of one block. -/
abbrev block_input : Vec F S256x1024 .f32 := k0_pay1 x2 x3 (k0_pay8 x0 x1 x3 x4) (k0_pay9 x0 x1 x3 x4)

theorem first_input (hc0 : cond0_0 i) (hc1 : ¬cond0_1 i) :
    out0_A_5 c i a3 h3 a4 h4 a5 h5 a6 h6 a7 h7 a8 h8 a9 h9 hc0 hc1 x0 x1 x2 x3 x4 = block_input x0 x1 x2 x3 x4 := by
  unfold out0_A_5
  rw [View.read_writes_eq_canon _ _ _ (cover0_A_5 c i a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h3.read_unread, h4.read_unread, h5.read_unread, h6.read_unread, h7.read_unread, h9.read_unread,
    View.ld_unit_zero (S := S256x5632) hz, View.ld_unit_zero (S := S1024x5632) hz, View.ld_unit_zero (S := S256x1024) hz,
    View.ld_unit_zero (S := S1x1024) hz]

theorem later_input (hc0 : ¬cond0_0 i) (hc1 : cond0_1 i) :
    out0_B_5 c i a3 h3 a4 h4 a5 h5 a6 h6 a7 h7 a8 h8 a9 h9 hc0 hc1 x0 x1 x2 x3 x4 xo = block_input x0 x1 x2 x3 x4 := by
  unfold out0_B_5
  rw [View.read_writes_eq_canon _ _ _ (cover0_B_5 c i a3 h3 a4 h4 a5 h5 a6 h6 a7 h7 a8 h8 a9 h9 hc0 hc1 x0 x1 x2 x3 x4 xo)]
  unfold kernelRun0_B
  dsimp only
  sl_unfold_words
  rw [View.canon_unit_zero hz]
  simp only [View.readAt_eq_ld, h3.read_unread, h4.read_unread, h5.read_unread, h6.read_unread, h7.read_unread, h9.read_unread,
    View.ld_unit_zero (S := S256x5632) hz, View.ld_unit_zero (S := S1024x5632) hz, View.ld_unit_zero (S := S256x1024) hz,
    View.ld_unit_zero (S := S1x1024) hz]

theorem first_gains (hc0 : cond0_0 i) (hc1 : ¬cond0_1 i) :
    out0_A_6 c i a3 h3 a4 h4 a5 h5 a6 h6 a7 h7 a8 h8 a9 h9 hc0 hc1 x0 x1 x2 x3 x4 = k0_pay6 x0 x1 x3 := by
  unfold out0_A_6
  rw [View.read_writes_eq_canon _ _ _ (cover0_A_6 c i a3 h3 a4 h4 a5 h5 a6 h6 a7 h7 a8 h8 a9 h9 hc0 hc1 x0 x1 x2 x3 x4)]
  unfold kernelRun0_A
  dsimp only
  sl_unfold_words
  rw [View.canon_unit_zero hz]
  simp only [View.readAt_eq_ld, h3.read_unread, h4.read_unread, h5.read_unread, h6.read_unread, h7.read_unread, h9.read_unread,
    View.ld_unit_zero (S := S256x5632) hz, View.ld_unit_zero (S := S1024x5632) hz, View.ld_unit_zero (S := S256x1024) hz,
    View.ld_unit_zero (S := S1x1024) hz]

theorem later_gains (hc0 : ¬cond0_0 i) (hc1 : cond0_1 i) :
    out0_B_6 c i a3 h3 a4 h4 a5 h5 a6 h6 a7 h7 a8 h8 a9 h9 hc0 hc1 x0 x1 x2 x3 x4 xo = k0_pay2 (k0_pay6 x0 x1 x3) xo := by
  unfold out0_B_6
  rw [View.read_writes_eq_canon _ _ _ (cover0_B_6 c i a3 h3 a4 h4 a5 h5 a6 h6 a7 h7 a8 h8 a9 h9 hc0 hc1 x0 x1 x2 x3 x4 xo)]
  unfold kernelRun0_B
  dsimp only
  sl_unfold_words
  rw [View.canon_unit_zero hz]
  simp only [View.readAt_eq_ld, h3.read_unread, h4.read_unread, h5.read_unread, h6.read_unread, h7.read_unread, h9.read_unread,
    View.ld_unit_zero (S := S256x5632) hz, View.ld_unit_zero (S := S1024x5632) hz, View.ld_unit_zero (S := S256x1024) hz,
    View.ld_unit_zero (S := S1x1024) hz]

end Cases

section Pays
variable (x0 : Vec Ideal S256x5632 .bf16) (x1 : Vec Ideal S1024x5632 .bf16) (x2 x3 : Vec Ideal S256x1024 .f32)
  (x4 : Vec Ideal S1x1024 .f32)

theorem regroup (a b c d : EReal) : a + (b + c + d) = a + b + c + d := by
  rw [← add_assoc, ← add_assoc]

/-- The input's gradient, read off the block's product. -/
theorem input_of_block (y : Fin 256) (j : Fin 1024) : (block_input x0 x1 x2 x3 x4 (ix2 (n0 := 256) (n1 := 1024) y j) : EReal)
    = through (x2 (ix2 (n0 := 256) (n1 := 1024) y j)) (fun k => x3 (ix2 (n0 := 256) (n1 := 1024) y k))
      (fun k => k0_pay3 x0 x1 (ix2 (n0 := 256) (n1 := 1024) y k)) (fun k => x4 (ix2 (n0 := 1) (n1 := 1024) 0 k)) j := by
  unfold block_input k0_pay1 k0_pay8 k0_pay9 k0_pay7 k0_pay5 k0_pay4
  generalize k0_pay3 x0 x1 = f
  pointwise
  simp only [Finset.univ_unique, Finset.sum_singleton]
  exact regroup _ _ _ _

/-- What the block adds to the gains' gradient, read off its product. -/
theorem gains_of_block (z : Fin 1) (j : Fin 1024) : (k0_pay6 x0 x1 x3 (ix2 (n0 := 1) (n1 := 1024) z j) : EReal)
    = ∑ r : Fin 256, (x3 (ix2 (n0 := 256) (n1 := 1024) r j) : EReal)
      * Ideal.rsqrt (square fun k => x3 (ix2 (n0 := 256) (n1 := 1024) r k)) * k0_pay3 x0 x1 (ix2 (n0 := 256) (n1 := 1024) r j) := by
  unfold k0_pay6 k0_pay5 k0_pay4
  generalize k0_pay3 x0 x1 = f
  pointwise
  rfl

end Pays

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)

/-- Token `y` of block `n`. -/
abbrev token (n : ℕ) (y : Fin 256) : Fin 4096 := ⟨(256 * n + y.val) % 4096, Nat.mod_lt _ (by decide)⟩

variable (m : (ℓ : Loc nD τ sig) → Buf (Elt Ideal) ℓ) (c : Dev nD)

theorem blk0 (t : Fin cfg0.N) (y : S256x5632.Idx) : (iblk m c 0 t : Vec Ideal S256x5632 .bf16) y
    = V m c main_v0 (ix2 (n0 := 4096) (n1 := 5632) (token t.val (y 0)) (y 1)) := by
  have ht : t.val < 16 := t.isLt
  have hy : (y 0).val < 256 := (y 0).isLt
  blk_simp [iblk]
  show V m c main_v0 _ = _
  refine congrArg (V m c main_v0) ?_
  blk_ext [index0]

theorem blk1 (t : Fin cfg0.N) (y : S1024x5632.Idx) : (iblk m c 1 t : Vec Ideal S1024x5632 .bf16) y
    = V m c main_v1 y := by
  blk_simp [iblk]
  show V m c main_v1 _ = _
  refine congrArg (V m c main_v1) ?_
  blk_ext [index1]

theorem blk2 (t : Fin cfg0.N) (y : S256x1024.Idx) : (iblk m c 2 t : Vec Ideal S256x1024 .f32) y
    = m ((c : Thread nD τ).loc main_arg4) (ix2 (n0 := 4096) (n1 := 1024) (token t.val (y 0)) (y 1)) := by
  have ht : t.val < 16 := t.isLt
  have hy : (y 0).val < 256 := (y 0).isLt
  blk_simp [iblk]
  show V m c main_arg4 _ = _
  rw [V_main_arg4]
  refine congrArg (m ((c : Thread nD τ).loc main_arg4)) ?_
  blk_ext [index2]

theorem blk3 (t : Fin cfg0.N) (y : S256x1024.Idx) : (iblk m c 3 t : Vec Ideal S256x1024 .f32) y
    = m ((c : Thread nD τ).loc main_arg5) (ix2 (n0 := 4096) (n1 := 1024) (token t.val (y 0)) (y 1)) := by
  have ht : t.val < 16 := t.isLt
  have hy : (y 0).val < 256 := (y 0).isLt
  blk_simp [iblk]
  show V m c main_arg5 _ = _
  rw [V_main_arg5]
  refine congrArg (m ((c : Thread nD τ).loc main_arg5)) ?_
  blk_ext [index3]

theorem blk4 (t : Fin cfg0.N) (y : S1x1024.Idx) : (iblk m c 4 t : Vec Ideal S1x1024 .f32) y
    = m ((c : Thread nD τ).loc main_arg6) y := by
  blk_simp [iblk]
  show V m c main_arg6 _ = _
  rw [V_main_arg6]
  refine congrArg (m ((c : Thread nD τ).loc main_arg6)) ?_
  blk_ext [index4]

/-- The left half of the joined gradients is the gate's. -/
theorem grads_gate (r : Fin 4096) (k : Fin 2816) : V m c main_v0 (ix2 (n0 := 4096) (n1 := 5632) r ⟨k.val, by omega⟩)
    = m ((c : Thread nD τ).loc main_arg0) (ix2 (n0 := 4096) (n1 := 2816) r k) := by
  after_reads_simp
  pointwise

/-- The right half of the joined gradients is that of `up`. -/
theorem grads_up (r : Fin 4096) (k : Fin 2816) : V m c main_v0 (ix2 (n0 := 4096) (n1 := 5632) r ⟨2816 + k.val, by omega⟩)
    = m ((c : Thread nD τ).loc main_arg1) (ix2 (n0 := 4096) (n1 := 2816) r k) := by
  after_reads_simp
  pointwise

/-- The left half of the joined weights is the gate's. -/
theorem weights_gate (r : Fin 1024) (k : Fin 2816) : V m c main_v1 (ix2 (n0 := 1024) (n1 := 5632) r ⟨k.val, by omega⟩)
    = m ((c : Thread nD τ).loc main_arg2) (ix2 (n0 := 1024) (n1 := 2816) r k) := by
  after_reads_simp
  pointwise

/-- The right half of the joined weights is that of `up`. -/
theorem weights_up (r : Fin 1024) (k : Fin 2816) : V m c main_v1 (ix2 (n0 := 1024) (n1 := 5632) r ⟨2816 + k.val, by omega⟩)
    = m ((c : Thread nD τ).loc main_arg3) (ix2 (n0 := 1024) (n1 := 2816) r k) := by
  after_reads_simp
  pointwise

/-- The normed input's gradient, of the program's arguments. -/
abbrev product : Fin 4096 → Fin 1024 → EReal :=
  prod (m ((c : Thread nD τ).loc main_arg0)) (m ((c : Thread nD τ).loc main_arg1)) (m ((c : Thread nD τ).loc main_arg2))
    (m ((c : Thread nD τ).loc main_arg3))

/-- A sum over the joined columns is the two products. -/
theorem joined (a : Vec Ideal S4096x5632 .bf16) (w : Vec Ideal S1024x5632 .bf16) (dgate dup : Vec Ideal S4096x2816 .bf16)
    (wg wu : Vec Ideal S1024x2816 .bf16)
    (hg : ∀ r (k : Fin 2816), a (ix2 (n0 := 4096) (n1 := 5632) r ⟨k.val, by omega⟩) = dgate (ix2 (n0 := 4096) (n1 := 2816) r k))
    (hu : ∀ r (k : Fin 2816), a (ix2 (n0 := 4096) (n1 := 5632) r ⟨2816 + k.val, by omega⟩) = dup (ix2 (n0 := 4096) (n1 := 2816) r k))
    (hwg : ∀ j (k : Fin 2816), w (ix2 (n0 := 1024) (n1 := 5632) j ⟨k.val, by omega⟩) = wg (ix2 (n0 := 1024) (n1 := 2816) j k))
    (hwu : ∀ j (k : Fin 2816), w (ix2 (n0 := 1024) (n1 := 5632) j ⟨2816 + k.val, by omega⟩) = wu (ix2 (n0 := 1024) (n1 := 2816) j k))
    (r : Fin 4096) (j : Fin 1024) :
    ∑ k : Fin 5632, (a (ix2 (n0 := 4096) (n1 := 5632) r k) : EReal) * w (ix2 (n0 := 1024) (n1 := 5632) j k) = prod dgate dup wg wu r j := by
  rw [Cert.Sums.two_halves, add_comm]
  simp only [hg, hu, hwg, hwu]
  rfl

/-- A block's product is the product's rows. -/
theorem pay_prod (t : Fin cfg0.N) (y : Fin 256) (j : Fin 1024) :
    (k0_pay3 (iblk m c 0 t : Vec Ideal S256x5632 .bf16) (iblk m c 1 t : Vec Ideal S1024x5632 .bf16) (ix2 (n0 := 256) (n1 := 1024) y j) : EReal)
      = product m c (token t.val y) j := by
  pointwise [k0_pay3]
  simp only [blk0, blk1]
  exact joined (V m c main_v0) (V m c main_v1) _ _ _ _ (grads_gate m c) (grads_up m c) (weights_gate m c) (weights_up m c) _ _

/-- A block's gradient of the input is the gradient's rows. -/
theorem pay_input (t : Fin cfg0.N) (y : S256x1024.Idx) :
    (block_input (iblk m c 0 t : Vec Ideal S256x5632 .bf16) (iblk m c 1 t : Vec Ideal S1024x5632 .bf16)
        (iblk m c 2 t : Vec Ideal S256x1024 .f32) (iblk m c 3 t : Vec Ideal S256x1024 .f32) (iblk m c 4 t : Vec Ideal S1x1024 .f32) y : EReal)
      = input (product m c) (m ((c : Thread nD τ).loc main_arg4)) (m ((c : Thread nD τ).loc main_arg5))
        (m ((c : Thread nD τ).loc main_arg6)) (ix2 (n0 := 4096) (n1 := 1024) (token t.val (y 0)) (y 1)) := by
  obtain ⟨r, j, rfl⟩ : ∃ (r : Fin 256) (j : Fin 1024), y = ix2 (n0 := 256) (n1 := 1024) r j := ⟨y 0, y 1, by blk_ext⟩
  rw [input_of_block]
  simp only [pay_prod, blk2, blk3, blk4]
  rfl

/-- What block `n` adds to the gains' gradient. -/
def part (n : ℕ) (y : S1x1024.Idx) : EReal :=
  ∑ r : Fin 256, term (product m c) (m ((c : Thread nD τ).loc main_arg5)) (y 1) (token n r)

theorem pay_gains (t : Fin cfg0.N) (y : S1x1024.Idx) :
    (k0_pay6 (iblk m c 0 t : Vec Ideal S256x5632 .bf16) (iblk m c 1 t : Vec Ideal S1024x5632 .bf16)
        (iblk m c 3 t : Vec Ideal S256x1024 .f32) y : EReal) = part m c t.val y := by
  obtain ⟨z, j, rfl⟩ : ∃ (z : Fin 1) (j : Fin 1024), y = ix2 (n0 := 1) (n1 := 1024) z j := ⟨y 0, y 1, by blk_ext⟩
  rw [gains_of_block]
  simp only [pay_prod, blk3]
  rfl

/-- The later points add to what the point before left. -/
theorem add_gains (v xo : Vec Ideal S1x1024 .f32) (y : S1x1024.Idx) : (k0_pay2 v xo y : EReal) = xo y + v y := by
  pointwise [k0_pay2]

/-- The gains' accumulator after every point. -/
theorem accumulator : ∀ n h y, ((outsAt0 m c n h).2 y : EReal) = ∑ s ∈ Finset.range (n + 1), part m c s y :=
  Cert.Sums.accumulated_once (fun n h y => (outsAt0 m c n h).2 y) (part m c)
    (fun h y => by
      show (outsAt0 m c 0 h).2 y = _
      rw [outsAt0_A m c ⟨0, h⟩ rfl (by dsimp only; omega)]
      dsimp only
      rw [first_gains]
      exact pay_gains m c ⟨0, h⟩ y)
    (fun n h y => by
      have hn : n + 1 < 16 := h
      show (outsAt0 m c (n + 1) h).2 y = (outsAt0 m c n _).2 y + _
      rw [outsAt0_B m c ⟨n + 1, h⟩ (by dsimp only; omega) (by dsimp only; omega)]
      dsimp only
      rw [later_gains, add_gains]
      exact congrArg ((outsAt0 m c n _).2 y + ·) (pay_gains m c ⟨n + 1, h⟩ y))

/-- The input's gradient after every point. -/
theorem left_input (t : Fin cfg0.N) : (outsAt0 m c t.val t.isLt).1
    = block_input (iblk m c 0 t : Vec Ideal S256x5632 .bf16) (iblk m c 1 t : Vec Ideal S1024x5632 .bf16)
        (iblk m c 2 t : Vec Ideal S256x1024 .f32) (iblk m c 3 t : Vec Ideal S256x1024 .f32) (iblk m c 4 t : Vec Ideal S1x1024 .f32) := by
  have ht : t.val < 16 := t.isLt
  by_cases h0 : t.val % 16 = 0
  · rw [outsAt0_A m c t h0 (by omega)]
    dsimp only
    rw [first_input]
  · rw [outsAt0_B m c t h0 (by omega)]
    dsimp only
    rw [later_input]

/-! ## The whole arrays -/

theorem kernel_input : (dats m 0 c).arrAt 5 cfg0.N = input (product m c) (m ((c : Thread nD τ).loc main_arg4))
    (m ((c : Thread nD τ).loc main_arg5)) (m ((c : Thread nD τ).loc main_arg6)) := by
  funext i
  refine (dats m 0 c).arrAt_forall_of_covers 5 (fun i v => v = input (product m c) (m ((c : Thread nD τ).loc main_arg4))
    (m ((c : Thread nD τ).loc main_arg5)) (m ((c : Thread nD τ).loc main_arg6)) i) (by decide +kernel) (fun t hf y => ?_) i
  have ht : t.val < 16 := t.isLt
  have hy : (y 0).val < 256 := (y 0).isLt
  have e : ((cfg0.win 5).blk t).view.emb y = ix2 (n0 := 4096) (n1 := 1024) (token t.val (y 0)) (y 1) := by
    blk_ext [index5]
  rw [e]
  show ((dats m 0 c).after 5 t : Vec Ideal S256x1024 .f32) y = _
  rw [after0_5, left_input]
  exact pay_input m c t y

theorem kernel_gains : (dats m 0 c).arrAt 6 cfg0.N = gains (product m c) (m ((c : Thread nD τ).loc main_arg5)) := by
  funext i
  refine (dats m 0 c).arrAt_forall_of_covers 6 (fun i v => v = gains (product m c) (m ((c : Thread nD τ).loc main_arg5)) i)
    (by decide +kernel) (fun t hf y => ?_) i
  have ht : t.val < 16 := t.isLt
  have h15 := (flush0_6 t).mp hf
  have e : ((cfg0.win 6).blk t).view.emb y = y := by
    blk_ext [index6]
  rw [e]
  show ((dats m 0 c).after 6 t : Vec Ideal S1x1024 .f32) y = _
  rw [after0_6, accumulator, show t.val + 1 = 16 by omega]
  exact Cert.Sums.all_blocks 256 16 rfl _

end Cert.FfnDn
-- ==== Proof.FfnDnClaim.lean ====
module

public import proofs.«01_k».proof.Defs
public import proofs.«01_k».proof.Proof.FfnDnValue
public import proofs.«01_k».proof.Proof.Gen.Kernel3
public import proofs.«01_k».proof.Proof.Gen.Reference3Ideal.Run
public import Idealize.ShloMosaic.Lib.Quiescent

/-!
# The gradient of the feed-forward layer's input: the claims
-/

@[expose] public section

set_option maxRecDepth 16384

noncomputable section

namespace Cert.FfnDn

open Idealize.ShloMosaic Idealize.ShloMosaic.TcCoe Idealize.SL.Sem

attribute [local instance] Cert.Kernel3.Gen.facts

/-- The two programs have one text: their runs are the same. -/
theorem same_run (m : (ℓ : Loc Cert.Kernel3.nD Cert.Kernel3.τ Cert.Kernel3.sig) → Buf (Elt Bits) ℓ)
    (ρ : Dev Cert.Kernel3.nD → PrngReg) :
    θ_run (Cert.Kernel3.defs (F := Bits)) (onTc (τ := Cert.Kernel3.τ) (Cert.Kernel3.main (F := Bits))) ⟨m, fun _ => 0, ρ⟩
      = θ_run (Cert.Kernel3Ideal.defs (F := Bits)) (onTc (τ := Cert.Kernel3Ideal.τ) (Cert.Kernel3Ideal.main (F := Bits)))
        ⟨m, fun _ => 0, ρ⟩ := by
  chain_rfl

theorem frame_kernel : Cert.quiescent_Kernel3 := fun m ρ _ => by
  rw [same_run]
  exact Cert.Kernel3Ideal.Gen.frame (F := Bits) m ρ

theorem frame_kernelIdeal : Cert.quiescent_Kernel3Ideal := fun m ρ _ => Cert.Kernel3Ideal.Gen.frame (F := Ideal) m ρ

theorem frame_reference : Cert.quiescent_Reference3Ideal := fun m ρ _ =>
  (θ_run Cert.Reference3Ideal.defs _ _).mono (fun r h => ⟨fun c => (h c).2.2, sem_eq_zero_of_no_sems (by decide) r.2⟩)
    (Cert.Reference3Ideal.Value.run (F := Ideal) m ρ)

open Cert.Reference3Ideal in
theorem algebraic : Cert.algebraic_Kernel3Ideal_Reference3Ideal :=
  fun m g m' g' _ hargs => by
    refine ⟨_, _,
      (θ_run Cert.Kernel3Ideal.defs _ _).mono (fun r h c => ⟨(h c).1.trans (kernel_input m c),
        (h c).2.1.trans (kernel_gains m c), (h c).2.2⟩) (Cert.Kernel3Ideal.Value.run_blocks (F := Ideal) m g),
      (θ_run Cert.Reference3Ideal.defs _ _).mono (fun r h c => ⟨(h c).1.trans ?_, (h c).2.1.trans ?_, (h c).2.2⟩)
        (Cert.Reference3Ideal.Value.run (F := Ideal) m' g')⟩
    all_goals
      obtain ⟨e0, e1, e2, e3, e4, e5, e6⟩ := hargs c
    · unfold Cert.Reference3Ideal.Value.res_main_v43
      rw [e0, e1, e2, e3, e4, e5, e6]
      funext i
      obtain ⟨y, j, rfl⟩ : ∃ (y : Fin 4096) (j : Fin 1024), i = ix2 (n0 := 4096) (n1 := 1024) y j := ⟨i 0, i 1, by blk_ext⟩
      pointwise
      simp only [Finset.univ_unique, Finset.sum_singleton]
      rfl
    · rw [e0, e1, e2, e3, e5]
      funext i
      obtain ⟨z, j, rfl⟩ : ∃ (z : Fin 1) (j : Fin 1024), i = ix2 (n0 := 1) (n1 := 1024) z j := ⟨i 0, i 1, by blk_ext⟩
      pointwise
      rfl

end Cert.FfnDn
-- ==== Proof.FfnDn2Value.lean ====
module

public import proofs.«01_k».proof.Proof.FfnDnValue
public import proofs.«01_k».proof.Proof.Gen.Kernel9Ideal.Value

/-!
# The gradient of the second feed-forward layer's input: what the call leaves

As in the first layer, and after it the step back through the norm of the mixer's output, which the second layer's input
was made of: the gradient of that output and of that norm's gains.
-/

@[expose] public section

set_option maxRecDepth 16384

noncomputable section

namespace Cert.FfnDn2

open Idealize.ShloMosaic Idealize.ShloMosaic.TcCoe
open Idealize.ShloMosaic.Pipeline (Dat Cfg Window)
open Cert.Gate (hz)
open Cert.FfnDn (square slope through prod term token)
open Cert.Kernel9Ideal Cert.Kernel9Ideal.Gen

/-! ## The four results -/

/-- The input's gradient, by row and column. -/
def entry (d : Fin 4096 → Fin 1024 → EReal) (dh h : Vec Ideal S4096x1024 .f32) (g : Vec Ideal S1x1024 .f32) (r : Fin 4096)
    (j : Fin 1024) : EReal :=
  through (dh (ix2 (n0 := 4096) (n1 := 1024) r j)) (fun k => h (ix2 (n0 := 4096) (n1 := 1024) r k)) (d r)
    (fun k => g (ix2 (n0 := 1) (n1 := 1024) 0 k)) j

/-- The input's gradient. -/
def input (d : Fin 4096 → Fin 1024 → EReal) (dh h : Vec Ideal S4096x1024 .f32) (g : Vec Ideal S1x1024 .f32) :
    Vec Ideal S4096x1024 .f32 := fun i => entry d dh h g (i 0) (i 1)

/-- The gradient of one entry of a row through the norm. -/
def around (f d g : Fin 1024 → EReal) (j : Fin 1024) : EReal :=
  d j * g j * Ideal.rsqrt (square f) + f j * slope f d g + slope f d g * f j

/-- The gradient of the mixer's output. -/
def mixed (e : Fin 4096 → Fin 1024 → EReal) (o : Vec Ideal S4096x1024 .f32) (g : Vec Ideal S1x1024 .f32) :
    Vec Ideal S4096x1024 .bf16 := fun i =>
  around (fun k => o (ix2 (n0 := 4096) (n1 := 1024) (i 0) k)) (e (i 0)) (fun k => g (ix2 (n0 := 1) (n1 := 1024) 0 k)) (i 1)

/-- The gradient of the gains of a norm of `h`. -/
def gains (d : Fin 4096 → Fin 1024 → EReal) (h : Vec Ideal S4096x1024 .f32) : Vec Ideal S1x1024 .f32 := fun i =>
  ∑ r, term d h (i 1) r

/-! ## One block -/

section Cases
variable {F : FTy → Type} [FloatOps F]
variable (c : Dev nD) (i : grid0.Coords)
  (a3 : Memref sig .tc .vmem S256x5632 .bf16) (h3 : a3.IsWhole) (a4 : Memref sig .tc .vmem S1024x5632 .bf16) (h4 : a4.IsWhole)
  (a5 : Memref sig .tc .vmem S256x1024 .f32) (h5 : a5.IsWhole) (a6 : Memref sig .tc .vmem S256x1024 .f32) (h6 : a6.IsWhole)
  (a7 : Memref sig .tc .vmem S1x1024 .f32) (h7 : a7.IsWhole) (a8 : Memref sig .tc .vmem S256x1024 .f32) (h8 : a8.IsWhole)
  (a9 : Memref sig .tc .vmem S1x1024 .f32) (h9 : a9.IsWhole) (a10 : Memref sig .tc .vmem S256x1024 .f32) (h10 : a10.IsWhole)
  (a11 : Memref sig .tc .vmem S256x1024 .bf16) (h11 : a11.IsWhole) (a12 : Memref sig .tc .vmem S1x1024 .f32) (h12 : a12.IsWhole)
  (a13 : Memref sig .tc .vmem S1x1024 .f32) (h13 : a13.IsWhole)
  (x0 : Vec F S256x5632 .bf16) (x1 : Vec F S1024x5632 .bf16) (x2 x3 : Vec F S256x1024 .f32) (x4 : Vec F S1x1024 .f32)
  (x5 : Vec F S256x1024 .f32) (x6 xo xp : Vec F S1x1024 .f32)

/-- The input's gradient of one block. -/
abbrev block_input : Vec F S256x1024 .f32 := k0_pay10 x2 x3 (k0_pay8 x0 x1 x3 x4) (k0_pay9 x0 x1 x3 x4)

/-- The mixer output's gradient of one block. -/
abbrev block_mixed : Vec F S256x1024 .bf16 := k0_pay14 x2 x3 x5 x6 (k0_pay8 x0 x1 x3 x4) (k0_pay9 x0 x1 x3 x4)

/-- What one block adds to the gradient of the second norm's gains. -/
abbrev block_post : Vec F S1x1024 .f32 := k0_pay13 x2 x3 x5 (k0_pay8 x0 x1 x3 x4) (k0_pay9 x0 x1 x3 x4)

theorem first_input (hc0 : cond0_0 i) (hc1 : ¬cond0_1 i) (hc2 : cond0_2 i) (hc3 : ¬cond0_3 i) :
    out0_A_7 c i a3 h3 a4 h4 a5 h5 a6 h6 a7 h7 a8 h8 a9 h9 a10 h10 a11 h11 a12 h12 a13 h13 hc0 hc1 hc2 hc3 x0 x1 x2 x3 x4 x5 x6
      = block_input x0 x1 x2 x3 x4 := by
  unfold out0_A_7
  rw [View.read_writes_eq_canon _ _ _ (cover0_A_7 c i a3 h3 a4 h4 a5 h5 a6 h6 a7 h7 a8 h8 a9 h9 a10 h10 a11 h11 a12 h12 a13 h13 hc0 hc1 hc2 hc3 x0 x1 x2 x3 x4 x5 x6)]
  unfold kernelRun0_A
  dsimp only
  sl_unfold_words
  rw [View.canon_unit_zero hz]
  simp only [View.readAt_eq_ld, h3.read_unread, h4.read_unread, h5.read_unread, h6.read_unread, h7.read_unread, h8.read_unread,
    h9.read_unread, h12.read_unread, h13.read_unread, View.ld_unit_zero (S := S256x5632) hz,
    View.ld_unit_zero (S := S1024x5632) hz, View.ld_unit_zero (S := S256x1024) hz, View.ld_unit_zero (S := S1x1024) hz]

theorem later_input (hc0 : ¬cond0_0 i) (hc1 : cond0_1 i) (hc2 : ¬cond0_2 i) (hc3 : cond0_3 i) :
    out0_B_7 c i a3 h3 a4 h4 a5 h5 a6 h6 a7 h7 a8 h8 a9 h9 a10 h10 a11 h11 a12 h12 a13 h13 hc0 hc1 hc2 hc3 x0 x1 x2 x3 x4 x5 x6 xo xp
      = block_input x0 x1 x2 x3 x4 := by
  unfold out0_B_7
  rw [View.read_writes_eq_canon _ _ _ (cover0_B_7 c i a3 h3 a4 h4 a5 h5 a6 h6 a7 h7 a8 h8 a9 h9 a10 h10 a11 h11 a12 h12 a13 h13 hc0 hc1 hc2 hc3 x0 x1 x2 x3 x4 x5 x6 xo xp)]
  unfold kernelRun0_B
  dsimp only
  sl_unfold_words
  rw [View.canon_unit_zero hz]
  simp only [View.readAt_eq_ld, h3.read_unread, h4.read_unread, h5.read_unread, h6.read_unread, h7.read_unread, h8.read_unread,
    h9.read_unread, h12.read_unread, h13.read_unread, View.ld_unit_zero (S := S256x5632) hz,
    View.ld_unit_zero (S := S1024x5632) hz, View.ld_unit_zero (S := S256x1024) hz, View.ld_unit_zero (S := S1x1024) hz]

theorem first_mixed (hc0 : cond0_0 i) (hc1 : ¬cond0_1 i) (hc2 : cond0_2 i) (hc3 : ¬cond0_3 i) :
    out0_A_8 c i a3 h3 a4 h4 a5 h5 a6 h6 a7 h7 a8 h8 a9 h9 a10 h10 a11 h11 a12 h12 a13 h13 hc0 hc1 hc2 hc3 x0 x1 x2 x3 x4 x5 x6
      = block_mixed x0 x1 x2 x3 x4 x5 x6 := by
  unfold out0_A_8
  rw [View.read_writes_eq_canon _ _ _ (cover0_A_8 c i a3 h3 a4 h4 a5 h5 a6 h6 a7 h7 a8 h8 a9 h9 a10 h10 a11 h11 a12 h12 a13 h13 hc0 hc1 hc2 hc3 x0 x1 x2 x3 x4 x5 x6)]
  unfold kernelRun0_A
  dsimp only
  sl_unfold_words
  rw [View.canon_unit_zero hz]
  simp only [View.readAt_eq_ld, h3.read_unread, h4.read_unread, h5.read_unread, h6.read_unread, h7.read_unread, h8.read_unread,
    h9.read_unread, h12.read_unread, h13.read_unread, View.ld_unit_zero (S := S256x5632) hz,
    View.ld_unit_zero (S := S1024x5632) hz, View.ld_unit_zero (S := S256x1024) hz, View.ld_unit_zero (S := S1x1024) hz]

theorem later_mixed (hc0 : ¬cond0_0 i) (hc1 : cond0_1 i) (hc2 : ¬cond0_2 i) (hc3 : cond0_3 i) :
    out0_B_8 c i a3 h3 a4 h4 a5 h5 a6 h6 a7 h7 a8 h8 a9 h9 a10 h10 a11 h11 a12 h12 a13 h13 hc0 hc1 hc2 hc3 x0 x1 x2 x3 x4 x5 x6 xo xp
      = block_mixed x0 x1 x2 x3 x4 x5 x6 := by
  unfold out0_B_8
  rw [View.read_writes_eq_canon _ _ _ (cover0_B_8 c i a3 h3 a4 h4 a5 h5 a6 h6 a7 h7 a8 h8 a9 h9 a10 h10 a11 h11 a12 h12 a13 h13 hc0 hc1 hc2 hc3 x0 x1 x2 x3 x4 x5 x6 xo xp)]
  unfold kernelRun0_B
  dsimp only
  sl_unfold_words
  rw [View.canon_unit_zero hz]
  simp only [View.readAt_eq_ld, h3.read_unread, h4.read_unread, h5.read_unread, h6.read_unread, h7.read_unread, h8.read_unread,
    h9.read_unread, h12.read_unread, h13.read_unread, View.ld_unit_zero (S := S256x5632) hz,
    View.ld_unit_zero (S := S1024x5632) hz, View.ld_unit_zero (S := S256x1024) hz, View.ld_unit_zero (S := S1x1024) hz]

theorem first_pre (hc0 : cond0_0 i) (hc1 : ¬cond0_1 i) (hc2 : cond0_2 i) (hc3 : ¬cond0_3 i) :
    out0_A_9 c i a3 h3 a4 h4 a5 h5 a6 h6 a7 h7 a8 h8 a9 h9 a10 h10 a11 h11 a12 h12 a13 h13 hc0 hc1 hc2 hc3 x0 x1 x2 x3 x4 x5 x6
      = k0_pay6 x0 x1 x3 := by
  unfold out0_A_9
  rw [View.read_writes_eq_canon _ _ _ (cover0_A_9 c i a3 h3 a4 h4 a5 h5 a6 h6 a7 h7 a8 h8 a9 h9 a10 h10 a11 h11 a12 h12 a13 h13 hc0 hc1 hc2 hc3 x0 x1 x2 x3 x4 x5 x6)]
  unfold kernelRun0_A
  dsimp only
  sl_unfold_words
  rw [View.canon_unit_zero hz]
  simp only [View.readAt_eq_ld, h3.read_unread, h4.read_unread, h5.read_unread, h6.read_unread, h7.read_unread, h8.read_unread,
    h9.read_unread, h12.read_unread, h13.read_unread, View.ld_unit_zero (S := S256x5632) hz,
    View.ld_unit_zero (S := S1024x5632) hz, View.ld_unit_zero (S := S256x1024) hz, View.ld_unit_zero (S := S1x1024) hz]

theorem later_pre (hc0 : ¬cond0_0 i) (hc1 : cond0_1 i) (hc2 : ¬cond0_2 i) (hc3 : cond0_3 i) :
    out0_B_9 c i a3 h3 a4 h4 a5 h5 a6 h6 a7 h7 a8 h8 a9 h9 a10 h10 a11 h11 a12 h12 a13 h13 hc0 hc1 hc2 hc3 x0 x1 x2 x3 x4 x5 x6 xo xp
      = k0_pay1 (k0_pay6 x0 x1 x3) xo := by
  unfold out0_B_9
  rw [View.read_writes_eq_canon _ _ _ (cover0_B_9 c i a3 h3 a4 h4 a5 h5 a6 h6 a7 h7 a8 h8 a9 h9 a10 h10 a11 h11 a12 h12 a13 h13 hc0 hc1 hc2 hc3 x0 x1 x2 x3 x4 x5 x6 xo xp)]
  unfold kernelRun0_B
  dsimp only
  sl_unfold_words
  rw [View.canon_unit_zero hz]
  simp only [View.readAt_eq_ld, h3.read_unread, h4.read_unread, h5.read_unread, h6.read_unread, h7.read_unread, h8.read_unread,
    h9.read_unread, h12.read_unread, h13.read_unread, View.ld_unit_zero (S := S256x5632) hz,
    View.ld_unit_zero (S := S1024x5632) hz, View.ld_unit_zero (S := S256x1024) hz, View.ld_unit_zero (S := S1x1024) hz]

theorem first_post (hc0 : cond0_0 i) (hc1 : ¬cond0_1 i) (hc2 : cond0_2 i) (hc3 : ¬cond0_3 i) :
    out0_A_10 c i a3 h3 a4 h4 a5 h5 a6 h6 a7 h7 a8 h8 a9 h9 a10 h10 a11 h11 a12 h12 a13 h13 hc0 hc1 hc2 hc3 x0 x1 x2 x3 x4 x5 x6
      = block_post x0 x1 x2 x3 x4 x5 := by
  unfold out0_A_10
  rw [View.read_writes_eq_canon _ _ _ (cover0_A_10 c i a3 h3 a4 h4 a5 h5 a6 h6 a7 h7 a8 h8 a9 h9 a10 h10 a11 h11 a12 h12 a13 h13 hc0 hc1 hc2 hc3 x0 x1 x2 x3 x4 x5 x6)]
  unfold kernelRun0_A
  dsimp only
  sl_unfold_words
  rw [View.canon_unit_zero hz]
  simp only [View.readAt_eq_ld, h3.read_unread, h4.read_unread, h5.read_unread, h6.read_unread, h7.read_unread, h8.read_unread,
    h9.read_unread, h12.read_unread, h13.read_unread, View.ld_unit_zero (S := S256x5632) hz,
    View.ld_unit_zero (S := S1024x5632) hz, View.ld_unit_zero (S := S256x1024) hz, View.ld_unit_zero (S := S1x1024) hz]

theorem later_post (hc0 : ¬cond0_0 i) (hc1 : cond0_1 i) (hc2 : ¬cond0_2 i) (hc3 : cond0_3 i) :
    out0_B_10 c i a3 h3 a4 h4 a5 h5 a6 h6 a7 h7 a8 h8 a9 h9 a10 h10 a11 h11 a12 h12 a13 h13 hc0 hc1 hc2 hc3 x0 x1 x2 x3 x4 x5 x6 xo xp
      = k0_pay2 (block_post x0 x1 x2 x3 x4 x5) xp := by
  unfold out0_B_10
  rw [View.read_writes_eq_canon _ _ _ (cover0_B_10 c i a3 h3 a4 h4 a5 h5 a6 h6 a7 h7 a8 h8 a9 h9 a10 h10 a11 h11 a12 h12 a13 h13 hc0 hc1 hc2 hc3 x0 x1 x2 x3 x4 x5 x6 xo xp)]
  unfold kernelRun0_B
  dsimp only
  sl_unfold_words
  rw [View.canon_unit_zero hz]
  simp only [View.readAt_eq_ld, h3.read_unread, h4.read_unread, h5.read_unread, h6.read_unread, h7.read_unread, h8.read_unread,
    h9.read_unread, h12.read_unread, h13.read_unread, View.ld_unit_zero (S := S256x5632) hz,
    View.ld_unit_zero (S := S1024x5632) hz, View.ld_unit_zero (S := S256x1024) hz, View.ld_unit_zero (S := S1x1024) hz]

end Cases

section Pays
variable (x0 : Vec Ideal S256x5632 .bf16) (x1 : Vec Ideal S1024x5632 .bf16) (x2 x3 : Vec Ideal S256x1024 .f32)
  (x4 : Vec Ideal S1x1024 .f32) (x5 : Vec Ideal S256x1024 .f32) (x6 : Vec Ideal S1x1024 .f32)

/-- The input's gradient, read off the block's product. -/
theorem input_of_block (y : Fin 256) (j : Fin 1024) : (block_input x0 x1 x2 x3 x4 (ix2 (n0 := 256) (n1 := 1024) y j) : EReal)
    = through (x2 (ix2 (n0 := 256) (n1 := 1024) y j)) (fun k => x3 (ix2 (n0 := 256) (n1 := 1024) y k))
      (fun k => k0_pay3 x0 x1 (ix2 (n0 := 256) (n1 := 1024) y k)) (fun k => x4 (ix2 (n0 := 1) (n1 := 1024) 0 k)) j := by
  unfold block_input k0_pay10 k0_pay8 k0_pay9 k0_pay7 k0_pay5 k0_pay4
  generalize k0_pay3 x0 x1 = f
  pointwise
  simp only [Finset.univ_unique, Finset.sum_singleton]
  exact Cert.FfnDn.regroup _ _ _ _

/-- The mixer output's gradient, read off the block's gradient of the input. -/
theorem mixed_of_block (y : Fin 256) (j : Fin 1024) :
    (block_mixed x0 x1 x2 x3 x4 x5 x6 (ix2 (n0 := 256) (n1 := 1024) y j) : EReal)
      = around (fun k => x5 (ix2 (n0 := 256) (n1 := 1024) y k))
        (fun k => block_input x0 x1 x2 x3 x4 (ix2 (n0 := 256) (n1 := 1024) y k)) (fun k => x6 (ix2 (n0 := 1) (n1 := 1024) 0 k)) j := by
  unfold block_mixed block_input k0_pay14 k0_pay12 k0_pay11
  generalize k0_pay10 x2 x3 (k0_pay8 x0 x1 x3 x4) (k0_pay9 x0 x1 x3 x4) = f
  pointwise
  simp only [Finset.univ_unique, Finset.sum_singleton]
  rfl

/-- What the block adds to the gradient of the first norm's gains, read off its product. -/
theorem pre_of_block (z : Fin 1) (j : Fin 1024) : (k0_pay6 x0 x1 x3 (ix2 (n0 := 1) (n1 := 1024) z j) : EReal)
    = ∑ r : Fin 256, (x3 (ix2 (n0 := 256) (n1 := 1024) r j) : EReal)
      * Ideal.rsqrt (square fun k => x3 (ix2 (n0 := 256) (n1 := 1024) r k)) * k0_pay3 x0 x1 (ix2 (n0 := 256) (n1 := 1024) r j) := by
  unfold k0_pay6 k0_pay5 k0_pay4
  generalize k0_pay3 x0 x1 = f
  pointwise
  rfl

/-- What the block adds to the gradient of the second norm's gains, read off its gradient of the input. -/
theorem post_of_block (z : Fin 1) (j : Fin 1024) : (block_post x0 x1 x2 x3 x4 x5 (ix2 (n0 := 1) (n1 := 1024) z j) : EReal)
    = ∑ r : Fin 256, (x5 (ix2 (n0 := 256) (n1 := 1024) r j) : EReal)
      * Ideal.rsqrt (square fun k => x5 (ix2 (n0 := 256) (n1 := 1024) r k))
      * block_input x0 x1 x2 x3 x4 (ix2 (n0 := 256) (n1 := 1024) r j) := by
  unfold block_post block_input k0_pay13 k0_pay12 k0_pay11
  generalize k0_pay10 x2 x3 (k0_pay8 x0 x1 x3 x4) (k0_pay9 x0 x1 x3 x4) = f
  pointwise
  rfl

end Pays

theorem index0 : ∀ t : Fin cfg0.N, win0_0.index t = ![t.val, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![t.val, 0] := (by decide +kernel : ∀ t : Fin grid0.N, _)
theorem index3 : ∀ t : Fin cfg0.N, win0_3.index t = ![t.val, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0] := (by decide +kernel : ∀ t : Fin grid0.N, _)
theorem index6 : ∀ t : Fin cfg0.N, win0_6.index t = ![0, 0] := (by decide +kernel : ∀ t : Fin grid0.N, _)
theorem index7 : ∀ t : Fin cfg0.N, win0_7.index t = ![t.val, 0] := (by decide +kernel : ∀ t : Fin grid0.N, _)
theorem index8 : ∀ t : Fin cfg0.N, win0_8.index t = ![t.val, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)

variable (m : (ℓ : Loc nD τ sig) → Buf (Elt Ideal) ℓ) (c : Dev nD)

theorem blk0 (t : Fin cfg0.N) (y : S256x5632.Idx) : (iblk m c 0 t : Vec Ideal S256x5632 .bf16) y
    = V m c main_v0 (ix2 (n0 := 4096) (n1 := 5632) (token t.val (y 0)) (y 1)) := by
  have ht : t.val < 16 := t.isLt
  have hy : (y 0).val < 256 := (y 0).isLt
  blk_simp [iblk]
  show V m c main_v0 _ = _
  refine congrArg (V m c main_v0) ?_
  blk_ext [index0]

theorem blk1 (t : Fin cfg0.N) (y : S1024x5632.Idx) : (iblk m c 1 t : Vec Ideal S1024x5632 .bf16) y
    = V m c main_v1 y := by
  blk_simp [iblk]
  show V m c main_v1 _ = _
  refine congrArg (V m c main_v1) ?_
  blk_ext [index1]

theorem blk2 (t : Fin cfg0.N) (y : S256x1024.Idx) : (iblk m c 2 t : Vec Ideal S256x1024 .f32) y
    = m ((c : Thread nD τ).loc main_arg4) (ix2 (n0 := 4096) (n1 := 1024) (token t.val (y 0)) (y 1)) := by
  have ht : t.val < 16 := t.isLt
  have hy : (y 0).val < 256 := (y 0).isLt
  blk_simp [iblk]
  show V m c main_arg4 _ = _
  rw [V_main_arg4]
  refine congrArg (m ((c : Thread nD τ).loc main_arg4)) ?_
  blk_ext [index2]

theorem blk3 (t : Fin cfg0.N) (y : S256x1024.Idx) : (iblk m c 3 t : Vec Ideal S256x1024 .f32) y
    = m ((c : Thread nD τ).loc main_arg5) (ix2 (n0 := 4096) (n1 := 1024) (token t.val (y 0)) (y 1)) := by
  have ht : t.val < 16 := t.isLt
  have hy : (y 0).val < 256 := (y 0).isLt
  blk_simp [iblk]
  show V m c main_arg5 _ = _
  rw [V_main_arg5]
  refine congrArg (m ((c : Thread nD τ).loc main_arg5)) ?_
  blk_ext [index3]

theorem blk4 (t : Fin cfg0.N) (y : S1x1024.Idx) : (iblk m c 4 t : Vec Ideal S1x1024 .f32) y
    = m ((c : Thread nD τ).loc main_arg6) y := by
  blk_simp [iblk]
  show V m c main_arg6 _ = _
  rw [V_main_arg6]
  refine congrArg (m ((c : Thread nD τ).loc main_arg6)) ?_
  blk_ext [index4]

theorem blk5 (t : Fin cfg0.N) (y : S256x1024.Idx) : (iblk m c 5 t : Vec Ideal S256x1024 .f32) y
    = m ((c : Thread nD τ).loc main_arg7) (ix2 (n0 := 4096) (n1 := 1024) (token t.val (y 0)) (y 1)) := by
  have ht : t.val < 16 := t.isLt
  have hy : (y 0).val < 256 := (y 0).isLt
  blk_simp [iblk]
  show V m c main_arg7 _ = _
  rw [V_main_arg7]
  refine congrArg (m ((c : Thread nD τ).loc main_arg7)) ?_
  blk_ext [index5]

theorem blk6 (t : Fin cfg0.N) (y : S1x1024.Idx) : (iblk m c 6 t : Vec Ideal S1x1024 .f32) y
    = m ((c : Thread nD τ).loc main_arg8) y := by
  blk_simp [iblk]
  show V m c main_arg8 _ = _
  rw [V_main_arg8]
  refine congrArg (m ((c : Thread nD τ).loc main_arg8)) ?_
  blk_ext [index6]

/-- The left half of the joined gradients is the gate's. -/
theorem grads_gate (r : Fin 4096) (k : Fin 2816) : V m c main_v0 (ix2 (n0 := 4096) (n1 := 5632) r ⟨k.val, by omega⟩)
    = m ((c : Thread nD τ).loc main_arg0) (ix2 (n0 := 4096) (n1 := 2816) r k) := by
  after_reads_simp
  pointwise

/-- The right half of the joined gradients is that of `up`. -/
theorem grads_up (r : Fin 4096) (k : Fin 2816) : V m c main_v0 (ix2 (n0 := 4096) (n1 := 5632) r ⟨2816 + k.val, by omega⟩)
    = m ((c : Thread nD τ).loc main_arg1) (ix2 (n0 := 4096) (n1 := 2816) r k) := by
  after_reads_simp
  pointwise

/-- The left half of the joined weights is the gate's. -/
theorem weights_gate (r : Fin 1024) (k : Fin 2816) : V m c main_v1 (ix2 (n0 := 1024) (n1 := 5632) r ⟨k.val, by omega⟩)
    = m ((c : Thread nD τ).loc main_arg2) (ix2 (n0 := 1024) (n1 := 2816) r k) := by
  after_reads_simp
  pointwise

/-- The right half of the joined weights is that of `up`. -/
theorem weights_up (r : Fin 1024) (k : Fin 2816) : V m c main_v1 (ix2 (n0 := 1024) (n1 := 5632) r ⟨2816 + k.val, by omega⟩)
    = m ((c : Thread nD τ).loc main_arg3) (ix2 (n0 := 1024) (n1 := 2816) r k) := by
  after_reads_simp
  pointwise

/-- The normed input's gradient, of the program's arguments. -/
abbrev product : Fin 4096 → Fin 1024 → EReal :=
  prod (m ((c : Thread nD τ).loc main_arg0)) (m ((c : Thread nD τ).loc main_arg1)) (m ((c : Thread nD τ).loc main_arg2))
    (m ((c : Thread nD τ).loc main_arg3))

/-- A block's product is the product's rows. -/
theorem pay_prod (t : Fin cfg0.N) (y : Fin 256) (j : Fin 1024) :
    (k0_pay3 (iblk m c 0 t : Vec Ideal S256x5632 .bf16) (iblk m c 1 t : Vec Ideal S1024x5632 .bf16) (ix2 (n0 := 256) (n1 := 1024) y j) : EReal)
      = product m c (token t.val y) j := by
  pointwise [k0_pay3]
  simp only [blk0, blk1]
  exact Cert.FfnDn.joined (V m c main_v0) (V m c main_v1) _ _ _ _ (grads_gate m c) (grads_up m c) (weights_gate m c)
    (weights_up m c) _ _

/-- The input's gradient, of the program's arguments. -/
abbrev gradient : Fin 4096 → Fin 1024 → EReal :=
  entry (product m c) (m ((c : Thread nD τ).loc main_arg4)) (m ((c : Thread nD τ).loc main_arg5)) (m ((c : Thread nD τ).loc main_arg6))

/-- A block's gradient of the input is the gradient's rows. -/
theorem pay_input (t : Fin cfg0.N) (r : Fin 256) (j : Fin 1024) :
    (block_input (iblk m c 0 t : Vec Ideal S256x5632 .bf16) (iblk m c 1 t : Vec Ideal S1024x5632 .bf16)
        (iblk m c 2 t : Vec Ideal S256x1024 .f32) (iblk m c 3 t : Vec Ideal S256x1024 .f32) (iblk m c 4 t : Vec Ideal S1x1024 .f32)
        (ix2 (n0 := 256) (n1 := 1024) r j) : EReal)
      = gradient m c (token t.val r) j := by
  rw [input_of_block]
  simp only [pay_prod, blk2, blk3, blk4]
  rfl

theorem pay_mixed (t : Fin cfg0.N) (y : S256x1024.Idx) :
    (block_mixed (iblk m c 0 t : Vec Ideal S256x5632 .bf16) (iblk m c 1 t : Vec Ideal S1024x5632 .bf16)
        (iblk m c 2 t : Vec Ideal S256x1024 .f32) (iblk m c 3 t : Vec Ideal S256x1024 .f32) (iblk m c 4 t : Vec Ideal S1x1024 .f32)
        (iblk m c 5 t : Vec Ideal S256x1024 .f32) (iblk m c 6 t : Vec Ideal S1x1024 .f32) y : EReal)
      = mixed (gradient m c) (m ((c : Thread nD τ).loc main_arg7)) (m ((c : Thread nD τ).loc main_arg8))
        (ix2 (n0 := 4096) (n1 := 1024) (token t.val (y 0)) (y 1)) := by
  obtain ⟨r, j, rfl⟩ : ∃ (r : Fin 256) (j : Fin 1024), y = ix2 (n0 := 256) (n1 := 1024) r j := ⟨y 0, y 1, by blk_ext⟩
  rw [mixed_of_block]
  simp only [pay_input, blk5, blk6]
  rfl

/-- What block `n` adds to the gradient of the gains of a norm. -/
def part (d : Fin 4096 → Fin 1024 → EReal) (h : Vec Ideal S4096x1024 .f32) (n : ℕ) (y : S1x1024.Idx) : EReal :=
  ∑ r : Fin 256, term d h (y 1) (token n r)

theorem pay_pre (t : Fin cfg0.N) (y : S1x1024.Idx) :
    (k0_pay6 (iblk m c 0 t : Vec Ideal S256x5632 .bf16) (iblk m c 1 t : Vec Ideal S1024x5632 .bf16)
        (iblk m c 3 t : Vec Ideal S256x1024 .f32) y : EReal) = part (product m c) (m ((c : Thread nD τ).loc main_arg5)) t.val y := by
  obtain ⟨z, j, rfl⟩ : ∃ (z : Fin 1) (j : Fin 1024), y = ix2 (n0 := 1) (n1 := 1024) z j := ⟨y 0, y 1, by blk_ext⟩
  rw [pre_of_block]
  simp only [pay_prod, blk3]
  rfl

theorem pay_post (t : Fin cfg0.N) (y : S1x1024.Idx) :
    (block_post (iblk m c 0 t : Vec Ideal S256x5632 .bf16) (iblk m c 1 t : Vec Ideal S1024x5632 .bf16)
        (iblk m c 2 t : Vec Ideal S256x1024 .f32) (iblk m c 3 t : Vec Ideal S256x1024 .f32) (iblk m c 4 t : Vec Ideal S1x1024 .f32)
        (iblk m c 5 t : Vec Ideal S256x1024 .f32) y : EReal) = part (gradient m c) (m ((c : Thread nD τ).loc main_arg7)) t.val y := by
  obtain ⟨z, j, rfl⟩ : ∃ (z : Fin 1) (j : Fin 1024), y = ix2 (n0 := 1) (n1 := 1024) z j := ⟨y 0, y 1, by blk_ext⟩
  rw [post_of_block]
  simp only [pay_input, blk5]
  rfl

/-- The later points add to what the point before left. -/
theorem add_pre (v xo : Vec Ideal S1x1024 .f32) (y : S1x1024.Idx) : (k0_pay1 v xo y : EReal) = xo y + v y := by
  pointwise [k0_pay1]

theorem add_post (v xo : Vec Ideal S1x1024 .f32) (y : S1x1024.Idx) : (k0_pay2 v xo y : EReal) = xo y + v y := by
  pointwise [k0_pay2]

/-- The accumulator of the first norm's gains after every point. -/
theorem accumulator_pre : ∀ n h y, ((outsAt0 m c n h).2.2.1 y : EReal) = ∑ s ∈ Finset.range (n + 1), part (product m c) (m ((c : Thread nD τ).loc main_arg5)) s y :=
  Cert.Sums.accumulated_once (fun n h y => (outsAt0 m c n h).2.2.1 y) (part (product m c) (m ((c : Thread nD τ).loc main_arg5)))
    (fun h y => by
      show (outsAt0 m c 0 h).2.2.1 y = _
      rw [outsAt0_A m c ⟨0, h⟩ rfl (by dsimp only; omega) rfl (by dsimp only; omega)]
      dsimp only
      rw [first_pre]
      exact pay_pre m c ⟨0, h⟩ y)
    (fun n h y => by
      have hn : n + 1 < 16 := h
      show (outsAt0 m c (n + 1) h).2.2.1 y = (outsAt0 m c n _).2.2.1 y + _
      rw [outsAt0_B m c ⟨n + 1, h⟩ (by dsimp only; omega) (by dsimp only; omega) (by dsimp only; omega) (by dsimp only; omega)]
      dsimp only
      rw [later_pre, add_pre]
      exact congrArg ((outsAt0 m c n _).2.2.1 y + ·) (pay_pre m c ⟨n + 1, h⟩ y))

/-- The accumulator of the second norm's gains after every point. -/
theorem accumulator_post : ∀ n h y, ((outsAt0 m c n h).2.2.2 y : EReal) = ∑ s ∈ Finset.range (n + 1), part (gradient m c) (m ((c : Thread nD τ).loc main_arg7)) s y :=
  Cert.Sums.accumulated_once (fun n h y => (outsAt0 m c n h).2.2.2 y) (part (gradient m c) (m ((c : Thread nD τ).loc main_arg7)))
    (fun h y => by
      show (outsAt0 m c 0 h).2.2.2 y = _
      rw [outsAt0_A m c ⟨0, h⟩ rfl (by dsimp only; omega) rfl (by dsimp only; omega)]
      dsimp only
      rw [first_post]
      exact pay_post m c ⟨0, h⟩ y)
    (fun n h y => by
      have hn : n + 1 < 16 := h
      show (outsAt0 m c (n + 1) h).2.2.2 y = (outsAt0 m c n _).2.2.2 y + _
      rw [outsAt0_B m c ⟨n + 1, h⟩ (by dsimp only; omega) (by dsimp only; omega) (by dsimp only; omega) (by dsimp only; omega)]
      dsimp only
      rw [later_post, add_post]
      exact congrArg ((outsAt0 m c n _).2.2.2 y + ·) (pay_post m c ⟨n + 1, h⟩ y))

/-- The input's gradient after every point. -/
theorem left_input (t : Fin cfg0.N) : (outsAt0 m c t.val t.isLt).1
    = block_input (iblk m c 0 t : Vec Ideal S256x5632 .bf16) (iblk m c 1 t : Vec Ideal S1024x5632 .bf16)
        (iblk m c 2 t : Vec Ideal S256x1024 .f32) (iblk m c 3 t : Vec Ideal S256x1024 .f32) (iblk m c 4 t : Vec Ideal S1x1024 .f32) := by
  have ht : t.val < 16 := t.isLt
  by_cases h0 : t.val % 16 = 0
  · rw [outsAt0_A m c t h0 (by omega) h0 (by omega)]
    dsimp only
    rw [first_input]
  · rw [outsAt0_B m c t h0 (by omega) h0 (by omega)]
    dsimp only
    rw [later_input]

/-- The mixer output's gradient after every point. -/
theorem left_mixed (t : Fin cfg0.N) : (outsAt0 m c t.val t.isLt).2.1
    = block_mixed (iblk m c 0 t : Vec Ideal S256x5632 .bf16) (iblk m c 1 t : Vec Ideal S1024x5632 .bf16)
        (iblk m c 2 t : Vec Ideal S256x1024 .f32) (iblk m c 3 t : Vec Ideal S256x1024 .f32) (iblk m c 4 t : Vec Ideal S1x1024 .f32)
        (iblk m c 5 t : Vec Ideal S256x1024 .f32) (iblk m c 6 t : Vec Ideal S1x1024 .f32) := by
  have ht : t.val < 16 := t.isLt
  by_cases h0 : t.val % 16 = 0
  · rw [outsAt0_A m c t h0 (by omega) h0 (by omega)]
    dsimp only
    rw [first_mixed]
  · rw [outsAt0_B m c t h0 (by omega) h0 (by omega)]
    dsimp only
    rw [later_mixed]

/-! ## The whole arrays -/

theorem kernel_input : (dats m 0 c).arrAt 7 cfg0.N
    = input (product m c) (m ((c : Thread nD τ).loc main_arg4)) (m ((c : Thread nD τ).loc main_arg5)) (m ((c : Thread nD τ).loc main_arg6)) := by
  funext i
  refine (dats m 0 c).arrAt_forall_of_covers 7 (fun i v => v
    = input (product m c) (m ((c : Thread nD τ).loc main_arg4)) (m ((c : Thread nD τ).loc main_arg5)) (m ((c : Thread nD τ).loc main_arg6)) i)
    (by decide +kernel) (fun t hf y => ?_) i
  have ht : t.val < 16 := t.isLt
  have hy : (y 0).val < 256 := (y 0).isLt
  have e : ((cfg0.win 7).blk t).view.emb y = ix2 (n0 := 4096) (n1 := 1024) (token t.val (y 0)) (y 1) := by
    blk_ext [index7]
  rw [e]
  show ((dats m 0 c).after 7 t : Vec Ideal S256x1024 .f32) y = _
  rw [after0_7, left_input]
  obtain ⟨r, j, rfl⟩ : ∃ (r : Fin 256) (j : Fin 1024), y = ix2 (n0 := 256) (n1 := 1024) r j := ⟨y 0, y 1, by blk_ext⟩
  exact pay_input m c t r j

theorem kernel_mixed : (dats m 0 c).arrAt 8 cfg0.N
    = mixed (gradient m c) (m ((c : Thread nD τ).loc main_arg7)) (m ((c : Thread nD τ).loc main_arg8)) := by
  funext i
  refine (dats m 0 c).arrAt_forall_of_covers 8 (fun i v => v
    = mixed (gradient m c) (m ((c : Thread nD τ).loc main_arg7)) (m ((c : Thread nD τ).loc main_arg8)) i)
    (by decide +kernel) (fun t hf y => ?_) i
  have ht : t.val < 16 := t.isLt
  have hy : (y 0).val < 256 := (y 0).isLt
  have e : ((cfg0.win 8).blk t).view.emb y = ix2 (n0 := 4096) (n1 := 1024) (token t.val (y 0)) (y 1) := by
    blk_ext [index8]
  rw [e]
  show ((dats m 0 c).after 8 t : Vec Ideal S256x1024 .bf16) y = _
  rw [after0_8, left_mixed]
  exact pay_mixed m c t y

theorem kernel_pre : (dats m 0 c).arrAt 9 cfg0.N = gains (product m c) (m ((c : Thread nD τ).loc main_arg5)) := by
  funext i
  refine (dats m 0 c).arrAt_forall_of_covers 9 (fun i v => v = gains (product m c) (m ((c : Thread nD τ).loc main_arg5)) i)
    (by decide +kernel) (fun t hf y => ?_) i
  have ht : t.val < 16 := t.isLt
  have h15 := (flush0_9 t).mp hf
  have e : ((cfg0.win 9).blk t).view.emb y = y := by
    blk_ext [index9]
  rw [e]
  show ((dats m 0 c).after 9 t : Vec Ideal S1x1024 .f32) y = _
  rw [after0_9, accumulator_pre, show t.val + 1 = 16 by omega]
  exact Cert.Sums.all_blocks 256 16 rfl _

theorem kernel_post : (dats m 0 c).arrAt 10 cfg0.N = gains (gradient m c) (m ((c : Thread nD τ).loc main_arg7)) := by
  funext i
  refine (dats m 0 c).arrAt_forall_of_covers 10 (fun i v => v = gains (gradient m c) (m ((c : Thread nD τ).loc main_arg7)) i)
    (by decide +kernel) (fun t hf y => ?_) i
  have ht : t.val < 16 := t.isLt
  have h15 := (flush0_10 t).mp hf
  have e : ((cfg0.win 10).blk t).view.emb y = y := by
    blk_ext [index10]
  rw [e]
  show ((dats m 0 c).after 10 t : Vec Ideal S1x1024 .f32) y = _
  rw [after0_10, accumulator_post, show t.val + 1 = 16 by omega]
  exact Cert.Sums.all_blocks 256 16 rfl _

end Cert.FfnDn2
-- ==== Proof.FfnDn2Claim.lean ====
module

public import proofs.«01_k».proof.Defs
public import proofs.«01_k».proof.Proof.FfnDn2Value
public import proofs.«01_k».proof.Proof.Gen.Kernel9
public import proofs.«01_k».proof.Proof.Gen.Reference9Ideal.Run
public import Idealize.ShloMosaic.Lib.Quiescent

/-!
# The gradient of the second feed-forward layer's input: the claims
-/

@[expose] public section

set_option maxRecDepth 16384

noncomputable section

namespace Cert.FfnDn2

open Idealize.ShloMosaic Idealize.ShloMosaic.TcCoe Idealize.SL.Sem

attribute [local instance] Cert.Kernel9.Gen.facts

/-- The two programs have one text: their runs are the same. -/
theorem same_run (m : (ℓ : Loc Cert.Kernel9.nD Cert.Kernel9.τ Cert.Kernel9.sig) → Buf (Elt Bits) ℓ)
    (ρ : Dev Cert.Kernel9.nD → PrngReg) :
    θ_run (Cert.Kernel9.defs (F := Bits)) (onTc (τ := Cert.Kernel9.τ) (Cert.Kernel9.main (F := Bits))) ⟨m, fun _ => 0, ρ⟩
      = θ_run (Cert.Kernel9Ideal.defs (F := Bits)) (onTc (τ := Cert.Kernel9Ideal.τ) (Cert.Kernel9Ideal.main (F := Bits)))
        ⟨m, fun _ => 0, ρ⟩ := by
  chain_rfl

theorem frame_kernel : Cert.quiescent_Kernel9 := fun m ρ _ => by
  rw [same_run]
  exact Cert.Kernel9Ideal.Gen.frame (F := Bits) m ρ

theorem frame_kernelIdeal : Cert.quiescent_Kernel9Ideal := fun m ρ _ => Cert.Kernel9Ideal.Gen.frame (F := Ideal) m ρ

theorem frame_reference : Cert.quiescent_Reference9Ideal := fun m ρ _ =>
  (θ_run Cert.Reference9Ideal.defs _ _).mono (fun r h => ⟨fun c => (h c).2.2.2.2, sem_eq_zero_of_no_sems (by decide) r.2⟩)
    (Cert.Reference9Ideal.Value.run (F := Ideal) m ρ)

section Reference
open Cert.Reference9Ideal Cert.Reference9Ideal.Value
variable (m : (ℓ : Loc nD τ sig) → Buf (Elt Ideal) ℓ) (c : Dev nD)

/-- The reference's gradient of the input. -/
theorem reference_input (r : Fin 4096) (j : Fin 1024) : (res_main_v43 m c (ix2 (n0 := 4096) (n1 := 1024) r j) : EReal)
    = entry (Cert.FfnDn.prod (m ((c.tc : Thread nD τ).loc main_arg0)) (m ((c.tc : Thread nD τ).loc main_arg1))
        (m ((c.tc : Thread nD τ).loc main_arg2)) (m ((c.tc : Thread nD τ).loc main_arg3)))
      (m ((c.tc : Thread nD τ).loc main_arg4)) (m ((c.tc : Thread nD τ).loc main_arg5)) (m ((c.tc : Thread nD τ).loc main_arg6)) r j := by
  unfold res_main_v43
  pointwise
  simp only [Finset.univ_unique, Finset.sum_singleton]
  rfl

/-- The reference's gradient of the mixer's output, from its gradient of the input. -/
theorem reference_mixed (y : Fin 4096) (j : Fin 1024) : (res_main_v79 m c (ix2 (n0 := 4096) (n1 := 1024) y j) : EReal)
    = mixed (fun r k => res_main_v43 m c (ix2 (n0 := 4096) (n1 := 1024) r k)) (m ((c.tc : Thread nD τ).loc main_arg7))
      (m ((c.tc : Thread nD τ).loc main_arg8)) (ix2 (n0 := 4096) (n1 := 1024) y j) := by
  have h := res_main_v43.eq_1 (F := Ideal) m c
  unfold res_main_v79
  rw [← h]
  generalize res_main_v43 m c = e
  pointwise
  simp only [Finset.univ_unique, Finset.sum_singleton]
  rfl

/-- The reference's gradient of the second norm's gains, from its gradient of the input. -/
theorem reference_post (z : Fin 1) (j : Fin 1024) : (res_main_v62 m c (ix2 (n0 := 1) (n1 := 1024) z j) : EReal)
    = gains (fun r k => res_main_v43 m c (ix2 (n0 := 4096) (n1 := 1024) r k)) (m ((c.tc : Thread nD τ).loc main_arg7))
      (ix2 (n0 := 1) (n1 := 1024) z j) := by
  have h := res_main_v43.eq_1 (F := Ideal) m c
  unfold res_main_v62
  rw [← h]
  generalize res_main_v43 m c = e
  pointwise
  rfl

end Reference

open Cert.Reference9Ideal in
theorem algebraic : Cert.algebraic_Kernel9Ideal_Reference9Ideal :=
  fun m g m' g' _ hargs => by
    refine ⟨_, _, _, _,
      (θ_run Cert.Kernel9Ideal.defs _ _).mono (fun r h c => ⟨(h c).1.trans (kernel_input m c),
        (h c).2.1.trans (kernel_mixed m c), (h c).2.2.1.trans (kernel_pre m c), (h c).2.2.2.1.trans (kernel_post m c),
        (h c).2.2.2.2⟩) (Cert.Kernel9Ideal.Value.run_blocks (F := Ideal) m g),
      (θ_run Cert.Reference9Ideal.defs _ _).mono (fun r h c => ⟨(h c).1.trans ?_, (h c).2.1.trans ?_,
        (h c).2.2.1.trans ?_, (h c).2.2.2.1.trans ?_, (h c).2.2.2.2⟩) (Cert.Reference9Ideal.Value.run (F := Ideal) m' g')⟩
    all_goals
      obtain ⟨e0, e1, e2, e3, e4, e5, e6, e7, e8⟩ := hargs c
    · funext i
      obtain ⟨y, j, rfl⟩ : ∃ (y : Fin 4096) (j : Fin 1024), i = ix2 (n0 := 4096) (n1 := 1024) y j := ⟨i 0, i 1, by blk_ext⟩
      refine (reference_input m' c y j).trans ?_
      rw [e0, e1, e2, e3, e4, e5, e6]
      rfl
    · funext i
      obtain ⟨y, j, rfl⟩ : ∃ (y : Fin 4096) (j : Fin 1024), i = ix2 (n0 := 4096) (n1 := 1024) y j := ⟨i 0, i 1, by blk_ext⟩
      refine (reference_mixed m' c y j).trans ?_
      simp only [reference_input]
      rw [e0, e1, e2, e3, e4, e5, e6, e7, e8]
    · rw [e0, e1, e2, e3, e5]
      funext i
      obtain ⟨z, j, rfl⟩ : ∃ (z : Fin 1) (j : Fin 1024), i = ix2 (n0 := 1) (n1 := 1024) z j := ⟨i 0, i 1, by blk_ext⟩
      pointwise
      rfl
    · funext i
      obtain ⟨z, j, rfl⟩ : ∃ (z : Fin 1) (j : Fin 1024), i = ix2 (n0 := 1) (n1 := 1024) z j := ⟨i 0, i 1, by blk_ext⟩
      refine (reference_post m' c z j).trans ?_
      simp only [reference_input]
      rw [e0, e1, e2, e3, e4, e5, e6, e7]

end Cert.FfnDn2
-- ==== Proof.lean ====
/- The claim: the frames, and that the kernel computes what the reference computes. -/
module

public import proofs.«01_k».proof.Proof.Algebraic
public import proofs.«01_k».proof.Proof.GateClaim
public import proofs.«01_k».proof.Proof.DownClaim
public import proofs.«01_k».proof.Proof.GateWeightClaim
public import proofs.«01_k».proof.Proof.UpWeightClaim
public import proofs.«01_k».proof.Proof.GateUpClaim
public import proofs.«01_k».proof.Proof.FfnDownClaim
public import proofs.«01_k».proof.Proof.FfnDnClaim
public import proofs.«01_k».proof.Proof.FfnDn2Claim

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel3.Gen.facts, Cert.Kernel3Ideal.Gen.facts, Cert.Reference3Ideal.Gen.facts,
  Cert.Kernel9.Gen.facts, Cert.Kernel9Ideal.Gen.facts, Cert.Reference9Ideal.Gen.facts,
  finite_facts, Cert.Gate.finite_facts,
  frame_kernel, frame_kernelIdeal, fun m ρ _ => frame_kernelIdeal m ρ trivial,
  frame_reference, fun m ρ _ => frame_reference m ρ trivial,
  Cert.Gate.frame_kernel, Cert.Gate.frame_kernelIdeal, fun m ρ _ => Cert.Gate.frame_kernelIdeal m ρ trivial,
  Cert.Gate.frame_reference, fun m ρ _ => Cert.Gate.frame_reference m ρ trivial,
  Cert.Down.frame_kernel, Cert.Down.frame_kernelIdeal, Cert.Down.frame_reference,
  Cert.GateWeight.frame_kernel, Cert.GateWeight.frame_kernelIdeal, Cert.GateWeight.frame_reference,
  Cert.UpWeight.frame_kernel, Cert.UpWeight.frame_kernelIdeal, Cert.UpWeight.frame_reference,
  Cert.GateUp.frame_kernel, Cert.GateUp.frame_kernelIdeal, Cert.GateUp.frame_reference,
  Cert.FfnDown.frame_kernel, Cert.FfnDown.frame_kernelIdeal, Cert.FfnDown.frame_reference,
  Cert.FfnDn.frame_kernel, Cert.FfnDn.frame_kernelIdeal, Cert.FfnDn.frame_reference,
  Cert.FfnDn2.frame_kernel, Cert.FfnDn2.frame_kernelIdeal, Cert.FfnDn2.frame_reference,
  trivial, algebraic, trivial, Cert.Gate.algebraic, trivial, Cert.Down.algebraic,
  trivial, Cert.GateWeight.algebraic, trivial, Cert.UpWeight.algebraic,
  trivial, Cert.GateUp.algebraic, trivial, Cert.FfnDown.algebraic,
  trivial, Cert.FfnDn.algebraic, trivial, Cert.FfnDn2.algebraic⟩

end Cert.Proof

end
